-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnInDxGate (m : (ℓ : Loc Cert.FfnInDxGate.nD Cert.FfnInDxGate.τ Cert.FfnInDxGate.sig) → Buf (Elt Bits) ℓ) : Prop :=
  True

def Pre_FfnInDxGateIdeal (m : (ℓ : Loc Cert.FfnInDxGateIdeal.nD Cert.FfnInDxGateIdeal.τ Cert.FfnInDxGateIdeal.sig) → Buf (Elt Ideal) ℓ) : Prop :=
  True

def Pre_FfnInDxGateRefIdeal (m : (ℓ : Loc Cert.FfnInDxGateRefIdeal.nD Cert.FfnInDxGateRefIdeal.τ Cert.FfnInDxGateRefIdeal.sig) → Buf (Elt Ideal) ℓ) : Prop :=
  True

def Pre_FfnInDxUp (m : (ℓ : Loc Cert.FfnInDxUp.nD Cert.FfnInDxUp.τ Cert.FfnInDxUp.sig) → Buf (Elt Bits) ℓ) : Prop :=
  True

def Pre_FfnInDxUpIdeal (m : (ℓ : Loc Cert.FfnInDxUpIdeal.nD Cert.FfnInDxUpIdeal.τ Cert.FfnInDxUpIdeal.sig) → Buf (Elt Ideal) ℓ) : Prop :=
  True

def Pre_FfnInDxUpRefIdeal (m : (ℓ : Loc Cert.FfnInDxUpRefIdeal.nD Cert.FfnInDxUpRefIdeal.τ Cert.FfnInDxUpRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_FfnInDwGate (m : (ℓ : Loc Cert.FfnInDwGate.nD Cert.FfnInDwGate.τ Cert.FfnInDwGate.sig) → Buf (Elt Bits) ℓ) : Prop :=
  True

def Pre_FfnInDwGateIdeal (m : (ℓ : Loc Cert.FfnInDwGateIdeal.nD Cert.FfnInDwGateIdeal.τ Cert.FfnInDwGateIdeal.sig) → Buf (Elt Ideal) ℓ) : Prop :=
  True

def Pre_FfnInDwGateRefIdeal (m : (ℓ : Loc Cert.FfnInDwGateRefIdeal.nD Cert.FfnInDwGateRefIdeal.τ Cert.FfnInDwGateRefIdeal.sig) → Buf (Elt Ideal) ℓ) : Prop :=
  True

def Pre_BranchDwFirst (m : (ℓ : Loc Cert.BranchDwFirst.nD Cert.BranchDwFirst.τ Cert.BranchDwFirst.sig) → Buf (Elt Bits) ℓ) : Prop :=
  True

def Pre_BranchDwFirstIdeal (m : (ℓ : Loc Cert.BranchDwFirstIdeal.nD Cert.BranchDwFirstIdeal.τ Cert.BranchDwFirstIdeal.sig) → Buf (Elt Ideal) ℓ) : Prop :=
  True

def Pre_BranchDwFirstRefIdeal (m : (ℓ : Loc Cert.BranchDwFirstRefIdeal.nD Cert.BranchDwFirstRefIdeal.τ Cert.BranchDwFirstRefIdeal.sig) → Buf (Elt Ideal) ℓ) : Prop :=
  True

def Pre_BranchDwSecond (m : (ℓ : Loc Cert.BranchDwSecond.nD Cert.BranchDwSecond.τ Cert.BranchDwSecond.sig) → Buf (Elt Bits) ℓ) : Prop :=
  True

def Pre_BranchDwSecondIdeal (m : (ℓ : Loc Cert.BranchDwSecondIdeal.nD Cert.BranchDwSecondIdeal.τ Cert.BranchDwSecondIdeal.sig) → Buf (Elt Ideal) ℓ) : Prop :=
  True

def Pre_BranchDwSecondRefIdeal (m : (ℓ : Loc Cert.BranchDwSecondRefIdeal.nD Cert.BranchDwSecondRefIdeal.τ Cert.BranchDwSecondRefIdeal.sig) → Buf (Elt Ideal) ℓ) : Prop :=
  True

def Pre_BranchDwThird (m : (ℓ : Loc Cert.BranchDwThird.nD Cert.BranchDwThird.τ Cert.BranchDwThird.sig) → Buf (Elt Bits) ℓ) : Prop :=
  True

def Pre_BranchDwThirdIdeal (m : (ℓ : Loc Cert.BranchDwThirdIdeal.nD Cert.BranchDwThirdIdeal.τ Cert.BranchDwThirdIdeal.sig) → Buf (Elt Ideal) ℓ) : Prop :=
  True

def Pre_BranchDwThirdRefIdeal (m : (ℓ : Loc Cert.BranchDwThirdRefIdeal.nD Cert.BranchDwThirdRefIdeal.τ Cert.BranchDwThirdRefIdeal.sig) → Buf (Elt Ideal) ℓ) : Prop :=
  True

def Pre_OutDxMerge (m : (ℓ : Loc Cert.OutDxMerge.nD Cert.OutDxMerge.τ Cert.OutDxMerge.sig) → Buf (Elt Bits) ℓ) : Prop :=
  True

def Pre_OutDxMergeIdeal (m : (ℓ : Loc Cert.OutDxMergeIdeal.nD Cert.OutDxMergeIdeal.τ Cert.OutDxMergeIdeal.sig) → Buf (Elt Ideal) ℓ) : Prop :=
  True

def Pre_OutDxMergeRefIdeal (m : (ℓ : Loc Cert.OutDxMergeRefIdeal.nD Cert.OutDxMergeRefIdeal.τ Cert.OutDxMergeRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_FfnOutFwd (m : (ℓ : Loc Cert.FfnOutFwd.nD Cert.FfnOutFwd.τ Cert.FfnOutFwd.sig) → Buf (Elt Bits) ℓ) : Prop :=
  True

def Pre_FfnOutFwdIdeal (m : (ℓ : Loc Cert.FfnOutFwdIdeal.nD Cert.FfnOutFwdIdeal.τ Cert.FfnOutFwdIdeal.sig) → Buf (Elt Ideal) ℓ) : Prop :=
  True

def Pre_FfnOutFwdRefIdeal (m : (ℓ : Loc Cert.FfnOutFwdRefIdeal.nD Cert.FfnOutFwdRefIdeal.τ Cert.FfnOutFwdRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_BandFold (m : (ℓ : Loc Cert.BandFold.nD Cert.BandFold.τ Cert.BandFold.sig) → Buf (Elt Bits) ℓ) : Prop :=
  True

def Pre_BandFoldIdeal (m : (ℓ : Loc Cert.BandFoldIdeal.nD Cert.BandFoldIdeal.τ Cert.BandFoldIdeal.sig) → Buf (Elt Ideal) ℓ) : Prop :=
  True

def Pre_BandFoldRefIdeal (m : (ℓ : Loc Cert.BandFoldRefIdeal.nD Cert.BandFoldRefIdeal.τ Cert.BandFoldRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_factors [hPre_finite_factors : Cert.Pre_finite_factors.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_factors.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))) = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_finite_factors [hPre_finite_factors : Cert.Pre_finite_factors.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_finite_factors.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))) = (fun _ => 1#1)

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_finite_scores [hPre_finite_scores : Cert.Pre_finite_scores.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_finite_scores.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3)) (m ((c.tc : Thread Cert.SwaFwdIdeal.nD Cert.SwaFwdIdeal.τ).loc Cert.SwaFwdIdeal.main_arg4))) = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_finite_scores [hPre_finite_scores : Cert.Pre_finite_scores.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_finite_scores.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3)) (m ((c.tc : Thread Cert.SwaFwdRefIdeal.nD Cert.SwaFwdRefIdeal.τ).loc Cert.SwaFwdRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1)
      ∧ r.2.mem ((c.tc : Thread Cert.FfnInDw.nD Cert.FfnInDw.τ).loc Cert.FfnInDw.main_arg2) = m ((c.tc : Thread Cert.FfnInDw.nD Cert.FfnInDw.τ).loc Cert.FfnInDw.main_arg2))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
      ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1)
      ∧ r.2.mem ((c.tc : Thread Cert.FfnInDwRefIdeal.nD Cert.FfnInDwRefIdeal.τ).loc Cert.FfnInDwRefIdeal.main_arg2) = m ((c.tc : Thread Cert.FfnInDwRefIdeal.nD Cert.FfnInDwRefIdeal.τ).loc Cert.FfnInDwRefIdeal.main_arg2))
      ∧ r.2.sem = fun _ => 0)

def quiescent_FfnInDxGate [hFfnInDxGate : Cert.FfnInDxGate.Facts] : Prop :=
  ∀ (m : (ℓ : Loc Cert.FfnInDxGate.nD Cert.FfnInDxGate.τ Cert.FfnInDxGate.sig) → Buf (Elt Bits) ℓ) (g : Dev Cert.FfnInDxGate.nD → PrngReg), Pre_FfnInDxGate m →
    θ_run (Cert.FfnInDxGate.defs (F := Bits)) (onTc (τ := Cert.FfnInDxGate.τ) (Cert.FfnInDxGate.main (F := Bits))) ⟨m, fun _ => 0, g⟩ (fun r => (∀ c : Dev Cert.FfnInDxGate.nD,
      r.2.mem ((c.tc : Thread Cert.FfnInDxGate.nD Cert.FfnInDxGate.τ).loc Cert.FfnInDxGate.main_arg0) = m ((c.tc : Thread Cert.FfnInDxGate.nD Cert.FfnInDxGate.τ).loc Cert.FfnInDxGate.main_arg0)
      ∧ r.2.mem ((c.tc : Thread Cert.FfnInDxGate.nD Cert.FfnInDxGate.τ).loc Cert.FfnInDxGate.main_arg1) = m ((c.tc : Thread Cert.FfnInDxGate.nD Cert.FfnInDxGate.τ).loc Cert.FfnInDxGate.main_arg1))
      ∧ r.2.sem = fun _ => 0)

def quiescent_FfnInDxGateIdeal [hFfnInDxGateIdeal : Cert.FfnInDxGateIdeal.Facts] : Prop :=
  ∀ (m : (ℓ : Loc Cert.FfnInDxGateIdeal.nD Cert.FfnInDxGateIdeal.τ Cert.FfnInDxGateIdeal.sig) → Buf (Elt Ideal) ℓ) (g : Dev Cert.FfnInDxGateIdeal.nD → PrngReg), Pre_FfnInDxGateIdeal m →
    θ_run (Cert.FfnInDxGateIdeal.defs (F := Ideal)) (onTc (τ := Cert.FfnInDxGateIdeal.τ) (Cert.FfnInDxGateIdeal.main (F := Ideal))) ⟨m, fun _ => 0, g⟩ (fun r => (∀ c : Dev Cert.FfnInDxGateIdeal.nD,
      r.2.mem ((c.tc : Thread Cert.FfnInDxGateIdeal.nD Cert.FfnInDxGateIdeal.τ).loc Cert.FfnInDxGateIdeal.main_arg0) = m ((c.tc : Thread Cert.FfnInDxGateIdeal.nD Cert.FfnInDxGateIdeal.τ).loc Cert.FfnInDxGateIdeal.main_arg0)
      ∧ r.2.mem ((c.tc : Thread Cert.FfnInDxGateIdeal.nD Cert.FfnInDxGateIdeal.τ).loc Cert.FfnInDxGateIdeal.main_arg1) = m ((c.tc : Thread Cert.FfnInDxGateIdeal.nD Cert.FfnInDxGateIdeal.τ).loc Cert.FfnInDxGateIdeal.main_arg1))
      ∧ r.2.sem = fun _ => 0)

def quiescent_FfnInDxGateRefIdeal [hFfnInDxGateRefIdeal : Cert.FfnInDxGateRefIdeal.Facts] : Prop :=
  ∀ (m : (ℓ : Loc Cert.FfnInDxGateRefIdeal.nD Cert.FfnInDxGateRefIdeal.τ Cert.FfnInDxGateRefIdeal.sig) → Buf (Elt Ideal) ℓ) (g : Dev Cert.FfnInDxGateRefIdeal.nD → PrngReg), Pre_FfnInDxGateRefIdeal m →
    θ_run (Cert.FfnInDxGateRefIdeal.defs (F := Ideal)) (onTc (τ := Cert.FfnInDxGateRefIdeal.τ) (Cert.FfnInDxGateRefIdeal.main (F := Ideal))) ⟨m, fun _ => 0, g⟩ (fun r => (∀ c : Dev Cert.FfnInDxGateRefIdeal.nD,
      r.2.mem ((c.tc : Thread Cert.FfnInDxGateRefIdeal.nD Cert.FfnInDxGateRefIdeal.τ).loc Cert.FfnInDxGateRefIdeal.main_arg0) = m ((c.tc : Thread Cert.FfnInDxGateRefIdeal.nD Cert.FfnInDxGateRefIdeal.τ).loc Cert.FfnInDxGateRefIdeal.main_arg0)
      ∧ r.2.mem ((c.tc : Thread Cert.FfnInDxGateRefIdeal.nD Cert.FfnInDxGateRefIdeal.τ).loc Cert.FfnInDxGateRefIdeal.main_arg1) = m ((c.tc : Thread Cert.FfnInDxGateRefIdeal.nD Cert.FfnInDxGateRefIdeal.τ).loc Cert.FfnInDxGateRefIdeal.main_arg1))
      ∧ r.2.sem = fun _ => 0)

def quiescent_FfnInDxUp [hFfnInDxUp : Cert.FfnInDxUp.Facts] : Prop :=
  ∀ (m : (ℓ : Loc Cert.FfnInDxUp.nD Cert.FfnInDxUp.τ Cert.FfnInDxUp.sig) → Buf (Elt Bits) ℓ) (g : Dev Cert.FfnInDxUp.nD → PrngReg), Pre_FfnInDxUp m →
    θ_run (Cert.FfnInDxUp.defs (F := Bits)) (onTc (τ := Cert.FfnInDxUp.τ) (Cert.FfnInDxUp.main (F := Bits))) ⟨m, fun _ => 0, g⟩ (fun r => (∀ c : Dev Cert.FfnInDxUp.nD,
      r.2.mem ((c.tc : Thread Cert.FfnInDxUp.nD Cert.FfnInDxUp.τ).loc Cert.FfnInDxUp.main_arg0) = m ((c.tc : Thread Cert.FfnInDxUp.nD Cert.FfnInDxUp.τ).loc Cert.FfnInDxUp.main_arg0)
      ∧ r.2.mem ((c.tc : Thread Cert.FfnInDxUp.nD Cert.FfnInDxUp.τ).loc Cert.FfnInDxUp.main_arg1) = m ((c.tc : Thread Cert.FfnInDxUp.nD Cert.FfnInDxUp.τ).loc Cert.FfnInDxUp.main_arg1)
      ∧ r.2.mem ((c.tc : Thread Cert.FfnInDxUp.nD Cert.FfnInDxUp.τ).loc Cert.FfnInDxUp.main_arg2) = m ((c.tc : Thread Cert.FfnInDxUp.nD Cert.FfnInDxUp.τ).loc Cert.FfnInDxUp.main_arg2))
      ∧ r.2.sem = fun _ => 0)

def quiescent_FfnInDxUpIdeal [hFfnInDxUpIdeal : Cert.FfnInDxUpIdeal.Facts] : Prop :=
  ∀ (m : (ℓ : Loc Cert.FfnInDxUpIdeal.nD Cert.FfnInDxUpIdeal.τ Cert.FfnInDxUpIdeal.sig) → Buf (Elt Ideal) ℓ) (g : Dev Cert.FfnInDxUpIdeal.nD → PrngReg), Pre_FfnInDxUpIdeal m →
    θ_run (Cert.FfnInDxUpIdeal.defs (F := Ideal)) (onTc (τ := Cert.FfnInDxUpIdeal.τ) (Cert.FfnInDxUpIdeal.main (F := Ideal))) ⟨m, fun _ => 0, g⟩ (fun r => (∀ c : Dev Cert.FfnInDxUpIdeal.nD,
      r.2.mem ((c.tc : Thread Cert.FfnInDxUpIdeal.nD Cert.FfnInDxUpIdeal.τ).loc Cert.FfnInDxUpIdeal.main_arg0) = m ((c.tc : Thread Cert.FfnInDxUpIdeal.nD Cert.FfnInDxUpIdeal.τ).loc Cert.FfnInDxUpIdeal.main_arg0)
      ∧ r.2.mem ((c.tc : Thread Cert.FfnInDxUpIdeal.nD Cert.FfnInDxUpIdeal.τ).loc Cert.FfnInDxUpIdeal.main_arg1) = m ((c.tc : Thread Cert.FfnInDxUpIdeal.nD Cert.FfnInDxUpIdeal.τ).loc Cert.FfnInDxUpIdeal.main_arg1)
      ∧ r.2.mem ((c.tc : Thread Cert.FfnInDxUpIdeal.nD Cert.FfnInDxUpIdeal.τ).loc Cert.FfnInDxUpIdeal.main_arg2) = m ((c.tc : Thread Cert.FfnInDxUpIdeal.nD Cert.FfnInDxUpIdeal.τ).loc Cert.FfnInDxUpIdeal.main_arg2))
      ∧ r.2.sem = fun _ => 0)

def quiescent_FfnInDxUpRefIdeal [hFfnInDxUpRefIdeal : Cert.FfnInDxUpRefIdeal.Facts] : Prop :=
  ∀ (m : (ℓ : Loc Cert.FfnInDxUpRefIdeal.nD Cert.FfnInDxUpRefIdeal.τ Cert.FfnInDxUpRefIdeal.sig) → Buf (Elt Ideal) ℓ) (g : Dev Cert.FfnInDxUpRefIdeal.nD → PrngReg), Pre_FfnInDxUpRefIdeal m →
    θ_run (Cert.FfnInDxUpRefIdeal.defs (F := Ideal)) (onTc (τ := Cert.FfnInDxUpRefIdeal.τ) (Cert.FfnInDxUpRefIdeal.main (F := Ideal))) ⟨m, fun _ => 0, g⟩ (fun r => (∀ c : Dev Cert.FfnInDxUpRefIdeal.nD,
      r.2.mem ((c.tc : Thread Cert.FfnInDxUpRefIdeal.nD Cert.FfnInDxUpRefIdeal.τ).loc Cert.FfnInDxUpRefIdeal.main_arg0) = m ((c.tc : Thread Cert.FfnInDxUpRefIdeal.nD Cert.FfnInDxUpRefIdeal.τ).loc Cert.FfnInDxUpRefIdeal.main_arg0)
      ∧ r.2.mem ((c.tc : Thread Cert.FfnInDxUpRefIdeal.nD Cert.FfnInDxUpRefIdeal.τ).loc Cert.FfnInDxUpRefIdeal.main_arg1) = m ((c.tc : Thread Cert.FfnInDxUpRefIdeal.nD Cert.FfnInDxUpRefIdeal.τ).loc Cert.FfnInDxUpRefIdeal.main_arg1)
      ∧ r.2.mem ((c.tc : Thread Cert.FfnInDxUpRefIdeal.nD Cert.FfnInDxUpRefIdeal.τ).loc Cert.FfnInDxUpRefIdeal.main_arg2) = m ((c.tc : Thread Cert.FfnInDxUpRefIdeal.nD Cert.FfnInDxUpRefIdeal.τ).loc Cert.FfnInDxUpRefIdeal.main_arg2))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_FfnInDwGate [hFfnInDwGate : Cert.FfnInDwGate.Facts] : Prop :=
  ∀ (m : (ℓ : Loc Cert.FfnInDwGate.nD Cert.FfnInDwGate.τ Cert.FfnInDwGate.sig) → Buf (Elt Bits) ℓ) (g : Dev Cert.FfnInDwGate.nD → PrngReg), Pre_FfnInDwGate m →
    θ_run (Cert.FfnInDwGate.defs (F := Bits)) (onTc (τ := Cert.FfnInDwGate.τ) (Cert.FfnInDwGate.main (F := Bits))) ⟨m, fun _ => 0, g⟩ (fun r => (∀ c : Dev Cert.FfnInDwGate.nD,
      r.2.mem ((c.tc : Thread Cert.FfnInDwGate.nD Cert.FfnInDwGate.τ).loc Cert.FfnInDwGate.main_arg0) = m ((c.tc : Thread Cert.FfnInDwGate.nD Cert.FfnInDwGate.τ).loc Cert.FfnInDwGate.main_arg0)
      ∧ r.2.mem ((c.tc : Thread Cert.FfnInDwGate.nD Cert.FfnInDwGate.τ).loc Cert.FfnInDwGate.main_arg1) = m ((c.tc : Thread Cert.FfnInDwGate.nD Cert.FfnInDwGate.τ).loc Cert.FfnInDwGate.main_arg1))
      ∧ r.2.sem = fun _ => 0)

def quiescent_FfnInDwGateIdeal [hFfnInDwGateIdeal : Cert.FfnInDwGateIdeal.Facts] : Prop :=
  ∀ (m : (ℓ : Loc Cert.FfnInDwGateIdeal.nD Cert.FfnInDwGateIdeal.τ Cert.FfnInDwGateIdeal.sig) → Buf (Elt Ideal) ℓ) (g : Dev Cert.FfnInDwGateIdeal.nD → PrngReg), Pre_FfnInDwGateIdeal m →
    θ_run (Cert.FfnInDwGateIdeal.defs (F := Ideal)) (onTc (τ := Cert.FfnInDwGateIdeal.τ) (Cert.FfnInDwGateIdeal.main (F := Ideal))) ⟨m, fun _ => 0, g⟩ (fun r => (∀ c : Dev Cert.FfnInDwGateIdeal.nD,
      r.2.mem ((c.tc : Thread Cert.FfnInDwGateIdeal.nD Cert.FfnInDwGateIdeal.τ).loc Cert.FfnInDwGateIdeal.main_arg0) = m ((c.tc : Thread Cert.FfnInDwGateIdeal.nD Cert.FfnInDwGateIdeal.τ).loc Cert.FfnInDwGateIdeal.main_arg0)
      ∧ r.2.mem ((c.tc : Thread Cert.FfnInDwGateIdeal.nD Cert.FfnInDwGateIdeal.τ).loc Cert.FfnInDwGateIdeal.main_arg1) = m ((c.tc : Thread Cert.FfnInDwGateIdeal.nD Cert.FfnInDwGateIdeal.τ).loc Cert.FfnInDwGateIdeal.main_arg1))
      ∧ r.2.sem = fun _ => 0)

def quiescent_FfnInDwGateRefIdeal [hFfnInDwGateRefIdeal : Cert.FfnInDwGateRefIdeal.Facts] : Prop :=
  ∀ (m : (ℓ : Loc Cert.FfnInDwGateRefIdeal.nD Cert.FfnInDwGateRefIdeal.τ Cert.FfnInDwGateRefIdeal.sig) → Buf (Elt Ideal) ℓ) (g : Dev Cert.FfnInDwGateRefIdeal.nD → PrngReg), Pre_FfnInDwGateRefIdeal m →
    θ_run (Cert.FfnInDwGateRefIdeal.defs (F := Ideal)) (onTc (τ := Cert.FfnInDwGateRefIdeal.τ) (Cert.FfnInDwGateRefIdeal.main (F := Ideal))) ⟨m, fun _ => 0, g⟩ (fun r => (∀ c : Dev Cert.FfnInDwGateRefIdeal.nD,
      r.2.mem ((c.tc : Thread Cert.FfnInDwGateRefIdeal.nD Cert.FfnInDwGateRefIdeal.τ).loc Cert.FfnInDwGateRefIdeal.main_arg0) = m ((c.tc : Thread Cert.FfnInDwGateRefIdeal.nD Cert.FfnInDwGateRefIdeal.τ).loc Cert.FfnInDwGateRefIdeal.main_arg0)
      ∧ r.2.mem ((c.tc : Thread Cert.FfnInDwGateRefIdeal.nD Cert.FfnInDwGateRefIdeal.τ).loc Cert.FfnInDwGateRefIdeal.main_arg1) = m ((c.tc : Thread Cert.FfnInDwGateRefIdeal.nD Cert.FfnInDwGateRefIdeal.τ).loc Cert.FfnInDwGateRefIdeal.main_arg1))
      ∧ r.2.sem = fun _ => 0)

def quiescent_BranchDwFirst [hBranchDwFirst : Cert.BranchDwFirst.Facts] : Prop :=
  ∀ (m : (ℓ : Loc Cert.BranchDwFirst.nD Cert.BranchDwFirst.τ Cert.BranchDwFirst.sig) → Buf (Elt Bits) ℓ) (g : Dev Cert.BranchDwFirst.nD → PrngReg), Pre_BranchDwFirst m →
    θ_run (Cert.BranchDwFirst.defs (F := Bits)) (onTc (τ := Cert.BranchDwFirst.τ) (Cert.BranchDwFirst.main (F := Bits))) ⟨m, fun _ => 0, g⟩ (fun r => (∀ c : Dev Cert.BranchDwFirst.nD,
      r.2.mem ((c.tc : Thread Cert.BranchDwFirst.nD Cert.BranchDwFirst.τ).loc Cert.BranchDwFirst.main_arg0) = m ((c.tc : Thread Cert.BranchDwFirst.nD Cert.BranchDwFirst.τ).loc Cert.BranchDwFirst.main_arg0)
      ∧ r.2.mem ((c.tc : Thread Cert.BranchDwFirst.nD Cert.BranchDwFirst.τ).loc Cert.BranchDwFirst.main_arg1) = m ((c.tc : Thread Cert.BranchDwFirst.nD Cert.BranchDwFirst.τ).loc Cert.BranchDwFirst.main_arg1))
      ∧ r.2.sem = fun _ => 0)

def quiescent_BranchDwFirstIdeal [hBranchDwFirstIdeal : Cert.BranchDwFirstIdeal.Facts] : Prop :=
  ∀ (m : (ℓ : Loc Cert.BranchDwFirstIdeal.nD Cert.BranchDwFirstIdeal.τ Cert.BranchDwFirstIdeal.sig) → Buf (Elt Ideal) ℓ) (g : Dev Cert.BranchDwFirstIdeal.nD → PrngReg), Pre_BranchDwFirstIdeal m →
    θ_run (Cert.BranchDwFirstIdeal.defs (F := Ideal)) (onTc (τ := Cert.BranchDwFirstIdeal.τ) (Cert.BranchDwFirstIdeal.main (F := Ideal))) ⟨m, fun _ => 0, g⟩ (fun r => (∀ c : Dev Cert.BranchDwFirstIdeal.nD,
      r.2.mem ((c.tc : Thread Cert.BranchDwFirstIdeal.nD Cert.BranchDwFirstIdeal.τ).loc Cert.BranchDwFirstIdeal.main_arg0) = m ((c.tc : Thread Cert.BranchDwFirstIdeal.nD Cert.BranchDwFirstIdeal.τ).loc Cert.BranchDwFirstIdeal.main_arg0)
      ∧ r.2.mem ((c.tc : Thread Cert.BranchDwFirstIdeal.nD Cert.BranchDwFirstIdeal.τ).loc Cert.BranchDwFirstIdeal.main_arg1) = m ((c.tc : Thread Cert.BranchDwFirstIdeal.nD Cert.BranchDwFirstIdeal.τ).loc Cert.BranchDwFirstIdeal.main_arg1))
      ∧ r.2.sem = fun _ => 0)

def quiescent_BranchDwFirstRefIdeal [hBranchDwFirstRefIdeal : Cert.BranchDwFirstRefIdeal.Facts] : Prop :=
  ∀ (m : (ℓ : Loc Cert.BranchDwFirstRefIdeal.nD Cert.BranchDwFirstRefIdeal.τ Cert.BranchDwFirstRefIdeal.sig) → Buf (Elt Ideal) ℓ) (g : Dev Cert.BranchDwFirstRefIdeal.nD → PrngReg), Pre_BranchDwFirstRefIdeal m →
    θ_run (Cert.BranchDwFirstRefIdeal.defs (F := Ideal)) (onTc (τ := Cert.BranchDwFirstRefIdeal.τ) (Cert.BranchDwFirstRefIdeal.main (F := Ideal))) ⟨m, fun _ => 0, g⟩ (fun r => (∀ c : Dev Cert.BranchDwFirstRefIdeal.nD,
      r.2.mem ((c.tc : Thread Cert.BranchDwFirstRefIdeal.nD Cert.BranchDwFirstRefIdeal.τ).loc Cert.BranchDwFirstRefIdeal.main_arg0) = m ((c.tc : Thread Cert.BranchDwFirstRefIdeal.nD Cert.BranchDwFirstRefIdeal.τ).loc Cert.BranchDwFirstRefIdeal.main_arg0)
      ∧ r.2.mem ((c.tc : Thread Cert.BranchDwFirstRefIdeal.nD Cert.BranchDwFirstRefIdeal.τ).loc Cert.BranchDwFirstRefIdeal.main_arg1) = m ((c.tc : Thread Cert.BranchDwFirstRefIdeal.nD Cert.BranchDwFirstRefIdeal.τ).loc Cert.BranchDwFirstRefIdeal.main_arg1))
      ∧ r.2.sem = fun _ => 0)

def quiescent_BranchDwSecond [hBranchDwSecond : Cert.BranchDwSecond.Facts] : Prop :=
  ∀ (m : (ℓ : Loc Cert.BranchDwSecond.nD Cert.BranchDwSecond.τ Cert.BranchDwSecond.sig) → Buf (Elt Bits) ℓ) (g : Dev Cert.BranchDwSecond.nD → PrngReg), Pre_BranchDwSecond m →
    θ_run (Cert.BranchDwSecond.defs (F := Bits)) (onTc (τ := Cert.BranchDwSecond.τ) (Cert.BranchDwSecond.main (F := Bits))) ⟨m, fun _ => 0, g⟩ (fun r => (∀ c : Dev Cert.BranchDwSecond.nD,
      r.2.mem ((c.tc : Thread Cert.BranchDwSecond.nD Cert.BranchDwSecond.τ).loc Cert.BranchDwSecond.main_arg0) = m ((c.tc : Thread Cert.BranchDwSecond.nD Cert.BranchDwSecond.τ).loc Cert.BranchDwSecond.main_arg0)
      ∧ r.2.mem ((c.tc : Thread Cert.BranchDwSecond.nD Cert.BranchDwSecond.τ).loc Cert.BranchDwSecond.main_arg1) = m ((c.tc : Thread Cert.BranchDwSecond.nD Cert.BranchDwSecond.τ).loc Cert.BranchDwSecond.main_arg1)
      ∧ r.2.mem ((c.tc : Thread Cert.BranchDwSecond.nD Cert.BranchDwSecond.τ).loc Cert.BranchDwSecond.main_arg2) = m ((c.tc : Thread Cert.BranchDwSecond.nD Cert.BranchDwSecond.τ).loc Cert.BranchDwSecond.main_arg2))
      ∧ r.2.sem = fun _ => 0)

def quiescent_BranchDwSecondIdeal [hBranchDwSecondIdeal : Cert.BranchDwSecondIdeal.Facts] : Prop :=
  ∀ (m : (ℓ : Loc Cert.BranchDwSecondIdeal.nD Cert.BranchDwSecondIdeal.τ Cert.BranchDwSecondIdeal.sig) → Buf (Elt Ideal) ℓ) (g : Dev Cert.BranchDwSecondIdeal.nD → PrngReg), Pre_BranchDwSecondIdeal m →
    θ_run (Cert.BranchDwSecondIdeal.defs (F := Ideal)) (onTc (τ := Cert.BranchDwSecondIdeal.τ) (Cert.BranchDwSecondIdeal.main (F := Ideal))) ⟨m, fun _ => 0, g⟩ (fun r => (∀ c : Dev Cert.BranchDwSecondIdeal.nD,
      r.2.mem ((c.tc : Thread Cert.BranchDwSecondIdeal.nD Cert.BranchDwSecondIdeal.τ).loc Cert.BranchDwSecondIdeal.main_arg0) = m ((c.tc : Thread Cert.BranchDwSecondIdeal.nD Cert.BranchDwSecondIdeal.τ).loc Cert.BranchDwSecondIdeal.main_arg0)
      ∧ r.2.mem ((c.tc : Thread Cert.BranchDwSecondIdeal.nD Cert.BranchDwSecondIdeal.τ).loc Cert.BranchDwSecondIdeal.main_arg1) = m ((c.tc : Thread Cert.BranchDwSecondIdeal.nD Cert.BranchDwSecondIdeal.τ).loc Cert.BranchDwSecondIdeal.main_arg1)
      ∧ r.2.mem ((c.tc : Thread Cert.BranchDwSecondIdeal.nD Cert.BranchDwSecondIdeal.τ).loc Cert.BranchDwSecondIdeal.main_arg2) = m ((c.tc : Thread Cert.BranchDwSecondIdeal.nD Cert.BranchDwSecondIdeal.τ).loc Cert.BranchDwSecondIdeal.main_arg2))
      ∧ r.2.sem = fun _ => 0)

def quiescent_BranchDwSecondRefIdeal [hBranchDwSecondRefIdeal : Cert.BranchDwSecondRefIdeal.Facts] : Prop :=
  ∀ (m : (ℓ : Loc Cert.BranchDwSecondRefIdeal.nD Cert.BranchDwSecondRefIdeal.τ Cert.BranchDwSecondRefIdeal.sig) → Buf (Elt Ideal) ℓ) (g : Dev Cert.BranchDwSecondRefIdeal.nD → PrngReg), Pre_BranchDwSecondRefIdeal m →
    θ_run (Cert.BranchDwSecondRefIdeal.defs (F := Ideal)) (onTc (τ := Cert.BranchDwSecondRefIdeal.τ) (Cert.BranchDwSecondRefIdeal.main (F := Ideal))) ⟨m, fun _ => 0, g⟩ (fun r => (∀ c : Dev Cert.BranchDwSecondRefIdeal.nD,
      r.2.mem ((c.tc : Thread Cert.BranchDwSecondRefIdeal.nD Cert.BranchDwSecondRefIdeal.τ).loc Cert.BranchDwSecondRefIdeal.main_arg0) = m ((c.tc : Thread Cert.BranchDwSecondRefIdeal.nD Cert.BranchDwSecondRefIdeal.τ).loc Cert.BranchDwSecondRefIdeal.main_arg0)
      ∧ r.2.mem ((c.tc : Thread Cert.BranchDwSecondRefIdeal.nD Cert.BranchDwSecondRefIdeal.τ).loc Cert.BranchDwSecondRefIdeal.main_arg1) = m ((c.tc : Thread Cert.BranchDwSecondRefIdeal.nD Cert.BranchDwSecondRefIdeal.τ).loc Cert.BranchDwSecondRefIdeal.main_arg1)
      ∧ r.2.mem ((c.tc : Thread Cert.BranchDwSecondRefIdeal.nD Cert.BranchDwSecondRefIdeal.τ).loc Cert.BranchDwSecondRefIdeal.main_arg2) = m ((c.tc : Thread Cert.BranchDwSecondRefIdeal.nD Cert.BranchDwSecondRefIdeal.τ).loc Cert.BranchDwSecondRefIdeal.main_arg2))
      ∧ r.2.sem = fun _ => 0)

def quiescent_BranchDwThird [hBranchDwThird : Cert.BranchDwThird.Facts] : Prop :=
  ∀ (m : (ℓ : Loc Cert.BranchDwThird.nD Cert.BranchDwThird.τ Cert.BranchDwThird.sig) → Buf (Elt Bits) ℓ) (g : Dev Cert.BranchDwThird.nD → PrngReg), Pre_BranchDwThird m →
    θ_run (Cert.BranchDwThird.defs (F := Bits)) (onTc (τ := Cert.BranchDwThird.τ) (Cert.BranchDwThird.main (F := Bits))) ⟨m, fun _ => 0, g⟩ (fun r => (∀ c : Dev Cert.BranchDwThird.nD,
      r.2.mem ((c.tc : Thread Cert.BranchDwThird.nD Cert.BranchDwThird.τ).loc Cert.BranchDwThird.main_arg0) = m ((c.tc : Thread Cert.BranchDwThird.nD Cert.BranchDwThird.τ).loc Cert.BranchDwThird.main_arg0)
      ∧ r.2.mem ((c.tc : Thread Cert.BranchDwThird.nD Cert.BranchDwThird.τ).loc Cert.BranchDwThird.main_arg1) = m ((c.tc : Thread Cert.BranchDwThird.nD Cert.BranchDwThird.τ).loc Cert.BranchDwThird.main_arg1)
      ∧ r.2.mem ((c.tc : Thread Cert.BranchDwThird.nD Cert.BranchDwThird.τ).loc Cert.BranchDwThird.main_arg2) = m ((c.tc : Thread Cert.BranchDwThird.nD Cert.BranchDwThird.τ).loc Cert.BranchDwThird.main_arg2))
      ∧ r.2.sem = fun _ => 0)

def quiescent_BranchDwThirdIdeal [hBranchDwThirdIdeal : Cert.BranchDwThirdIdeal.Facts] : Prop :=
  ∀ (m : (ℓ : Loc Cert.BranchDwThirdIdeal.nD Cert.BranchDwThirdIdeal.τ Cert.BranchDwThirdIdeal.sig) → Buf (Elt Ideal) ℓ) (g : Dev Cert.BranchDwThirdIdeal.nD → PrngReg), Pre_BranchDwThirdIdeal m →
    θ_run (Cert.BranchDwThirdIdeal.defs (F := Ideal)) (onTc (τ := Cert.BranchDwThirdIdeal.τ) (Cert.BranchDwThirdIdeal.main (F := Ideal))) ⟨m, fun _ => 0, g⟩ (fun r => (∀ c : Dev Cert.BranchDwThirdIdeal.nD,
      r.2.mem ((c.tc : Thread Cert.BranchDwThirdIdeal.nD Cert.BranchDwThirdIdeal.τ).loc Cert.BranchDwThirdIdeal.main_arg0) = m ((c.tc : Thread Cert.BranchDwThirdIdeal.nD Cert.BranchDwThirdIdeal.τ).loc Cert.BranchDwThirdIdeal.main_arg0)
      ∧ r.2.mem ((c.tc : Thread Cert.BranchDwThirdIdeal.nD Cert.BranchDwThirdIdeal.τ).loc Cert.BranchDwThirdIdeal.main_arg1) = m ((c.tc : Thread Cert.BranchDwThirdIdeal.nD Cert.BranchDwThirdIdeal.τ).loc Cert.BranchDwThirdIdeal.main_arg1)
      ∧ r.2.mem ((c.tc : Thread Cert.BranchDwThirdIdeal.nD Cert.BranchDwThirdIdeal.τ).loc Cert.BranchDwThirdIdeal.main_arg2) = m ((c.tc : Thread Cert.BranchDwThirdIdeal.nD Cert.BranchDwThirdIdeal.τ).loc Cert.BranchDwThirdIdeal.main_arg2))
      ∧ r.2.sem = fun _ => 0)

def quiescent_BranchDwThirdRefIdeal [hBranchDwThirdRefIdeal : Cert.BranchDwThirdRefIdeal.Facts] : Prop :=
  ∀ (m : (ℓ : Loc Cert.BranchDwThirdRefIdeal.nD Cert.BranchDwThirdRefIdeal.τ Cert.BranchDwThirdRefIdeal.sig) → Buf (Elt Ideal) ℓ) (g : Dev Cert.BranchDwThirdRefIdeal.nD → PrngReg), Pre_BranchDwThirdRefIdeal m →
    θ_run (Cert.BranchDwThirdRefIdeal.defs (F := Ideal)) (onTc (τ := Cert.BranchDwThirdRefIdeal.τ) (Cert.BranchDwThirdRefIdeal.main (F := Ideal))) ⟨m, fun _ => 0, g⟩ (fun r => (∀ c : Dev Cert.BranchDwThirdRefIdeal.nD,
      r.2.mem ((c.tc : Thread Cert.BranchDwThirdRefIdeal.nD Cert.BranchDwThirdRefIdeal.τ).loc Cert.BranchDwThirdRefIdeal.main_arg0) = m ((c.tc : Thread Cert.BranchDwThirdRefIdeal.nD Cert.BranchDwThirdRefIdeal.τ).loc Cert.BranchDwThirdRefIdeal.main_arg0)
      ∧ r.2.mem ((c.tc : Thread Cert.BranchDwThirdRefIdeal.nD Cert.BranchDwThirdRefIdeal.τ).loc Cert.BranchDwThirdRefIdeal.main_arg1) = m ((c.tc : Thread Cert.BranchDwThirdRefIdeal.nD Cert.BranchDwThirdRefIdeal.τ).loc Cert.BranchDwThirdRefIdeal.main_arg1)
      ∧ r.2.mem ((c.tc : Thread Cert.BranchDwThirdRefIdeal.nD Cert.BranchDwThirdRefIdeal.τ).loc Cert.BranchDwThirdRefIdeal.main_arg2) = m ((c.tc : Thread Cert.BranchDwThirdRefIdeal.nD Cert.BranchDwThirdRefIdeal.τ).loc Cert.BranchDwThirdRefIdeal.main_arg2))
      ∧ r.2.sem = fun _ => 0)

def quiescent_OutDxMerge [hOutDxMerge : Cert.OutDxMerge.Facts] : Prop :=
  ∀ (m : (ℓ : Loc Cert.OutDxMerge.nD Cert.OutDxMerge.τ Cert.OutDxMerge.sig) → Buf (Elt Bits) ℓ) (g : Dev Cert.OutDxMerge.nD → PrngReg), Pre_OutDxMerge m →
    θ_run (Cert.OutDxMerge.defs (F := Bits)) (onTc (τ := Cert.OutDxMerge.τ) (Cert.OutDxMerge.main (F := Bits))) ⟨m, fun _ => 0, g⟩ (fun r => (∀ c : Dev Cert.OutDxMerge.nD,
      r.2.mem ((c.tc : Thread Cert.OutDxMerge.nD Cert.OutDxMerge.τ).loc Cert.OutDxMerge.main_arg0) = m ((c.tc : Thread Cert.OutDxMerge.nD Cert.OutDxMerge.τ).loc Cert.OutDxMerge.main_arg0)
      ∧ r.2.mem ((c.tc : Thread Cert.OutDxMerge.nD Cert.OutDxMerge.τ).loc Cert.OutDxMerge.main_arg1) = m ((c.tc : Thread Cert.OutDxMerge.nD Cert.OutDxMerge.τ).loc Cert.OutDxMerge.main_arg1)
      ∧ r.2.mem ((c.tc : Thread Cert.OutDxMerge.nD Cert.OutDxMerge.τ).loc Cert.OutDxMerge.main_arg2) = m ((c.tc : Thread Cert.OutDxMerge.nD Cert.OutDxMerge.τ).loc Cert.OutDxMerge.main_arg2)
      ∧ r.2.mem ((c.tc : Thread Cert.OutDxMerge.nD Cert.OutDxMerge.τ).loc Cert.OutDxMerge.main_arg3) = m ((c.tc : Thread Cert.OutDxMerge.nD Cert.OutDxMerge.τ).loc Cert.OutDxMerge.main_arg3)
      ∧ r.2.mem ((c.tc : Thread Cert.OutDxMerge.nD Cert.OutDxMerge.τ).loc Cert.OutDxMerge.main_arg4) = m ((c.tc : Thread Cert.OutDxMerge.nD Cert.OutDxMerge.τ).loc Cert.OutDxMerge.main_arg4)
      ∧ r.2.mem ((c.tc : Thread Cert.OutDxMerge.nD Cert.OutDxMerge.τ).loc Cert.OutDxMerge.main_arg5) = m ((c.tc : Thread Cert.OutDxMerge.nD Cert.OutDxMerge.τ).loc Cert.OutDxMerge.main_arg5))
      ∧ r.2.sem = fun _ => 0)

def quiescent_OutDxMergeIdeal [hOutDxMergeIdeal : Cert.OutDxMergeIdeal.Facts] : Prop :=
  ∀ (m : (ℓ : Loc Cert.OutDxMergeIdeal.nD Cert.OutDxMergeIdeal.τ Cert.OutDxMergeIdeal.sig) → Buf (Elt Ideal) ℓ) (g : Dev Cert.OutDxMergeIdeal.nD → PrngReg), Pre_OutDxMergeIdeal m →
    θ_run (Cert.OutDxMergeIdeal.defs (F := Ideal)) (onTc (τ := Cert.OutDxMergeIdeal.τ) (Cert.OutDxMergeIdeal.main (F := Ideal))) ⟨m, fun _ => 0, g⟩ (fun r => (∀ c : Dev Cert.OutDxMergeIdeal.nD,
      r.2.mem ((c.tc : Thread Cert.OutDxMergeIdeal.nD Cert.OutDxMergeIdeal.τ).loc Cert.OutDxMergeIdeal.main_arg0) = m ((c.tc : Thread Cert.OutDxMergeIdeal.nD Cert.OutDxMergeIdeal.τ).loc Cert.OutDxMergeIdeal.main_arg0)
      ∧ r.2.mem ((c.tc : Thread Cert.OutDxMergeIdeal.nD Cert.OutDxMergeIdeal.τ).loc Cert.OutDxMergeIdeal.main_arg1) = m ((c.tc : Thread Cert.OutDxMergeIdeal.nD Cert.OutDxMergeIdeal.τ).loc Cert.OutDxMergeIdeal.main_arg1)
      ∧ r.2.mem ((c.tc : Thread Cert.OutDxMergeIdeal.nD Cert.OutDxMergeIdeal.τ).loc Cert.OutDxMergeIdeal.main_arg2) = m ((c.tc : Thread Cert.OutDxMergeIdeal.nD Cert.OutDxMergeIdeal.τ).loc Cert.OutDxMergeIdeal.main_arg2)
      ∧ r.2.mem ((c.tc : Thread Cert.OutDxMergeIdeal.nD Cert.OutDxMergeIdeal.τ).loc Cert.OutDxMergeIdeal.main_arg3) = m ((c.tc : Thread Cert.OutDxMergeIdeal.nD Cert.OutDxMergeIdeal.τ).loc Cert.OutDxMergeIdeal.main_arg3)
      ∧ r.2.mem ((c.tc : Thread Cert.OutDxMergeIdeal.nD Cert.OutDxMergeIdeal.τ).loc Cert.OutDxMergeIdeal.main_arg4) = m ((c.tc : Thread Cert.OutDxMergeIdeal.nD Cert.OutDxMergeIdeal.τ).loc Cert.OutDxMergeIdeal.main_arg4)
      ∧ r.2.mem ((c.tc : Thread Cert.OutDxMergeIdeal.nD Cert.OutDxMergeIdeal.τ).loc Cert.OutDxMergeIdeal.main_arg5) = m ((c.tc : Thread Cert.OutDxMergeIdeal.nD Cert.OutDxMergeIdeal.τ).loc Cert.OutDxMergeIdeal.main_arg5))
      ∧ r.2.sem = fun _ => 0)

def quiescent_OutDxMergeRefIdeal [hOutDxMergeRefIdeal : Cert.OutDxMergeRefIdeal.Facts] : Prop :=
  ∀ (m : (ℓ : Loc Cert.OutDxMergeRefIdeal.nD Cert.OutDxMergeRefIdeal.τ Cert.OutDxMergeRefIdeal.sig) → Buf (Elt Ideal) ℓ) (g : Dev Cert.OutDxMergeRefIdeal.nD → PrngReg), Pre_OutDxMergeRefIdeal m →
    θ_run (Cert.OutDxMergeRefIdeal.defs (F := Ideal)) (onTc (τ := Cert.OutDxMergeRefIdeal.τ) (Cert.OutDxMergeRefIdeal.main (F := Ideal))) ⟨m, fun _ => 0, g⟩ (fun r => (∀ c : Dev Cert.OutDxMergeRefIdeal.nD,
      r.2.mem ((c.tc : Thread Cert.OutDxMergeRefIdeal.nD Cert.OutDxMergeRefIdeal.τ).loc Cert.OutDxMergeRefIdeal.main_arg0) = m ((c.tc : Thread Cert.OutDxMergeRefIdeal.nD Cert.OutDxMergeRefIdeal.τ).loc Cert.OutDxMergeRefIdeal.main_arg0)
      ∧ r.2.mem ((c.tc : Thread Cert.OutDxMergeRefIdeal.nD Cert.OutDxMergeRefIdeal.τ).loc Cert.OutDxMergeRefIdeal.main_arg1) = m ((c.tc : Thread Cert.OutDxMergeRefIdeal.nD Cert.OutDxMergeRefIdeal.τ).loc Cert.OutDxMergeRefIdeal.main_arg1)
      ∧ r.2.mem ((c.tc : Thread Cert.OutDxMergeRefIdeal.nD Cert.OutDxMergeRefIdeal.τ).loc Cert.OutDxMergeRefIdeal.main_arg2) = m ((c.tc : Thread Cert.OutDxMergeRefIdeal.nD Cert.OutDxMergeRefIdeal.τ).loc Cert.OutDxMergeRefIdeal.main_arg2)
      ∧ r.2.mem ((c.tc : Thread Cert.OutDxMergeRefIdeal.nD Cert.OutDxMergeRefIdeal.τ).loc Cert.OutDxMergeRefIdeal.main_arg3) = m ((c.tc : Thread Cert.OutDxMergeRefIdeal.nD Cert.OutDxMergeRefIdeal.τ).loc Cert.OutDxMergeRefIdeal.main_arg3)
      ∧ r.2.mem ((c.tc : Thread Cert.OutDxMergeRefIdeal.nD Cert.OutDxMergeRefIdeal.τ).loc Cert.OutDxMergeRefIdeal.main_arg4) = m ((c.tc : Thread Cert.OutDxMergeRefIdeal.nD Cert.OutDxMergeRefIdeal.τ).loc Cert.OutDxMergeRefIdeal.main_arg4)
      ∧ r.2.mem ((c.tc : Thread Cert.OutDxMergeRefIdeal.nD Cert.OutDxMergeRefIdeal.τ).loc Cert.OutDxMergeRefIdeal.main_arg5) = m ((c.tc : Thread Cert.OutDxMergeRefIdeal.nD Cert.OutDxMergeRefIdeal.τ).loc Cert.OutDxMergeRefIdeal.main_arg5))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_FfnOutFwd [hFfnOutFwd : Cert.FfnOutFwd.Facts] : Prop :=
  ∀ (m : (ℓ : Loc Cert.FfnOutFwd.nD Cert.FfnOutFwd.τ Cert.FfnOutFwd.sig) → Buf (Elt Bits) ℓ) (g : Dev Cert.FfnOutFwd.nD → PrngReg), Pre_FfnOutFwd m →
    θ_run (Cert.FfnOutFwd.defs (F := Bits)) (onTc (τ := Cert.FfnOutFwd.τ) (Cert.FfnOutFwd.main (F := Bits))) ⟨m, fun _ => 0, g⟩ (fun r => (∀ c : Dev Cert.FfnOutFwd.nD,
      r.2.mem ((c.tc : Thread Cert.FfnOutFwd.nD Cert.FfnOutFwd.τ).loc Cert.FfnOutFwd.main_arg0) = m ((c.tc : Thread Cert.FfnOutFwd.nD Cert.FfnOutFwd.τ).loc Cert.FfnOutFwd.main_arg0)
      ∧ r.2.mem ((c.tc : Thread Cert.FfnOutFwd.nD Cert.FfnOutFwd.τ).loc Cert.FfnOutFwd.main_arg1) = m ((c.tc : Thread Cert.FfnOutFwd.nD Cert.FfnOutFwd.τ).loc Cert.FfnOutFwd.main_arg1)
      ∧ r.2.mem ((c.tc : Thread Cert.FfnOutFwd.nD Cert.FfnOutFwd.τ).loc Cert.FfnOutFwd.main_arg2) = m ((c.tc : Thread Cert.FfnOutFwd.nD Cert.FfnOutFwd.τ).loc Cert.FfnOutFwd.main_arg2))
      ∧ r.2.sem = fun _ => 0)

def quiescent_FfnOutFwdIdeal [hFfnOutFwdIdeal : Cert.FfnOutFwdIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg), Pre_FfnOutFwdIdeal m →
    θ_run (Cert.FfnOutFwdIdeal.defs (F := Ideal)) (onTc (τ := Cert.FfnOutFwdIdeal.τ) (Cert.FfnOutFwdIdeal.main (F := Ideal))) ⟨m, fun _ => 0, g⟩ (fun r => (∀ c : Dev Cert.FfnOutFwdIdeal.nD,
      r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
      ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
      ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2))
      ∧ r.2.sem = fun _ => 0)

def quiescent_FfnOutFwdRefIdeal [hFfnOutFwdRefIdeal : Cert.FfnOutFwdRefIdeal.Facts] : Prop :=
  ∀ (m : (ℓ : Loc Cert.FfnOutFwdRefIdeal.nD Cert.FfnOutFwdRefIdeal.τ Cert.FfnOutFwdRefIdeal.sig) → Buf (Elt Ideal) ℓ) (g : Dev Cert.FfnOutFwdRefIdeal.nD → PrngReg), Pre_FfnOutFwdRefIdeal m →
    θ_run (Cert.FfnOutFwdRefIdeal.defs (F := Ideal)) (onTc (τ := Cert.FfnOutFwdRefIdeal.τ) (Cert.FfnOutFwdRefIdeal.main (F := Ideal))) ⟨m, fun _ => 0, g⟩ (fun r => (∀ c : Dev Cert.FfnOutFwdRefIdeal.nD,
      r.2.mem ((c.tc : Thread Cert.FfnOutFwdRefIdeal.nD Cert.FfnOutFwdRefIdeal.τ).loc Cert.FfnOutFwdRefIdeal.main_arg0) = m ((c.tc : Thread Cert.FfnOutFwdRefIdeal.nD Cert.FfnOutFwdRefIdeal.τ).loc Cert.FfnOutFwdRefIdeal.main_arg0)
      ∧ r.2.mem ((c.tc : Thread Cert.FfnOutFwdRefIdeal.nD Cert.FfnOutFwdRefIdeal.τ).loc Cert.FfnOutFwdRefIdeal.main_arg1) = m ((c.tc : Thread Cert.FfnOutFwdRefIdeal.nD Cert.FfnOutFwdRefIdeal.τ).loc Cert.FfnOutFwdRefIdeal.main_arg1)
      ∧ r.2.mem ((c.tc : Thread Cert.FfnOutFwdRefIdeal.nD Cert.FfnOutFwdRefIdeal.τ).loc Cert.FfnOutFwdRefIdeal.main_arg2) = m ((c.tc : Thread Cert.FfnOutFwdRefIdeal.nD Cert.FfnOutFwdRefIdeal.τ).loc Cert.FfnOutFwdRefIdeal.main_arg2))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1)
      ∧ r.2.mem ((c.tc : Thread Cert.BranchFwd.nD Cert.BranchFwd.τ).loc Cert.BranchFwd.main_arg2) = m ((c.tc : Thread Cert.BranchFwd.nD Cert.BranchFwd.τ).loc Cert.BranchFwd.main_arg2)
      ∧ r.2.mem ((c.tc : Thread Cert.BranchFwd.nD Cert.BranchFwd.τ).loc Cert.BranchFwd.main_arg3) = m ((c.tc : Thread Cert.BranchFwd.nD Cert.BranchFwd.τ).loc Cert.BranchFwd.main_arg3)
      ∧ r.2.mem ((c.tc : Thread Cert.BranchFwd.nD Cert.BranchFwd.τ).loc Cert.BranchFwd.main_arg4) = m ((c.tc : Thread Cert.BranchFwd.nD Cert.BranchFwd.τ).loc Cert.BranchFwd.main_arg4))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
      ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
      ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3)
      ∧ r.2.mem ((c.tc : Thread Cert.BranchFwdIdeal.nD Cert.BranchFwdIdeal.τ).loc Cert.BranchFwdIdeal.main_arg4) = m ((c.tc : Thread Cert.BranchFwdIdeal.nD Cert.BranchFwdIdeal.τ).loc Cert.BranchFwdIdeal.main_arg4))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1)
      ∧ r.2.mem ((c.tc : Thread Cert.BranchFwdRefIdeal.nD Cert.BranchFwdRefIdeal.τ).loc Cert.BranchFwdRefIdeal.main_arg2) = m ((c.tc : Thread Cert.BranchFwdRefIdeal.nD Cert.BranchFwdRefIdeal.τ).loc Cert.BranchFwdRefIdeal.main_arg2)
      ∧ r.2.mem ((c.tc : Thread Cert.BranchFwdRefIdeal.nD Cert.BranchFwdRefIdeal.τ).loc Cert.BranchFwdRefIdeal.main_arg3) = m ((c.tc : Thread Cert.BranchFwdRefIdeal.nD Cert.BranchFwdRefIdeal.τ).loc Cert.BranchFwdRefIdeal.main_arg3)
      ∧ r.2.mem ((c.tc : Thread Cert.BranchFwdRefIdeal.nD Cert.BranchFwdRefIdeal.τ).loc Cert.BranchFwdRefIdeal.main_arg4) = m ((c.tc : Thread Cert.BranchFwdRefIdeal.nD Cert.BranchFwdRefIdeal.τ).loc Cert.BranchFwdRefIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_BandFold [hBandFold : Cert.BandFold.Facts] : Prop :=
  ∀ (m : (ℓ : Loc Cert.BandFold.nD Cert.BandFold.τ Cert.BandFold.sig) → Buf (Elt Bits) ℓ) (g : Dev Cert.BandFold.nD → PrngReg), Pre_BandFold m →
    θ_run (Cert.BandFold.defs (F := Bits)) (onTc (τ := Cert.BandFold.τ) (Cert.BandFold.main (F := Bits))) ⟨m, fun _ => 0, g⟩ (fun r => (∀ c : Dev Cert.BandFold.nD,
      r.2.mem ((c.tc : Thread Cert.BandFold.nD Cert.BandFold.τ).loc Cert.BandFold.main_arg0) = m ((c.tc : Thread Cert.BandFold.nD Cert.BandFold.τ).loc Cert.BandFold.main_arg0)
      ∧ r.2.mem ((c.tc : Thread Cert.BandFold.nD Cert.BandFold.τ).loc Cert.BandFold.main_arg1) = m ((c.tc : Thread Cert.BandFold.nD Cert.BandFold.τ).loc Cert.BandFold.main_arg1))
      ∧ r.2.sem = fun _ => 0)

def quiescent_BandFoldIdeal [hBandFoldIdeal : Cert.BandFoldIdeal.Facts] : Prop :=
  ∀ (m : (ℓ : Loc Cert.BandFoldIdeal.nD Cert.BandFoldIdeal.τ Cert.BandFoldIdeal.sig) → Buf (Elt Ideal) ℓ) (g : Dev Cert.BandFoldIdeal.nD → PrngReg), Pre_BandFoldIdeal m →
    θ_run (Cert.BandFoldIdeal.defs (F := Ideal)) (onTc (τ := Cert.BandFoldIdeal.τ) (Cert.BandFoldIdeal.main (F := Ideal))) ⟨m, fun _ => 0, g⟩ (fun r => (∀ c : Dev Cert.BandFoldIdeal.nD,
      r.2.mem ((c.tc : Thread Cert.BandFoldIdeal.nD Cert.BandFoldIdeal.τ).loc Cert.BandFoldIdeal.main_arg0) = m ((c.tc : Thread Cert.BandFoldIdeal.nD Cert.BandFoldIdeal.τ).loc Cert.BandFoldIdeal.main_arg0)
      ∧ r.2.mem ((c.tc : Thread Cert.BandFoldIdeal.nD Cert.BandFoldIdeal.τ).loc Cert.BandFoldIdeal.main_arg1) = m ((c.tc : Thread Cert.BandFoldIdeal.nD Cert.BandFoldIdeal.τ).loc Cert.BandFoldIdeal.main_arg1))
      ∧ r.2.sem = fun _ => 0)

def quiescent_BandFoldRefIdeal [hBandFoldRefIdeal : Cert.BandFoldRefIdeal.Facts] : Prop :=
  ∀ (m : (ℓ : Loc Cert.BandFoldRefIdeal.nD Cert.BandFoldRefIdeal.τ Cert.BandFoldRefIdeal.sig) → Buf (Elt Ideal) ℓ) (g : Dev Cert.BandFoldRefIdeal.nD → PrngReg), Pre_BandFoldRefIdeal m →
    θ_run (Cert.BandFoldRefIdeal.defs (F := Ideal)) (onTc (τ := Cert.BandFoldRefIdeal.τ) (Cert.BandFoldRefIdeal.main (F := Ideal))) ⟨m, fun _ => 0, g⟩ (fun r => (∀ c : Dev Cert.BandFoldRefIdeal.nD,
      r.2.mem ((c.tc : Thread Cert.BandFoldRefIdeal.nD Cert.BandFoldRefIdeal.τ).loc Cert.BandFoldRefIdeal.main_arg0) = m ((c.tc : Thread Cert.BandFoldRefIdeal.nD Cert.BandFoldRefIdeal.τ).loc Cert.BandFoldRefIdeal.main_arg0)
      ∧ r.2.mem ((c.tc : Thread Cert.BandFoldRefIdeal.nD Cert.BandFoldRefIdeal.τ).loc Cert.BandFoldRefIdeal.main_arg1) = m ((c.tc : Thread Cert.BandFoldRefIdeal.nD Cert.BandFoldRefIdeal.τ).loc Cert.BandFoldRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdIdeal_pre_finite_factors [hSwigluBwdIdeal : Cert.SwigluBwdIdeal.Facts] [hPre_finite_factors : Cert.Pre_finite_factors.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_factors m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_SwigluBwdRefIdeal_pre_finite_factors [hSwigluBwdRefIdeal : Cert.SwigluBwdRefIdeal.Facts] [hPre_finite_factors : Cert.Pre_finite_factors.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_finite_factors m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3)
      ∧ r.2.mem ((c.tc : Thread Cert.SwaFwd.nD Cert.SwaFwd.τ).loc Cert.SwaFwd.main_arg4) = m ((c.tc : Thread Cert.SwaFwd.nD Cert.SwaFwd.τ).loc Cert.SwaFwd.main_arg4))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ r.2.sem = fun _ => 0)

def quiescent_SwaFwdIdeal_pre_finite_scores [hSwaFwdIdeal : Cert.SwaFwdIdeal.Facts] [hPre_finite_scores : Cert.Pre_finite_scores.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_finite_scores m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4))
      ∧ r.2.sem = fun _ => 0)

def quiescent_SwaFwdRefIdeal_pre_finite_scores [hSwaFwdRefIdeal : Cert.SwaFwdRefIdeal.Facts] [hPre_finite_scores : Cert.Pre_finite_scores.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_finite_scores m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3)
      ∧ r.2.mem ((c.tc : Thread Cert.SwaFwdRefIdeal.nD Cert.SwaFwdRefIdeal.τ).loc Cert.SwaFwdRefIdeal.main_arg4) = m ((c.tc : Thread Cert.SwaFwdRefIdeal.nD Cert.SwaFwdRefIdeal.τ).loc Cert.SwaFwdRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v1)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v1) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v1)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v1) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v5) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)
      ∧ m' ((c.tc : Thread Cert.FfnInDwRefIdeal.nD Cert.FfnInDwRefIdeal.τ).loc Cert.FfnInDwRefIdeal.main_arg2) = m ((c.tc : Thread Cert.FfnInDwIdeal.nD Cert.FfnInDwIdeal.τ).loc Cert.FfnInDwIdeal.main_arg2)) →
    ∃ (v0 : (c : Dev Cert.FfnInDwIdeal.nD) → Buf (Elt Ideal) ((c.tc : Thread Cert.FfnInDwIdeal.nD Cert.FfnInDwIdeal.τ).loc Cert.FfnInDwIdeal.main_v1)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v1) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
          ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v8) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1)
          ∧ r.2.mem ((c.tc : Thread Cert.FfnInDwRefIdeal.nD Cert.FfnInDwRefIdeal.τ).loc Cert.FfnInDwRefIdeal.main_arg2) = m' ((c.tc : Thread Cert.FfnInDwRefIdeal.nD Cert.FfnInDwRefIdeal.τ).loc Cert.FfnInDwRefIdeal.main_arg2))

def preserves_FfnInDxGate_FfnInDxGateIdeal : Prop :=
  True

def algebraic_FfnInDxGateIdeal_FfnInDxGateRefIdeal [hFfnInDxGateIdeal : Cert.FfnInDxGateIdeal.Facts] [hFfnInDxGateRefIdeal : Cert.FfnInDxGateRefIdeal.Facts] : Prop :=
  ∀ (m : (ℓ : Loc Cert.FfnInDxGateIdeal.nD Cert.FfnInDxGateIdeal.τ Cert.FfnInDxGateIdeal.sig) → Buf (Elt Ideal) ℓ) (g : Dev Cert.FfnInDxGateIdeal.nD → PrngReg)
    (m' : (ℓ : Loc Cert.FfnInDxGateRefIdeal.nD Cert.FfnInDxGateRefIdeal.τ Cert.FfnInDxGateRefIdeal.sig) → Buf (Elt Ideal) ℓ) (g' : Dev Cert.FfnInDxGateRefIdeal.nD → PrngReg), Pre_FfnInDxGateIdeal m →
    (∀ c : Dev Cert.FfnInDxGateIdeal.nD,
      m' ((c.tc : Thread Cert.FfnInDxGateRefIdeal.nD Cert.FfnInDxGateRefIdeal.τ).loc Cert.FfnInDxGateRefIdeal.main_arg0) = m ((c.tc : Thread Cert.FfnInDxGateIdeal.nD Cert.FfnInDxGateIdeal.τ).loc Cert.FfnInDxGateIdeal.main_arg0)
      ∧ m' ((c.tc : Thread Cert.FfnInDxGateRefIdeal.nD Cert.FfnInDxGateRefIdeal.τ).loc Cert.FfnInDxGateRefIdeal.main_arg1) = m ((c.tc : Thread Cert.FfnInDxGateIdeal.nD Cert.FfnInDxGateIdeal.τ).loc Cert.FfnInDxGateIdeal.main_arg1)) →
    ∃ (v0 : (c : Dev Cert.FfnInDxGateIdeal.nD) → Buf (Elt Ideal) ((c.tc : Thread Cert.FfnInDxGateIdeal.nD Cert.FfnInDxGateIdeal.τ).loc Cert.FfnInDxGateIdeal.main_v0)),
      θ_run (Cert.FfnInDxGateIdeal.defs (F := Ideal)) (onTc (τ := Cert.FfnInDxGateIdeal.τ) (Cert.FfnInDxGateIdeal.main (F := Ideal))) ⟨m, fun _ => 0, g⟩ (fun r => ∀ c : Dev Cert.FfnInDxGateIdeal.nD,
          r.2.mem ((c.tc : Thread Cert.FfnInDxGateIdeal.nD Cert.FfnInDxGateIdeal.τ).loc Cert.FfnInDxGateIdeal.main_v0) = v0 c
          ∧ r.2.mem ((c.tc : Thread Cert.FfnInDxGateIdeal.nD Cert.FfnInDxGateIdeal.τ).loc Cert.FfnInDxGateIdeal.main_arg0) = m ((c.tc : Thread Cert.FfnInDxGateIdeal.nD Cert.FfnInDxGateIdeal.τ).loc Cert.FfnInDxGateIdeal.main_arg0)
          ∧ r.2.mem ((c.tc : Thread Cert.FfnInDxGateIdeal.nD Cert.FfnInDxGateIdeal.τ).loc Cert.FfnInDxGateIdeal.main_arg1) = m ((c.tc : Thread Cert.FfnInDxGateIdeal.nD Cert.FfnInDxGateIdeal.τ).loc Cert.FfnInDxGateIdeal.main_arg1))
      ∧ θ_run (Cert.FfnInDxGateRefIdeal.defs (F := Ideal)) (onTc (τ := Cert.FfnInDxGateRefIdeal.τ) (Cert.FfnInDxGateRefIdeal.main (F := Ideal))) ⟨m', fun _ => 0, g'⟩ (fun r => ∀ c : Dev Cert.FfnInDxGateRefIdeal.nD,
          r.2.mem ((c.tc : Thread Cert.FfnInDxGateRefIdeal.nD Cert.FfnInDxGateRefIdeal.τ).loc Cert.FfnInDxGateRefIdeal.main_v8) = v0 c
          ∧ r.2.mem ((c.tc : Thread Cert.FfnInDxGateRefIdeal.nD Cert.FfnInDxGateRefIdeal.τ).loc Cert.FfnInDxGateRefIdeal.main_arg0) = m' ((c.tc : Thread Cert.FfnInDxGateRefIdeal.nD Cert.FfnInDxGateRefIdeal.τ).loc Cert.FfnInDxGateRefIdeal.main_arg0)
          ∧ r.2.mem ((c.tc : Thread Cert.FfnInDxGateRefIdeal.nD Cert.FfnInDxGateRefIdeal.τ).loc Cert.FfnInDxGateRefIdeal.main_arg1) = m' ((c.tc : Thread Cert.FfnInDxGateRefIdeal.nD Cert.FfnInDxGateRefIdeal.τ).loc Cert.FfnInDxGateRefIdeal.main_arg1))

def preserves_FfnInDxUp_FfnInDxUpIdeal : Prop :=
  True

def algebraic_FfnInDxUpIdeal_FfnInDxUpRefIdeal [hFfnInDxUpIdeal : Cert.FfnInDxUpIdeal.Facts] [hFfnInDxUpRefIdeal : Cert.FfnInDxUpRefIdeal.Facts] : Prop :=
  ∀ (m : (ℓ : Loc Cert.FfnInDxUpIdeal.nD Cert.FfnInDxUpIdeal.τ Cert.FfnInDxUpIdeal.sig) → Buf (Elt Ideal) ℓ) (g : Dev Cert.FfnInDxUpIdeal.nD → PrngReg)
    (m' : (ℓ : Loc Cert.FfnInDxUpRefIdeal.nD Cert.FfnInDxUpRefIdeal.τ Cert.FfnInDxUpRefIdeal.sig) → Buf (Elt Ideal) ℓ) (g' : Dev Cert.FfnInDxUpRefIdeal.nD → PrngReg), Pre_FfnInDxUpIdeal m →
    (∀ c : Dev Cert.FfnInDxUpIdeal.nD,
      m' ((c.tc : Thread Cert.FfnInDxUpRefIdeal.nD Cert.FfnInDxUpRefIdeal.τ).loc Cert.FfnInDxUpRefIdeal.main_arg0) = m ((c.tc : Thread Cert.FfnInDxUpIdeal.nD Cert.FfnInDxUpIdeal.τ).loc Cert.FfnInDxUpIdeal.main_arg0)
      ∧ m' ((c.tc : Thread Cert.FfnInDxUpRefIdeal.nD Cert.FfnInDxUpRefIdeal.τ).loc Cert.FfnInDxUpRefIdeal.main_arg1) = m ((c.tc : Thread Cert.FfnInDxUpIdeal.nD Cert.FfnInDxUpIdeal.τ).loc Cert.FfnInDxUpIdeal.main_arg1)
      ∧ m' ((c.tc : Thread Cert.FfnInDxUpRefIdeal.nD Cert.FfnInDxUpRefIdeal.τ).loc Cert.FfnInDxUpRefIdeal.main_arg2) = m ((c.tc : Thread Cert.FfnInDxUpIdeal.nD Cert.FfnInDxUpIdeal.τ).loc Cert.FfnInDxUpIdeal.main_arg2)) →
    ∃ (v0 : (c : Dev Cert.FfnInDxUpIdeal.nD) → Buf (Elt Ideal) ((c.tc : Thread Cert.FfnInDxUpIdeal.nD Cert.FfnInDxUpIdeal.τ).loc Cert.FfnInDxUpIdeal.main_v0)),
      θ_run (Cert.FfnInDxUpIdeal.defs (F := Ideal)) (onTc (τ := Cert.FfnInDxUpIdeal.τ) (Cert.FfnInDxUpIdeal.main (F := Ideal))) ⟨m, fun _ => 0, g⟩ (fun r => ∀ c : Dev Cert.FfnInDxUpIdeal.nD,
          r.2.mem ((c.tc : Thread Cert.FfnInDxUpIdeal.nD Cert.FfnInDxUpIdeal.τ).loc Cert.FfnInDxUpIdeal.main_v0) = v0 c
          ∧ r.2.mem ((c.tc : Thread Cert.FfnInDxUpIdeal.nD Cert.FfnInDxUpIdeal.τ).loc Cert.FfnInDxUpIdeal.main_arg0) = m ((c.tc : Thread Cert.FfnInDxUpIdeal.nD Cert.FfnInDxUpIdeal.τ).loc Cert.FfnInDxUpIdeal.main_arg0)
          ∧ r.2.mem ((c.tc : Thread Cert.FfnInDxUpIdeal.nD Cert.FfnInDxUpIdeal.τ).loc Cert.FfnInDxUpIdeal.main_arg1) = m ((c.tc : Thread Cert.FfnInDxUpIdeal.nD Cert.FfnInDxUpIdeal.τ).loc Cert.FfnInDxUpIdeal.main_arg1)
          ∧ r.2.mem ((c.tc : Thread Cert.FfnInDxUpIdeal.nD Cert.FfnInDxUpIdeal.τ).loc Cert.FfnInDxUpIdeal.main_arg2) = m ((c.tc : Thread Cert.FfnInDxUpIdeal.nD Cert.FfnInDxUpIdeal.τ).loc Cert.FfnInDxUpIdeal.main_arg2))
      ∧ θ_run (Cert.FfnInDxUpRefIdeal.defs (F := Ideal)) (onTc (τ := Cert.FfnInDxUpRefIdeal.τ) (Cert.FfnInDxUpRefIdeal.main (F := Ideal))) ⟨m', fun _ => 0, g'⟩ (fun r => ∀ c : Dev Cert.FfnInDxUpRefIdeal.nD,
          r.2.mem ((c.tc : Thread Cert.FfnInDxUpRefIdeal.nD Cert.FfnInDxUpRefIdeal.τ).loc Cert.FfnInDxUpRefIdeal.main_v9) = v0 c
          ∧ r.2.mem ((c.tc : Thread Cert.FfnInDxUpRefIdeal.nD Cert.FfnInDxUpRefIdeal.τ).loc Cert.FfnInDxUpRefIdeal.main_arg0) = m' ((c.tc : Thread Cert.FfnInDxUpRefIdeal.nD Cert.FfnInDxUpRefIdeal.τ).loc Cert.FfnInDxUpRefIdeal.main_arg0)
          ∧ r.2.mem ((c.tc : Thread Cert.FfnInDxUpRefIdeal.nD Cert.FfnInDxUpRefIdeal.τ).loc Cert.FfnInDxUpRefIdeal.main_arg1) = m' ((c.tc : Thread Cert.FfnInDxUpRefIdeal.nD Cert.FfnInDxUpRefIdeal.τ).loc Cert.FfnInDxUpRefIdeal.main_arg1)
          ∧ r.2.mem ((c.tc : Thread Cert.FfnInDxUpRefIdeal.nD Cert.FfnInDxUpRefIdeal.τ).loc Cert.FfnInDxUpRefIdeal.main_arg2) = m' ((c.tc : Thread Cert.FfnInDxUpRefIdeal.nD Cert.FfnInDxUpRefIdeal.τ).loc Cert.FfnInDxUpRefIdeal.main_arg2))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v5) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_FfnInDwGate_FfnInDwGateIdeal : Prop :=
  True

def algebraic_FfnInDwGateIdeal_FfnInDwGateRefIdeal [hFfnInDwGateIdeal : Cert.FfnInDwGateIdeal.Facts] [hFfnInDwGateRefIdeal : Cert.FfnInDwGateRefIdeal.Facts] : Prop :=
  ∀ (m : (ℓ : Loc Cert.FfnInDwGateIdeal.nD Cert.FfnInDwGateIdeal.τ Cert.FfnInDwGateIdeal.sig) → Buf (Elt Ideal) ℓ) (g : Dev Cert.FfnInDwGateIdeal.nD → PrngReg)
    (m' : (ℓ : Loc Cert.FfnInDwGateRefIdeal.nD Cert.FfnInDwGateRefIdeal.τ Cert.FfnInDwGateRefIdeal.sig) → Buf (Elt Ideal) ℓ) (g' : Dev Cert.FfnInDwGateRefIdeal.nD → PrngReg), Pre_FfnInDwGateIdeal m →
    (∀ c : Dev Cert.FfnInDwGateIdeal.nD,
      m' ((c.tc : Thread Cert.FfnInDwGateRefIdeal.nD Cert.FfnInDwGateRefIdeal.τ).loc Cert.FfnInDwGateRefIdeal.main_arg0) = m ((c.tc : Thread Cert.FfnInDwGateIdeal.nD Cert.FfnInDwGateIdeal.τ).loc Cert.FfnInDwGateIdeal.main_arg0)
      ∧ m' ((c.tc : Thread Cert.FfnInDwGateRefIdeal.nD Cert.FfnInDwGateRefIdeal.τ).loc Cert.FfnInDwGateRefIdeal.main_arg1) = m ((c.tc : Thread Cert.FfnInDwGateIdeal.nD Cert.FfnInDwGateIdeal.τ).loc Cert.FfnInDwGateIdeal.main_arg1)) →
    ∃ (v0 : (c : Dev Cert.FfnInDwGateIdeal.nD) → Buf (Elt Ideal) ((c.tc : Thread Cert.FfnInDwGateIdeal.nD Cert.FfnInDwGateIdeal.τ).loc Cert.FfnInDwGateIdeal.main_v3)),
      θ_run (Cert.FfnInDwGateIdeal.defs (F := Ideal)) (onTc (τ := Cert.FfnInDwGateIdeal.τ) (Cert.FfnInDwGateIdeal.main (F := Ideal))) ⟨m, fun _ => 0, g⟩ (fun r => ∀ c : Dev Cert.FfnInDwGateIdeal.nD,
          r.2.mem ((c.tc : Thread Cert.FfnInDwGateIdeal.nD Cert.FfnInDwGateIdeal.τ).loc Cert.FfnInDwGateIdeal.main_v3) = v0 c
          ∧ r.2.mem ((c.tc : Thread Cert.FfnInDwGateIdeal.nD Cert.FfnInDwGateIdeal.τ).loc Cert.FfnInDwGateIdeal.main_arg0) = m ((c.tc : Thread Cert.FfnInDwGateIdeal.nD Cert.FfnInDwGateIdeal.τ).loc Cert.FfnInDwGateIdeal.main_arg0)
          ∧ r.2.mem ((c.tc : Thread Cert.FfnInDwGateIdeal.nD Cert.FfnInDwGateIdeal.τ).loc Cert.FfnInDwGateIdeal.main_arg1) = m ((c.tc : Thread Cert.FfnInDwGateIdeal.nD Cert.FfnInDwGateIdeal.τ).loc Cert.FfnInDwGateIdeal.main_arg1))
      ∧ θ_run (Cert.FfnInDwGateRefIdeal.defs (F := Ideal)) (onTc (τ := Cert.FfnInDwGateRefIdeal.τ) (Cert.FfnInDwGateRefIdeal.main (F := Ideal))) ⟨m', fun _ => 0, g'⟩ (fun r => ∀ c : Dev Cert.FfnInDwGateRefIdeal.nD,
          r.2.mem ((c.tc : Thread Cert.FfnInDwGateRefIdeal.nD Cert.FfnInDwGateRefIdeal.τ).loc Cert.FfnInDwGateRefIdeal.main_v5) = v0 c
          ∧ r.2.mem ((c.tc : Thread Cert.FfnInDwGateRefIdeal.nD Cert.FfnInDwGateRefIdeal.τ).loc Cert.FfnInDwGateRefIdeal.main_arg0) = m' ((c.tc : Thread Cert.FfnInDwGateRefIdeal.nD Cert.FfnInDwGateRefIdeal.τ).loc Cert.FfnInDwGateRefIdeal.main_arg0)
          ∧ r.2.mem ((c.tc : Thread Cert.FfnInDwGateRefIdeal.nD Cert.FfnInDwGateRefIdeal.τ).loc Cert.FfnInDwGateRefIdeal.main_arg1) = m' ((c.tc : Thread Cert.FfnInDwGateRefIdeal.nD Cert.FfnInDwGateRefIdeal.τ).loc Cert.FfnInDwGateRefIdeal.main_arg1))

def preserves_BranchDwFirst_BranchDwFirstIdeal : Prop :=
  True

def algebraic_BranchDwFirstIdeal_BranchDwFirstRefIdeal [hBranchDwFirstIdeal : Cert.BranchDwFirstIdeal.Facts] [hBranchDwFirstRefIdeal : Cert.BranchDwFirstRefIdeal.Facts] : Prop :=
  ∀ (m : (ℓ : Loc Cert.BranchDwFirstIdeal.nD Cert.BranchDwFirstIdeal.τ Cert.BranchDwFirstIdeal.sig) → Buf (Elt Ideal) ℓ) (g : Dev Cert.BranchDwFirstIdeal.nD → PrngReg)
    (m' : (ℓ : Loc Cert.BranchDwFirstRefIdeal.nD Cert.BranchDwFirstRefIdeal.τ Cert.BranchDwFirstRefIdeal.sig) → Buf (Elt Ideal) ℓ) (g' : Dev Cert.BranchDwFirstRefIdeal.nD → PrngReg), Pre_BranchDwFirstIdeal m →
    (∀ c : Dev Cert.BranchDwFirstIdeal.nD,
      m' ((c.tc : Thread Cert.BranchDwFirstRefIdeal.nD Cert.BranchDwFirstRefIdeal.τ).loc Cert.BranchDwFirstRefIdeal.main_arg0) = m ((c.tc : Thread Cert.BranchDwFirstIdeal.nD Cert.BranchDwFirstIdeal.τ).loc Cert.BranchDwFirstIdeal.main_arg0)
      ∧ m' ((c.tc : Thread Cert.BranchDwFirstRefIdeal.nD Cert.BranchDwFirstRefIdeal.τ).loc Cert.BranchDwFirstRefIdeal.main_arg1) = m ((c.tc : Thread Cert.BranchDwFirstIdeal.nD Cert.BranchDwFirstIdeal.τ).loc Cert.BranchDwFirstIdeal.main_arg1)) →
    ∃ (v0 : (c : Dev Cert.BranchDwFirstIdeal.nD) → Buf (Elt Ideal) ((c.tc : Thread Cert.BranchDwFirstIdeal.nD Cert.BranchDwFirstIdeal.τ).loc Cert.BranchDwFirstIdeal.main_v3)),
      θ_run (Cert.BranchDwFirstIdeal.defs (F := Ideal)) (onTc (τ := Cert.BranchDwFirstIdeal.τ) (Cert.BranchDwFirstIdeal.main (F := Ideal))) ⟨m, fun _ => 0, g⟩ (fun r => ∀ c : Dev Cert.BranchDwFirstIdeal.nD,
          r.2.mem ((c.tc : Thread Cert.BranchDwFirstIdeal.nD Cert.BranchDwFirstIdeal.τ).loc Cert.BranchDwFirstIdeal.main_v3) = v0 c
          ∧ r.2.mem ((c.tc : Thread Cert.BranchDwFirstIdeal.nD Cert.BranchDwFirstIdeal.τ).loc Cert.BranchDwFirstIdeal.main_arg0) = m ((c.tc : Thread Cert.BranchDwFirstIdeal.nD Cert.BranchDwFirstIdeal.τ).loc Cert.BranchDwFirstIdeal.main_arg0)
          ∧ r.2.mem ((c.tc : Thread Cert.BranchDwFirstIdeal.nD Cert.BranchDwFirstIdeal.τ).loc Cert.BranchDwFirstIdeal.main_arg1) = m ((c.tc : Thread Cert.BranchDwFirstIdeal.nD Cert.BranchDwFirstIdeal.τ).loc Cert.BranchDwFirstIdeal.main_arg1))
      ∧ θ_run (Cert.BranchDwFirstRefIdeal.defs (F := Ideal)) (onTc (τ := Cert.BranchDwFirstRefIdeal.τ) (Cert.BranchDwFirstRefIdeal.main (F := Ideal))) ⟨m', fun _ => 0, g'⟩ (fun r => ∀ c : Dev Cert.BranchDwFirstRefIdeal.nD,
          r.2.mem ((c.tc : Thread Cert.BranchDwFirstRefIdeal.nD Cert.BranchDwFirstRefIdeal.τ).loc Cert.BranchDwFirstRefIdeal.main_v5) = v0 c
          ∧ r.2.mem ((c.tc : Thread Cert.BranchDwFirstRefIdeal.nD Cert.BranchDwFirstRefIdeal.τ).loc Cert.BranchDwFirstRefIdeal.main_arg0) = m' ((c.tc : Thread Cert.BranchDwFirstRefIdeal.nD Cert.BranchDwFirstRefIdeal.τ).loc Cert.BranchDwFirstRefIdeal.main_arg0)
          ∧ r.2.mem ((c.tc : Thread Cert.BranchDwFirstRefIdeal.nD Cert.BranchDwFirstRefIdeal.τ).loc Cert.BranchDwFirstRefIdeal.main_arg1) = m' ((c.tc : Thread Cert.BranchDwFirstRefIdeal.nD Cert.BranchDwFirstRefIdeal.τ).loc Cert.BranchDwFirstRefIdeal.main_arg1))

def preserves_BranchDwSecond_BranchDwSecondIdeal : Prop :=
  True

def algebraic_BranchDwSecondIdeal_BranchDwSecondRefIdeal [hBranchDwSecondIdeal : Cert.BranchDwSecondIdeal.Facts] [hBranchDwSecondRefIdeal : Cert.BranchDwSecondRefIdeal.Facts] : Prop :=
  ∀ (m : (ℓ : Loc Cert.BranchDwSecondIdeal.nD Cert.BranchDwSecondIdeal.τ Cert.BranchDwSecondIdeal.sig) → Buf (Elt Ideal) ℓ) (g : Dev Cert.BranchDwSecondIdeal.nD → PrngReg)
    (m' : (ℓ : Loc Cert.BranchDwSecondRefIdeal.nD Cert.BranchDwSecondRefIdeal.τ Cert.BranchDwSecondRefIdeal.sig) → Buf (Elt Ideal) ℓ) (g' : Dev Cert.BranchDwSecondRefIdeal.nD → PrngReg), Pre_BranchDwSecondIdeal m →
    (∀ c : Dev Cert.BranchDwSecondIdeal.nD,
      m' ((c.tc : Thread Cert.BranchDwSecondRefIdeal.nD Cert.BranchDwSecondRefIdeal.τ).loc Cert.BranchDwSecondRefIdeal.main_arg0) = m ((c.tc : Thread Cert.BranchDwSecondIdeal.nD Cert.BranchDwSecondIdeal.τ).loc Cert.BranchDwSecondIdeal.main_arg0)
      ∧ m' ((c.tc : Thread Cert.BranchDwSecondRefIdeal.nD Cert.BranchDwSecondRefIdeal.τ).loc Cert.BranchDwSecondRefIdeal.main_arg1) = m ((c.tc : Thread Cert.BranchDwSecondIdeal.nD Cert.BranchDwSecondIdeal.τ).loc Cert.BranchDwSecondIdeal.main_arg1)
      ∧ m' ((c.tc : Thread Cert.BranchDwSecondRefIdeal.nD Cert.BranchDwSecondRefIdeal.τ).loc Cert.BranchDwSecondRefIdeal.main_arg2) = m ((c.tc : Thread Cert.BranchDwSecondIdeal.nD Cert.BranchDwSecondIdeal.τ).loc Cert.BranchDwSecondIdeal.main_arg2)) →
    ∃ (v0 : (c : Dev Cert.BranchDwSecondIdeal.nD) → Buf (Elt Ideal) ((c.tc : Thread Cert.BranchDwSecondIdeal.nD Cert.BranchDwSecondIdeal.τ).loc Cert.BranchDwSecondIdeal.main_v1)),
      θ_run (Cert.BranchDwSecondIdeal.defs (F := Ideal)) (onTc (τ := Cert.BranchDwSecondIdeal.τ) (Cert.BranchDwSecondIdeal.main (F := Ideal))) ⟨m, fun _ => 0, g⟩ (fun r => ∀ c : Dev Cert.BranchDwSecondIdeal.nD,
          r.2.mem ((c.tc : Thread Cert.BranchDwSecondIdeal.nD Cert.BranchDwSecondIdeal.τ).loc Cert.BranchDwSecondIdeal.main_v1) = v0 c
          ∧ r.2.mem ((c.tc : Thread Cert.BranchDwSecondIdeal.nD Cert.BranchDwSecondIdeal.τ).loc Cert.BranchDwSecondIdeal.main_arg0) = m ((c.tc : Thread Cert.BranchDwSecondIdeal.nD Cert.BranchDwSecondIdeal.τ).loc Cert.BranchDwSecondIdeal.main_arg0)
          ∧ r.2.mem ((c.tc : Thread Cert.BranchDwSecondIdeal.nD Cert.BranchDwSecondIdeal.τ).loc Cert.BranchDwSecondIdeal.main_arg1) = m ((c.tc : Thread Cert.BranchDwSecondIdeal.nD Cert.BranchDwSecondIdeal.τ).loc Cert.BranchDwSecondIdeal.main_arg1)
          ∧ r.2.mem ((c.tc : Thread Cert.BranchDwSecondIdeal.nD Cert.BranchDwSecondIdeal.τ).loc Cert.BranchDwSecondIdeal.main_arg2) = m ((c.tc : Thread Cert.BranchDwSecondIdeal.nD Cert.BranchDwSecondIdeal.τ).loc Cert.BranchDwSecondIdeal.main_arg2))
      ∧ θ_run (Cert.BranchDwSecondRefIdeal.defs (F := Ideal)) (onTc (τ := Cert.BranchDwSecondRefIdeal.τ) (Cert.BranchDwSecondRefIdeal.main (F := Ideal))) ⟨m', fun _ => 0, g'⟩ (fun r => ∀ c : Dev Cert.BranchDwSecondRefIdeal.nD,
          r.2.mem ((c.tc : Thread Cert.BranchDwSecondRefIdeal.nD Cert.BranchDwSecondRefIdeal.τ).loc Cert.BranchDwSecondRefIdeal.main_v9) = v0 c
          ∧ r.2.mem ((c.tc : Thread Cert.BranchDwSecondRefIdeal.nD Cert.BranchDwSecondRefIdeal.τ).loc Cert.BranchDwSecondRefIdeal.main_arg0) = m' ((c.tc : Thread Cert.BranchDwSecondRefIdeal.nD Cert.BranchDwSecondRefIdeal.τ).loc Cert.BranchDwSecondRefIdeal.main_arg0)
          ∧ r.2.mem ((c.tc : Thread Cert.BranchDwSecondRefIdeal.nD Cert.BranchDwSecondRefIdeal.τ).loc Cert.BranchDwSecondRefIdeal.main_arg1) = m' ((c.tc : Thread Cert.BranchDwSecondRefIdeal.nD Cert.BranchDwSecondRefIdeal.τ).loc Cert.BranchDwSecondRefIdeal.main_arg1)
          ∧ r.2.mem ((c.tc : Thread Cert.BranchDwSecondRefIdeal.nD Cert.BranchDwSecondRefIdeal.τ).loc Cert.BranchDwSecondRefIdeal.main_arg2) = m' ((c.tc : Thread Cert.BranchDwSecondRefIdeal.nD Cert.BranchDwSecondRefIdeal.τ).loc Cert.BranchDwSecondRefIdeal.main_arg2))

def preserves_BranchDwThird_BranchDwThirdIdeal : Prop :=
  True

def algebraic_BranchDwThirdIdeal_BranchDwThirdRefIdeal [hBranchDwThirdIdeal : Cert.BranchDwThirdIdeal.Facts] [hBranchDwThirdRefIdeal : Cert.BranchDwThirdRefIdeal.Facts] : Prop :=
  ∀ (m : (ℓ : Loc Cert.BranchDwThirdIdeal.nD Cert.BranchDwThirdIdeal.τ Cert.BranchDwThirdIdeal.sig) → Buf (Elt Ideal) ℓ) (g : Dev Cert.BranchDwThirdIdeal.nD → PrngReg)
    (m' : (ℓ : Loc Cert.BranchDwThirdRefIdeal.nD Cert.BranchDwThirdRefIdeal.τ Cert.BranchDwThirdRefIdeal.sig) → Buf (Elt Ideal) ℓ) (g' : Dev Cert.BranchDwThirdRefIdeal.nD → PrngReg), Pre_BranchDwThirdIdeal m →
    (∀ c : Dev Cert.BranchDwThirdIdeal.nD,
      m' ((c.tc : Thread Cert.BranchDwThirdRefIdeal.nD Cert.BranchDwThirdRefIdeal.τ).loc Cert.BranchDwThirdRefIdeal.main_arg0) = m ((c.tc : Thread Cert.BranchDwThirdIdeal.nD Cert.BranchDwThirdIdeal.τ).loc Cert.BranchDwThirdIdeal.main_arg0)
      ∧ m' ((c.tc : Thread Cert.BranchDwThirdRefIdeal.nD Cert.BranchDwThirdRefIdeal.τ).loc Cert.BranchDwThirdRefIdeal.main_arg1) = m ((c.tc : Thread Cert.BranchDwThirdIdeal.nD Cert.BranchDwThirdIdeal.τ).loc Cert.BranchDwThirdIdeal.main_arg1)
      ∧ m' ((c.tc : Thread Cert.BranchDwThirdRefIdeal.nD Cert.BranchDwThirdRefIdeal.τ).loc Cert.BranchDwThirdRefIdeal.main_arg2) = m ((c.tc : Thread Cert.BranchDwThirdIdeal.nD Cert.BranchDwThirdIdeal.τ).loc Cert.BranchDwThirdIdeal.main_arg2)) →
    ∃ (v0 : (c : Dev Cert.BranchDwThirdIdeal.nD) → Buf (Elt Ideal) ((c.tc : Thread Cert.BranchDwThirdIdeal.nD Cert.BranchDwThirdIdeal.τ).loc Cert.BranchDwThirdIdeal.main_v1)),
      θ_run (Cert.BranchDwThirdIdeal.defs (F := Ideal)) (onTc (τ := Cert.BranchDwThirdIdeal.τ) (Cert.BranchDwThirdIdeal.main (F := Ideal))) ⟨m, fun _ => 0, g⟩ (fun r => ∀ c : Dev Cert.BranchDwThirdIdeal.nD,
          r.2.mem ((c.tc : Thread Cert.BranchDwThirdIdeal.nD Cert.BranchDwThirdIdeal.τ).loc Cert.BranchDwThirdIdeal.main_v1) = v0 c
          ∧ r.2.mem ((c.tc : Thread Cert.BranchDwThirdIdeal.nD Cert.BranchDwThirdIdeal.τ).loc Cert.BranchDwThirdIdeal.main_arg0) = m ((c.tc : Thread Cert.BranchDwThirdIdeal.nD Cert.BranchDwThirdIdeal.τ).loc Cert.BranchDwThirdIdeal.main_arg0)
          ∧ r.2.mem ((c.tc : Thread Cert.BranchDwThirdIdeal.nD Cert.BranchDwThirdIdeal.τ).loc Cert.BranchDwThirdIdeal.main_arg1) = m ((c.tc : Thread Cert.BranchDwThirdIdeal.nD Cert.BranchDwThirdIdeal.τ).loc Cert.BranchDwThirdIdeal.main_arg1)
          ∧ r.2.mem ((c.tc : Thread Cert.BranchDwThirdIdeal.nD Cert.BranchDwThirdIdeal.τ).loc Cert.BranchDwThirdIdeal.main_arg2) = m ((c.tc : Thread Cert.BranchDwThirdIdeal.nD Cert.BranchDwThirdIdeal.τ).loc Cert.BranchDwThirdIdeal.main_arg2))
      ∧ θ_run (Cert.BranchDwThirdRefIdeal.defs (F := Ideal)) (onTc (τ := Cert.BranchDwThirdRefIdeal.τ) (Cert.BranchDwThirdRefIdeal.main (F := Ideal))) ⟨m', fun _ => 0, g'⟩ (fun r => ∀ c : Dev Cert.BranchDwThirdRefIdeal.nD,
          r.2.mem ((c.tc : Thread Cert.BranchDwThirdRefIdeal.nD Cert.BranchDwThirdRefIdeal.τ).loc Cert.BranchDwThirdRefIdeal.main_v8) = v0 c
          ∧ r.2.mem ((c.tc : Thread Cert.BranchDwThirdRefIdeal.nD Cert.BranchDwThirdRefIdeal.τ).loc Cert.BranchDwThirdRefIdeal.main_arg0) = m' ((c.tc : Thread Cert.BranchDwThirdRefIdeal.nD Cert.BranchDwThirdRefIdeal.τ).loc Cert.BranchDwThirdRefIdeal.main_arg0)
          ∧ r.2.mem ((c.tc : Thread Cert.BranchDwThirdRefIdeal.nD Cert.BranchDwThirdRefIdeal.τ).loc Cert.BranchDwThirdRefIdeal.main_arg1) = m' ((c.tc : Thread Cert.BranchDwThirdRefIdeal.nD Cert.BranchDwThirdRefIdeal.τ).loc Cert.BranchDwThirdRefIdeal.main_arg1)
          ∧ r.2.mem ((c.tc : Thread Cert.BranchDwThirdRefIdeal.nD Cert.BranchDwThirdRefIdeal.τ).loc Cert.BranchDwThirdRefIdeal.main_arg2) = m' ((c.tc : Thread Cert.BranchDwThirdRefIdeal.nD Cert.BranchDwThirdRefIdeal.τ).loc Cert.BranchDwThirdRefIdeal.main_arg2))

def preserves_OutDxMerge_OutDxMergeIdeal : Prop :=
  True

def algebraic_OutDxMergeIdeal_OutDxMergeRefIdeal [hOutDxMergeIdeal : Cert.OutDxMergeIdeal.Facts] [hOutDxMergeRefIdeal : Cert.OutDxMergeRefIdeal.Facts] : Prop :=
  ∀ (m : (ℓ : Loc Cert.OutDxMergeIdeal.nD Cert.OutDxMergeIdeal.τ Cert.OutDxMergeIdeal.sig) → Buf (Elt Ideal) ℓ) (g : Dev Cert.OutDxMergeIdeal.nD → PrngReg)
    (m' : (ℓ : Loc Cert.OutDxMergeRefIdeal.nD Cert.OutDxMergeRefIdeal.τ Cert.OutDxMergeRefIdeal.sig) → Buf (Elt Ideal) ℓ) (g' : Dev Cert.OutDxMergeRefIdeal.nD → PrngReg), Pre_OutDxMergeIdeal m →
    (∀ c : Dev Cert.OutDxMergeIdeal.nD,
      m' ((c.tc : Thread Cert.OutDxMergeRefIdeal.nD Cert.OutDxMergeRefIdeal.τ).loc Cert.OutDxMergeRefIdeal.main_arg0) = m ((c.tc : Thread Cert.OutDxMergeIdeal.nD Cert.OutDxMergeIdeal.τ).loc Cert.OutDxMergeIdeal.main_arg0)
      ∧ m' ((c.tc : Thread Cert.OutDxMergeRefIdeal.nD Cert.OutDxMergeRefIdeal.τ).loc Cert.OutDxMergeRefIdeal.main_arg1) = m ((c.tc : Thread Cert.OutDxMergeIdeal.nD Cert.OutDxMergeIdeal.τ).loc Cert.OutDxMergeIdeal.main_arg1)
      ∧ m' ((c.tc : Thread Cert.OutDxMergeRefIdeal.nD Cert.OutDxMergeRefIdeal.τ).loc Cert.OutDxMergeRefIdeal.main_arg2) = m ((c.tc : Thread Cert.OutDxMergeIdeal.nD Cert.OutDxMergeIdeal.τ).loc Cert.OutDxMergeIdeal.main_arg2)
      ∧ m' ((c.tc : Thread Cert.OutDxMergeRefIdeal.nD Cert.OutDxMergeRefIdeal.τ).loc Cert.OutDxMergeRefIdeal.main_arg3) = m ((c.tc : Thread Cert.OutDxMergeIdeal.nD Cert.OutDxMergeIdeal.τ).loc Cert.OutDxMergeIdeal.main_arg3)
      ∧ m' ((c.tc : Thread Cert.OutDxMergeRefIdeal.nD Cert.OutDxMergeRefIdeal.τ).loc Cert.OutDxMergeRefIdeal.main_arg4) = m ((c.tc : Thread Cert.OutDxMergeIdeal.nD Cert.OutDxMergeIdeal.τ).loc Cert.OutDxMergeIdeal.main_arg4)
      ∧ m' ((c.tc : Thread Cert.OutDxMergeRefIdeal.nD Cert.OutDxMergeRefIdeal.τ).loc Cert.OutDxMergeRefIdeal.main_arg5) = m ((c.tc : Thread Cert.OutDxMergeIdeal.nD Cert.OutDxMergeIdeal.τ).loc Cert.OutDxMergeIdeal.main_arg5)) →
    ∃ (v0 : (c : Dev Cert.OutDxMergeIdeal.nD) → Buf (Elt Ideal) ((c.tc : Thread Cert.OutDxMergeIdeal.nD Cert.OutDxMergeIdeal.τ).loc Cert.OutDxMergeIdeal.main_v0_0)) (v1 : (c : Dev Cert.OutDxMergeIdeal.nD) → Buf (Elt Ideal) ((c.tc : Thread Cert.OutDxMergeIdeal.nD Cert.OutDxMergeIdeal.τ).loc Cert.OutDxMergeIdeal.main_v0_1)) (v2 : (c : Dev Cert.OutDxMergeIdeal.nD) → Buf (Elt Ideal) ((c.tc : Thread Cert.OutDxMergeIdeal.nD Cert.OutDxMergeIdeal.τ).loc Cert.OutDxMergeIdeal.main_v0_2)) (v3 : (c : Dev Cert.OutDxMergeIdeal.nD) → Buf (Elt Ideal) ((c.tc : Thread Cert.OutDxMergeIdeal.nD Cert.OutDxMergeIdeal.τ).loc Cert.OutDxMergeIdeal.main_v0_3)) (v4 : (c : Dev Cert.OutDxMergeIdeal.nD) → Buf (Elt Ideal) ((c.tc : Thread Cert.OutDxMergeIdeal.nD Cert.OutDxMergeIdeal.τ).loc Cert.OutDxMergeIdeal.main_v0_4)) (v5 : (c : Dev Cert.OutDxMergeIdeal.nD) → Buf (Elt Ideal) ((c.tc : Thread Cert.OutDxMergeIdeal.nD Cert.OutDxMergeIdeal.τ).loc Cert.OutDxMergeIdeal.main_v0_5)),
      θ_run (Cert.OutDxMergeIdeal.defs (F := Ideal)) (onTc (τ := Cert.OutDxMergeIdeal.τ) (Cert.OutDxMergeIdeal.main (F := Ideal))) ⟨m, fun _ => 0, g⟩ (fun r => ∀ c : Dev Cert.OutDxMergeIdeal.nD,
          r.2.mem ((c.tc : Thread Cert.OutDxMergeIdeal.nD Cert.OutDxMergeIdeal.τ).loc Cert.OutDxMergeIdeal.main_v0_0) = v0 c
          ∧ r.2.mem ((c.tc : Thread Cert.OutDxMergeIdeal.nD Cert.OutDxMergeIdeal.τ).loc Cert.OutDxMergeIdeal.main_v0_1) = v1 c
          ∧ r.2.mem ((c.tc : Thread Cert.OutDxMergeIdeal.nD Cert.OutDxMergeIdeal.τ).loc Cert.OutDxMergeIdeal.main_v0_2) = v2 c
          ∧ r.2.mem ((c.tc : Thread Cert.OutDxMergeIdeal.nD Cert.OutDxMergeIdeal.τ).loc Cert.OutDxMergeIdeal.main_v0_3) = v3 c
          ∧ r.2.mem ((c.tc : Thread Cert.OutDxMergeIdeal.nD Cert.OutDxMergeIdeal.τ).loc Cert.OutDxMergeIdeal.main_v0_4) = v4 c
          ∧ r.2.mem ((c.tc : Thread Cert.OutDxMergeIdeal.nD Cert.OutDxMergeIdeal.τ).loc Cert.OutDxMergeIdeal.main_v0_5) = v5 c
          ∧ r.2.mem ((c.tc : Thread Cert.OutDxMergeIdeal.nD Cert.OutDxMergeIdeal.τ).loc Cert.OutDxMergeIdeal.main_arg0) = m ((c.tc : Thread Cert.OutDxMergeIdeal.nD Cert.OutDxMergeIdeal.τ).loc Cert.OutDxMergeIdeal.main_arg0)
          ∧ r.2.mem ((c.tc : Thread Cert.OutDxMergeIdeal.nD Cert.OutDxMergeIdeal.τ).loc Cert.OutDxMergeIdeal.main_arg1) = m ((c.tc : Thread Cert.OutDxMergeIdeal.nD Cert.OutDxMergeIdeal.τ).loc Cert.OutDxMergeIdeal.main_arg1)
          ∧ r.2.mem ((c.tc : Thread Cert.OutDxMergeIdeal.nD Cert.OutDxMergeIdeal.τ).loc Cert.OutDxMergeIdeal.main_arg2) = m ((c.tc : Thread Cert.OutDxMergeIdeal.nD Cert.OutDxMergeIdeal.τ).loc Cert.OutDxMergeIdeal.main_arg2)
          ∧ r.2.mem ((c.tc : Thread Cert.OutDxMergeIdeal.nD Cert.OutDxMergeIdeal.τ).loc Cert.OutDxMergeIdeal.main_arg3) = m ((c.tc : Thread Cert.OutDxMergeIdeal.nD Cert.OutDxMergeIdeal.τ).loc Cert.OutDxMergeIdeal.main_arg3)
          ∧ r.2.mem ((c.tc : Thread Cert.OutDxMergeIdeal.nD Cert.OutDxMergeIdeal.τ).loc Cert.OutDxMergeIdeal.main_arg4) = m ((c.tc : Thread Cert.OutDxMergeIdeal.nD Cert.OutDxMergeIdeal.τ).loc Cert.OutDxMergeIdeal.main_arg4)
          ∧ r.2.mem ((c.tc : Thread Cert.OutDxMergeIdeal.nD Cert.OutDxMergeIdeal.τ).loc Cert.OutDxMergeIdeal.main_arg5) = m ((c.tc : Thread Cert.OutDxMergeIdeal.nD Cert.OutDxMergeIdeal.τ).loc Cert.OutDxMergeIdeal.main_arg5))
      ∧ θ_run (Cert.OutDxMergeRefIdeal.defs (F := Ideal)) (onTc (τ := Cert.OutDxMergeRefIdeal.τ) (Cert.OutDxMergeRefIdeal.main (F := Ideal))) ⟨m', fun _ => 0, g'⟩ (fun r => ∀ c : Dev Cert.OutDxMergeRefIdeal.nD,
          r.2.mem ((c.tc : Thread Cert.OutDxMergeRefIdeal.nD Cert.OutDxMergeRefIdeal.τ).loc Cert.OutDxMergeRefIdeal.main_v50) = v0 c
          ∧ r.2.mem ((c.tc : Thread Cert.OutDxMergeRefIdeal.nD Cert.OutDxMergeRefIdeal.τ).loc Cert.OutDxMergeRefIdeal.main_v51) = v1 c
          ∧ r.2.mem ((c.tc : Thread Cert.OutDxMergeRefIdeal.nD Cert.OutDxMergeRefIdeal.τ).loc Cert.OutDxMergeRefIdeal.main_v52) = v2 c
          ∧ r.2.mem ((c.tc : Thread Cert.OutDxMergeRefIdeal.nD Cert.OutDxMergeRefIdeal.τ).loc Cert.OutDxMergeRefIdeal.main_v53) = v3 c
          ∧ r.2.mem ((c.tc : Thread Cert.OutDxMergeRefIdeal.nD Cert.OutDxMergeRefIdeal.τ).loc Cert.OutDxMergeRefIdeal.main_v54) = v4 c
          ∧ r.2.mem ((c.tc : Thread Cert.OutDxMergeRefIdeal.nD Cert.OutDxMergeRefIdeal.τ).loc Cert.OutDxMergeRefIdeal.main_v55) = v5 c
          ∧ r.2.mem ((c.tc : Thread Cert.OutDxMergeRefIdeal.nD Cert.OutDxMergeRefIdeal.τ).loc Cert.OutDxMergeRefIdeal.main_arg0) = m' ((c.tc : Thread Cert.OutDxMergeRefIdeal.nD Cert.OutDxMergeRefIdeal.τ).loc Cert.OutDxMergeRefIdeal.main_arg0)
          ∧ r.2.mem ((c.tc : Thread Cert.OutDxMergeRefIdeal.nD Cert.OutDxMergeRefIdeal.τ).loc Cert.OutDxMergeRefIdeal.main_arg1) = m' ((c.tc : Thread Cert.OutDxMergeRefIdeal.nD Cert.OutDxMergeRefIdeal.τ).loc Cert.OutDxMergeRefIdeal.main_arg1)
          ∧ r.2.mem ((c.tc : Thread Cert.OutDxMergeRefIdeal.nD Cert.OutDxMergeRefIdeal.τ).loc Cert.OutDxMergeRefIdeal.main_arg2) = m' ((c.tc : Thread Cert.OutDxMergeRefIdeal.nD Cert.OutDxMergeRefIdeal.τ).loc Cert.OutDxMergeRefIdeal.main_arg2)
          ∧ r.2.mem ((c.tc : Thread Cert.OutDxMergeRefIdeal.nD Cert.OutDxMergeRefIdeal.τ).loc Cert.OutDxMergeRefIdeal.main_arg3) = m' ((c.tc : Thread Cert.OutDxMergeRefIdeal.nD Cert.OutDxMergeRefIdeal.τ).loc Cert.OutDxMergeRefIdeal.main_arg3)
          ∧ r.2.mem ((c.tc : Thread Cert.OutDxMergeRefIdeal.nD Cert.OutDxMergeRefIdeal.τ).loc Cert.OutDxMergeRefIdeal.main_arg4) = m' ((c.tc : Thread Cert.OutDxMergeRefIdeal.nD Cert.OutDxMergeRefIdeal.τ).loc Cert.OutDxMergeRefIdeal.main_arg4)
          ∧ r.2.mem ((c.tc : Thread Cert.OutDxMergeRefIdeal.nD Cert.OutDxMergeRefIdeal.τ).loc Cert.OutDxMergeRefIdeal.main_arg5) = m' ((c.tc : Thread Cert.OutDxMergeRefIdeal.nD Cert.OutDxMergeRefIdeal.τ).loc Cert.OutDxMergeRefIdeal.main_arg5))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_FfnOutFwd_FfnOutFwdIdeal : Prop :=
  True

def algebraic_FfnOutFwdIdeal_FfnOutFwdRefIdeal [hFfnOutFwdIdeal : Cert.FfnOutFwdIdeal.Facts] [hFfnOutFwdRefIdeal : Cert.FfnOutFwdRefIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg)
    (m' : (ℓ : Loc Cert.FfnOutFwdRefIdeal.nD Cert.FfnOutFwdRefIdeal.τ Cert.FfnOutFwdRefIdeal.sig) → Buf (Elt Ideal) ℓ) (g' : Dev Cert.FfnOutFwdRefIdeal.nD → PrngReg), Pre_FfnOutFwdIdeal m →
    (∀ c : Dev Cert.FfnOutFwdIdeal.nD,
      m' ((c.tc : Thread Cert.FfnOutFwdRefIdeal.nD Cert.FfnOutFwdRefIdeal.τ).loc Cert.FfnOutFwdRefIdeal.main_arg0) = m ((c.tc : Thread Cert.FfnOutFwdIdeal.nD Cert.FfnOutFwdIdeal.τ).loc Cert.FfnOutFwdIdeal.main_arg0)
      ∧ m' ((c.tc : Thread Cert.FfnOutFwdRefIdeal.nD Cert.FfnOutFwdRefIdeal.τ).loc Cert.FfnOutFwdRefIdeal.main_arg1) = m ((c.tc : Thread Cert.FfnOutFwdIdeal.nD Cert.FfnOutFwdIdeal.τ).loc Cert.FfnOutFwdIdeal.main_arg1)
      ∧ m' ((c.tc : Thread Cert.FfnOutFwdRefIdeal.nD Cert.FfnOutFwdRefIdeal.τ).loc Cert.FfnOutFwdRefIdeal.main_arg2) = m ((c.tc : Thread Cert.FfnOutFwdIdeal.nD Cert.FfnOutFwdIdeal.τ).loc Cert.FfnOutFwdIdeal.main_arg2)) →
    ∃ (v0 : (c : Dev Cert.FfnOutFwdIdeal.nD) → Buf (Elt Ideal) ((c.tc : Thread Cert.FfnOutFwdIdeal.nD Cert.FfnOutFwdIdeal.τ).loc Cert.FfnOutFwdIdeal.main_v0)),
      θ_run (Cert.FfnOutFwdIdeal.defs (F := Ideal)) (onTc (τ := Cert.FfnOutFwdIdeal.τ) (Cert.FfnOutFwdIdeal.main (F := Ideal))) ⟨m, fun _ => 0, g⟩ (fun r => ∀ c : Dev Cert.FfnOutFwdIdeal.nD,
          r.2.mem ((c.tc : Thread Cert.FfnOutFwdIdeal.nD Cert.FfnOutFwdIdeal.τ).loc Cert.FfnOutFwdIdeal.main_v0) = v0 c
          ∧ r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
          ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
          ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2))
      ∧ θ_run (Cert.FfnOutFwdRefIdeal.defs (F := Ideal)) (onTc (τ := Cert.FfnOutFwdRefIdeal.τ) (Cert.FfnOutFwdRefIdeal.main (F := Ideal))) ⟨m', fun _ => 0, g'⟩ (fun r => ∀ c : Dev Cert.FfnOutFwdRefIdeal.nD,
          r.2.mem ((c.tc : Thread Cert.FfnOutFwdRefIdeal.nD Cert.FfnOutFwdRefIdeal.τ).loc Cert.FfnOutFwdRefIdeal.main_v3) = v0 c
          ∧ r.2.mem ((c.tc : Thread Cert.FfnOutFwdRefIdeal.nD Cert.FfnOutFwdRefIdeal.τ).loc Cert.FfnOutFwdRefIdeal.main_arg0) = m' ((c.tc : Thread Cert.FfnOutFwdRefIdeal.nD Cert.FfnOutFwdRefIdeal.τ).loc Cert.FfnOutFwdRefIdeal.main_arg0)
          ∧ r.2.mem ((c.tc : Thread Cert.FfnOutFwdRefIdeal.nD Cert.FfnOutFwdRefIdeal.τ).loc Cert.FfnOutFwdRefIdeal.main_arg1) = m' ((c.tc : Thread Cert.FfnOutFwdRefIdeal.nD Cert.FfnOutFwdRefIdeal.τ).loc Cert.FfnOutFwdRefIdeal.main_arg1)
          ∧ r.2.mem ((c.tc : Thread Cert.FfnOutFwdRefIdeal.nD Cert.FfnOutFwdRefIdeal.τ).loc Cert.FfnOutFwdRefIdeal.main_arg2) = m' ((c.tc : Thread Cert.FfnOutFwdRefIdeal.nD Cert.FfnOutFwdRefIdeal.τ).loc Cert.FfnOutFwdRefIdeal.main_arg2))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v0_0)) (v1 : (c : Dev Cert.SwigluFwdIdeal.nD) → Buf (Elt Ideal) ((c.tc : Thread Cert.SwigluFwdIdeal.nD Cert.SwigluFwdIdeal.τ).loc Cert.SwigluFwdIdeal.main_v0_1)) (v2 : (c : Dev Cert.SwigluFwdIdeal.nD) → Buf (Elt Ideal) ((c.tc : Thread Cert.SwigluFwdIdeal.nD Cert.SwigluFwdIdeal.τ).loc Cert.SwigluFwdIdeal.main_v0_2)) (v3 : (c : Dev Cert.SwigluFwdIdeal.nD) → Buf (Elt Ideal) ((c.tc : Thread Cert.SwigluFwdIdeal.nD Cert.SwigluFwdIdeal.τ).loc Cert.SwigluFwdIdeal.main_v0_3)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0_0) = v0 c
          ∧ r.2.mem ((c.tc : Thread Cert.SwigluFwdIdeal.nD Cert.SwigluFwdIdeal.τ).loc Cert.SwigluFwdIdeal.main_v0_1) = v1 c
          ∧ r.2.mem ((c.tc : Thread Cert.SwigluFwdIdeal.nD Cert.SwigluFwdIdeal.τ).loc Cert.SwigluFwdIdeal.main_v0_2) = v2 c
          ∧ r.2.mem ((c.tc : Thread Cert.SwigluFwdIdeal.nD Cert.SwigluFwdIdeal.τ).loc Cert.SwigluFwdIdeal.main_v0_3) = v3 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v3) = v0 c
          ∧ r.2.mem ((c.tc : Thread Cert.SwigluFwdRefIdeal.nD Cert.SwigluFwdRefIdeal.τ).loc Cert.SwigluFwdRefIdeal.main_v4) = v1 c
          ∧ r.2.mem ((c.tc : Thread Cert.SwigluFwdRefIdeal.nD Cert.SwigluFwdRefIdeal.τ).loc Cert.SwigluFwdRefIdeal.main_v7) = v2 c
          ∧ r.2.mem ((c.tc : Thread Cert.SwigluFwdRefIdeal.nD Cert.SwigluFwdRefIdeal.τ).loc Cert.SwigluFwdRefIdeal.main_v8) = v3 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)
      ∧ m' ((c.tc : Thread Cert.BranchFwdRefIdeal.nD Cert.BranchFwdRefIdeal.τ).loc Cert.BranchFwdRefIdeal.main_arg2) = m ((c.tc : Thread Cert.BranchFwdIdeal.nD Cert.BranchFwdIdeal.τ).loc Cert.BranchFwdIdeal.main_arg2)
      ∧ m' ((c.tc : Thread Cert.BranchFwdRefIdeal.nD Cert.BranchFwdRefIdeal.τ).loc Cert.BranchFwdRefIdeal.main_arg3) = m ((c.tc : Thread Cert.BranchFwdIdeal.nD Cert.BranchFwdIdeal.τ).loc Cert.BranchFwdIdeal.main_arg3)
      ∧ m' ((c.tc : Thread Cert.BranchFwdRefIdeal.nD Cert.BranchFwdRefIdeal.τ).loc Cert.BranchFwdRefIdeal.main_arg4) = m ((c.tc : Thread Cert.BranchFwdIdeal.nD Cert.BranchFwdIdeal.τ).loc Cert.BranchFwdIdeal.main_arg4)) →
    ∃ (v0 : (c : Dev Cert.BranchFwdIdeal.nD) → Buf (Elt Ideal) ((c.tc : Thread Cert.BranchFwdIdeal.nD Cert.BranchFwdIdeal.τ).loc Cert.BranchFwdIdeal.main_v0_0)) (v1 : (c : Dev Cert.BranchFwdIdeal.nD) → Buf (Elt Ideal) ((c.tc : Thread Cert.BranchFwdIdeal.nD Cert.BranchFwdIdeal.τ).loc Cert.BranchFwdIdeal.main_v0_1)) (v2 : (c : Dev Cert.BranchFwdIdeal.nD) → Buf (Elt Ideal) ((c.tc : Thread Cert.BranchFwdIdeal.nD Cert.BranchFwdIdeal.τ).loc Cert.BranchFwdIdeal.main_v0_2)) (v3 : (c : Dev Cert.BranchFwdIdeal.nD) → Buf (Elt Ideal) ((c.tc : Thread Cert.BranchFwdIdeal.nD Cert.BranchFwdIdeal.τ).loc Cert.BranchFwdIdeal.main_v0_3)) (v4 : (c : Dev Cert.BranchFwdIdeal.nD) → Buf (Elt Ideal) ((c.tc : Thread Cert.BranchFwdIdeal.nD Cert.BranchFwdIdeal.τ).loc Cert.BranchFwdIdeal.main_v0_4)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0_0) = v0 c
          ∧ r.2.mem ((c.tc : Thread Cert.BranchFwdIdeal.nD Cert.BranchFwdIdeal.τ).loc Cert.BranchFwdIdeal.main_v0_1) = v1 c
          ∧ r.2.mem ((c.tc : Thread Cert.BranchFwdIdeal.nD Cert.BranchFwdIdeal.τ).loc Cert.BranchFwdIdeal.main_v0_2) = v2 c
          ∧ r.2.mem ((c.tc : Thread Cert.BranchFwdIdeal.nD Cert.BranchFwdIdeal.τ).loc Cert.BranchFwdIdeal.main_v0_3) = v3 c
          ∧ r.2.mem ((c.tc : Thread Cert.BranchFwdIdeal.nD Cert.BranchFwdIdeal.τ).loc Cert.BranchFwdIdeal.main_v0_4) = v4 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
          ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
          ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3)
          ∧ r.2.mem ((c.tc : Thread Cert.BranchFwdIdeal.nD Cert.BranchFwdIdeal.τ).loc Cert.BranchFwdIdeal.main_arg4) = m ((c.tc : Thread Cert.BranchFwdIdeal.nD Cert.BranchFwdIdeal.τ).loc Cert.BranchFwdIdeal.main_arg4))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v4) = v0 c
          ∧ r.2.mem ((c.tc : Thread Cert.BranchFwdRefIdeal.nD Cert.BranchFwdRefIdeal.τ).loc Cert.BranchFwdRefIdeal.main_v9) = v1 c
          ∧ r.2.mem ((c.tc : Thread Cert.BranchFwdRefIdeal.nD Cert.BranchFwdRefIdeal.τ).loc Cert.BranchFwdRefIdeal.main_v14) = v2 c
          ∧ r.2.mem ((c.tc : Thread Cert.BranchFwdRefIdeal.nD Cert.BranchFwdRefIdeal.τ).loc Cert.BranchFwdRefIdeal.main_v43) = v3 c
          ∧ r.2.mem ((c.tc : Thread Cert.BranchFwdRefIdeal.nD Cert.BranchFwdRefIdeal.τ).loc Cert.BranchFwdRefIdeal.main_v44) = v4 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1)
          ∧ r.2.mem ((c.tc : Thread Cert.BranchFwdRefIdeal.nD Cert.BranchFwdRefIdeal.τ).loc Cert.BranchFwdRefIdeal.main_arg2) = m' ((c.tc : Thread Cert.BranchFwdRefIdeal.nD Cert.BranchFwdRefIdeal.τ).loc Cert.BranchFwdRefIdeal.main_arg2)
          ∧ r.2.mem ((c.tc : Thread Cert.BranchFwdRefIdeal.nD Cert.BranchFwdRefIdeal.τ).loc Cert.BranchFwdRefIdeal.main_arg3) = m' ((c.tc : Thread Cert.BranchFwdRefIdeal.nD Cert.BranchFwdRefIdeal.τ).loc Cert.BranchFwdRefIdeal.main_arg3)
          ∧ r.2.mem ((c.tc : Thread Cert.BranchFwdRefIdeal.nD Cert.BranchFwdRefIdeal.τ).loc Cert.BranchFwdRefIdeal.main_arg4) = m' ((c.tc : Thread Cert.BranchFwdRefIdeal.nD Cert.BranchFwdRefIdeal.τ).loc Cert.BranchFwdRefIdeal.main_arg4))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1_0)) (v1 : (c : Dev Cert.RmsFwdIdeal.nD) → Buf (Elt Ideal) ((c.tc : Thread Cert.RmsFwdIdeal.nD Cert.RmsFwdIdeal.τ).loc Cert.RmsFwdIdeal.main_v1_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1_0) = v0 c
          ∧ r.2.mem ((c.tc : Thread Cert.RmsFwdIdeal.nD Cert.RmsFwdIdeal.τ).loc Cert.RmsFwdIdeal.main_v1_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_v14) = v1 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_BandFold_BandFoldIdeal : Prop :=
  True

def algebraic_BandFoldIdeal_BandFoldRefIdeal [hBandFoldIdeal : Cert.BandFoldIdeal.Facts] [hBandFoldRefIdeal : Cert.BandFoldRefIdeal.Facts] : Prop :=
  ∀ (m : (ℓ : Loc Cert.BandFoldIdeal.nD Cert.BandFoldIdeal.τ Cert.BandFoldIdeal.sig) → Buf (Elt Ideal) ℓ) (g : Dev Cert.BandFoldIdeal.nD → PrngReg)
    (m' : (ℓ : Loc Cert.BandFoldRefIdeal.nD Cert.BandFoldRefIdeal.τ Cert.BandFoldRefIdeal.sig) → Buf (Elt Ideal) ℓ) (g' : Dev Cert.BandFoldRefIdeal.nD → PrngReg), Pre_BandFoldIdeal m →
    (∀ c : Dev Cert.BandFoldIdeal.nD,
      m' ((c.tc : Thread Cert.BandFoldRefIdeal.nD Cert.BandFoldRefIdeal.τ).loc Cert.BandFoldRefIdeal.main_arg0) = m ((c.tc : Thread Cert.BandFoldIdeal.nD Cert.BandFoldIdeal.τ).loc Cert.BandFoldIdeal.main_arg0)
      ∧ m' ((c.tc : Thread Cert.BandFoldRefIdeal.nD Cert.BandFoldRefIdeal.τ).loc Cert.BandFoldRefIdeal.main_arg1) = m ((c.tc : Thread Cert.BandFoldIdeal.nD Cert.BandFoldIdeal.τ).loc Cert.BandFoldIdeal.main_arg1)) →
    ∃ (v0 : (c : Dev Cert.BandFoldIdeal.nD) → Buf (Elt Ideal) ((c.tc : Thread Cert.BandFoldIdeal.nD Cert.BandFoldIdeal.τ).loc Cert.BandFoldIdeal.main_v0_0)) (v1 : (c : Dev Cert.BandFoldIdeal.nD) → Buf (Elt Ideal) ((c.tc : Thread Cert.BandFoldIdeal.nD Cert.BandFoldIdeal.τ).loc Cert.BandFoldIdeal.main_v0_1)),
      θ_run (Cert.BandFoldIdeal.defs (F := Ideal)) (onTc (τ := Cert.BandFoldIdeal.τ) (Cert.BandFoldIdeal.main (F := Ideal))) ⟨m, fun _ => 0, g⟩ (fun r => ∀ c : Dev Cert.BandFoldIdeal.nD,
          r.2.mem ((c.tc : Thread Cert.BandFoldIdeal.nD Cert.BandFoldIdeal.τ).loc Cert.BandFoldIdeal.main_v0_0) = v0 c
          ∧ r.2.mem ((c.tc : Thread Cert.BandFoldIdeal.nD Cert.BandFoldIdeal.τ).loc Cert.BandFoldIdeal.main_v0_1) = v1 c
          ∧ r.2.mem ((c.tc : Thread Cert.BandFoldIdeal.nD Cert.BandFoldIdeal.τ).loc Cert.BandFoldIdeal.main_arg0) = m ((c.tc : Thread Cert.BandFoldIdeal.nD Cert.BandFoldIdeal.τ).loc Cert.BandFoldIdeal.main_arg0)
          ∧ r.2.mem ((c.tc : Thread Cert.BandFoldIdeal.nD Cert.BandFoldIdeal.τ).loc Cert.BandFoldIdeal.main_arg1) = m ((c.tc : Thread Cert.BandFoldIdeal.nD Cert.BandFoldIdeal.τ).loc Cert.BandFoldIdeal.main_arg1))
      ∧ θ_run (Cert.BandFoldRefIdeal.defs (F := Ideal)) (onTc (τ := Cert.BandFoldRefIdeal.τ) (Cert.BandFoldRefIdeal.main (F := Ideal))) ⟨m', fun _ => 0, g'⟩ (fun r => ∀ c : Dev Cert.BandFoldRefIdeal.nD,
          r.2.mem ((c.tc : Thread Cert.BandFoldRefIdeal.nD Cert.BandFoldRefIdeal.τ).loc Cert.BandFoldRefIdeal.main_v14) = v0 c
          ∧ r.2.mem ((c.tc : Thread Cert.BandFoldRefIdeal.nD Cert.BandFoldRefIdeal.τ).loc Cert.BandFoldRefIdeal.main_v28) = v1 c
          ∧ r.2.mem ((c.tc : Thread Cert.BandFoldRefIdeal.nD Cert.BandFoldRefIdeal.τ).loc Cert.BandFoldRefIdeal.main_arg0) = m' ((c.tc : Thread Cert.BandFoldRefIdeal.nD Cert.BandFoldRefIdeal.τ).loc Cert.BandFoldRefIdeal.main_arg0)
          ∧ r.2.mem ((c.tc : Thread Cert.BandFoldRefIdeal.nD Cert.BandFoldRefIdeal.τ).loc Cert.BandFoldRefIdeal.main_arg1) = m' ((c.tc : Thread Cert.BandFoldRefIdeal.nD Cert.BandFoldRefIdeal.τ).loc Cert.BandFoldRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_v55) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SwigluBwd_SwigluBwdIdeal : Prop :=
  True

def algebraic_SwigluBwdIdeal_SwigluBwdRefIdeal_pre_finite_factors [hSwigluBwdIdeal : Cert.SwigluBwdIdeal.Facts] [hSwigluBwdRefIdeal : Cert.SwigluBwdRefIdeal.Facts] [hPre_finite_factors : Cert.Pre_finite_factors.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_finite_factors m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)
      ∧ m' ((c.tc : Thread Cert.SwigluBwdRefIdeal.nD Cert.SwigluBwdRefIdeal.τ).loc Cert.SwigluBwdRefIdeal.main_arg3) = m ((c.tc : Thread Cert.SwigluBwdIdeal.nD Cert.SwigluBwdIdeal.τ).loc Cert.SwigluBwdIdeal.main_arg3)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v9) = v0 c
          ∧ r.2.mem ((c.tc : Thread Cert.SwigluBwdRefIdeal.nD Cert.SwigluBwdRefIdeal.τ).loc Cert.SwigluBwdRefIdeal.main_v10) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2)
          ∧ r.2.mem ((c.tc : Thread Cert.SwigluBwdRefIdeal.nD Cert.SwigluBwdRefIdeal.τ).loc Cert.SwigluBwdRefIdeal.main_arg3) = m' ((c.tc : Thread Cert.SwigluBwdRefIdeal.nD Cert.SwigluBwdRefIdeal.τ).loc Cert.SwigluBwdRefIdeal.main_arg3))

def preserves_SwaFwd_SwaFwdIdeal : Prop :=
  IdealRules.named_const.Statement Cert.SwaFwdIdeal.κ "mask" .f32 0xF149F2CA#32 ⊥

def algebraic_SwaFwdIdeal_SwaFwdRefIdeal_pre_finite_scores [hSwaFwdIdeal : Cert.SwaFwdIdeal.Facts] [hSwaFwdRefIdeal : Cert.SwaFwdRefIdeal.Facts] [hPre_finite_scores : Cert.Pre_finite_scores.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_finite_scores m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)
      ∧ m' ((c.tc : Thread Cert.SwaFwdRefIdeal.nD Cert.SwaFwdRefIdeal.τ).loc Cert.SwaFwdRefIdeal.main_arg3) = m ((c.tc : Thread Cert.SwaFwdIdeal.nD Cert.SwaFwdIdeal.τ).loc Cert.SwaFwdIdeal.main_arg3)
      ∧ m' ((c.tc : Thread Cert.SwaFwdRefIdeal.nD Cert.SwaFwdRefIdeal.τ).loc Cert.SwaFwdRefIdeal.main_arg4) = m ((c.tc : Thread Cert.SwaFwdIdeal.nD Cert.SwaFwdIdeal.τ).loc Cert.SwaFwdIdeal.main_arg4)) →
    ∃ (v0 : (c : Dev Cert.SwaFwdIdeal.nD) → Buf (Elt Ideal) ((c.tc : Thread Cert.SwaFwdIdeal.nD Cert.SwaFwdIdeal.τ).loc Cert.SwaFwdIdeal.main_v3_0)) (v1 : (c : Dev Cert.SwaFwdIdeal.nD) → Buf (Elt Ideal) ((c.tc : Thread Cert.SwaFwdIdeal.nD Cert.SwaFwdIdeal.τ).loc Cert.SwaFwdIdeal.main_v3_1)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v3_0) = v0 c
          ∧ r.2.mem ((c.tc : Thread Cert.SwaFwdIdeal.nD Cert.SwaFwdIdeal.τ).loc Cert.SwaFwdIdeal.main_v3_1) = v1 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
          ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v71) = v0 c
          ∧ r.2.mem ((c.tc : Thread Cert.SwaFwdRefIdeal.nD Cert.SwaFwdRefIdeal.τ).loc Cert.SwaFwdRefIdeal.main_v72) = v1 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2)
          ∧ r.2.mem ((c.tc : Thread Cert.SwaFwdRefIdeal.nD Cert.SwaFwdRefIdeal.τ).loc Cert.SwaFwdRefIdeal.main_arg3) = m' ((c.tc : Thread Cert.SwaFwdRefIdeal.nD Cert.SwaFwdRefIdeal.τ).loc Cert.SwaFwdRefIdeal.main_arg3)
          ∧ r.2.mem ((c.tc : Thread Cert.SwaFwdRefIdeal.nD Cert.SwaFwdRefIdeal.τ).loc Cert.SwaFwdRefIdeal.main_arg4) = m' ((c.tc : Thread Cert.SwaFwdRefIdeal.nD Cert.SwaFwdRefIdeal.τ).loc Cert.SwaFwdRefIdeal.main_arg4))

def Claim : Prop :=
  ∃ (hKernel : Cert.Kernel.Facts) (hKernelIdeal : Cert.KernelIdeal.Facts) (hReferenceIdeal : Cert.ReferenceIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hFfnOutDw : Cert.FfnOutDw.Facts) (hFfnOutDwIdeal : Cert.FfnOutDwIdeal.Facts) (hFfnOutDwRefIdeal : Cert.FfnOutDwRefIdeal.Facts) (hOutDw : Cert.OutDw.Facts) (hOutDwIdeal : Cert.OutDwIdeal.Facts) (hOutDwRefIdeal : Cert.OutDwRefIdeal.Facts) (hFfnInDw : Cert.FfnInDw.Facts) (hFfnInDwIdeal : Cert.FfnInDwIdeal.Facts) (hFfnInDwRefIdeal : Cert.FfnInDwRefIdeal.Facts) (hFfnInDxGate : Cert.FfnInDxGate.Facts) (hFfnInDxGateIdeal : Cert.FfnInDxGateIdeal.Facts) (hFfnInDxGateRefIdeal : Cert.FfnInDxGateRefIdeal.Facts) (hFfnInDxUp : Cert.FfnInDxUp.Facts) (hFfnInDxUpIdeal : Cert.FfnInDxUpIdeal.Facts) (hFfnInDxUpRefIdeal : Cert.FfnInDxUpRefIdeal.Facts) (hBranchDx : Cert.BranchDx.Facts) (hBranchDxIdeal : Cert.BranchDxIdeal.Facts) (hBranchDxRefIdeal : Cert.BranchDxRefIdeal.Facts) (hFfnInDwGate : Cert.FfnInDwGate.Facts) (hFfnInDwGateIdeal : Cert.FfnInDwGateIdeal.Facts) (hFfnInDwGateRefIdeal : Cert.FfnInDwGateRefIdeal.Facts) (hBranchDwFirst : Cert.BranchDwFirst.Facts) (hBranchDwFirstIdeal : Cert.BranchDwFirstIdeal.Facts) (hBranchDwFirstRefIdeal : Cert.BranchDwFirstRefIdeal.Facts) (hBranchDwSecond : Cert.BranchDwSecond.Facts) (hBranchDwSecondIdeal : Cert.BranchDwSecondIdeal.Facts) (hBranchDwSecondRefIdeal : Cert.BranchDwSecondRefIdeal.Facts) (hBranchDwThird : Cert.BranchDwThird.Facts) (hBranchDwThirdIdeal : Cert.BranchDwThirdIdeal.Facts) (hBranchDwThirdRefIdeal : Cert.BranchDwThirdRefIdeal.Facts) (hOutDxMerge : Cert.OutDxMerge.Facts) (hOutDxMergeIdeal : Cert.OutDxMergeIdeal.Facts) (hOutDxMergeRefIdeal : Cert.OutDxMergeRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hFfnOutFwd : Cert.FfnOutFwd.Facts) (hFfnOutFwdIdeal : Cert.FfnOutFwdIdeal.Facts) (hFfnOutFwdRefIdeal : Cert.FfnOutFwdRefIdeal.Facts) (hSwigluFwd : Cert.SwigluFwd.Facts) (hSwigluFwdIdeal : Cert.SwigluFwdIdeal.Facts) (hSwigluFwdRefIdeal : Cert.SwigluFwdRefIdeal.Facts) (hBranchFwd : Cert.BranchFwd.Facts) (hBranchFwdIdeal : Cert.BranchFwdIdeal.Facts) (hBranchFwdRefIdeal : Cert.BranchFwdRefIdeal.Facts) (hRmsFwd : Cert.RmsFwd.Facts) (hRmsFwdIdeal : Cert.RmsFwdIdeal.Facts) (hRmsFwdRefIdeal : Cert.RmsFwdRefIdeal.Facts) (hBandFold : Cert.BandFold.Facts) (hBandFoldIdeal : Cert.BandFoldIdeal.Facts) (hBandFoldRefIdeal : Cert.BandFoldRefIdeal.Facts) (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossHeadRefIdeal : Cert.LossHeadRefIdeal.Facts) (hSwigluBwd : Cert.SwigluBwd.Facts) (hSwigluBwdIdeal : Cert.SwigluBwdIdeal.Facts) (hSwigluBwdRefIdeal : Cert.SwigluBwdRefIdeal.Facts) (hSwaFwd : Cert.SwaFwd.Facts) (hSwaFwdIdeal : Cert.SwaFwdIdeal.Facts) (hSwaFwdRefIdeal : Cert.SwaFwdRefIdeal.Facts) (hPre_finite : Cert.Pre_finite.Facts) (hPre_finite_factors : Cert.Pre_finite_factors.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnInDxGate (hFfnInDxGate := hFfnInDxGate)
    ∧ quiescent_FfnInDxGateIdeal (hFfnInDxGateIdeal := hFfnInDxGateIdeal)
    ∧ quiescent_FfnInDxGateRefIdeal (hFfnInDxGateRefIdeal := hFfnInDxGateRefIdeal)
    ∧ quiescent_FfnInDxUp (hFfnInDxUp := hFfnInDxUp)
    ∧ quiescent_FfnInDxUpIdeal (hFfnInDxUpIdeal := hFfnInDxUpIdeal)
    ∧ quiescent_FfnInDxUpRefIdeal (hFfnInDxUpRefIdeal := hFfnInDxUpRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_FfnInDwGate (hFfnInDwGate := hFfnInDwGate)
    ∧ quiescent_FfnInDwGateIdeal (hFfnInDwGateIdeal := hFfnInDwGateIdeal)
    ∧ quiescent_FfnInDwGateRefIdeal (hFfnInDwGateRefIdeal := hFfnInDwGateRefIdeal)
    ∧ quiescent_BranchDwFirst (hBranchDwFirst := hBranchDwFirst)
    ∧ quiescent_BranchDwFirstIdeal (hBranchDwFirstIdeal := hBranchDwFirstIdeal)
    ∧ quiescent_BranchDwFirstRefIdeal (hBranchDwFirstRefIdeal := hBranchDwFirstRefIdeal)
    ∧ quiescent_BranchDwSecond (hBranchDwSecond := hBranchDwSecond)
    ∧ quiescent_BranchDwSecondIdeal (hBranchDwSecondIdeal := hBranchDwSecondIdeal)
    ∧ quiescent_BranchDwSecondRefIdeal (hBranchDwSecondRefIdeal := hBranchDwSecondRefIdeal)
    ∧ quiescent_BranchDwThird (hBranchDwThird := hBranchDwThird)
    ∧ quiescent_BranchDwThirdIdeal (hBranchDwThirdIdeal := hBranchDwThirdIdeal)
    ∧ quiescent_BranchDwThirdRefIdeal (hBranchDwThirdRefIdeal := hBranchDwThirdRefIdeal)
    ∧ quiescent_OutDxMerge (hOutDxMerge := hOutDxMerge)
    ∧ quiescent_OutDxMergeIdeal (hOutDxMergeIdeal := hOutDxMergeIdeal)
    ∧ quiescent_OutDxMergeRefIdeal (hOutDxMergeRefIdeal := hOutDxMergeRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_FfnOutFwd (hFfnOutFwd := hFfnOutFwd)
    ∧ quiescent_FfnOutFwdIdeal (hFfnOutFwdIdeal := hFfnOutFwdIdeal)
    ∧ quiescent_FfnOutFwdRefIdeal (hFfnOutFwdRefIdeal := hFfnOutFwdRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_BandFold (hBandFold := hBandFold)
    ∧ quiescent_BandFoldIdeal (hBandFoldIdeal := hBandFoldIdeal)
    ∧ quiescent_BandFoldRefIdeal (hBandFoldRefIdeal := hBandFoldRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SwigluBwd (hSwigluBwd := hSwigluBwd)
    ∧ quiescent_SwigluBwdIdeal (hSwigluBwdIdeal := hSwigluBwdIdeal)
    ∧ quiescent_SwigluBwdIdeal_pre_finite_factors (hSwigluBwdIdeal := hSwigluBwdIdeal) (hPre_finite_factors := hPre_finite_factors)
    ∧ quiescent_SwigluBwdRefIdeal (hSwigluBwdRefIdeal := hSwigluBwdRefIdeal)
    ∧ quiescent_SwigluBwdRefIdeal_pre_finite_factors (hSwigluBwdRefIdeal := hSwigluBwdRefIdeal) (hPre_finite_factors := hPre_finite_factors)
    ∧ quiescent_SwaFwd (hSwaFwd := hSwaFwd)
    ∧ quiescent_SwaFwdIdeal (hSwaFwdIdeal := hSwaFwdIdeal)
    ∧ quiescent_SwaFwdIdeal_pre_finite_scores (hSwaFwdIdeal := hSwaFwdIdeal) (hPre_finite_scores := hPre_finite_scores)
    ∧ quiescent_SwaFwdRefIdeal (hSwaFwdRefIdeal := hSwaFwdRefIdeal)
    ∧ quiescent_SwaFwdRefIdeal_pre_finite_scores (hSwaFwdRefIdeal := hSwaFwdRefIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_OutDw_OutDwIdeal
    ∧ algebraic_OutDwIdeal_OutDwRefIdeal (hOutDwIdeal := hOutDwIdeal) (hOutDwRefIdeal := hOutDwRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnInDxGate_FfnInDxGateIdeal
    ∧ algebraic_FfnInDxGateIdeal_FfnInDxGateRefIdeal (hFfnInDxGateIdeal := hFfnInDxGateIdeal) (hFfnInDxGateRefIdeal := hFfnInDxGateRefIdeal)
    ∧ preserves_FfnInDxUp_FfnInDxUpIdeal
    ∧ algebraic_FfnInDxUpIdeal_FfnInDxUpRefIdeal (hFfnInDxUpIdeal := hFfnInDxUpIdeal) (hFfnInDxUpRefIdeal := hFfnInDxUpRefIdeal)
    ∧ preserves_BranchDx_BranchDxIdeal
    ∧ algebraic_BranchDxIdeal_BranchDxRefIdeal (hBranchDxIdeal := hBranchDxIdeal) (hBranchDxRefIdeal := hBranchDxRefIdeal)
    ∧ preserves_FfnInDwGate_FfnInDwGateIdeal
    ∧ algebraic_FfnInDwGateIdeal_FfnInDwGateRefIdeal (hFfnInDwGateIdeal := hFfnInDwGateIdeal) (hFfnInDwGateRefIdeal := hFfnInDwGateRefIdeal)
    ∧ preserves_BranchDwFirst_BranchDwFirstIdeal
    ∧ algebraic_BranchDwFirstIdeal_BranchDwFirstRefIdeal (hBranchDwFirstIdeal := hBranchDwFirstIdeal) (hBranchDwFirstRefIdeal := hBranchDwFirstRefIdeal)
    ∧ preserves_BranchDwSecond_BranchDwSecondIdeal
    ∧ algebraic_BranchDwSecondIdeal_BranchDwSecondRefIdeal (hBranchDwSecondIdeal := hBranchDwSecondIdeal) (hBranchDwSecondRefIdeal := hBranchDwSecondRefIdeal)
    ∧ preserves_BranchDwThird_BranchDwThirdIdeal
    ∧ algebraic_BranchDwThirdIdeal_BranchDwThirdRefIdeal (hBranchDwThirdIdeal := hBranchDwThirdIdeal) (hBranchDwThirdRefIdeal := hBranchDwThirdRefIdeal)
    ∧ preserves_OutDxMerge_OutDxMergeIdeal
    ∧ algebraic_OutDxMergeIdeal_OutDxMergeRefIdeal (hOutDxMergeIdeal := hOutDxMergeIdeal) (hOutDxMergeRefIdeal := hOutDxMergeRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_FfnOutFwd_FfnOutFwdIdeal
    ∧ algebraic_FfnOutFwdIdeal_FfnOutFwdRefIdeal (hFfnOutFwdIdeal := hFfnOutFwdIdeal) (hFfnOutFwdRefIdeal := hFfnOutFwdRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_BandFold_BandFoldIdeal
    ∧ algebraic_BandFoldIdeal_BandFoldRefIdeal (hBandFoldIdeal := hBandFoldIdeal) (hBandFoldRefIdeal := hBandFoldRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_SwigluBwd_SwigluBwdIdeal
    ∧ algebraic_SwigluBwdIdeal_SwigluBwdRefIdeal_pre_finite_factors (hSwigluBwdIdeal := hSwigluBwdIdeal) (hSwigluBwdRefIdeal := hSwigluBwdRefIdeal) (hPre_finite_factors := hPre_finite_factors)
    ∧ preserves_SwaFwd_SwaFwdIdeal
    ∧ algebraic_SwaFwdIdeal_SwaFwdRefIdeal_pre_finite_scores (hSwaFwdIdeal := hSwaFwdIdeal) (hSwaFwdRefIdeal := hSwaFwdRefIdeal) (hPre_finite_scores := hPre_finite_scores)
-- ==== Pre_finite.lean ====
abbrev S4224x512 : Shape := ⟨2, ![4224, 512]⟩
abbrev S4224x128 : Shape := ⟨2, ![4224, 128]⟩
abbrev S8x128x256 : Shape := ⟨3, ![8, 128, 256]⟩
abbrev S8 : Shape := ⟨1, ![8]⟩
abbrev S_ : Shape := ⟨0, ![]⟩

class Facts : Prop where
  reducesTo_S4224x512_S_d0_1 : S4224x512.ReducesTo [0, 1] S_
  h_S_ : 0 < S_.numel
  reducesTo_S4224x128_S_d0_1 : S4224x128.ReducesTo [0, 1] S_
  reducesTo_S8x128x256_S_d0_1_2 : S8x128x256.ReducesTo [0, 1, 2] S_
  reducesTo_S8_S_d0 : S8.ReducesTo [0] S_

variable [Facts]

def fn_part1 {F : FTy → Type} [FloatOps F] (main_arg5 : FVec F S4224x512 .bf16) (main_v14 : IVec S_ 1) (main_v15 : FVec F S8 .f32) : IVec S_ 1 :=
  let main_cst_7 : FVec F S_ .f32 := constant S_ .f32 0xFF800000#32
  let main_v16 : FVec F S_ .f32 := (fun x v => Host.reduce FloatOps.maximumf x v reducesTo_S8_S_d0 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  let main_v19 : FVec F S4224x512 .bf16 := Host.absf main_arg5
  let main_cst_9 : FVec F S_ .bf16 := constant S_ .bf16 0xFF80#16
  let main_v20 : FVec F S_ .bf16 := (fun x v => Host.reduce FloatOps.maximumf x v reducesTo_S4224x512_S_d0_1 h_S_) main_v19 main_cst_9
  let main_cst_10 : FVec F S_ .bf16 := constant S_ .bf16 0x7F80#16
  let main_v21 : IVec S_ 1 := cmpf .olt main_v20 main_cst_10
  let main_v22 : IVec S_ 1 := andi main_v18 main_v21
  main_v22

def fn {F : FTy → Type} [FloatOps F] (main_arg0 : FVec F S4224x512 .f32) (main_arg1 : FVec F S4224x128 .f32) (main_arg2 : FVec F S4224x128 .f32) (main_arg3 : FVec F S8x128x256 .f32) (main_arg4 : FVec F S8 .f32) (main_arg5 : FVec F S4224x512 .bf16) (main_arg6 : FVec F S8x128x256 .f32) : IVec S_ 1 :=
  let main_v0 : FVec F S4224x512 .f32 := Host.absf main_arg0
  let main_cst : FVec F S_ .f32 := constant S_ .f32 0xFF800000#32
  let main_v1 : FVec F S_ .f32 := (fun x v => Host.reduce FloatOps.maximumf x v reducesTo_S4224x512_S_d0_1 h_S_) main_v0 main_cst
  let main_cst_0 : FVec F S_ .f32 := constant S_ .f32 0x7F800000#32
  let main_v2 : IVec S_ 1 := cmpf .olt main_v1 main_cst_0
  let main_v3 : FVec F S4224x128 .f32 := Host.absf main_arg1
  let main_cst_1 : FVec F S_ .f32 := constant S_ .f32 0xFF800000#32
  let main_v4 : FVec F S_ .f32 := (fun x v => Host.reduce FloatOps.maximumf x v reducesTo_S4224x128_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S4224x128 .f32 := Host.absf main_arg2
  let main_cst_3 : FVec F S_ .f32 := constant S_ .f32 0xFF800000#32
  let main_v8 : FVec F S_ .f32 := (fun x v => Host.reduce FloatOps.maximumf x v reducesTo_S4224x128_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S8x128x256 .f32 := Host.absf main_arg3
  let main_cst_5 : FVec F S_ .f32 := constant S_ .f32 0xFF800000#32
  let main_v12 : FVec F S_ .f32 := (fun x v => Host.reduce FloatOps.maximumf x v reducesTo_S8x128x256_S_d0_1_2 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S8 .f32 := Host.absf main_arg4
  fn_part1 (F := F) main_arg5 main_v14 main_v15
-- ==== Pre_finite_factors.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

class Facts : Prop where
  reducesTo_S4224x1024_S_d0_1 : S4224x1024.ReducesTo [0, 1] S_
  h_S_ : 0 < S_.numel
  reducesTo_S2816x1024_S_d0_1 : S2816x1024.ReducesTo [0, 1] S_
  reducesTo_S4224x2816_S_d0_1 : S4224x2816.ReducesTo [0, 1] S_

variable [Facts]

def fn {F : FTy → Type} [FloatOps F] (main_arg0 : FVec F S4224x1024 .bf16) (main_arg1 : FVec F S2816x1024 .bf16) (main_arg2 : FVec F S4224x2816 .f32) (main_arg3 : FVec F S4224x2816 .f32) : IVec S_ 1 :=
  let main_v0 : FVec F S4224x1024 .bf16 := Host.absf main_arg0
  let main_cst : FVec F S_ .bf16 := constant S_ .bf16 0xFF80#16
  let main_v1 : FVec F S_ .bf16 := (fun x v => Host.reduce FloatOps.maximumf x v reducesTo_S4224x1024_S_d0_1 h_S_) main_v0 main_cst
  let main_cst_0 : FVec F S_ .bf16 := constant S_ .bf16 0x7F80#16
  let main_v2 : IVec S_ 1 := cmpf .olt main_v1 main_cst_0
  let main_v3 : FVec F S2816x1024 .bf16 := Host.absf main_arg1
  let main_cst_1 : FVec F S_ .bf16 := constant S_ .bf16 0xFF80#16
  let main_v4 : FVec F S_ .bf16 := (fun x v => Host.reduce FloatOps.maximumf x v reducesTo_S2816x1024_S_d0_1 h_S_) main_v3 main_cst_1
  let main_cst_2 : FVec F S_ .bf16 := constant S_ .bf16 0x7F80#16
  let main_v5 : IVec S_ 1 := cmpf .olt main_v4 main_cst_2
  let main_v6 : IVec S_ 1 := andi main_v2 main_v5
  let main_v7 : FVec F S4224x2816 .f32 := Host.absf main_arg3
  let main_cst_3 : FVec F S_ .f32 := constant S_ .f32 0xFF800000#32
  let main_v8 : FVec F S_ .f32 := (fun x v => Host.reduce FloatOps.maximumf x v reducesTo_S4224x2816_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  main_v10
-- ==== Pre_finite_scores.lean ====
abbrev S4224x512 : Shape := ⟨2, ![4224, 512]⟩
abbrev S4224x128 : Shape := ⟨2, ![4224, 128]⟩
abbrev S8x128x256 : Shape := ⟨3, ![8, 128, 256]⟩
abbrev S8 : Shape := ⟨1, ![8]⟩
abbrev S_ : Shape := ⟨0, ![]⟩

class Facts : Prop where
  reducesTo_S4224x512_S_d0_1 : S4224x512.ReducesTo [0, 1] S_
  h_S_ : 0 < S_.numel
  reducesTo_S4224x128_S_d0_1 : S4224x128.ReducesTo [0, 1] S_
  reducesTo_S8x128x256_S_d0_1_2 : S8x128x256.ReducesTo [0, 1, 2] S_
  reducesTo_S8_S_d0 : S8.ReducesTo [0] S_

variable [Facts]

def fn {F : FTy → Type} [FloatOps F] (main_arg0 : FVec F S4224x512 .f32) (main_arg1 : FVec F S4224x128 .f32) (main_arg2 : FVec F S4224x128 .f32) (main_arg3 : FVec F S8x128x256 .f32) (main_arg4 : FVec F S8 .f32) : IVec S_ 1 :=
  let main_v0 : FVec F S4224x512 .f32 := Host.absf main_arg0
  let main_cst : FVec F S_ .f32 := constant S_ .f32 0xFF800000#32
  let main_v1 : FVec F S_ .f32 := (fun x v => Host.reduce FloatOps.maximumf x v reducesTo_S4224x512_S_d0_1 h_S_) main_v0 main_cst
  let main_cst_0 : FVec F S_ .f32 := constant S_ .f32 0x7F800000#32
  let main_v2 : IVec S_ 1 := cmpf .olt main_v1 main_cst_0
  let main_v3 : FVec F S4224x128 .f32 := Host.absf main_arg1
  let main_cst_1 : FVec F S_ .f32 := constant S_ .f32 0xFF800000#32
  let main_v4 : FVec F S_ .f32 := (fun x v => Host.reduce FloatOps.maximumf x v reducesTo_S4224x128_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S8x128x256 .f32 := Host.absf main_arg3
  let main_cst_3 : FVec F S_ .f32 := constant S_ .f32 0xFF800000#32
  let main_v8 : FVec F S_ .f32 := (fun x v => Host.reduce FloatOps.maximumf x v reducesTo_S8x128x256_S_d0_1_2 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S8 .f32 := Host.absf main_arg4
  let main_cst_5 : FVec F S_ .f32 := constant S_ .f32 0xFF800000#32
  let main_v12 : FVec F S_ .f32 := (fun x v => Host.reduce FloatOps.maximumf x v reducesTo_S8_S_d0 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Kernel.lean ====
abbrev S4224x512 : Shape := ⟨2, ![4224, 512]⟩
abbrev S4224x128 : Shape := ⟨2, ![4224, 128]⟩
abbrev S8x128x256 : Shape := ⟨3, ![8, 128, 256]⟩
abbrev S8 : Shape := ⟨1, ![8]⟩
abbrev S_ : Shape := ⟨0, ![]⟩
abbrev S4224x5632 : Shape := ⟨2, ![4224, 5632]⟩
abbrev S4224x256 : Shape := ⟨2, ![4224, 256]⟩
abbrev S4224x6656 : Shape := ⟨2, ![4224, 6656]⟩
abbrev S33x256x128 : Shape := ⟨3, ![33, 256, 128]⟩
abbrev S1x128 : Shape := ⟨2, ![1, 128]⟩
abbrev S128x512 : Shape := ⟨2, ![128, 512]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 17
  | .vmem => 23
  | .smem => 1
  | _ => 0

abbrev bufTy : (tb : Table) → Fin (tcTables nBuf tb) → BufTy
  | .hbm, ⟨0, _⟩ => ⟨S4224x512, .f32⟩
  | .hbm, ⟨1, _⟩ => ⟨S4224x128, .f32⟩
  | .hbm, ⟨2, _⟩ => ⟨S4224x128, .f32⟩
  | .hbm, ⟨3, _⟩ => ⟨S8x128x256, .f32⟩
  | .hbm, ⟨4, _⟩ => ⟨S8, .f32⟩
  | .hbm, ⟨5, _⟩ => ⟨S4224x512, .bf16⟩
  | .hbm, ⟨6, _⟩ => ⟨S8x128x256, .f32⟩
  | .hbm, ⟨7, _⟩ => ⟨S_, .f32⟩
  | .hbm, ⟨8, _⟩ => ⟨S4224x5632, .f32⟩
  | .hbm, ⟨9, _⟩ => ⟨S_, .f32⟩
  | .hbm, ⟨10, _⟩ => ⟨S4224x256, .f32⟩
  | .hbm, ⟨11, _⟩ => ⟨S4224x6656, .f32⟩
  | .hbm, ⟨12, _⟩ => ⟨S4224x512, .bf16⟩
  | .hbm, ⟨13, _⟩ => ⟨S33x256x128, .f32⟩
  | .hbm, ⟨14, _⟩ => ⟨S33x256x128, .f32⟩
  | .hbm, ⟨15, _⟩ => ⟨S8x128x256, .f32⟩
  | .hbm, ⟨16, _⟩ => ⟨S1x128, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x256, .f32⟩
  | .local _ .vmem, ⟨11, _⟩ => ⟨S128x512, .bf16⟩
  | .local _ .vmem, ⟨12, _⟩ => ⟨S128x512, .bf16⟩
  | .local _ .vmem, ⟨13, _⟩ => ⟨S8x128x256, .f32⟩
  | .local _ .vmem, ⟨14, _⟩ => ⟨S128x512, .bf16⟩
  | .local _ .vmem, ⟨15, _⟩ => ⟨S128x512, .bf16⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S8x128x256, .f32⟩
  | .local _ .vmem, ⟨21, _⟩ => ⟨S1x128, .f32⟩
  | .local _ .vmem, ⟨22, _⟩ => ⟨S128x128, .f32⟩
  | .local _ .smem, ⟨0, _⟩ => ⟨S8, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v758 : BitVec 1 := Scalar.cmpi .eq arg0 c32_i32
  let v759 : BitVec 32 := Scalar.extui v758
  let c0_i32_294 : BitVec 32 := 0#32
  let v760 : BitVec 1 := Scalar.cmpi .ne v759 c0_i32_294
  v760

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let c0_i32_0 : BitVec 32 := 0#32
  ![v1.toNat, c48_i32.toNat]

def cc0_transform_3 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c49_i32 : BitVec 32 := 49#32
  let c0_i32_0 : BitVec 32 := 0#32
  ![v1.toNat, c49_i32.toNat]

def cc0_transform_5 (i : grid0.Coords) : Fin 2 → Nat :=
  let arg0 : BitVec 32 := BitVec.ofNat 32 (i 0).val
  let c49_i32 : BitVec 32 := 49#32
  let c0_i32 : BitVec 32 := 0#32
  ![arg0.toNat, c49_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4224x512 : Shape := ⟨2, ![4224, 512]⟩
abbrev S4224x128 : Shape := ⟨2, ![4224, 128]⟩
abbrev S8x128x256 : Shape := ⟨3, ![8, 128, 256]⟩
abbrev S8 : Shape := ⟨1, ![8]⟩
abbrev S33x128x128 : Shape := ⟨3, ![33, 128, 128]⟩
abbrev S_ : Shape := ⟨0, ![]⟩
abbrev S34x128x128 : Shape := ⟨3, ![34, 128, 128]⟩
abbrev S33x256x128 : Shape := ⟨3, ![33, 256, 128]⟩
abbrev S33x128x2x4x64 : Shape := ⟨5, ![33, 128, 2, 4, 64]⟩
abbrev S33x256x2x64 : Shape := ⟨4, ![33, 256, 2, 64]⟩
abbrev S33x2x256x128x4 : Shape := ⟨5, ![33, 2, 256, 128, 4]⟩
abbrev S33x2x4x128x256 : Shape := ⟨5, ![33, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S33 : Shape := ⟨1, ![33]⟩
abbrev S33x1 : Shape := ⟨2, ![33, 1]⟩
abbrev S33x256 : Shape := ⟨2, ![33, 256]⟩
abbrev S1x128x256 : Shape := ⟨3, ![1, 128, 256]⟩
abbrev S33x1x256 : Shape := ⟨3, ![33, 1, 256]⟩
abbrev S33x128x256 : Shape := ⟨3, ![33, 128, 256]⟩
abbrev S33x1x1x128x256 : Shape := ⟨5, ![33, 1, 1, 128, 256]⟩
abbrev S2x4x128x256 : Shape := ⟨4, ![2, 4, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S33x2x4x128 : Shape := ⟨4, ![33, 2, 4, 128]⟩
abbrev S33x2x4x128x1 : Shape := ⟨5, ![33, 2, 4, 128, 1]⟩
abbrev S33x2x64x4x128 : Shape := ⟨5, ![33, 2, 64, 4, 128]⟩
abbrev S33x2x64x256 : Shape := ⟨4, ![33, 2, 64, 256]⟩
abbrev S2x4x1 : Shape := ⟨3, ![2, 4, 1]⟩
abbrev S33x2x128x4x64 : Shape := ⟨5, ![33, 2, 128, 4, 64]⟩
abbrev S33x2x256x64 : Shape := ⟨4, ![33, 2, 256, 64]⟩
abbrev S120 : Shape := ⟨1, ![120]⟩
abbrev S1x128 : Shape := ⟨2, ![1, 128]⟩

abbrev nBuf : Space → Nat
  | .hbm => 202
  | .vmem => 0
  | .smem => 0
  | _ => 0

abbrev hbmTy0_0 (i : Nat) : BufTy := match i % 128 with
  | 0 => ⟨S4224x512, .f32⟩
  | 1 => ⟨S4224x128, .f32⟩
  | 2 => ⟨S4224x128, .f32⟩
  | 3 => ⟨S8x128x256, .f32⟩
  | 4 => ⟨S8, .f32⟩
  | 5 => ⟨S4224x512, .bf16⟩
  | 6 => ⟨S8x128x256, .f32⟩
  | 7 => ⟨S4224x512, .f32⟩
  | 8 => ⟨S33x128x128, .f32⟩
  | 9 => ⟨S_, .i32⟩
  | 10 => ⟨S_, .f32⟩
  | 11 => ⟨S34x128x128, .f32⟩
  | 12 => ⟨S33x128x128, .f32⟩
  | 13 => ⟨S33x256x128, .f32⟩
  | 14 => ⟨S33x128x128, .f32⟩
  | 15 => ⟨S_, .i32⟩
  | 16 => ⟨S_, .f32⟩
  | 17 => ⟨S34x128x128, .f32⟩
  | 18 => ⟨S33x128x128, .f32⟩
  | 19 => ⟨S33x256x128, .f32⟩
  | 20 => ⟨S33x128x2x4x64, .f32⟩
  | 21 => ⟨S33x256x2x64, .f32⟩
  | 22 => ⟨S33x256x2x64, .f32⟩
  | 23 => ⟨S33x2x256x128x4, .f32⟩
  | 24 => ⟨S33x2x4x128x256, .f32⟩
  | 25 => ⟨S_, .f32⟩
  | 26 => ⟨S33x2x4x128x256, .f32⟩
  | 27 => ⟨S33x2x4x128x256, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S33, .i32⟩
  | 39 => ⟨S33x1, .i32⟩
  | 40 => ⟨S_, .i32⟩
  | 41 => ⟨S33x1, .i32⟩
  | 42 => ⟨S33x1, .i32⟩
  | 43 => ⟨S_, .i32⟩
  | 44 => ⟨S33x1, .i32⟩
  | 45 => ⟨S33x1, .i32⟩
  | 46 => ⟨S33x256, .i32⟩
  | 47 => ⟨S33x256, .i32⟩
  | 48 => ⟨S33x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S1x128x256, .i1⟩
  | 57 => ⟨S_, .i32⟩
  | 58 => ⟨S33x256, .i32⟩
  | 59 => ⟨S33x256, .i1⟩
  | 60 => ⟨S33x1x256, .i1⟩
  | 61 => ⟨S33x128x256, .i1⟩
  | 62 => ⟨S33x128x256, .i1⟩
  | 63 => ⟨S33x128x256, .i1⟩
  | 64 => ⟨S33x1x1x128x256, .i1⟩
  | 65 => ⟨S2x4x128x256, .f32⟩
  | 66 => ⟨S1x2x4x128x256, .f32⟩
  | 67 => ⟨S33x2x4x128x256, .f32⟩
  | 68 => ⟨S33x2x4x128x256, .f32⟩
  | 69 => ⟨S_, .f32⟩
  | 70 => ⟨S_, .f32⟩
  | 71 => ⟨S33x2x4x128x256, .i1⟩
  | 72 => ⟨S33x2x4x128x256, .f32⟩
  | 73 => ⟨S33x2x4x128x256, .f32⟩
  | 74 => ⟨S_, .f32⟩
  | 75 => ⟨S33x2x4x128x256, .f32⟩
  | 76 => ⟨S2x4, .f32⟩
  | 77 => ⟨S1x2x4x1x1, .f32⟩
  | 78 => ⟨S_, .f32⟩
  | 79 => ⟨S33x2x4x128, .f32⟩
  | 80 => ⟨S33x2x4x128x1, .f32⟩
  | 81 => ⟨S33x2x4x128x256, .f32⟩
  | 82 => ⟨S33x2x4x128x256, .i1⟩
  | 83 => ⟨S33x2x4x128x256, .f32⟩
  | 84 => ⟨S_, .f32⟩
  | 85 => ⟨S33x2x4x128, .f32⟩
  | 86 => ⟨S33x2x4x128x1, .f32⟩
  | 87 => ⟨S33x2x4x128x1, .f32⟩
  | 88 => ⟨S33x2x4x128x1, .f32⟩
  | 89 => ⟨S33x2x4x128x1, .f32⟩
  | 90 => ⟨S33x2x4x128x1, .i1⟩
  | 91 => ⟨S33x2x4x128x1, .f32⟩
  | 92 => ⟨S33x2x4x128x1, .i1⟩
  | 93 => ⟨S_, .f32⟩
  | 94 => ⟨S33x2x4x128x1, .f32⟩
  | 95 => ⟨S_, .f32⟩
  | 96 => ⟨S33x2x4x128x1, .f32⟩
  | 97 => ⟨S_, .f32⟩
  | 98 => ⟨S33x2x4x128x1, .f32⟩
  | 99 => ⟨S33x2x4x128x1, .f32⟩
  | 100 => ⟨S33x2x4x128x1, .f32⟩
  | 101 => ⟨S33x2x4x128x1, .f32⟩
  | 102 => ⟨S33x2x4x128x1, .i1⟩
  | 103 => ⟨S33x2x4x128x1, .f32⟩
  | 104 => ⟨S33x2x4x128x1, .i1⟩
  | 105 => ⟨S_, .f32⟩
  | 106 => ⟨S33x2x4x128x1, .f32⟩
  | 107 => ⟨S_, .f32⟩
  | 108 => ⟨S33x2x4x128x1, .f32⟩
  | 109 => ⟨S_, .f32⟩
  | 110 => ⟨S33x2x4x128x1, .f32⟩
  | 111 => ⟨S33x2x4x128x1, .f32⟩
  | 112 => ⟨S33x2x4x128x1, .f32⟩
  | 113 => ⟨S33x2x4x128x256, .f32⟩
  | 114 => ⟨S33x2x4x128x256, .f32⟩
  | 115 => ⟨S33x2x4x128x256, .f32⟩
  | 116 => ⟨S_, .f32⟩
  | 117 => ⟨S33x2x4x128, .f32⟩
  | 118 => ⟨S33x2x4x128x1, .f32⟩
  | 119 => ⟨S33x2x4x128x1, .f32⟩
  | 120 => ⟨S33x2x4x128x1, .f32⟩
  | 121 => ⟨S33x2x4x128x1, .f32⟩
  | 122 => ⟨S33x2x4x128x1, .f32⟩
  | 123 => ⟨S33x2x4x128x256, .f32⟩
  | 124 => ⟨S33x2x4x128x256, .f32⟩
  | 125 => ⟨S33x2x4x128x1, .f32⟩
  | 126 => ⟨S_, .f32⟩
  | 127 => ⟨S33x2x4x128x1, .f32⟩
  | _ => ⟨S4224x512, .f32⟩

abbrev hbmTy0_1 (i : Nat) : BufTy := match i % 128 with
  | 0 => ⟨S33x2x4x128x1, .f32⟩
  | 1 => ⟨S33x2x64x4x128, .f32⟩
  | 2 => ⟨S33x128x2x4x64, .f32⟩
  | 3 => ⟨S4224x512, .f32⟩
  | 4 => ⟨S33x128x2x4x64, .f32⟩
  | 5 => ⟨S33x2x64x4x128, .f32⟩
  | 6 => ⟨S33x2x4x128x256, .f32⟩
  | 7 => ⟨S33x2x64x256, .f32⟩
  | 8 => ⟨S33x256x2x64, .f32⟩
  | 9 => ⟨S33x2x4x128x256, .f32⟩
  | 10 => ⟨S33x2x4x128x256, .f32⟩
  | 11 => ⟨S33x2x4x128x256, .f32⟩
  | 12 => ⟨S_, .f32⟩
  | 13 => ⟨S33x2x4x128, .f32⟩
  | 14 => ⟨S33x2x4x128x1, .f32⟩
  | 15 => ⟨S33x2x4x128x1, .f32⟩
  | 16 => ⟨S33x2x4x128x256, .f32⟩
  | 17 => ⟨S33x2x4x128x256, .f32⟩
  | 18 => ⟨S33x2x4x128x1, .f32⟩
  | 19 => ⟨S_, .f32⟩
  | 20 => ⟨S2x4x1, .f32⟩
  | 21 => ⟨S1x2x4x1x1, .f32⟩
  | 22 => ⟨S33x2x4x128x1, .f32⟩
  | 23 => ⟨S_, .f32⟩
  | 24 => ⟨S33x2x4x128, .f32⟩
  | 25 => ⟨S33x2x4x128x256, .f32⟩
  | 26 => ⟨S33x2x4x128x256, .f32⟩
  | 27 => ⟨S33x2x4x128x256, .f32⟩
  | 28 => ⟨S33x2x4x128x256, .f32⟩
  | 29 => ⟨S_, .f32⟩
  | 30 => ⟨S33x2x4x128, .f32⟩
  | 31 => ⟨S33x2x4x128x1, .f32⟩
  | 32 => ⟨S33x2x4x128x1, .f32⟩
  | 33 => ⟨S33x2x4x128x1, .f32⟩
  | 34 => ⟨S_, .f32⟩
  | 35 => ⟨S2x4x1, .f32⟩
  | 36 => ⟨S1x2x4x1x1, .f32⟩
  | 37 => ⟨S1x2x4x1x1, .f32⟩
  | 38 => ⟨S33x2x4x128x1, .f32⟩
  | 39 => ⟨S_, .f32⟩
  | 40 => ⟨S33x2x4x128, .f32⟩
  | 41 => ⟨S33x2x4x128, .f32⟩
  | 42 => ⟨S33x2x4x128x256, .f32⟩
  | 43 => ⟨S33x2x4x128x256, .f32⟩
  | 44 => ⟨S33x2x4x128x256, .f32⟩
  | 45 => ⟨S_, .f32⟩
  | 46 => ⟨S2x4, .f32⟩
  | 47 => ⟨S8, .f32⟩
  | 48 => ⟨S_, .f32⟩
  | 49 => ⟨S33x2x4x128x256, .f32⟩
  | 50 => ⟨S33x2x4x128x256, .f32⟩
  | 51 => ⟨S_, .f32⟩
  | 52 => ⟨S2x4x128x256, .f32⟩
  | 53 => ⟨S1x2x4x128x256, .f32⟩
  | 54 => ⟨S_, .f32⟩
  | 55 => ⟨S2x4x128x256, .f32⟩
  | 56 => ⟨S8x128x256, .f32⟩
  | 57 => ⟨S_, .f32⟩
  | 58 => ⟨S33x2x4x128x256, .f32⟩
  | 59 => ⟨S33x2x4x128x256, .f32⟩
  | 60 => ⟨S33x2x256x128x4, .f32⟩
  | 61 => ⟨S33x2x128x4x64, .f32⟩
  | 62 => ⟨S33x128x2x4x64, .f32⟩
  | 63 => ⟨S33x2x256x64, .f32⟩
  | 64 => ⟨S33x256x2x64, .f32⟩
  | 65 => ⟨S33x256x128, .f32⟩
  | 66 => ⟨S33x256x128, .f32⟩
  | 67 => ⟨S4224x512, .f32⟩
  | 68 => ⟨S_, .f32⟩
  | 69 => ⟨S120, .f32⟩
  | 70 => ⟨S128, .f32⟩
  | 71 => ⟨S1x128, .f32⟩
  | 72 => ⟨S4224x512, .bf16⟩
  | 73 => ⟨S8x128x256, .f32⟩
  | _ => ⟨S4224x512, .f32⟩

abbrev hbmTy (i : Nat) : BufTy := match i / 128 with
  | 0 => hbmTy0_0 i
  | 1 => hbmTy0_1 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_call2_v0 : Ref sig .tc := ⟨.hbm, 70, rfl⟩
abbrev main_v51_1 : Ref sig .tc := ⟨.hbm, 71, rfl⟩
abbrev main_call2_v2 : Ref sig .tc := ⟨.hbm, 72, rfl⟩
abbrev main_v51_0 : Ref sig .tc := ⟨.hbm, 73, rfl⟩
abbrev main_call2_cst : Ref sig .tc := ⟨.hbm, 74, rfl⟩
abbrev main_v51_2 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_18 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_19 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_20 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_21 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_22 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_23 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_24 : Ref sig .tc := ⟨.hbm, 173, rfl⟩
abbrev main_v133 : Ref sig .tc := ⟨.hbm, 174, rfl⟩
abbrev main_v134 : Ref sig .tc := ⟨.hbm, 175, rfl⟩
abbrev main_call3_cst : Ref sig .tc := ⟨.hbm, 176, rfl⟩
abbrev main_call3_v0 : Ref sig .tc := ⟨.hbm, 177, rfl⟩
abbrev main_v135 : Ref sig .tc := ⟨.hbm, 178, rfl⟩
abbrev main_cst_25 : Ref sig .tc := ⟨.hbm, 179, rfl⟩
abbrev main_v136 : Ref sig .tc := ⟨.hbm, 180, rfl⟩
abbrev main_v137 : Ref sig .tc := ⟨.hbm, 181, rfl⟩
abbrev main_cst_26 : Ref sig .tc := ⟨.hbm, 182, rfl⟩
abbrev main_v138 : Ref sig .tc := ⟨.hbm, 183, rfl⟩
abbrev main_v139 : Ref sig .tc := ⟨.hbm, 184, rfl⟩
abbrev main_cst_27 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_28 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩

abbrev nD : Nat := 1
abbrev τ : Topo := Topo.v7x

variable {F : FTy → Type} [FloatOps F]

def κ : String → Option EReal := fun
  | "mask" => some ⊥
  | _ => none
-- ==== InDx.lean ====
abbrev S4224x6656 : Shape := ⟨2, ![4224, 6656]⟩
abbrev S1024x6656 : Shape := ⟨2, ![1024, 6656]⟩
abbrev S4224x1024 : Shape := ⟨2, ![4224, 1024]⟩
abbrev S1408x3328 : Shape := ⟨2, ![1408, 3328]⟩
abbrev S512x3328 : Shape := ⟨2, ![512, 3328]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x6656, .bf16⟩
  | .hbm, ⟨1, _⟩ => ⟨S1024x6656, .bf16⟩
  | .hbm, ⟨2, _⟩ => ⟨S4224x1024, .f32⟩
  | .local _ .vmem, ⟨0, _⟩ => ⟨S1408x3328, .bf16⟩
  | .local _ .vmem, ⟨1, _⟩ => ⟨S1408x3328, .bf16⟩
  | .local _ .vmem, ⟨2, _⟩ => ⟨S512x3328, .bf16⟩
  | .local _ .vmem, ⟨3, _⟩ => ⟨S512x3328, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4224x6656 : Shape := ⟨2, ![4224, 6656]⟩
abbrev S1024x6656 : Shape := ⟨2, ![1024, 6656]⟩
abbrev S_ : Shape := ⟨0, ![]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x6656, .bf16⟩
  | .hbm, ⟨1, _⟩ => ⟨S1024x6656, .bf16⟩
  | .hbm, ⟨2, _⟩ => ⟨S1024x6656, .f32⟩
  | .hbm, ⟨3, _⟩ => ⟨S_, .f32⟩
  | .hbm, ⟨4, _⟩ => ⟨S4224x1024, .f32⟩
  | .hbm, ⟨5, _⟩ => ⟨S4224x6656, .f32⟩
  | .hbm, ⟨6, _⟩ => ⟨S4224x6656, .f32⟩
  | .hbm, ⟨7, _⟩ => ⟨S4224x1024, .f32⟩
  | _, _ => ⟨S4224x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4224x1024 : Shape := ⟨2, ![4224, 1024]⟩
abbrev S4224x6656 : Shape := ⟨2, ![4224, 6656]⟩
abbrev S1024x4224 : Shape := ⟨2, ![1024, 4224]⟩
abbrev S1024x6656 : Shape := ⟨2, ![1024, 6656]⟩
abbrev S1024x1408 : Shape := ⟨2, ![1024, 1408]⟩
abbrev S1408x1664 : Shape := ⟨2, ![1408, 1664]⟩
abbrev S1024x1664 : Shape := ⟨2, ![1024, 1664]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x6656, .bf16⟩
  | .hbm, ⟨2, _⟩ => ⟨S1024x4224, .bf16⟩
  | .hbm, ⟨3, _⟩ => ⟨S1024x6656, .f32⟩
  | .local _ .vmem, ⟨0, _⟩ => ⟨S1024x1408, .bf16⟩
  | .local _ .vmem, ⟨1, _⟩ => ⟨S1024x1408, .bf16⟩
  | .local _ .vmem, ⟨2, _⟩ => ⟨S1408x1664, .bf16⟩
  | .local _ .vmem, ⟨3, _⟩ => ⟨S1408x1664, .bf16⟩
  | .local _ .vmem, ⟨4, _⟩ => ⟨S1024x1664, .f32⟩
  | .local _ .vmem, ⟨5, _⟩ => ⟨S1024x1664, .f32⟩
  | .local _ .vmem, ⟨6, _⟩ => ⟨S1024x1664, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4224x1024 : Shape := ⟨2, ![4224, 1024]⟩
abbrev S4224x6656 : Shape := ⟨2, ![4224, 6656]⟩
abbrev S_ : Shape := ⟨0, ![]⟩
abbrev S1024x6656 : Shape := ⟨2, ![1024, 6656]⟩
abbrev S6656x1024 : Shape := ⟨2, ![6656, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x6656, .bf16⟩
  | .hbm, ⟨2, _⟩ => ⟨S4224x1024, .f32⟩
  | .hbm, ⟨3, _⟩ => ⟨S_, .f32⟩
  | .hbm, ⟨4, _⟩ => ⟨S1024x6656, .f32⟩
  | .hbm, ⟨5, _⟩ => ⟨S4224x6656, .f32⟩
  | .hbm, ⟨6, _⟩ => ⟨S4224x6656, .f32⟩
  | .hbm, ⟨7, _⟩ => ⟨S6656x1024, .f32⟩
  | .hbm, ⟨8, _⟩ => ⟨S1024x6656, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutDw.lean ====
abbrev S4224x2816 : Shape := ⟨2, ![4224, 2816]⟩
abbrev S4224x1024 : Shape := ⟨2, ![4224, 1024]⟩
abbrev S2816x4224 : Shape := ⟨2, ![2816, 4224]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x4224, .bf16⟩
  | .hbm, ⟨3, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S4224x2816, .f32⟩
  | .hbm, ⟨3, _⟩ => ⟨S_, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S1024x2816, .f32⟩
  | .hbm, ⟨8, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4224x1024 : Shape := ⟨2, ![4224, 1024]⟩
abbrev S1024x4224 : Shape := ⟨2, ![1024, 4224]⟩
abbrev S1024x1024 : Shape := ⟨2, ![1024, 1024]⟩
abbrev S1024x1408 : Shape := ⟨2, ![1024, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x4224, .bf16⟩
  | .hbm, ⟨3, _⟩ => ⟨S1024x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S_, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDw.lean ====
abbrev S4224x1024 : Shape := ⟨2, ![4224, 1024]⟩
abbrev S4224x2816 : Shape := ⟨2, ![4224, 2816]⟩
abbrev S1x1024x5632 : Shape := ⟨3, ![1, 1024, 5632]⟩
abbrev S1024x4224 : Shape := ⟨2, ![1024, 4224]⟩
abbrev S1024x1408 : Shape := ⟨2, ![1024, 1408]⟩
abbrev S1408x1408 : Shape := ⟨2, ![1408, 1408]⟩
abbrev S1x1024x1408 : Shape := ⟨3, ![1, 1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S1x1024x5632, .f32⟩
  | .hbm, ⟨3, _⟩ => ⟨S1024x4224, .bf16⟩
  | .hbm, ⟨4, _⟩ => ⟨S1x1024x5632, .f32⟩
  | .local _ .vmem, ⟨0, _⟩ => ⟨S1024x1408, .bf16⟩
  | .local _ .vmem, ⟨1, _⟩ => ⟨S1024x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4224x1024 : Shape := ⟨2, ![4224, 1024]⟩
abbrev S4224x2816 : Shape := ⟨2, ![4224, 2816]⟩
abbrev S1x1024x5632 : Shape := ⟨3, ![1, 1024, 5632]⟩
abbrev S_ : Shape := ⟨0, ![]⟩
abbrev S1024x2816 : Shape := ⟨2, ![1024, 2816]⟩
abbrev S2816x1024 : Shape := ⟨2, ![2816, 1024]⟩
abbrev S1x1024x2816 : Shape := ⟨3, ![1, 1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S1x1024x5632, .f32⟩
  | .hbm, ⟨3, _⟩ => ⟨S4224x1024, .f32⟩
  | .hbm, ⟨4, _⟩ => ⟨S_, .f32⟩
  | .hbm, ⟨5, _⟩ => ⟨S1024x2816, .f32⟩
  | .hbm, ⟨6, _⟩ => ⟨S4224x2816, .f32⟩
  | .hbm, ⟨7, _⟩ => ⟨S4224x2816, .f32⟩
  | .hbm, ⟨8, _⟩ => ⟨S2816x1024, .f32⟩
  | .hbm, ⟨9, _⟩ => ⟨S1024x2816, .f32⟩
  | .hbm, ⟨10, _⟩ => ⟨S1x1024x2816, .f32⟩
  | .hbm, ⟨11, _⟩ => ⟨S1x1024x2816, .f32⟩
  | .hbm, ⟨12, _⟩ => ⟨S1x1024x5632, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnInDxGate.lean ====
abbrev S4224x2816 : Shape := ⟨2, ![4224, 2816]⟩
abbrev S1024x5632 : Shape := ⟨2, ![1024, 5632]⟩
abbrev S4224x1024 : Shape := ⟨2, ![4224, 1024]⟩
abbrev S1408x2816 : Shape := ⟨2, ![1408, 2816]⟩
abbrev S512x2816 : Shape := ⟨2, ![512, 2816]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S4224x1024, .f32⟩
  | .local _ .vmem, ⟨0, _⟩ => ⟨S1408x2816, .bf16⟩
  | .local _ .vmem, ⟨1, _⟩ => ⟨S1408x2816, .bf16⟩
  | .local _ .vmem, ⟨2, _⟩ => ⟨S512x2816, .bf16⟩
  | .local _ .vmem, ⟨3, _⟩ => ⟨S512x2816, .bf16⟩
  | .local _ .vmem, ⟨4, _⟩ => ⟨S1408x512, .f32⟩
  | .local _ .vmem, ⟨5, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxGateRefIdeal.lean ====
abbrev S4224x2816 : Shape := ⟨2, ![4224, 2816]⟩
abbrev S1024x5632 : Shape := ⟨2, ![1024, 5632]⟩
abbrev S_ : Shape := ⟨0, ![]⟩
abbrev S4224x1024 : Shape := ⟨2, ![4224, 1024]⟩
abbrev S4224x5632 : Shape := ⟨2, ![4224, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S1024x5632, .f32⟩
  | .hbm, ⟨3, _⟩ => ⟨S_, .f32⟩
  | .hbm, ⟨4, _⟩ => ⟨S4224x1024, .f32⟩
  | .hbm, ⟨5, _⟩ => ⟨S4224x2816, .f32⟩
  | .hbm, ⟨6, _⟩ => ⟨S4224x5632, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x5632, .f32⟩
  | .hbm, ⟨12, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnInDxUp.lean ====
abbrev S4224x2816 : Shape := ⟨2, ![4224, 2816]⟩
abbrev S1024x5632 : Shape := ⟨2, ![1024, 5632]⟩
abbrev S4224x1024 : Shape := ⟨2, ![4224, 1024]⟩
abbrev S1408x2816 : Shape := ⟨2, ![1408, 2816]⟩
abbrev S512x2816 : Shape := ⟨2, ![512, 2816]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S4224x1024, .f32⟩
  | .hbm, ⟨3, _⟩ => ⟨S4224x1024, .f32⟩
  | .local _ .vmem, ⟨0, _⟩ => ⟨S1408x2816, .bf16⟩
  | .local _ .vmem, ⟨1, _⟩ => ⟨S1408x2816, .bf16⟩
  | .local _ .vmem, ⟨2, _⟩ => ⟨S512x2816, .bf16⟩
  | .local _ .vmem, ⟨3, _⟩ => ⟨S512x2816, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDxUpRefIdeal.lean ====
abbrev S4224x2816 : Shape := ⟨2, ![4224, 2816]⟩
abbrev S1024x5632 : Shape := ⟨2, ![1024, 5632]⟩
abbrev S4224x1024 : Shape := ⟨2, ![4224, 1024]⟩
abbrev S_ : Shape := ⟨0, ![]⟩
abbrev S4224x5632 : Shape := ⟨2, ![4224, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S_, .f32⟩
  | .hbm, ⟨5, _⟩ => ⟨S4224x1024, .f32⟩
  | .hbm, ⟨6, _⟩ => ⟨S4224x2816, .f32⟩
  | .hbm, ⟨7, _⟩ => ⟨S4224x5632, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x5632, .f32⟩
  | .hbm, ⟨13, _⟩ => ⟨S4224x1024, .f32⟩
  | .hbm, ⟨14, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== BranchDx.lean ====
abbrev S4224x1024 : Shape := ⟨2, ![4224, 1024]⟩
abbrev S512x1024 : Shape := ⟨2, ![512, 1024]⟩
abbrev S4224x512 : Shape := ⟨2, ![4224, 512]⟩
abbrev S1408x1024 : Shape := ⟨2, ![1408, 1024]⟩
abbrev S1408x512 : Shape := ⟨2, ![1408, 512]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S512x1024, .bf16⟩
  | .hbm, ⟨2, _⟩ => ⟨S4224x512, .bf16⟩
  | .local _ .vmem, ⟨0, _⟩ => ⟨S1408x1024, .bf16⟩
  | .local _ .vmem, ⟨1, _⟩ => ⟨S1408x1024, .bf16⟩
  | .local _ .vmem, ⟨2, _⟩ => ⟨S512x1024, .bf16⟩
  | .local _ .vmem, ⟨3, _⟩ => ⟨S1408x512, .bf16⟩
  | .local _ .vmem, ⟨4, _⟩ => ⟨S1408x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4224x1024 : Shape := ⟨2, ![4224, 1024]⟩
abbrev S512x1024 : Shape := ⟨2, ![512, 1024]⟩
abbrev S_ : Shape := ⟨0, ![]⟩
abbrev S4224x512 : Shape := ⟨2, ![4224, 512]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S4224x512, .f32⟩
  | .hbm, ⟨5, _⟩ => ⟨S4224x1024, .f32⟩
  | .hbm, ⟨6, _⟩ => ⟨S4224x1024, .f32⟩
  | .hbm, ⟨7, _⟩ => ⟨S4224x512, .f32⟩
  | .hbm, ⟨8, _⟩ => ⟨S4224x512, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDwGate.lean ====
abbrev S4224x1024 : Shape := ⟨2, ![4224, 1024]⟩
abbrev S4224x2816 : Shape := ⟨2, ![4224, 2816]⟩
abbrev S1024x4224 : Shape := ⟨2, ![1024, 4224]⟩
abbrev S1x1024x5632 : Shape := ⟨3, ![1, 1024, 5632]⟩
abbrev S1024x1408 : Shape := ⟨2, ![1024, 1408]⟩
abbrev S1408x1408 : Shape := ⟨2, ![1408, 1408]⟩
abbrev S1x1024x1408 : Shape := ⟨3, ![1, 1024, 1408]⟩
abbrev S1x1024x2816 : Shape := ⟨3, ![1, 1024, 2816]⟩
abbrev S1024x2816 : Shape := ⟨2, ![1024, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S1024x4224, .bf16⟩
  | .hbm, ⟨3, _⟩ => ⟨S1x1024x5632, .f32⟩
  | .hbm, ⟨4, _⟩ => ⟨S1x1024x2816, .f32⟩
  | .hbm, ⟨5, _⟩ => ⟨S1024x2816, .f32⟩
  | .local _ .vmem, ⟨0, _⟩ => ⟨S1024x1408, .bf16⟩
  | .local _ .vmem, ⟨1, _⟩ => ⟨S1024x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwGateRefIdeal.lean ====
abbrev S4224x1024 : Shape := ⟨2, ![4224, 1024]⟩
abbrev S4224x2816 : Shape := ⟨2, ![4224, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S4224x1024, .f32⟩
  | .hbm, ⟨3, _⟩ => ⟨S_, .f32⟩
  | .hbm, ⟨4, _⟩ => ⟨S1024x2816, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDwFirst.lean ====
abbrev S4224x512 : Shape := ⟨2, ![4224, 512]⟩
abbrev S4224x1024 : Shape := ⟨2, ![4224, 1024]⟩
abbrev S512x4224 : Shape := ⟨2, ![512, 4224]⟩
abbrev S3x512x1024 : Shape := ⟨3, ![3, 512, 1024]⟩
abbrev S512x1408 : Shape := ⟨2, ![512, 1408]⟩
abbrev S1408x1024 : Shape := ⟨2, ![1408, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S512x4224, .bf16⟩
  | .hbm, ⟨3, _⟩ => ⟨S3x512x1024, .f32⟩
  | .hbm, ⟨4, _⟩ => ⟨S1x512x1024, .f32⟩
  | .hbm, ⟨5, _⟩ => ⟨S512x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1x512x1024, .f32⟩
  | .local _ .vmem, ⟨5, _⟩ => ⟨S512x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwFirstRefIdeal.lean ====
abbrev S4224x512 : Shape := ⟨2, ![4224, 512]⟩
abbrev S4224x1024 : Shape := ⟨2, ![4224, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S4224x512, .f32⟩
  | .hbm, ⟨3, _⟩ => ⟨S_, .f32⟩
  | .hbm, ⟨4, _⟩ => ⟨S512x1024, .f32⟩
  | .hbm, ⟨5, _⟩ => ⟨S4224x1024, .f32⟩
  | .hbm, ⟨6, _⟩ => ⟨S4224x1024, .f32⟩
  | .hbm, ⟨7, _⟩ => ⟨S1024x512, .f32⟩
  | .hbm, ⟨8, _⟩ => ⟨S512x1024, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDwSecond.lean ====
abbrev S4224x512 : Shape := ⟨2, ![4224, 512]⟩
abbrev S4224x1024 : Shape := ⟨2, ![4224, 1024]⟩
abbrev S3x512x1024 : Shape := ⟨3, ![3, 512, 1024]⟩
abbrev S512x4224 : Shape := ⟨2, ![512, 4224]⟩
abbrev S512x1408 : Shape := ⟨2, ![512, 1408]⟩
abbrev S1408x1024 : Shape := ⟨2, ![1408, 1024]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S3x512x1024, .f32⟩
  | .hbm, ⟨3, _⟩ => ⟨S512x4224, .bf16⟩
  | .hbm, ⟨4, _⟩ => ⟨S3x512x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1x512x1024, .f32⟩
  | .local _ .vmem, ⟨5, _⟩ => ⟨S512x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg0.toNat, v0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwSecondRefIdeal.lean ====
abbrev S4224x512 : Shape := ⟨2, ![4224, 512]⟩
abbrev S4224x1024 : Shape := ⟨2, ![4224, 1024]⟩
abbrev S3x512x1024 : Shape := ⟨3, ![3, 512, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S3x512x1024, .f32⟩
  | .hbm, ⟨3, _⟩ => ⟨S4224x512, .f32⟩
  | .hbm, ⟨4, _⟩ => ⟨S_, .f32⟩
  | .hbm, ⟨5, _⟩ => ⟨S512x1024, .f32⟩
  | .hbm, ⟨6, _⟩ => ⟨S4224x1024, .f32⟩
  | .hbm, ⟨7, _⟩ => ⟨S4224x1024, .f32⟩
  | .hbm, ⟨8, _⟩ => ⟨S1024x512, .f32⟩
  | .hbm, ⟨9, _⟩ => ⟨S512x1024, .f32⟩
  | .hbm, ⟨10, _⟩ => ⟨S1x512x1024, .f32⟩
  | .hbm, ⟨11, _⟩ => ⟨S1x512x1024, .f32⟩
  | .hbm, ⟨12, _⟩ => ⟨S1x512x1024, .f32⟩
  | .hbm, ⟨13, _⟩ => ⟨S3x512x1024, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== BranchDwThird.lean ====
abbrev S4224x512 : Shape := ⟨2, ![4224, 512]⟩
abbrev S4224x1024 : Shape := ⟨2, ![4224, 1024]⟩
abbrev S3x512x1024 : Shape := ⟨3, ![3, 512, 1024]⟩
abbrev S512x4224 : Shape := ⟨2, ![512, 4224]⟩
abbrev S512x1408 : Shape := ⟨2, ![512, 1408]⟩
abbrev S1408x1024 : Shape := ⟨2, ![1408, 1024]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S3x512x1024, .f32⟩
  | .hbm, ⟨3, _⟩ => ⟨S512x4224, .bf16⟩
  | .hbm, ⟨4, _⟩ => ⟨S3x512x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1x512x1024, .f32⟩
  | .local _ .vmem, ⟨5, _⟩ => ⟨S512x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let c0_i32_0 : BitVec 32 := 0#32
  ![c2_i32.toNat, arg0.toNat, v0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwThirdRefIdeal.lean ====
abbrev S4224x512 : Shape := ⟨2, ![4224, 512]⟩
abbrev S4224x1024 : Shape := ⟨2, ![4224, 1024]⟩
abbrev S3x512x1024 : Shape := ⟨3, ![3, 512, 1024]⟩
abbrev S_ : Shape := ⟨0, ![]⟩
abbrev S512x1024 : Shape := ⟨2, ![512, 1024]⟩
abbrev S1024x512 : Shape := ⟨2, ![1024, 512]⟩
abbrev S2x512x1024 : Shape := ⟨3, ![2, 512, 1024]⟩
abbrev S1x512x1024 : Shape := ⟨3, ![1, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S3x512x1024, .f32⟩
  | .hbm, ⟨3, _⟩ => ⟨S4224x512, .f32⟩
  | .hbm, ⟨4, _⟩ => ⟨S_, .f32⟩
  | .hbm, ⟨5, _⟩ => ⟨S512x1024, .f32⟩
  | .hbm, ⟨6, _⟩ => ⟨S4224x1024, .f32⟩
  | .hbm, ⟨7, _⟩ => ⟨S4224x1024, .f32⟩
  | .hbm, ⟨8, _⟩ => ⟨S1024x512, .f32⟩
  | .hbm, ⟨9, _⟩ => ⟨S512x1024, .f32⟩
  | .hbm, ⟨10, _⟩ => ⟨S2x512x1024, .f32⟩
  | .hbm, ⟨11, _⟩ => ⟨S1x512x1024, .f32⟩
  | .hbm, ⟨12, _⟩ => ⟨S3x512x1024, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutDxMerge.lean ====
abbrev S4224x1024 : Shape := ⟨2, ![4224, 1024]⟩
abbrev S1024x1024 : Shape := ⟨2, ![1024, 1024]⟩
abbrev S4224x6656 : Shape := ⟨2, ![4224, 6656]⟩
abbrev S384x1024 : Shape := ⟨2, ![384, 1024]⟩
abbrev S512x1024 : Shape := ⟨2, ![512, 1024]⟩
abbrev S384x512 : Shape := ⟨2, ![384, 512]⟩

abbrev nBuf : Space → Nat
  | .hbm => 12
  | .vmem => 28
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x6656, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .bf16⟩
  | .hbm, ⟨7, _⟩ => ⟨S4224x1024, .bf16⟩
  | .hbm, ⟨8, _⟩ => ⟨S4224x1024, .bf16⟩
  | .hbm, ⟨9, _⟩ => ⟨S4224x1024, .bf16⟩
  | .hbm, ⟨10, _⟩ => ⟨S4224x1024, .bf16⟩
  | .hbm, ⟨11, _⟩ => ⟨S4224x1024, .bf16⟩
  | .local _ .vmem, ⟨0, _⟩ => ⟨S384x1024, .bf16⟩
  | .local _ .vmem, ⟨1, _⟩ => ⟨S384x1024, .bf16⟩
  | .local _ .vmem, ⟨2, _⟩ => ⟨S512x1024, .bf16⟩
  | .local _ .vmem, ⟨3, _⟩ => ⟨S512x1024, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x512, .bf16⟩
  | .local _ .vmem, ⟨17, _⟩ => ⟨S384x512, .bf16⟩
  | .local _ .vmem, ⟨18, _⟩ => ⟨S384x512, .bf16⟩
  | .local _ .vmem, ⟨19, _⟩ => ⟨S384x512, .bf16⟩
  | .local _ .vmem, ⟨20, _⟩ => ⟨S384x512, .bf16⟩
  | .local _ .vmem, ⟨21, _⟩ => ⟨S384x512, .bf16⟩
  | .local _ .vmem, ⟨22, _⟩ => ⟨S384x512, .bf16⟩
  | .local _ .vmem, ⟨23, _⟩ => ⟨S384x512, .bf16⟩
  | .local _ .vmem, ⟨24, _⟩ => ⟨S384x512, .bf16⟩
  | .local _ .vmem, ⟨25, _⟩ => ⟨S384x512, .bf16⟩
  | .local _ .vmem, ⟨26, _⟩ => ⟨S384x512, .bf16⟩
  | .local _ .vmem, ⟨27, _⟩ => ⟨S384x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S384x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S384x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OutDxMergeRefIdeal.lean ====
abbrev S4224x1024 : Shape := ⟨2, ![4224, 1024]⟩
abbrev S1024x1024 : Shape := ⟨2, ![1024, 1024]⟩
abbrev S4224x6656 : Shape := ⟨2, ![4224, 6656]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x6656, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S_, .f32⟩
  | .hbm, ⟨16, _⟩ => ⟨S4224x1024, .f32⟩
  | .hbm, ⟨17, _⟩ => ⟨S4224x1024, .f32⟩
  | .hbm, ⟨18, _⟩ => ⟨S_, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S_, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224x1024, .f32⟩
  | .hbm, ⟨30, _⟩ => ⟨S4224x1024, .f32⟩
  | .hbm, ⟨31, _⟩ => ⟨S_, .f32⟩
  | .hbm, ⟨32, _⟩ => ⟨S4224x1024, .f32⟩
  | .hbm, ⟨33, _⟩ => ⟨S4224x1024, .f32⟩
  | .hbm, ⟨34, _⟩ => ⟨S_, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S4224x1024, .f32⟩
  | .hbm, ⟨44, _⟩ => ⟨S4224x1024, .f32⟩
  | .hbm, ⟨45, _⟩ => ⟨S_, .f32⟩
  | .hbm, ⟨46, _⟩ => ⟨S4224x1024, .f32⟩
  | .hbm, ⟨47, _⟩ => ⟨S4224x1024, .f32⟩
  | .hbm, ⟨48, _⟩ => ⟨S_, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S4224x1024, .f32⟩
  | .hbm, ⟨62, _⟩ => ⟨S4224x1024, .f32⟩
  | .hbm, ⟨63, _⟩ => ⟨S4224x1024, .f32⟩
  | .hbm, ⟨64, _⟩ => ⟨S4224x1024, .f32⟩
  | .hbm, ⟨65, _⟩ => ⟨S4224x1024, .f32⟩
  | .hbm, ⟨66, _⟩ => ⟨S4224x1024, .bf16⟩
  | .hbm, ⟨67, _⟩ => ⟨S4224x1024, .bf16⟩
  | .hbm, ⟨68, _⟩ => ⟨S4224x1024, .bf16⟩
  | .hbm, ⟨69, _⟩ => ⟨S4224x1024, .bf16⟩
  | .hbm, ⟨70, _⟩ => ⟨S4224x1024, .bf16⟩
  | .hbm, ⟨71, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== InFwd.lean ====
abbrev S4224x1024 : Shape := ⟨2, ![4224, 1024]⟩
abbrev S1024x6656 : Shape := ⟨2, ![1024, 6656]⟩
abbrev S4224x6656 : Shape := ⟨2, ![4224, 6656]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x6656, .bf16⟩
  | .hbm, ⟨2, _⟩ => ⟨S4224x6656, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4224x1024 : Shape := ⟨2, ![4224, 1024]⟩
abbrev S1024x6656 : Shape := ⟨2, ![1024, 6656]⟩
abbrev S4224x6656 : Shape := ⟨2, ![4224, 6656]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x6656, .bf16⟩
  | .hbm, ⟨2, _⟩ => ⟨S4224x1024, .f32⟩
  | .hbm, ⟨3, _⟩ => ⟨S1024x6656, .f32⟩
  | .hbm, ⟨4, _⟩ => ⟨S4224x6656, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S4224x1024 : Shape := ⟨2, ![4224, 1024]⟩
abbrev S1024x1024 : Shape := ⟨2, ![1024, 1024]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutFwd.lean ====
abbrev S4224x2816 : Shape := ⟨2, ![4224, 2816]⟩
abbrev S2816x1024 : Shape := ⟨2, ![2816, 1024]⟩
abbrev S4224x1024 : Shape := ⟨2, ![4224, 1024]⟩
abbrev S1408x2816 : Shape := ⟨2, ![1408, 2816]⟩
abbrev S2816x512 : Shape := ⟨2, ![2816, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S1408x2816, .bf16⟩
  | .local _ .vmem, ⟨1, _⟩ => ⟨S1408x2816, .bf16⟩
  | .local _ .vmem, ⟨2, _⟩ => ⟨S2816x512, .bf16⟩
  | .local _ .vmem, ⟨3, _⟩ => ⟨S2816x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutFwdRefIdeal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SwigluFwd.lean ====
abbrev S4224x1024 : Shape := ⟨2, ![4224, 1024]⟩
abbrev S1024x5632 : Shape := ⟨2, ![1024, 5632]⟩
abbrev S4224x2816 : Shape := ⟨2, ![4224, 2816]⟩
abbrev S2816x4224 : Shape := ⟨2, ![2816, 4224]⟩
abbrev S384x1024 : Shape := ⟨2, ![384, 1024]⟩
abbrev S1024x1408 : Shape := ⟨2, ![1024, 1408]⟩
abbrev S384x1408 : Shape := ⟨2, ![384, 1408]⟩
abbrev S1408x384 : Shape := ⟨2, ![1408, 384]⟩

abbrev nBuf : Space → Nat
  | .hbm => 6
  | .vmem => 14
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x2816, .f32⟩
  | .hbm, ⟨3, _⟩ => ⟨S4224x2816, .f32⟩
  | .hbm, ⟨4, _⟩ => ⟨S4224x2816, .bf16⟩
  | .hbm, ⟨5, _⟩ => ⟨S2816x4224, .bf16⟩
  | .local _ .vmem, ⟨0, _⟩ => ⟨S384x1024, .bf16⟩
  | .local _ .vmem, ⟨1, _⟩ => ⟨S384x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S384x1408, .f32⟩
  | .local _ .vmem, ⟨7, _⟩ => ⟨S384x1408, .f32⟩
  | .local _ .vmem, ⟨8, _⟩ => ⟨S384x1408, .f32⟩
  | .local _ .vmem, ⟨9, _⟩ => ⟨S384x1408, .f32⟩
  | .local _ .vmem, ⟨10, _⟩ => ⟨S384x1408, .bf16⟩
  | .local _ .vmem, ⟨11, _⟩ => ⟨S384x1408, .bf16⟩
  | .local _ .vmem, ⟨12, _⟩ => ⟨S1408x384, .bf16⟩
  | .local _ .vmem, ⟨13, _⟩ => ⟨S1408x384, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwigluFwdRefIdeal.lean ====
abbrev S4224x1024 : Shape := ⟨2, ![4224, 1024]⟩
abbrev S1024x5632 : Shape := ⟨2, ![1024, 5632]⟩
abbrev S4224x5632 : Shape := ⟨2, ![4224, 5632]⟩
abbrev S4224x2816 : Shape := ⟨2, ![4224, 2816]⟩
abbrev S_ : Shape := ⟨0, ![]⟩
abbrev S2816x4224 : Shape := ⟨2, ![2816, 4224]⟩

abbrev nBuf : Space → Nat
  | .hbm => 19
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S4224x5632, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .bf16⟩
  | .hbm, ⟨18, _⟩ => ⟨S2816x4224, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== BranchFwd.lean ====
abbrev S4224x512 : Shape := ⟨2, ![4224, 512]⟩
abbrev S3x512x1024 : Shape := ⟨3, ![3, 512, 1024]⟩
abbrev S4224x6656 : Shape := ⟨2, ![4224, 6656]⟩
abbrev S4224x1024 : Shape := ⟨2, ![4224, 1024]⟩
abbrev S1024x4224 : Shape := ⟨2, ![1024, 4224]⟩
abbrev S384x512 : Shape := ⟨2, ![384, 512]⟩
abbrev S3x512x512 : Shape := ⟨3, ![3, 512, 512]⟩
abbrev S512x384 : Shape := ⟨2, ![512, 384]⟩
abbrev S1x512x512 : Shape := ⟨3, ![1, 512, 512]⟩
abbrev S512x512 : Shape := ⟨2, ![512, 512]⟩

abbrev nBuf : Space → Nat
  | .hbm => 10
  | .vmem => 24
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x512, .bf16⟩
  | .hbm, ⟨3, _⟩ => ⟨S3x512x1024, .bf16⟩
  | .hbm, ⟨4, _⟩ => ⟨S4224x6656, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | .hbm, ⟨9, _⟩ => ⟨S1024x4224, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S3x512x512, .bf16⟩
  | .local _ .vmem, ⟨7, _⟩ => ⟨S3x512x512, .bf16⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x512, .f32⟩
  | .local _ .vmem, ⟨17, _⟩ => ⟨S384x512, .f32⟩
  | .local _ .vmem, ⟨18, _⟩ => ⟨S384x512, .f32⟩
  | .local _ .vmem, ⟨19, _⟩ => ⟨S384x512, .f32⟩
  | .local _ .vmem, ⟨20, _⟩ => ⟨S384x512, .bf16⟩
  | .local _ .vmem, ⟨21, _⟩ => ⟨S384x512, .bf16⟩
  | .local _ .vmem, ⟨22, _⟩ => ⟨S512x384, .bf16⟩
  | .local _ .vmem, ⟨23, _⟩ => ⟨S512x384, .bf16⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== BranchFwdRefIdeal.lean ====
abbrev S4224x512 : Shape := ⟨2, ![4224, 512]⟩
abbrev S3x512x1024 : Shape := ⟨3, ![3, 512, 1024]⟩
abbrev S4224x6656 : Shape := ⟨2, ![4224, 6656]⟩
abbrev S1x512x1024 : Shape := ⟨3, ![1, 512, 1024]⟩
abbrev S512x1024 : Shape := ⟨2, ![512, 1024]⟩
abbrev S4224x1024 : Shape := ⟨2, ![4224, 1024]⟩
abbrev S_ : Shape := ⟨0, ![]⟩
abbrev S1024x4224 : Shape := ⟨2, ![1024, 4224]⟩

abbrev nBuf : Space → Nat
  | .hbm => 57
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x512, .bf16⟩
  | .hbm, ⟨3, _⟩ => ⟨S3x512x1024, .bf16⟩
  | .hbm, ⟨4, _⟩ => ⟨S4224x6656, .f32⟩
  | .hbm, ⟨5, _⟩ => ⟨S4224x512, .f32⟩
  | .hbm, ⟨6, _⟩ => ⟨S1x512x1024, .bf16⟩
  | .hbm, ⟨7, _⟩ => ⟨S512x1024, .bf16⟩
  | .hbm, ⟨8, _⟩ => ⟨S512x1024, .f32⟩
  | .hbm, ⟨9, _⟩ => ⟨S4224x1024, .f32⟩
  | .hbm, ⟨10, _⟩ => ⟨S4224x512, .f32⟩
  | .hbm, ⟨11, _⟩ => ⟨S1x512x1024, .bf16⟩
  | .hbm, ⟨12, _⟩ => ⟨S512x1024, .bf16⟩
  | .hbm, ⟨13, _⟩ => ⟨S512x1024, .f32⟩
  | .hbm, ⟨14, _⟩ => ⟨S4224x1024, .f32⟩
  | .hbm, ⟨15, _⟩ => ⟨S4224x512, .f32⟩
  | .hbm, ⟨16, _⟩ => ⟨S1x512x1024, .bf16⟩
  | .hbm, ⟨17, _⟩ => ⟨S512x1024, .bf16⟩
  | .hbm, ⟨18, _⟩ => ⟨S512x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S_, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S_, .f32⟩
  | .hbm, ⟨38, _⟩ => ⟨S4224x1024, .f32⟩
  | .hbm, ⟨39, _⟩ => ⟨S4224x1024, .f32⟩
  | .hbm, ⟨40, _⟩ => ⟨S_, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S_, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x1024, .bf16⟩
  | .hbm, ⟨56, _⟩ => ⟨S1024x4224, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== RmsFwd.lean ====
abbrev S4224x1024 : Shape := ⟨2, ![4224, 1024]⟩
abbrev S1024 : Shape := ⟨1, ![1024]⟩
abbrev S1x1024 : Shape := ⟨2, ![1, 1024]⟩
abbrev S1024x4224 : Shape := ⟨2, ![1024, 4224]⟩
abbrev S384x1024 : Shape := ⟨2, ![384, 1024]⟩
abbrev S1024x384 : Shape := ⟨2, ![1024, 384]⟩
abbrev S384 : Shape := ⟨1, ![384]⟩
abbrev S384x1 : Shape := ⟨2, ![384, 1]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1x1024, .f32⟩
  | .hbm, ⟨3, _⟩ => ⟨S4224x1024, .bf16⟩
  | .hbm, ⟨4, _⟩ => ⟨S1024x4224, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | .local _ .vmem, ⟨5, _⟩ => ⟨S1024x384, .bf16⟩
  | .local _ .vmem, ⟨6, _⟩ => ⟨S1024x384, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdRefIdeal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S1024x4224 : Shape := ⟨2, ![1024, 4224]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S1x1024, .f32⟩
  | .hbm, ⟨16, _⟩ => ⟨S4224x1024, .f32⟩
  | .hbm, ⟨17, _⟩ => ⟨S4224x1024, .f32⟩
  | .hbm, ⟨18, _⟩ => ⟨S4224x1024, .bf16⟩
  | .hbm, ⟨19, _⟩ => ⟨S1024x4224, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== BandFold.lean ====
abbrev S33x256x128 : Shape := ⟨3, ![33, 256, 128]⟩
abbrev S4224x128 : Shape := ⟨2, ![4224, 128]⟩
abbrev S1x128x128 : Shape := ⟨3, ![1, 128, 128]⟩
abbrev S128x128 : Shape := ⟨2, ![128, 128]⟩

abbrev nBuf : Space → Nat
  | .hbm => 4
  | .vmem => 12
  | .smem => 0
  | _ => 0

abbrev bufTy : (tb : Table) → Fin (tcTables nBuf tb) → BufTy
  | .hbm, ⟨0, _⟩ => ⟨S33x256x128, .f32⟩
  | .hbm, ⟨1, _⟩ => ⟨S33x256x128, .f32⟩
  | .hbm, ⟨2, _⟩ => ⟨S4224x128, .bf16⟩
  | .hbm, ⟨3, _⟩ => ⟨S4224x128, .bf16⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | _, _ => ⟨S33x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.minsi v0 c32_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.minsi v0 c32_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BandFoldRefIdeal.lean ====
abbrev S33x256x128 : Shape := ⟨3, ![33, 256, 128]⟩
abbrev S_ : Shape := ⟨0, ![]⟩
abbrev S4224x128 : Shape := ⟨2, ![4224, 128]⟩
abbrev S33x128x128 : Shape := ⟨3, ![33, 128, 128]⟩
abbrev S1x128x128 : Shape := ⟨3, ![1, 128, 128]⟩
abbrev S32x128x128 : Shape := ⟨3, ![32, 128, 128]⟩

abbrev nBuf : Space → Nat
  | .hbm => 38
  | .vmem => 0
  | .smem => 0
  | _ => 0

abbrev bufTy : (tb : Table) → Fin (tcTables nBuf tb) → BufTy
  | .hbm, ⟨0, _⟩ => ⟨S33x256x128, .f32⟩
  | .hbm, ⟨1, _⟩ => ⟨S33x256x128, .f32⟩
  | .hbm, ⟨2, _⟩ => ⟨S_, .f32⟩
  | .hbm, ⟨3, _⟩ => ⟨S4224x128, .f32⟩
  | .hbm, ⟨4, _⟩ => ⟨S33x128x128, .f32⟩
  | .hbm, ⟨5, _⟩ => ⟨S_, .f32⟩
  | .hbm, ⟨6, _⟩ => ⟨S1x128x128, .f32⟩
  | .hbm, ⟨7, _⟩ => ⟨S32x128x128, .f32⟩
  | .hbm, ⟨8, _⟩ => ⟨S33x128x128, .f32⟩
  | .hbm, ⟨9, _⟩ => ⟨S_, .f32⟩
  | .hbm, ⟨10, _⟩ => ⟨S1x128x128, .f32⟩
  | .hbm, ⟨11, _⟩ => ⟨S33x256x128, .f32⟩
  | .hbm, ⟨12, _⟩ => ⟨S33x128x128, .f32⟩
  | .hbm, ⟨13, _⟩ => ⟨S33x128x128, .f32⟩
  | .hbm, ⟨14, _⟩ => ⟨S1x128x128, .f32⟩
  | .hbm, ⟨15, _⟩ => ⟨S32x128x128, .f32⟩
  | .hbm, ⟨16, _⟩ => ⟨S_, .f32⟩
  | .hbm, ⟨17, _⟩ => ⟨S33x128x128, .f32⟩
  | .hbm, ⟨18, _⟩ => ⟨S33x128x128, .f32⟩
  | .hbm, ⟨19, _⟩ => ⟨S4224x128, .f32⟩
  | .hbm, ⟨20, _⟩ => ⟨S4224x128, .bf16⟩
  | .hbm, ⟨21, _⟩ => ⟨S33x128x128, .f32⟩
  | .hbm, ⟨22, _⟩ => ⟨S_, .f32⟩
  | .hbm, ⟨23, _⟩ => ⟨S1x128x128, .f32⟩
  | .hbm, ⟨24, _⟩ => ⟨S32x128x128, .f32⟩
  | .hbm, ⟨25, _⟩ => ⟨S33x128x128, .f32⟩
  | .hbm, ⟨26, _⟩ => ⟨S_, .f32⟩
  | .hbm, ⟨27, _⟩ => ⟨S1x128x128, .f32⟩
  | .hbm, ⟨28, _⟩ => ⟨S33x256x128, .f32⟩
  | .hbm, ⟨29, _⟩ => ⟨S33x128x128, .f32⟩
  | .hbm, ⟨30, _⟩ => ⟨S33x128x128, .f32⟩
  | .hbm, ⟨31, _⟩ => ⟨S1x128x128, .f32⟩
  | .hbm, ⟨32, _⟩ => ⟨S32x128x128, .f32⟩
  | .hbm, ⟨33, _⟩ => ⟨S_, .f32⟩
  | .hbm, ⟨34, _⟩ => ⟨S33x128x128, .f32⟩
  | .hbm, ⟨35, _⟩ => ⟨S33x128x128, .f32⟩
  | .hbm, ⟨36, _⟩ => ⟨S4224x128, .f32⟩
  | .hbm, ⟨37, _⟩ => ⟨S4224x128, .bf16⟩
  | _, _ => ⟨S33x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== RmsBwd.lean ====
abbrev S4224x1024 : Shape := ⟨2, ![4224, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 8
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024, .f32⟩
  | .hbm, ⟨3, _⟩ => ⟨S4224x1024, .f32⟩
  | .hbm, ⟨4, _⟩ => ⟨S1x1024, .f32⟩
  | .hbm, ⟨5, _⟩ => ⟨S4224x1024, .f32⟩
  | .hbm, ⟨6, _⟩ => ⟨S4224x1024, .bf16⟩
  | .hbm, ⟨7, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .bf16⟩
  | .local _ .vmem, ⟨10, _⟩ => ⟨S384x1024, .bf16⟩
  | .local _ .vmem, ⟨11, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1024, .f32⟩
  | .hbm, ⟨3, _⟩ => ⟨S4224x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S1x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S1024, .f32⟩
  | .hbm, ⟨32, _⟩ => ⟨S4224x1024, .f32⟩
  | .hbm, ⟨33, _⟩ => ⟨S_, .f32⟩
  | .hbm, ⟨34, _⟩ => ⟨S4224, .f32⟩
  | .hbm, ⟨35, _⟩ => ⟨S4224x1, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .bf16⟩
  | .hbm, ⟨51, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== LossHead.lean ====
abbrev S4224x1024 : Shape := ⟨2, ![4224, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4224x1024, .f32⟩
  | .hbm, ⟨5, _⟩ => ⟨S4224x1024, .bf16⟩
  | .hbm, ⟨6, _⟩ => ⟨S1x1024, .f32⟩
  | .hbm, ⟨7, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .bf16⟩
  | .local _ .vmem, ⟨8, _⟩ => ⟨S128x1024, .bf16⟩
  | .local _ .vmem, ⟨9, _⟩ => ⟨S1x1024, .f32⟩
  | .local _ .vmem, ⟨10, _⟩ => ⟨S1x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_19 : BitVec 32 := 0#32
  let v51 : BitVec 1 := Scalar.cmpi .ne v50 c0_i32_19
  v51

def k0_cond2 (i : grid0.Coords) : BitVec 1 :=
  let arg0 : BitVec 32 := BitVec.ofNat 32 (i 0).val
  let c0_i32_20 : BitVec 32 := 0#32
  let v52 : BitVec 1 := Scalar.cmpi .sgt arg0 c0_i32_20
  let v53 : BitVec 32 := Scalar.extui v52
  let c0_i32_21 : BitVec 32 := 0#32
  let v54 : BitVec 1 := Scalar.cmpi .ne v53 c0_i32_21
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4224x1024 : Shape := ⟨2, ![4224, 1024]⟩
abbrev S4096x1024 : Shape := ⟨2, ![4096, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4096 : Shape := ⟨1, ![4096]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S1024, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4224x1024, .f32⟩
  | .hbm, ⟨54, _⟩ => ⟨S4224x1024, .f32⟩
  | .hbm, ⟨55, _⟩ => ⟨S_, .f32⟩
  | .hbm, ⟨56, _⟩ => ⟨S1024, .f32⟩
  | .hbm, ⟨57, _⟩ => ⟨S4224x1024, .f32⟩
  | .hbm, ⟨58, _⟩ => ⟨S_, .f32⟩
  | .hbm, ⟨59, _⟩ => ⟨S4224, .f32⟩
  | .hbm, ⟨60, _⟩ => ⟨S4224x1, .f32⟩
  | .hbm, ⟨61, _⟩ => ⟨S4224x1024, .f32⟩
  | .hbm, ⟨62, _⟩ => ⟨S4224x1024, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S_, .f32⟩
  | .hbm, ⟨68, _⟩ => ⟨S4224, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S4224x1024, .bf16⟩
  | .hbm, ⟨75, _⟩ => ⟨S1x1024, .f32⟩
  | .hbm, ⟨76, _⟩ => ⟨S1x128, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== SwigluBwd.lean ====
abbrev S4224x1024 : Shape := ⟨2, ![4224, 1024]⟩
abbrev S2816x1024 : Shape := ⟨2, ![2816, 1024]⟩
abbrev S4224x2816 : Shape := ⟨2, ![4224, 2816]⟩
abbrev S384x1024 : Shape := ⟨2, ![384, 1024]⟩
abbrev S1408x1024 : Shape := ⟨2, ![1408, 1024]⟩
abbrev S384x1408 : Shape := ⟨2, ![384, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .hbm, ⟨3, _⟩ => ⟨S4224x2816, .f32⟩
  | .hbm, ⟨4, _⟩ => ⟨S4224x2816, .bf16⟩
  | .hbm, ⟨5, _⟩ => ⟨S4224x2816, .bf16⟩
  | .local _ .vmem, ⟨0, _⟩ => ⟨S384x1024, .bf16⟩
  | .local _ .vmem, ⟨1, _⟩ => ⟨S384x1024, .bf16⟩
  | .local _ .vmem, ⟨2, _⟩ => ⟨S1408x1024, .bf16⟩
  | .local _ .vmem, ⟨3, _⟩ => ⟨S1408x1024, .bf16⟩
  | .local _ .vmem, ⟨4, _⟩ => ⟨S384x1408, .f32⟩
  | .local _ .vmem, ⟨5, _⟩ => ⟨S384x1408, .f32⟩
  | .local _ .vmem, ⟨6, _⟩ => ⟨S384x1408, .f32⟩
  | .local _ .vmem, ⟨7, _⟩ => ⟨S384x1408, .f32⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluBwdRefIdeal.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .hbm, ⟨3, _⟩ => ⟨S4224x2816, .f32⟩
  | .hbm, ⟨4, _⟩ => ⟨S2816x1024, .f32⟩
  | .hbm, ⟨5, _⟩ => ⟨S4224x2816, .f32⟩
  | .hbm, ⟨6, _⟩ => ⟨S4224x2816, .f32⟩
  | .hbm, ⟨7, _⟩ => ⟨S_, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x2816, .f32⟩
  | .hbm, ⟨13, _⟩ => ⟨S_, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x1024, .f32⟩
  | .hbm, ⟨20, _⟩ => ⟨S4224x1024, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .bf16⟩
  | .hbm, ⟨29, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== SwaFwd.lean ====
abbrev S4224x512 : Shape := ⟨2, ![4224, 512]⟩
abbrev S4224x128 : Shape := ⟨2, ![4224, 128]⟩
abbrev S8x128x256 : Shape := ⟨3, ![8, 128, 256]⟩
abbrev S8 : Shape := ⟨1, ![8]⟩
abbrev S_ : Shape := ⟨0, ![]⟩
abbrev S4224x5632 : Shape := ⟨2, ![4224, 5632]⟩
abbrev S4224x256 : Shape := ⟨2, ![4224, 256]⟩
abbrev S4224x6656 : Shape := ⟨2, ![4224, 6656]⟩
abbrev S512x4224 : Shape := ⟨2, ![512, 4224]⟩
abbrev S128x512 : Shape := ⟨2, ![128, 512]⟩
abbrev S128x128 : Shape := ⟨2, ![128, 128]⟩
abbrev S512x128 : Shape := ⟨2, ![512, 128]⟩
abbrev S1x128 : Shape := ⟨2, ![1, 128]⟩
abbrev S256x128 : Shape := ⟨2, ![256, 128]⟩
abbrev S128x256 : Shape := ⟨2, ![128, 256]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 12
  | .vmem => 15
  | .smem => 1
  | _ => 0

abbrev bufTy : (tb : Table) → Fin (tcTables nBuf tb) → BufTy
  | .hbm, ⟨0, _⟩ => ⟨S4224x512, .f32⟩
  | .hbm, ⟨1, _⟩ => ⟨S4224x128, .f32⟩
  | .hbm, ⟨2, _⟩ => ⟨S4224x128, .f32⟩
  | .hbm, ⟨3, _⟩ => ⟨S8x128x256, .f32⟩
  | .hbm, ⟨4, _⟩ => ⟨S8, .f32⟩
  | .hbm, ⟨5, _⟩ => ⟨S_, .f32⟩
  | .hbm, ⟨6, _⟩ => ⟨S4224x5632, .f32⟩
  | .hbm, ⟨7, _⟩ => ⟨S_, .f32⟩
  | .hbm, ⟨8, _⟩ => ⟨S4224x256, .f32⟩
  | .hbm, ⟨9, _⟩ => ⟨S4224x6656, .f32⟩
  | .hbm, ⟨10, _⟩ => ⟨S4224x512, .bf16⟩
  | .hbm, ⟨11, _⟩ => ⟨S512x4224, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x256, .f32⟩
  | .local _ .vmem, ⟨11, _⟩ => ⟨S128x512, .bf16⟩
  | .local _ .vmem, ⟨12, _⟩ => ⟨S128x512, .bf16⟩
  | .local _ .vmem, ⟨13, _⟩ => ⟨S512x128, .bf16⟩
  | .local _ .vmem, ⟨14, _⟩ => ⟨S512x128, .bf16⟩
  | .local _ .smem, ⟨0, _⟩ => ⟨S8, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let c0_i32_0 : BitVec 32 := 0#32
  ![v1.toNat, c48_i32.toNat]

def cc0_transform_3 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c49_i32 : BitVec 32 := 49#32
  let c0_i32_0 : BitVec 32 := 0#32
  ![v1.toNat, c49_i32.toNat]

def cc0_transform_5 (i : grid0.Coords) : Fin 2 → Nat :=
  let arg0 : BitVec 32 := BitVec.ofNat 32 (i 0).val
  let c49_i32 : BitVec 32 := 49#32
  let c0_i32 : BitVec 32 := 0#32
  ![arg0.toNat, c49_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SwaFwdIdeal.lean ====
variable {F : FTy → Type} [FloatOps F] [Named F]
def κ : String → Option EReal := fun
  | "mask" => some ⊥
  | _ => none
-- ==== SwaFwdRefIdeal.lean ====
abbrev S4224x512 : Shape := ⟨2, ![4224, 512]⟩
abbrev S4224x128 : Shape := ⟨2, ![4224, 128]⟩
abbrev S8x128x256 : Shape := ⟨3, ![8, 128, 256]⟩
abbrev S8 : Shape := ⟨1, ![8]⟩
abbrev S33x128x128 : Shape := ⟨3, ![33, 128, 128]⟩
abbrev S_ : Shape := ⟨0, ![]⟩
abbrev S34x128x128 : Shape := ⟨3, ![34, 128, 128]⟩
abbrev S33x256x128 : Shape := ⟨3, ![33, 256, 128]⟩
abbrev S33x128x2x4x64 : Shape := ⟨5, ![33, 128, 2, 4, 64]⟩
abbrev S33x256x2x64 : Shape := ⟨4, ![33, 256, 2, 64]⟩
abbrev S33x2x256x128x4 : Shape := ⟨5, ![33, 2, 256, 128, 4]⟩
abbrev S33x2x4x128x256 : Shape := ⟨5, ![33, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S33 : Shape := ⟨1, ![33]⟩
abbrev S33x1 : Shape := ⟨2, ![33, 1]⟩
abbrev S33x256 : Shape := ⟨2, ![33, 256]⟩
abbrev S1x128x256 : Shape := ⟨3, ![1, 128, 256]⟩
abbrev S33x1x256 : Shape := ⟨3, ![33, 1, 256]⟩
abbrev S33x128x256 : Shape := ⟨3, ![33, 128, 256]⟩
abbrev S33x1x1x128x256 : Shape := ⟨5, ![33, 1, 1, 128, 256]⟩
abbrev S2x4x128x256 : Shape := ⟨4, ![2, 4, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S33x2x4x128 : Shape := ⟨4, ![33, 2, 4, 128]⟩
abbrev S33x2x4x128x1 : Shape := ⟨5, ![33, 2, 4, 128, 1]⟩
abbrev S33x2x64x4x128 : Shape := ⟨5, ![33, 2, 64, 4, 128]⟩
abbrev S512x4224 : Shape := ⟨2, ![512, 4224]⟩

abbrev nBuf : Space → Nat
  | .hbm => 95
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x128, .f32⟩
  | .hbm, ⟨2, _⟩ => ⟨S4224x128, .f32⟩
  | .hbm, ⟨3, _⟩ => ⟨S8x128x256, .f32⟩
  | .hbm, ⟨4, _⟩ => ⟨S8, .f32⟩
  | .hbm, ⟨5, _⟩ => ⟨S33x128x128, .f32⟩
  | .hbm, ⟨6, _⟩ => ⟨S_, .i32⟩
  | .hbm, ⟨7, _⟩ => ⟨S_, .f32⟩
  | .hbm, ⟨8, _⟩ => ⟨S34x128x128, .f32⟩
  | .hbm, ⟨9, _⟩ => ⟨S33x128x128, .f32⟩
  | .hbm, ⟨10, _⟩ => ⟨S33x256x128, .f32⟩
  | .hbm, ⟨11, _⟩ => ⟨S33x128x128, .f32⟩
  | .hbm, ⟨12, _⟩ => ⟨S_, .i32⟩
  | .hbm, ⟨13, _⟩ => ⟨S_, .f32⟩
  | .hbm, ⟨14, _⟩ => ⟨S34x128x128, .f32⟩
  | .hbm, ⟨15, _⟩ => ⟨S33x128x128, .f32⟩
  | .hbm, ⟨16, _⟩ => ⟨S33x256x128, .f32⟩
  | .hbm, ⟨17, _⟩ => ⟨S33x128x2x4x64, .f32⟩
  | .hbm, ⟨18, _⟩ => ⟨S33x256x2x64, .f32⟩
  | .hbm, ⟨19, _⟩ => ⟨S33x256x2x64, .f32⟩
  | .hbm, ⟨20, _⟩ => ⟨S33x2x256x128x4, .f32⟩
  | .hbm, ⟨21, _⟩ => ⟨S33x2x4x128x256, .f32⟩
  | .hbm, ⟨22, _⟩ => ⟨S_, .f32⟩
  | .hbm, ⟨23, _⟩ => ⟨S33x2x4x128x256, .f32⟩
  | .hbm, ⟨24, _⟩ => ⟨S33x2x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S33, .i32⟩
  | .hbm, ⟨36, _⟩ => ⟨S33x1, .i32⟩
  | .hbm, ⟨37, _⟩ => ⟨S_, .i32⟩
  | .hbm, ⟨38, _⟩ => ⟨S33x1, .i32⟩
  | .hbm, ⟨39, _⟩ => ⟨S33x1, .i32⟩
  | .hbm, ⟨40, _⟩ => ⟨S_, .i32⟩
  | .hbm, ⟨41, _⟩ => ⟨S33x1, .i32⟩
  | .hbm, ⟨42, _⟩ => ⟨S33x1, .i32⟩
  | .hbm, ⟨43, _⟩ => ⟨S33x256, .i32⟩
  | .hbm, ⟨44, _⟩ => ⟨S33x256, .i32⟩
  | .hbm, ⟨45, _⟩ => ⟨S33x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S128x256, .i1⟩
  | .hbm, ⟨53, _⟩ => ⟨S1x128x256, .i1⟩
  | .hbm, ⟨54, _⟩ => ⟨S_, .i32⟩
  | .hbm, ⟨55, _⟩ => ⟨S33x256, .i32⟩
  | .hbm, ⟨56, _⟩ => ⟨S33x256, .i1⟩
  | .hbm, ⟨57, _⟩ => ⟨S33x1x256, .i1⟩
  | .hbm, ⟨58, _⟩ => ⟨S33x128x256, .i1⟩
  | .hbm, ⟨59, _⟩ => ⟨S33x128x256, .i1⟩
  | .hbm, ⟨60, _⟩ => ⟨S33x128x256, .i1⟩
  | .hbm, ⟨61, _⟩ => ⟨S33x1x1x128x256, .i1⟩
  | .hbm, ⟨62, _⟩ => ⟨S2x4x128x256, .f32⟩
  | .hbm, ⟨63, _⟩ => ⟨S1x2x4x128x256, .f32⟩
  | .hbm, ⟨64, _⟩ => ⟨S33x2x4x128x256, .f32⟩
  | .hbm, ⟨65, _⟩ => ⟨S33x2x4x128x256, .f32⟩
  | .hbm, ⟨66, _⟩ => ⟨S_, .f32⟩
  | .hbm, ⟨67, _⟩ => ⟨S_, .f32⟩
  | .hbm, ⟨68, _⟩ => ⟨S33x2x4x128x256, .i1⟩
  | .hbm, ⟨69, _⟩ => ⟨S33x2x4x128x256, .f32⟩
  | .hbm, ⟨70, _⟩ => ⟨S33x2x4x128x256, .f32⟩
  | .hbm, ⟨71, _⟩ => ⟨S2x4, .f32⟩
  | .hbm, ⟨72, _⟩ => ⟨S1x2x4x1x1, .f32⟩
  | .hbm, ⟨73, _⟩ => ⟨S_, .f32⟩
  | .hbm, ⟨74, _⟩ => ⟨S33x2x4x128, .f32⟩
  | .hbm, ⟨75, _⟩ => ⟨S33x2x4x128x1, .f32⟩
  | .hbm, ⟨76, _⟩ => ⟨S33x2x4x128x1, .f32⟩
  | .hbm, ⟨77, _⟩ => ⟨S33x2x4x128x1, .f32⟩
  | .hbm, ⟨78, _⟩ => ⟨S33x2x4x128x256, .f32⟩
  | .hbm, ⟨79, _⟩ => ⟨S33x2x4x128x256, .f32⟩
  | .hbm, ⟨80, _⟩ => ⟨S33x2x4x128x256, .f32⟩
  | .hbm, ⟨81, _⟩ => ⟨S_, .f32⟩
  | .hbm, ⟨82, _⟩ => ⟨S33x2x4x128, .f32⟩
  | .hbm, ⟨83, _⟩ => ⟨S33x2x4x128x1, .f32⟩
  | .hbm, ⟨84, _⟩ => ⟨S33x2x4x128x1, .f32⟩
  | .hbm, ⟨85, _⟩ => ⟨S33x2x4x128x1, .f32⟩
  | .hbm, ⟨86, _⟩ => ⟨S33x2x4x128x1, .f32⟩
  | .hbm, ⟨87, _⟩ => ⟨S33x2x4x128x1, .f32⟩
  | .hbm, ⟨88, _⟩ => ⟨S33x2x4x128x256, .f32⟩
  | .hbm, ⟨89, _⟩ => ⟨S33x2x4x128x256, .f32⟩
  | .hbm, ⟨90, _⟩ => ⟨S33x2x64x4x128, .f32⟩
  | .hbm, ⟨91, _⟩ => ⟨S33x128x2x4x64, .f32⟩
  | .hbm, ⟨92, _⟩ => ⟨S4224x512, .f32⟩
  | .hbm, ⟨93, _⟩ => ⟨S4224x512, .bf16⟩
  | .hbm, ⟨94, _⟩ => ⟨S512x4224, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]

def κ : String → Option EReal := fun
  | "mask" => some ⊥
  | _ => none
-- ==== Proof.Block.lean ====
module

public import proofs.«01_k».proof.Defs
public import proofs.«01_k».proof.Proof.Gen.KernelIdeal.Frame
public import Idealize.ShloMosaic.Lib.Pipeline.Value
public import Idealize.ShloMosaic.Lib.Pipeline.ValueKit
public import Idealize.ShloMosaic.Lib.Pipeline.ReadBack
public import Idealize.ShloMosaic.Lib.Tactic

/-! # What one grid point of the attention gradient leaves, as functions of its input blocks

The body handles eight heads one after another. This module names what it computes for one head, once for all
eight, and then states each output block of a grid point over those names. -/

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F] [Named F]

/-! ## Lanes, halves of a tile, and the mask -/

/-- The lane numbers 0 … 127. -/
def lanes : IVec S1x128 32 := iota .tc S1x128 32 [1] iota_S1x128_d1_w32

/-- Which lanes lie in the lower half. -/
def lower : IVec S1x128 1 := cmpi .slt lanes (broadcast S1x128 64#32)

/-- The half of the lanes that head `e` of a pair occupies: lower for `false`, upper for `true`. -/
def half (e : Bool) : IVec S1x128 1 := cond e (xori lower (constantI S1x128 1 1#1)) lower

/-- A 128-row tile with the lanes outside a half set to zero. -/
def keep (lm : IVec S1x128 1) (x : FVec F S128x128 .f32) : FVec F S128x128 .f32 :=
  select (broadcastTo S128x128 (shapeCast S1x128 lm shapeCasts_S1x128_S1x128) broadcasts_S1x128_S128x128) x
    (broadcast S128x128 (Scalar.ofBits .f32 0x00000000#32 : F .f32))

/-- A 256-row tile with the lanes outside a half set to zero. -/
def keepBand (lm : IVec S1x128 1) (x : FVec F S256x128 .f32) : FVec F S256x128 .f32 :=
  select (broadcastTo S256x128 (shapeCast S1x128 lm shapeCasts_S1x128_S1x128) broadcasts_S1x128_S256x128) x
    (broadcast S256x128 (Scalar.ofBits .f32 0x00000000#32 : F .f32))

/-- The previous block's rows above this block's. -/
def band (a b : Vec F S128x128 .f32) : FVec F S256x128 .f32 :=
  concatenate S256x128 0 [⟨S128x128, shapeCast S128x128 a shapeCasts_S128x128_S128x128⟩,
    ⟨S128x128, shapeCast S128x128 b shapeCasts_S128x128_S128x128⟩] concatenates_S128x128_S128x128_S256x128_d0

/-- The two halves of a band's lanes exchanged, or not. -/
def turnBand (sw : Bool) (x : FVec F S256x128 .f32) : FVec F S256x128 .f32 :=
  cond sw (dynamicRotate 1 64#32 none x rotates_S256x128_d1) x

/-- The two halves of a tile's lanes exchanged, or not. -/
def turn (sw : Bool) (x : FVec F S128x128 .f32) : FVec F S128x128 .f32 :=
  cond sw (dynamicRotate 1 64#32 none x rotates_S128x128_d1) x

/-! ## One head -/

/-- The scores of one head, masked. -/
def score (mask : IVec S128x256 1) (qm : FVec F S128x128 .f32) (ks : FVec F S256x128 .f32)
    (b : Vec F S1x128x256 .f32) : FVec F S128x256 .f32 :=
  select mask
    (addf (mulf (matmul dot_S128x128_S256x128_S128x256_1_1_0_0_n_n none (truncf .bf16 qm bitsLt_bf16_f32)
        (truncf .bf16 ks bitsLt_bf16_f32) (constant S128x256 .f32 0x00000000#32))
      (broadcast S128x256 (Scalar.ofBits .f32 0x3E000000#32 : F .f32)))
      (shapeCast S128x256 b shapeCasts_S1x128x256_S128x256))
    (broadcast S128x256 (Named.named κ "mask" 0xF149F2CA#32 : F .f32))

/-- The larger of a row's largest score and the sink. -/
def top (s : FVec F S128x256 .f32) (sink : Elt F .f32) : FVec F S128x1 .f32 :=
  maximumf (shapeCast S128x1 (multiReduction .maximumf [1] S128 s 0xFF800000#32 reduces_S128x256_S128 (.inl rfl) rfl)
    shapeCasts_S128_S128x1) (broadcast S128x1 sink)

/-- The exponentials of a row's scores. -/
def weight (s : FVec F S128x256 .f32) (sink : Elt F .f32) : FVec F S128x256 .f32 :=
  exp (subf s (broadcastTo S128x256 (top s sink) broadcasts_S128x1_S128x256))

/-- The exponential of the sink. -/
def weightSink (s : FVec F S128x256 .f32) (sink : Elt F .f32) : FVec F S128x1 .f32 :=
  exp (subf (broadcast S128x1 sink) (top s sink))

/-- One over the sum of a row's exponentials, the sink's among them. -/
def recip (s : FVec F S128x256 .f32) (sink : Elt F .f32) : FVec F S128x1 .f32 :=
  divf (broadcast S128x1 (Scalar.ofBits .f32 0x3F800000#32 : F .f32))
    (addf (shapeCast S128x1 (multiReduction .add [1] S128 (weight s sink) 0x00000000#32 reduces_S128x256_S128
      (.inl rfl) rfl) shapeCasts_S128_S128x1) (weightSink s sink))

/-- The probabilities of a row's keys. -/
def prob (s : FVec F S128x256 .f32) (sink : Elt F .f32) : FVec F S128x256 .f32 :=
  mulf (weight s sink) (broadcastTo S128x256 (recip s sink) broadcasts_S128x1_S128x256)

/-- The probability of the sink. -/
def probSink (s : FVec F S128x256 .f32) (sink : Elt F .f32) : FVec F S128x1 .f32 :=
  mulf (weightSink s sink) (recip s sink)

/-- The gradient of the probabilities. -/
def dprob (dom : FVec F S128x128 .f32) (vs : FVec F S256x128 .f32) : FVec F S128x256 .f32 :=
  matmul dot_S128x128_S256x128_S128x256_1_1_0_0_n_n none (truncf .bf16 dom bitsLt_bf16_f32)
    (truncf .bf16 vs bitsLt_bf16_f32) (constant S128x256 .f32 0x00000000#32)

/-- A row's sum of probability times gradient. -/
def delta (p d : FVec F S128x256 .f32) : FVec F S128x1 .f32 :=
  shapeCast S128x1 (multiReduction .add [1] S128 (mulf p d) 0x00000000#32 reduces_S128x256_S128 (.inl rfl) rfl)
    shapeCasts_S128_S128x1

/-- The gradient of the scores. -/
def dscore (p d : FVec F S128x256 .f32) : FVec F S128x256 .f32 :=
  mulf p (subf d (broadcastTo S128x256 (delta p d) broadcasts_S128x1_S128x256))

/-- The gradient of the scores, scaled. -/
def dscaled (g : FVec F S128x256 .f32) : FVec F S128x256 .bf16 :=
  truncf .bf16 (mulf g (broadcast S128x256 (Scalar.ofBits .f32 0x3E000000#32 : F .f32))) bitsLt_bf16_f32

/-- A head's part of the gradient of the queries. -/
def dqPart (g : FVec F S128x256 .f32) (ks : FVec F S256x128 .f32) : FVec F S128x128 .f32 :=
  matmul dot_S128x256_S256x128_S128x128_1_0_0_1_n_n none (dscaled g) (truncf .bf16 ks bitsLt_bf16_f32)
    (constant S128x128 .f32 0x00000000#32)

/-- A head's part of the gradient of the keys. -/
def dkPart (g : FVec F S128x256 .f32) (q : FVec F S128x128 .f32) : FVec F S256x128 .f32 :=
  matmul dot_S128x256_S128x128_S256x128_0_0_1_1_n_n none (dscaled g) (truncf .bf16 q bitsLt_bf16_f32)
    (constant S256x128 .f32 0x00000000#32)

/-- A head's part of the gradient of the values. -/
def dvPart (p : FVec F S128x256 .f32) (d : FVec F S128x128 .f32) : FVec F S256x128 .f32 :=
  matmul dot_S128x256_S128x128_S256x128_0_0_1_1_n_n none (truncf .bf16 p bitsLt_bf16_f32)
    (truncf .bf16 d bitsLt_bf16_f32) (constant S256x128 .f32 0x00000000#32)

/-! ## The eight heads of a point -/

/-- The pair of heads that head `h` belongs to. -/
def pairOf (h : Fin 8) : Fin 4 := ⟨h.val / 2, by omega⟩

/-- Which half of the lanes head `h` occupies. -/
def sideOf (h : Fin 8) : Bool := h.val % 2 == 1

/-- Whether head `h`'s keys lie in the other half of the lanes than its queries. -/
def crossOf (h : Fin 8) : Bool := h.val / 4 != h.val % 2

/-- The columns of the pair `p` lie inside the 512 columns. -/
theorem pair_inb (p : Fin 4) : ∀ a, (![0, 128 * p.val] : Fin 2 → Nat) a + S128x128.size a ≤ S128x512.size a := by
  revert p; decide

/-- The plane of head `h` lies inside the eight planes. -/
theorem head_inb (h : Fin 8) : ∀ a, (![h.val, 0, 0] : Fin 3 → Nat) a + S1x128x256.size a ≤ S8x128x256.size a := by
  revert h; decide

/-- The entry of head `h` lies inside the eight entries. -/
theorem sink_inb (h : Fin 8) : ∀ a, (![h.val] : Fin 1 → Nat) a + S1.size a ≤ S8.size a := by
  revert h; decide

/-- The queries of a pair of heads. -/
def qAt (x1 : Vec F S128x512 .f32) (p : Fin 4) : FVec F S128x128 .f32 :=
  shapeCast S128x128 (View.ld x1 (Rect.unit ![0, 128 * p.val] S128x128.size (pair_inb p))) shapeCasts_S128x128_S128x128

/-- The incoming gradient of a pair of heads. -/
def doAt (x7 : Vec F S128x512 .bf16) (p : Fin 4) : FVec F S128x128 .f32 :=
  extf .f32 (View.ld x7 (Rect.unit ![0, 128 * p.val] S128x128.size (pair_inb p)) : FVec F S128x128 .bf16) bitsLt_bf16_f32

/-- One head's plane of an array of eight. -/
def plane (x6 : Vec F S8x128x256 .f32) (h : Fin 8) : Vec F S1x128x256 .f32 :=
  View.ld x6 (Rect.unit ![h.val, 0, 0] S1x128x256.size (head_inb h))

/-- One head's sink. -/
def sinkAt (x0 : Vec F S8 .f32) (h : Fin 8) : Elt F .f32 :=
  View.ld x0 (Rect.unit ![h.val] S1.size (sink_inb h)) (Shape.Idx.first (show 0 < S1.numel by decide))

/-- The kept queries of head `h`. -/
def qm (x1 : Vec F S128x512 .f32) (h : Fin 8) : FVec F S128x128 .f32 := keep (half (sideOf h)) (qAt x1 (pairOf h))

/-- The kept incoming gradient of head `h`. -/
def dom (x7 : Vec F S128x512 .bf16) (h : Fin 8) : FVec F S128x128 .f32 := keep (half (sideOf h)) (doAt x7 (pairOf h))

/-- Head `h`'s keys (or values), brought to the lanes of its queries. -/
def turned (kb : FVec F S256x128 .f32) (h : Fin 8) : FVec F S256x128 .f32 := turnBand (crossOf h) kb

section Heads

variable (i : grid0.Coords) (x0 : Vec F S8 .f32) (x1 : Vec F S128x512 .f32) (x2 x3 x4 x5 : Vec F S128x128 .f32)
  (x6 : Vec F S8x128x256 .f32) (x7 : Vec F S128x512 .bf16)

/-- Head `h`'s scores. -/
def scoreH (h : Fin 8) : FVec F S128x256 .f32 := score (k0_pay9 i) (qm x1 h) (turned (band x2 x3) h) (plane x6 h)

/-- Head `h`'s probabilities. -/
def probH (h : Fin 8) : FVec F S128x256 .f32 := prob (scoreH i x1 x2 x3 x6 h) (sinkAt x0 h)

/-- Head `h`'s probability of the sink. -/
def probSinkH (h : Fin 8) : FVec F S128x1 .f32 := probSink (scoreH i x1 x2 x3 x6 h) (sinkAt x0 h)

/-- Head `h`'s gradient of the probabilities. -/
def dprobH (h : Fin 8) : FVec F S128x256 .f32 := dprob (dom x7 h) (turned (band x4 x5) h)

/-- Head `h`'s gradient of the scores. -/
def dscoreH (h : Fin 8) : FVec F S128x256 .f32 := dscore (probH i x0 x1 x2 x3 x6 h) (dprobH x4 x5 x7 h)

/-- Eight terms added one after another onto a start. -/
def sum8 {s : Shape} (z : FVec F s .f32) (f : Fin 8 → FVec F s .f32) : FVec F s .f32 :=
  addf (addf (addf (addf (addf (addf (addf (addf z (f 0)) (f 1)) (f 2)) (f 3)) (f 4)) (f 5)) (f 6)) (f 7)

/-- The block of the gradient of the band of keys. -/
def dkBlock : FVec F S1x256x128 .f32 :=
  shapeCast S1x256x128 (sum8 (broadcast S256x128 (Scalar.ofBits .f32 0x00000000#32 : F .f32))
    fun h => dkPart (dscoreH i x0 x1 x2 x3 x4 x5 x6 x7 h) (turn (crossOf h) (qm x1 h))) shapeCasts_S256x128_S1x256x128

/-- The block of the gradient of the band of values. -/
def dvBlock : FVec F S1x256x128 .f32 :=
  shapeCast S1x256x128 (sum8 (broadcast S256x128 (Scalar.ofBits .f32 0x00000000#32 : F .f32))
    fun h => dvPart (probH i x0 x1 x2 x3 x6 h) (turn (crossOf h) (dom x7 h))) shapeCasts_S256x128_S1x256x128

/-- Head `h`'s part of the gradient of its pair's queries. -/
def dqH (h : Fin 8) : FVec F S128x128 .f32 :=
  dqPart (dscoreH i x0 x1 x2 x3 x4 x5 x6 x7 h) (keepBand (half (sideOf h)) (turned (band x2 x3) h))

/-- The gradient of a pair's queries. -/
def dqPair (h h' : Fin 8) : FVec F S128x128 .f32 :=
  addf (addf (broadcast S128x128 (Scalar.ofBits .f32 0x00000000#32 : F .f32)) (dqH i x0 x1 x2 x3 x4 x5 x6 x7 h))
    (dqH i x0 x1 x2 x3 x4 x5 x6 x7 h')

/-- The block of the gradient of the queries. -/
def dqBlock : FVec F S128x512 .bf16 :=
  truncf .bf16 (concatenate S128x512 1 [⟨S128x128, dqPair i x0 x1 x2 x3 x4 x5 x6 x7 0 1⟩,
    ⟨S128x128, dqPair i x0 x1 x2 x3 x4 x5 x6 x7 2 3⟩, ⟨S128x128, dqPair i x0 x1 x2 x3 x4 x5 x6 x7 4 5⟩,
    ⟨S128x128, dqPair i x0 x1 x2 x3 x4 x5 x6 x7 6 7⟩] concatenates_S128x128_S128x128_S128x128_S128x128_S128x512_d1)
    bitsLt_bf16_f32

/-- What head `h` adds to the running gradient of the sinks: its rows, in lane `h`. -/
def sinkTerm (h : Fin 8) : FVec F S128x128 .f32 :=
  select (broadcastTo S128x128 (shapeCast S1x128 (cmpi .eq lanes (broadcast S1x128 (BitVec.ofNat 32 h.val)))
      shapeCasts_S1x128_S1x128) broadcasts_S1x128_S128x128)
    (broadcastTo S128x128 (shapeCast S128x1 (subf (broadcast S128x1 (Scalar.ofBits .f32 0x00000000#32 : F .f32))
      (mulf (probSinkH i x0 x1 x2 x3 x6 h) (delta (probH i x0 x1 x2 x3 x6 h) (dprobH x4 x5 x7 h))))
      shapeCasts_S128x1_S128x1) broadcasts_S128x1_S128x128)
    (broadcast S128x128 (Scalar.ofBits .f32 0x00000000#32 : F .f32))

/-- One head's step of the running gradient of the sinks. -/
def sinkStep (h : Fin 8) (acc : FVec F S128x128 .f32) : FVec F S128x128 .f32 :=
  shapeCast S128x128 (addf acc (sinkTerm i x0 x1 x2 x3 x4 x5 x6 x7 h)) shapeCasts_S128x128_S128x128

/-- The running gradient of the sinks after the point, from what the point found. -/
def sinkNext (acc : FVec F S128x128 .f32) : FVec F S128x128 .f32 :=
  sinkStep i x0 x1 x2 x3 x4 x5 x6 x7 7 (sinkStep i x0 x1 x2 x3 x4 x5 x6 x7 6 (sinkStep i x0 x1 x2 x3 x4 x5 x6 x7 5
    (sinkStep i x0 x1 x2 x3 x4 x5 x6 x7 4 (sinkStep i x0 x1 x2 x3 x4 x5 x6 x7 3 (sinkStep i x0 x1 x2 x3 x4 x5 x6 x7 2
      (sinkStep i x0 x1 x2 x3 x4 x5 x6 x7 1 (sinkStep i x0 x1 x2 x3 x4 x5 x6 x7 0 acc)))))))

/-- One head's plane of the gradient of the bias, from the plane found. -/
def biasPlane (old : Vec F S8x128x256 .f32) (h : Fin 8) : FVec F S1x128x256 .f32 :=
  shapeCast S1x128x256 (addf (shapeCast S128x256 (plane old h) shapeCasts_S1x128x256_S128x256)
    (dscoreH i x0 x1 x2 x3 x4 x5 x6 x7 h)) shapeCasts_S128x256_S1x128x256

/-- The store of one head's plane. -/
def biasPiece (old : Vec F S8x128x256 .f32) (h : Fin 8) : View.Piece (Elt F) S8x128x256 .f32 :=
  ⟨Rect.unit ![h.val, 0, 0] S1x128x256.size (head_inb h), biasPlane i x0 x1 x2 x3 x4 x5 x6 x7 old h⟩

/-- The stores of all eight planes, the last made first. -/
def biasPieces (old : Vec F S8x128x256 .f32) : List (View.Piece (Elt F) S8x128x256 .f32) :=
  [biasPiece i x0 x1 x2 x3 x4 x5 x6 x7 old 7, biasPiece i x0 x1 x2 x3 x4 x5 x6 x7 old 6,
   biasPiece i x0 x1 x2 x3 x4 x5 x6 x7 old 5, biasPiece i x0 x1 x2 x3 x4 x5 x6 x7 old 4,
   biasPiece i x0 x1 x2 x3 x4 x5 x6 x7 old 3, biasPiece i x0 x1 x2 x3 x4 x5 x6 x7 old 2,
   biasPiece i x0 x1 x2 x3 x4 x5 x6 x7 old 1, biasPiece i x0 x1 x2 x3 x4 x5 x6 x7 old 0]

end Heads

/-- The gradient of the sinks, from the running one. -/
def sinkSum (acc : FVec F S128x128 .f32) : FVec F S1x128 .f32 :=
  shapeCast S1x128 (multiReduction .add [0] S128 acc 0x00000000#32 reduces_S128x128_S128 (.inl rfl) rfl)
    shapeCasts_S128_S1x128

/-! ## The blocks that a point leaves are these functions -/

section Cases

variable (c : Dev nD) (i : grid0.Coords) (arg1 : Memref sig .tc .smem S8 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128x256 .f32) (harg7 : arg7.IsWhole) (arg8 : Memref sig .tc .vmem S128x512 .bf16) (harg8 : arg8.IsWhole) (arg9 : Memref sig .tc .vmem S8x128x256 .f32) (harg9 : arg9.IsWhole) (arg10 : Memref sig .tc .vmem S128x512 .bf16) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S8x128x256 .f32) (harg13 : arg13.IsWhole) (arg14 : Memref sig .tc .vmem S1x128 .f32) (harg14 : arg14.IsWhole) (arg15 : Memref sig .tc .vmem S128x128 .f32) (harg15 : arg15.IsWhole)
variable (x0 : Vec F S8 .f32) (x1 : Vec F S128x512 .f32) (x2 : Vec F S128x128 .f32) (x3 : Vec F S128x128 .f32) (x4 : Vec F S128x128 .f32) (x5 : Vec F S128x128 .f32) (x6 : Vec F S8x128x256 .f32) (x7 : Vec F S128x512 .bf16) (x8 : Vec F S8x128x256 .f32) (xo12 : Vec F S8x128x256 .f32) (xs0 : Vec F S128x128 .f32)

/-- The block of the gradient of the queries that the first point leaves. -/
theorem out_A9 (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = dqBlock i x0 x1 x2 x3 x4 x5 x6 x7 := by
  frame_out
  rfl

/-- The block of the gradient of the keys that the first point leaves. -/
theorem out_A10 (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = dkBlock i x0 x1 x2 x3 x4 x5 x6 x7 := by
  frame_out
  rfl

/-- The block of the gradient of the values that the first point leaves. -/
theorem out_A11 (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = dvBlock i x0 x1 x2 x3 x6 x7 := by
  frame_out
  rfl

/-- The running gradient of the sinks that the first point leaves. -/
theorem sout_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = sinkNext i x0 x1 x2 x3 x4 x5 x6 x7 k0_pay10 := by
  frame_out
  rfl

/-- The gradient of the bias that the first point leaves. -/
theorem out_A12 (hc0 : cond0_0 i) (hc1 : ¬cond0_1 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = View.canon (biasPieces i x0 x1 x2 x3 x4 x5 x6 x7 x8 ++ [⟨Rect.unit ![0, 0, 0] S8x128x256.size inb_S8x128x256_S8x128x256_0_0_0, x8⟩]) := by
  frame_open
  simp (disch := decide) only [↓ View.readCov_skip, ↓ View.readCov_cons_toLoadRect, ↓ View.readCov_fill]
  frame_out
  rfl

/-- The block of the gradient of the queries that a middle point leaves. -/
theorem out_B9 (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = dqBlock i x0 x1 x2 x3 x4 x5 x6 x7 := by
  frame_out
  rfl

/-- The block of the gradient of the keys that a middle point leaves. -/
theorem out_B10 (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = dkBlock i x0 x1 x2 x3 x4 x5 x6 x7 := by
  frame_out
  rfl

/-- The block of the gradient of the values that a middle point leaves. -/
theorem out_B11 (hc0 : ¬cond0_0 i) (hc1 : ¬cond0_1 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = dvBlock i x0 x1 x2 x3 x6 x7 := by
  frame_out
  rfl

/-- The running gradient of the sinks that a middle point leaves. -/
theorem sout_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = sinkNext i x0 x1 x2 x3 x4 x5 x6 x7 xs0 := by
  frame_out
  rfl

/-- The gradient of the bias that a middle point leaves. -/
theorem out_B12 (hc0 : ¬cond0_0 i) (hc1 : ¬cond0_1 i) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = View.canon (biasPieces i x0 x1 x2 x3 x4 x5 x6 x7 xo12) := by
  frame_open
  simp (disch := decide) only [↓ View.readCov_skip, ↓ View.readCov_cons_toLoadRect, ↓ View.readCov_fill]
  frame_out
  rfl

/-- The block of the gradient of the queries that the last point leaves. -/
theorem out_C9 (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = dqBlock i x0 x1 x2 x3 x4 x5 x6 x7 := by
  frame_out
  rfl

/-- The block of the gradient of the keys that the last point leaves. -/
theorem out_C10 (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = dkBlock i x0 x1 x2 x3 x4 x5 x6 x7 := by
  frame_out
  rfl

/-- The block of the gradient of the values that the last point leaves. -/
theorem out_C11 (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = dvBlock i x0 x1 x2 x3 x6 x7 := by
  frame_out
  rfl

/-- The running gradient of the sinks that the last point leaves. -/
theorem sout_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = sinkNext i x0 x1 x2 x3 x4 x5 x6 x7 xs0 := by
  frame_out
  rfl

/-- The gradient of the bias that the last point leaves. -/
theorem out_C12 (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = View.canon (biasPieces i x0 x1 x2 x3 x4 x5 x6 x7 xo12) := by
  frame_open
  simp (disch := decide) only [↓ View.readCov_skip, ↓ View.readCov_cons_toLoadRect, ↓ View.readCov_fill]
  frame_out
  rfl

/-- The gradient of the sinks that the last point leaves. -/
theorem out_C13 (hc0 : ¬cond0_0 i) (hc1 : cond0_1 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo12 xs0 = sinkSum (sinkNext i x0 x1 x2 x3 x4 x5 x6 x7 xs0) := by
  frame_out
  rfl

end Cases

end Cert.KernelIdeal.Block

end
-- ==== Proof.Model.lean ====
module

public import Idealize.ShloMosaic.PureOps.Ideal
public import Mathlib.Analysis.SpecialFunctions.Exp
public import Mathlib.Tactic.FieldSimp
public import Mathlib.Tactic.Ring

/-! # Attention with a sink inside a band, over the real numbers

One head of one block of 128 rows against its band of 256 keys: the scores, the probabilities with the sink's among
them, and the gradients. Also the few facts about extended reals that carry an expression over finite entries to the
real expression. -/

@[expose] public section

noncomputable section

open Idealize.ShloMosaic

namespace Cert.Swa

/-! ## One head over the reals -/

section Head

variable (M : Fin 128 → Fin 256 → Bool) (q g : Fin 128 → Fin 64 → ℝ) (k v : Fin 256 → Fin 64 → ℝ)
  (b : Fin 128 → Fin 256 → ℝ) (s : ℝ)

/-- The score of row `r` against key `j`. -/
def sc (r : Fin 128) (j : Fin 256) : ℝ := (∑ d, q r d * k j d) * (1 / 8) + b r j

/-- The exponential of a visible score; zero for a key that is not visible. -/
def ex (r : Fin 128) (j : Fin 256) : ℝ := if M r j then Real.exp (sc q k b r j) else 0

/-- The sum of a row's exponentials and the sink's. -/
def den (r : Fin 128) : ℝ := ∑ j, ex M q k b r j + Real.exp s

/-- The probability of a key. -/
def P (r : Fin 128) (j : Fin 256) : ℝ := ex M q k b r j / den M q k b s r

/-- The probability of the sink. -/
def PS (r : Fin 128) : ℝ := Real.exp s / den M q k b s r

/-- The gradient of a probability. -/
def DP (r : Fin 128) (j : Fin 256) : ℝ := ∑ d, g r d * v j d

/-- A row's sum of probability times gradient. -/
def DL (r : Fin 128) : ℝ := ∑ j, P M q k b s r j * DP g v r j

/-- The gradient of a score. -/
def DS (r : Fin 128) (j : Fin 256) : ℝ := P M q k b s r j * (DP g v r j - DL M q g k v b s r)

/-- A weight is not negative. -/
theorem ex_nonneg (r : Fin 128) (j : Fin 256) : 0 ≤ ex M q k b r j := by
  unfold ex; split
  · exact (Real.exp_pos _).le
  · exact le_rfl

/-- The denominator is positive. -/
theorem den_pos (r : Fin 128) : 0 < den M q k b s r :=
  add_pos_of_nonneg_of_pos (Finset.sum_nonneg fun j _ => ex_nonneg M q k b r j) (Real.exp_pos _)

/-- A key that is not visible has probability zero. -/
theorem P_hidden {r : Fin 128} {j : Fin 256} (h : M r j = false) : P M q k b s r j = 0 := by
  simp [P, ex, h]

/-- The gradient of the score of a key that is not visible is zero. -/
theorem DS_hidden {r : Fin 128} {j : Fin 256} (h : M r j = false) : DS M q g k v b s r j = 0 := by
  simp [DS, P_hidden M q k b s h]

/-- Only the visible keys' entries matter to the exponentials. -/
theorem ex_congr {k' : Fin 256 → Fin 64 → ℝ} {r : Fin 128} (h : ∀ j, M r j = true → k' j = k j) (j : Fin 256) :
    ex M q k' b r j = ex M q k b r j := by
  unfold ex sc
  by_cases hm : M r j = true
  · rw [h j hm]
  · simp [hm]

/-- Only the visible keys' entries matter to the sum. -/
theorem den_congr {k' : Fin 256 → Fin 64 → ℝ} {r : Fin 128} (h : ∀ j, M r j = true → k' j = k j) :
    den M q k' b s r = den M q k b s r := by
  unfold den
  rw [Finset.sum_congr rfl fun j _ => ex_congr M q k b h j]

/-- Only the visible keys' entries matter to the probabilities. -/
theorem P_congr {k' : Fin 256 → Fin 64 → ℝ} {r : Fin 128} (h : ∀ j, M r j = true → k' j = k j) (j : Fin 256) :
    P M q k' b s r j = P M q k b s r j := by
  unfold P; rw [ex_congr M q k b h j, den_congr M q k b s h]

/-- Only the visible keys' entries matter to the sink's probability. -/
theorem PS_congr {k' : Fin 256 → Fin 64 → ℝ} {r : Fin 128} (h : ∀ j, M r j = true → k' j = k j) :
    PS M q k' b s r = PS M q k b s r := by
  unfold PS; rw [den_congr M q k b s h]

/-- Only the visible keys' and values' entries matter to a row's sum of probability times gradient. -/
theorem DL_congr {k' v' : Fin 256 → Fin 64 → ℝ} {r : Fin 128} (h : ∀ j, M r j = true → k' j = k j)
    (h' : ∀ j, M r j = true → v' j = v j) : DL M q g k' v' b s r = DL M q g k v b s r := by
  unfold DL
  refine Finset.sum_congr rfl fun j _ => ?_
  rw [P_congr M q k b s h j]
  by_cases hm : M r j = true
  · unfold DP; rw [h' j hm]
  · rw [P_hidden M q k b s (by simpa using hm)]; simp

/-- Only the visible keys' and values' entries matter to the gradients of the scores. -/
theorem DS_congr {k' v' : Fin 256 → Fin 64 → ℝ} {r : Fin 128} (h : ∀ j, M r j = true → k' j = k j)
    (h' : ∀ j, M r j = true → v' j = v j) (j : Fin 256) : DS M q g k' v' b s r j = DS M q g k v b s r j := by
  unfold DS
  rw [P_congr M q k b s h j, DL_congr M q g k v b s h h']
  by_cases hm : M r j = true
  · unfold DP; rw [h' j hm]
  · rw [P_hidden M q k b s (by simpa using hm)]; simp

end Head

/-! ## From extended reals to reals -/

/-- A sum of finite extended reals is the real sum. -/
theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- A finite number over a nonzero one. -/
theorem div_coe_coe (x : ℝ) {y : ℝ} (h : y ≠ 0) : Ideal.div (x : EReal) (y : EReal) = ((x / y : ℝ) : EReal) := by
  rw [Ideal.div_coe h, ← EReal.coe_mul]; congr 1; field_simp

/-- The constant one eighth. -/
theorem eighth : Ideal.ofBits .f32 0x3E000000#32 = ((1 / 8 : ℝ) : EReal) := by
  simp [Ideal.ofBits, Ideal.ieee]
  rw [← EReal.coe_mul]; norm_num

/-- The constant that starts a maximum. -/
theorem negInf : Ideal.ofBits .f32 0xFF800000#32 = (⊥ : EReal) := by
  simp [Ideal.ofBits, Ideal.ieee]

/-- The larger of the largest of a row's masked scores and a finite number is finite. -/
theorem top_coe (f : Fin 256 → EReal) (M : Fin 256 → Bool) (x : Fin 256 → ℝ) (t : ℝ)
    (hf : ∀ j, f j = if M j then ((x j : ℝ) : EReal) else ⊥) :
    ∃ μ : ℝ, max (Finset.fold max ⊥ f Finset.univ) (t : EReal) = ((μ : ℝ) : EReal) := by
  have hlt : max (Finset.fold max ⊥ f Finset.univ) (t : EReal) < ⊤ := by
    refine max_lt ((Finset.fold_max_lt _).2 ⟨bot_lt_top, fun j _ => ?_⟩) (EReal.coe_lt_top t)
    rw [hf j]; split
    · exact EReal.coe_lt_top _
    · exact bot_lt_top
  have hgt : ⊥ < max (Finset.fold max ⊥ f Finset.univ) (t : EReal) := lt_max_of_lt_right (EReal.bot_lt_coe t)
  exact ⟨_, (EReal.coe_toReal hlt.ne hgt.ne').symm⟩

/-- The exponential of a masked score less a finite number. -/
theorem exp_masked (M : Bool) (x μ : ℝ) :
    Ideal.exp ((if M then ((x : ℝ) : EReal) else ⊥) - ((μ : ℝ) : EReal))
      = (((if M then Real.exp x else 0) * Real.exp (-μ) : ℝ) : EReal) := by
  cases M
  · simp only [Bool.false_eq_true, if_false, EReal.bot_sub, zero_mul]; rfl
  · simp only [if_true]
    rw [← EReal.coe_sub, Ideal.exp_coe, sub_eq_add_neg, Real.exp_add]

/-- The exponential of a difference of finite numbers. -/
theorem exp_sub_coe (x μ : ℝ) : Ideal.exp (((x : ℝ) : EReal) - ((μ : ℝ) : EReal))
      = ((Real.exp x * Real.exp (-μ) : ℝ) : EReal) := by
  rw [← EReal.coe_sub, Ideal.exp_coe, sub_eq_add_neg, Real.exp_add]

/-- A sum over 128 lanes of which one half is kept is the sum over that half. -/
theorem sum_half (e : Bool) (f : Fin 128 → ℝ) :
    ∑ l : Fin 128, (if decide (64 ≤ l.val) = e then f l else 0)
      = ∑ d : Fin 64, f ⟨64 * e.toNat + d.val, by have := d.isLt; cases e <;> simp <;> omega⟩ := by
  have h : ∀ F : Fin 128 → ℝ, ∑ l, F l = ∑ d : Fin 64, F ⟨d.val, by omega⟩ + ∑ d : Fin 64, F ⟨64 + d.val, by omega⟩ :=
    fun F => Fin.sum_univ_add (a := 64) (b := 64) F
  rw [h]
  cases e
  · rw [Finset.sum_eq_zero (s := Finset.univ) (f := fun d : Fin 64 => if decide (64 ≤ 64 + d.val) = false then _ else _)]
    · simp
    · intro d _; simp
  · have h0 : ∀ d : Fin 64, ¬ 64 ≤ d.val := fun d => by omega
    simp [h0]

end Cert.Swa
-- ==== Proof.HeadRead.lean ====
module

public import proofs.«01_k».proof.Proof.Block
public import proofs.«01_k».proof.Proof.Model
public import Idealize.ShloMosaic.Lib.Pointwise
public import Idealize.ShloMosaic.Lib.WordArith

@[expose] public section

set_option maxRecDepth 16384

noncomputable section

open Idealize.ShloMosaic Idealize.ShloMosaic.TcCoe Idealize.SL.Sem
open Idealize.ShloMosaic.Pointwise

namespace Cert.KernelIdeal.Block

open Cert.KernelIdeal Cert.KernelIdeal.Gen

/-! ## Masks and lanes -/

/-- Whether row `r` of block `n` sees key `j` of its band: the key lies less than 128 rows back, and not in the padding. -/
def vis (n : ℕ) (r : Fin 128) (j : Fin 256) : Bool := decide (r.val < j.val ∧ j.val ≤ r.val + 128 ∧ 240 ≤ n * 128 + j.val)

/-- A small natural number as a signed word. -/
theorem toInt_ofNat_small {n : ℕ} (h : n < 2 ^ 31) : (BitVec.ofNat 32 n).toInt = (n : ℤ) := by
  rw [BitVec.toInt_ofNat']
  rw [Int.bmod_eq_of_le] <;> omega

/-- The kernel's mask word. -/
theorem mask_word {n r j : ℕ} (hn : n < 33) (hr : r < 128) (hj : j < 256) :
    IntOp.andi
        (IntOp.andi
          (IntOp.cmpi CmpIPredicate.sge (IntOp.subi (IntOp.addi (BitVec.ofNat 32 r) 128#32) (BitVec.ofNat 32 j)) 0#32)
          (IntOp.cmpi CmpIPredicate.slt (IntOp.subi (IntOp.addi (BitVec.ofNat 32 r) 128#32) (BitVec.ofNat 32 j))
            128#32))
        (IntOp.cmpi CmpIPredicate.sge
          (IntOp.addi (Scalar.muli (Scalar.subi (BitVec.ofNat 32 n) 1#32) 128#32) (BitVec.ofNat 32 j)) 112#32)
      = BitVec.ofBool (decide (r < j ∧ j ≤ r + 128 ∧ 240 ≤ n * 128 + j)) := by
  have e1 : (BitVec.ofNat 32 r + 128#32 - BitVec.ofNat 32 j).toInt = (r : ℤ) + 128 - j := by
    have a1 : (BitVec.ofNat 32 r + 128#32).toInt = (r : ℤ) + 128 := by
      rw [WordArith.toInt_add_of_bounds, toInt_ofNat_small (by omega)] <;>
        rw [toInt_ofNat_small (by omega)] <;> simp <;> omega
    rw [WordArith.toInt_sub_of_bounds, a1, toInt_ofNat_small (by omega)] <;>
        rw [toInt_ofNat_small (by omega), a1] <;> omega
  have e2 : ((BitVec.ofNat 32 n - 1#32) * 128#32 + BitVec.ofNat 32 j).toInt = ((n : ℤ) - 1) * 128 + j := by
    have a1 : (BitVec.ofNat 32 n - 1#32).toInt = (n : ℤ) - 1 := by
      rw [WordArith.toInt_sub_of_bounds, toInt_ofNat_small (by omega)] <;>
        rw [toInt_ofNat_small (by omega)] <;> simp <;> omega
    have a2 : ((BitVec.ofNat 32 n - 1#32) * 128#32).toInt = ((n : ℤ) - 1) * 128 := by
      rw [WordArith.toInt_mul_of_bounds, a1]
      · rfl
      · rw [a1, show (128#32 : BitVec 32).toInt = 128 from rfl]; omega
      · rw [a1, show (128#32 : BitVec 32).toInt = 128 from rfl]; omega
    rw [WordArith.toInt_add_of_bounds, a2, toInt_ofNat_small (by omega)] <;>
        rw [toInt_ofNat_small (by omega), a2] <;> omega
  have c1 : IntOp.cmpi CmpIPredicate.sge (IntOp.subi (IntOp.addi (BitVec.ofNat 32 r) 128#32) (BitVec.ofNat 32 j)) 0#32
      = BitVec.ofBool (decide (j ≤ r + 128)) := by
    show BitVec.ofBool (BitVec.sle 0#32 (BitVec.ofNat 32 r + 128#32 - BitVec.ofNat 32 j)) = _
    rw [BitVec.sle_eq_decide, e1]
    congr 1; simp; omega
  have c2 : IntOp.cmpi CmpIPredicate.slt (IntOp.subi (IntOp.addi (BitVec.ofNat 32 r) 128#32) (BitVec.ofNat 32 j)) 128#32
      = BitVec.ofBool (decide (r < j)) := by
    show BitVec.ofBool (BitVec.slt (BitVec.ofNat 32 r + 128#32 - BitVec.ofNat 32 j) 128#32) = _
    rw [BitVec.slt_eq_decide, e1]
    congr 1; simp; omega
  have c3 : IntOp.cmpi CmpIPredicate.sge
          (IntOp.addi (Scalar.muli (Scalar.subi (BitVec.ofNat 32 n) 1#32) 128#32) (BitVec.ofNat 32 j)) 112#32
      = BitVec.ofBool (decide (240 ≤ n * 128 + j)) := by
    show BitVec.ofBool (BitVec.sle 112#32 ((BitVec.ofNat 32 n - 1#32) * 128#32 + BitVec.ofNat 32 j)) = _
    rw [BitVec.sle_eq_decide, e2]
    congr 1; simp; omega
  rw [c1, c2, c3]
  by_cases h1 : r < j <;> by_cases h2 : j ≤ r + 128 <;> by_cases h3 : 240 ≤ n * 128 + j <;> simp [h1, h2, h3] <;> rfl

/-- The kernel's mask at an index. -/
theorem pay9_apply (i : grid0.Coords) (r : Fin 128) (j : Fin 256) :
    k0_pay9 i (ix2 r j) = BitVec.ofBool (vis (i 0).val r j) := by
  pointwise [k0_pay9]
  exact mask_word (i 0).isLt r.isLt j.isLt

/-- A selection by a truth value's bit. -/
theorem select_ofBool {α : Type} (b : Bool) (x y : α) : Scalar.select (BitVec.ofBool b) x y = if b then x else y := by
  cases b <;> rfl

/-- Which lanes a half keeps. -/
theorem half_apply (e : Bool) (l : Fin 128) :
    half e (ix2 0 l) = BitVec.ofBool (decide (decide (64 ≤ l.val) = e)) := by
  have c : IntOp.cmpi CmpIPredicate.slt (BitVec.ofNat 32 l.val) 64#32 = BitVec.ofBool (decide (l.val < 64)) := by
    show BitVec.ofBool (BitVec.slt (BitVec.ofNat 32 l.val) 64#32) = _
    rw [BitVec.slt_eq_decide, toInt_ofNat_small (by omega)]
    congr 1; simp
  cases e
  · have h : half false (ix2 0 l) = BitVec.ofBool (decide (l.val < 64)) := by
      rw [← c]; simp only [half, cond_false]; pointwise [lower, lanes]
    rw [h]; simp
  · have h : half true (ix2 0 l) = IntOp.xori (BitVec.ofBool (decide (l.val < 64))) 1#1 := by
      rw [← c]; simp only [half, cond_true]; pointwise [lower, lanes]
    rw [h]
    by_cases h1 : l.val < 64
    · simp [h1, show ¬ 64 ≤ l.val by omega]; rfl
    · simp [h1, show 64 ≤ l.val by omega]; rfl

/-- A tile with one half kept. -/
theorem keep_apply (e : Bool) (x : FVec Ideal S128x128 .f32) (r l : Fin 128) :
    keep (half e) x (ix2 r l) = if decide (64 ≤ l.val) = e then x (ix2 r l) else 0 := by
  pointwise [keep]
  rw [half_apply, select_ofBool]; simp

/-- A band with one half kept. -/
theorem keepBand_apply (e : Bool) (x : FVec Ideal S256x128 .f32) (r : Fin 256) (l : Fin 128) :
    keepBand (half e) x (ix2 r l) = if decide (64 ≤ l.val) = e then x (ix2 r l) else 0 := by
  pointwise [keepBand]
  rw [half_apply, select_ofBool]; simp

/-- The lane that a rotation by 64, or none, reads. -/
def rot (sw : Bool) (l : Fin 128) : Fin 128 := ⟨cond sw ((l.val + 64) % 128) l.val, by cases sw <;> simp <;> omega⟩

/-- A band with its halves exchanged, or not. -/
theorem turnBand_apply (sw : Bool) (x : FVec Ideal S256x128 .f32) (r : Fin 256) (l : Fin 128) :
    turnBand sw x (ix2 r l) = x (ix2 r (rot sw l)) := by
  cases sw
  · rfl
  · simp only [turnBand, cond_true]
    pointwise []
    congr 2

/-- A tile with its halves exchanged, or not. -/
theorem turn_apply (sw : Bool) (x : FVec Ideal S128x128 .f32) (r : Fin 128) (l : Fin 128) :
    turn sw x (ix2 r l) = x (ix2 r (rot sw l)) := by
  cases sw
  · rfl
  · simp only [turn, cond_true]
    pointwise []
    congr 2

/-! ## One head's arrays at an index -/

open Cert.Swa

/-- Column `d` of head `h` among the 512. -/
def col (h : Fin 8) (d : Fin 64) : Fin 512 := ⟨h.val * 64 + d.val, by omega⟩

/-- Column `d` of the key head that head `h` reads, among the 128. -/
def kcol (h : Fin 8) (d : Fin 64) : Fin 128 := ⟨h.val / 4 * 64 + d.val, by omega⟩

/-- Column `l` of the pair of head `h`. -/
def pcol (h : Fin 8) (l : Fin 128) : Fin 512 := ⟨128 * (h.val / 2) + l.val, by omega⟩

/-- The column of a head inside its pair of heads. -/
theorem pcol_half (h : Fin 8) (d : Fin 64) (hb) : pcol h ⟨64 * (sideOf h).toNat + d.val, hb⟩ = col h d := by
  apply Fin.ext
  rcases h with ⟨h, hh⟩
  interval_cases h <;> simp [pcol, col, sideOf] <;> omega

/-- The column of the keys that a head reads after the exchange of halves. -/
theorem rot_half (h : Fin 8) (d : Fin 64) (hb) : rot (crossOf h) ⟨64 * (sideOf h).toNat + d.val, hb⟩ = kcol h d := by
  apply Fin.ext
  rcases h with ⟨h, hh⟩
  interval_cases h <;> simp [rot, kcol, sideOf, crossOf] <;> omega

/-- The kept queries of a head. -/
theorem qm_apply (x1 : Vec Ideal S128x512 .f32) (h : Fin 8) (r l : Fin 128) :
    qm x1 h (ix2 r l) = if decide (64 ≤ l.val) = sideOf h then x1 (ix2 r (pcol h l)) else 0 := by
  unfold qm
  rw [keep_apply]
  congr 1
  pointwise [qAt]
  rfl

/-- The kept incoming gradient of a head. -/
theorem dom_apply (x7 : Vec Ideal S128x512 .bf16) (h : Fin 8) (r l : Fin 128) :
    dom x7 h (ix2 r l) = if decide (64 ≤ l.val) = sideOf h then (x7 (ix2 r (pcol h l)) : EReal) else 0 := by
  unfold dom
  rw [keep_apply]
  congr 1
  pointwise [doAt]
  rfl

/-- The scores, and the gradients of the probabilities, sum over a head's 64 columns. -/
theorem sum_head (q : Fin 128 → Fin 512 → ℝ) (k : Fin 256 → Fin 128 → ℝ) (h : Fin 8) (r : Fin 128) (j : Fin 256)
    (A : Fin 128 → EReal) (K : Fin 256 → Fin 128 → EReal)
    (hA : ∀ l, A l = if decide (64 ≤ l.val) = sideOf h then ((q r (pcol h l) : ℝ) : EReal) else 0)
    (hK : ∀ j l, K j l = ((k j l : ℝ) : EReal)) :
    ∑ l : Fin 128, A l * K j (rot (crossOf h) l) = ((∑ d, q r (col h d) * k j (kcol h d) : ℝ) : EReal) := by
  have e : ∀ l : Fin 128, A l * K j (rot (crossOf h) l)
      = (((if decide (64 ≤ l.val) = sideOf h then q r (pcol h l) * k j (rot (crossOf h) l) else 0 : ℝ)) : EReal) := by
    intro l
    rw [hA, hK]
    split
    · rw [EReal.coe_mul]
    · simp
  rw [Finset.sum_congr rfl fun l _ => e l, coe_sum, sum_half]
  congr 1
  refine Finset.sum_congr rfl fun d _ => ?_
  rw [pcol_half, rot_half]

set_option maxHeartbeats 1000000 in
/-- Four pairs' tiles side by side, read at a head's column. -/
theorem pairs_apply (f : Fin 8 → Fin 8 → FVec Ideal S128x128 .f32) (T : Fin 8 → EReal) (r : Fin 128) (d : Fin 64)
    (key : ∀ h h' : Fin 8, sideOf h = false → sideOf h' = true → ∀ (l : Fin 128) (k0 : Fin 8), k0 = (if l.val < 64 then h else h') →
      rot (crossOf k0) l = kcol k0 d → f h h' (ix2 r l) = T k0) (h : Fin 8) :
    concatenate S128x512 1 [⟨S128x128, f 0 1⟩, ⟨S128x128, f 2 3⟩, ⟨S128x128, f 4 5⟩, ⟨S128x128, f 6 7⟩]
      concatenates_S128x128_S128x128_S128x128_S128x128_S128x512_d1 (ix2 r (col h d)) = T h := by
  pointwise []
  have hd := d.isLt
  rcases h with ⟨h, hh⟩
  have hc : (col ⟨h, hh⟩ d).val = h * 64 + d.val := rfl
  interval_cases h
  · rw [dif_pos (by simp only [hc]; omega)]
    exact key 0 1 (by decide) (by decide) _ 0 (by rw [if_pos (by simp only [hc]; omega)])
      (Fin.ext (by simp [rot, kcol, crossOf, col]; try omega))
  · rw [dif_pos (by simp only [hc]; omega)]
    exact key 0 1 (by decide) (by decide) _ 1 (by rw [if_neg (by simp only [hc]; omega)])
      (Fin.ext (by simp [rot, kcol, crossOf, col]; try omega))
  · rw [dif_neg (by simp only [hc]; omega), dif_pos (by simp only [hc]; omega)]
    exact key 2 3 (by decide) (by decide) _ 2 (by rw [if_pos (by simp only [hc]; omega)])
      (Fin.ext (by simp [rot, kcol, crossOf, col]; try omega))
  · rw [dif_neg (by simp only [hc]; omega), dif_pos (by simp only [hc]; omega)]
    exact key 2 3 (by decide) (by decide) _ 3 (by rw [if_neg (by simp only [hc]; omega)])
      (Fin.ext (by simp [rot, kcol, crossOf, col]; try omega))
  · rw [dif_neg (by simp only [hc]; omega), dif_neg (by simp only [hc]; omega), dif_pos (by simp only [hc]; omega)]
    exact key 4 5 (by decide) (by decide) _ 4 (by rw [if_pos (by simp only [hc]; omega)])
      (Fin.ext (by simp [rot, kcol, crossOf, col]; try omega))
  · rw [dif_neg (by simp only [hc]; omega), dif_neg (by simp only [hc]; omega), dif_pos (by simp only [hc]; omega)]
    exact key 4 5 (by decide) (by decide) _ 5 (by rw [if_neg (by simp only [hc]; omega)])
      (Fin.ext (by simp [rot, kcol, crossOf, col]; try omega))
  · rw [dif_neg (by simp only [hc]; omega), dif_neg (by simp only [hc]; omega), dif_neg (by simp only [hc]; omega)]
    exact key 6 7 (by decide) (by decide) _ 6 (by rw [if_pos (by simp only [hc]; omega)])
      (Fin.ext (by simp [rot, kcol, crossOf, col]; try omega))
  · rw [dif_neg (by simp only [hc]; omega), dif_neg (by simp only [hc]; omega), dif_neg (by simp only [hc]; omega)]
    exact key 6 7 (by decide) (by decide) _ 7 (by rw [if_neg (by simp only [hc]; omega)])
      (Fin.ext (by simp [rot, kcol, crossOf, col]; try omega))

section Heads

variable (i : grid0.Coords) (x0 : Vec Ideal S8 .f32) (x1 : Vec Ideal S128x512 .f32) (x2 x3 x4 x5 : Vec Ideal S128x128 .f32)
  (x6 : Vec Ideal S8x128x256 .f32) (x7 : Vec Ideal S128x512 .bf16)
  (s : Fin 8 → ℝ) (q g : Fin 128 → Fin 512 → ℝ) (k v : Fin 256 → Fin 128 → ℝ) (b : Fin 8 → Fin 128 → Fin 256 → ℝ)

/-- The input blocks hold the given real numbers. -/
structure Holds : Prop where
  sink : ∀ h, x0 (ix1 h) = ((s h : ℝ) : EReal)
  qry : ∀ r c, x1 (ix2 r c) = ((q r c : ℝ) : EReal)
  key : ∀ j l, band x2 x3 (ix2 j l) = ((k j l : ℝ) : EReal)
  val : ∀ j l, band x4 x5 (ix2 j l) = ((v j l : ℝ) : EReal)
  bias : ∀ h r j, x6 (ix3 h r j) = ((b h r j : ℝ) : EReal)
  grad : ∀ r c, x7 (ix2 r c) = ((g r c : ℝ) : EReal)

/-- Head `h`'s probabilities over the reals. -/
def PH (n : ℕ) (h : Fin 8) (r : Fin 128) (j : Fin 256) : ℝ :=
  P (vis n) (fun r d => q r (col h d)) (fun j d => k j (kcol h d)) (b h) (s h) r j

/-- Head `h`'s probability of the sink over the reals. -/
def PSH (n : ℕ) (h : Fin 8) (r : Fin 128) : ℝ :=
  PS (vis n) (fun r d => q r (col h d)) (fun j d => k j (kcol h d)) (b h) (s h) r

/-- Head `h`'s sums of probability times gradient over the reals. -/
def DLH (n : ℕ) (h : Fin 8) (r : Fin 128) : ℝ :=
  DL (vis n) (fun r d => q r (col h d)) (fun r d => g r (col h d)) (fun j d => k j (kcol h d)) (fun j d => v j (kcol h d))
    (b h) (s h) r

/-- Head `h`'s gradients of the scores over the reals. -/
def DSH (n : ℕ) (h : Fin 8) (r : Fin 128) (j : Fin 256) : ℝ :=
  DS (vis n) (fun r d => q r (col h d)) (fun r d => g r (col h d)) (fun j d => k j (kcol h d)) (fun j d => v j (kcol h d))
    (b h) (s h) r j

variable {i x0 x1 x2 x3 x4 x5 x6 x7 s q g k v b}
variable (H : Holds x0 x1 x2 x3 x4 x5 x6 x7 s q g k v b)
include H

/-- A head's masked scores. -/
theorem scoreH_apply (h : Fin 8) (r : Fin 128) (j : Fin 256) :
    scoreH i x1 x2 x3 x6 h (ix2 r j) = if vis (i 0).val r j then
      ((sc (fun r d => q r (col h d)) (fun j d => k j (kcol h d)) (b h) r j : ℝ) : EReal) else ⊥ := by
  unfold scoreH
  pointwise [score]
  rw [pay9_apply, select_ofBool]
  congr 1
  · have e := sum_head q k h r j (fun l => qm x1 h (ix2 r l)) (fun j l => band x2 x3 (ix2 j l))
      (fun l => by rw [qm_apply]; simp only [H.qry]) H.key
    rw [Finset.sum_congr rfl fun l _ => by rw [turned, turnBand_apply]]
    rw [e]
    pointwise [plane]
    rw [H.bias, eighth, ← EReal.coe_mul, ← EReal.coe_add]
    rfl

/-- A head's probabilities, and its sink's. -/
theorem probs (h : Fin 8) (r : Fin 128) :
    (∀ j, probH i x0 x1 x2 x3 x6 h (ix2 r j) = ((PH s q k b (i 0).val h r j : ℝ) : EReal))
      ∧ probSinkH i x0 x1 x2 x3 x6 h (ix2 r 0) = ((PSH s q k b (i 0).val h r : ℝ) : EReal) := by
  have hs := scoreH_apply (i := i) H h r
  have hk : sinkAt x0 h = ((s h : ℝ) : EReal) := by
    pointwise [sinkAt]; exact H.sink h
  obtain ⟨μ, hμ⟩ := top_coe (fun j => scoreH i x1 x2 x3 x6 h (ix2 r j)) (vis (i 0).val r) _ (s h) hs
  have hex : ∀ j, Ideal.exp (scoreH i x1 x2 x3 x6 h (ix2 r j) - ((μ : ℝ) : EReal))
      = ((ex (vis (i 0).val) (fun r d => q r (col h d)) (fun j d => k j (kcol h d)) (b h) r j * Real.exp (-μ) : ℝ) : EReal) :=
    fun j => by rw [hs j, exp_masked]; rfl
  have hden : ∑ j, Ideal.exp (scoreH i x1 x2 x3 x6 h (ix2 r j) - ((μ : ℝ) : EReal))
        + Ideal.exp (((s h : ℝ) : EReal) - ((μ : ℝ) : EReal))
      = ((den (vis (i 0).val) (fun r d => q r (col h d)) (fun j d => k j (kcol h d)) (b h) (s h) r * Real.exp (-μ) : ℝ) : EReal) := by
    rw [Finset.sum_congr rfl fun j _ => hex j, coe_sum, exp_sub_coe, ← EReal.coe_add, ← Finset.sum_mul, ← add_mul]
    rfl
  have hpos := den_pos (vis (i 0).val) (fun r d => q r (col h d)) (fun j d => k j (kcol h d)) (b h) (s h) r
  have hE := Real.exp_pos (-μ)
  constructor
  · intro j
    unfold probH
    pointwise [prob, recip, weight, weightSink, top]
    rw [hk, negInf, hμ, hden, hex, ← EReal.coe_one, div_coe_coe _ (mul_pos hpos hE).ne', ← EReal.coe_mul]
    congr 1
    unfold PH P
    field_simp
  · unfold probSinkH
    pointwise [probSink, recip, weight, weightSink, top]
    rw [hk, negInf, hμ, hden, exp_sub_coe, ← EReal.coe_one, div_coe_coe _ (mul_pos hpos hE).ne', ← EReal.coe_mul]
    congr 1
    unfold PSH PS
    field_simp

/-- A head's gradients of the probabilities. -/
theorem dprobH_apply (h : Fin 8) (r : Fin 128) (j : Fin 256) :
    dprobH x4 x5 x7 h (ix2 r j)
      = ((DP (fun r d => g r (col h d)) (fun j d => v j (kcol h d)) r j : ℝ) : EReal) := by
  unfold dprobH
  pointwise [dprob]
  rw [Finset.sum_congr rfl fun l _ => by rw [turned, turnBand_apply]]
  exact sum_head g v h r j (fun l => dom x7 h (ix2 r l)) (fun j l => band x4 x5 (ix2 j l))
      (fun l => by rw [dom_apply]; simp only [H.grad]) H.val

/-- A head's sums of probability times gradient. -/
theorem deltaH_apply (h : Fin 8) (r : Fin 128) :
    delta (probH i x0 x1 x2 x3 x6 h) (dprobH x4 x5 x7 h) (ix2 r 0) = ((DLH s q g k v b (i 0).val h r : ℝ) : EReal) := by
  pointwise [delta]
  rw [Finset.sum_congr rfl fun j _ => by rw [(probs (i := i) H h r).1 j, dprobH_apply H, ← EReal.coe_mul], coe_sum]
  rfl

/-- A head's gradients of the scores. -/
theorem dscoreH_apply (h : Fin 8) (r : Fin 128) (j : Fin 256) :
    dscoreH i x0 x1 x2 x3 x4 x5 x6 x7 h (ix2 r j) = ((DSH s q g k v b (i 0).val h r j : ℝ) : EReal) := by
  unfold dscoreH
  pointwise [dscore]
  rw [(probs (i := i) H h r).1 j, dprobH_apply H, deltaH_apply (i := i) H, ← EReal.coe_sub, ← EReal.coe_mul]
  rfl

end Heads

section Blocks

variable {i : grid0.Coords} {x0 : Vec Ideal S8 .f32} {x1 : Vec Ideal S128x512 .f32} {x2 x3 x4 x5 : Vec Ideal S128x128 .f32}
  {x6 : Vec Ideal S8x128x256 .f32} {x7 : Vec Ideal S128x512 .bf16}
  {s : Fin 8 → ℝ} {q g : Fin 128 → Fin 512 → ℝ} {k v : Fin 256 → Fin 128 → ℝ} {b : Fin 8 → Fin 128 → Fin 256 → ℝ}

/-! ## The blocks of a grid point over the reals -/

/-- Eight terms added onto a start, at an index. -/
theorem sum8_apply {S : Shape} (z : FVec Ideal S .f32) (f : Fin 8 → FVec Ideal S .f32) (y : S.Idx) :
    sum8 z f y = (z y : EReal) + ∑ h, (f h y : EReal) := by
  rw [Fin.sum_univ_eight]
  show ((((((((z y : EReal) + f 0 y) + f 1 y) + f 2 y) + f 3 y) + f 4 y) + f 5 y) + f 6 y) + f 7 y = _
  simp only [add_assoc]

variable (s q g k v b)

/-- The gradient of the queries of a block. -/
def dqR (n : ℕ) (h : Fin 8) (r : Fin 128) (d : Fin 64) : ℝ :=
  ∑ j, DSH s q g k v b n h r j * (1 / 8) * k j (kcol h d)

/-- Head `h`'s part of the gradient of the keys of a block's band. -/
def dkR (n : ℕ) (h : Fin 8) (j : Fin 256) (d : Fin 64) : ℝ :=
  ∑ r, DSH s q g k v b n h r j * (1 / 8) * q r (col h d)

/-- Head `h`'s part of the gradient of the values of a block's band. -/
def dvR (n : ℕ) (h : Fin 8) (j : Fin 256) (d : Fin 64) : ℝ :=
  ∑ r, PH s q k b n h r j * g r (col h d)

/-- What row `r` adds to the gradient of the sink of lane `l`. -/
def sinkR (n : ℕ) (r l : Fin 128) : ℝ :=
  if h : l.val < 8 then -(PSH s q k b n ⟨l.val, h⟩ r * DLH s q g k v b n ⟨l.val, h⟩ r) else 0

variable {s q g k v b}
variable (H : Holds x0 x1 x2 x3 x4 x5 x6 x7 s q g k v b)
include H

/-- A head's part of its pair's gradient of the queries: zero outside the head's half. -/
theorem dqH_apply (h : Fin 8) (r l : Fin 128) :
    dqH i x0 x1 x2 x3 x4 x5 x6 x7 h (ix2 r l) = if decide (64 ≤ l.val) = sideOf h then
      ((∑ j, DSH s q g k v b (i 0).val h r j * (1 / 8) * k j (rot (crossOf h) l) : ℝ) : EReal) else 0 := by
  pointwise [dqH, dqPart, dscaled]
  rw [eighth]
  rw [Finset.sum_congr rfl fun j _ => by
    rw [dscoreH_apply (i := i) H, keepBand_apply, turned, turnBand_apply, H.key, ← EReal.coe_mul]]
  split
  · rw [← coe_sum]; exact Finset.sum_congr rfl fun j _ => (EReal.coe_mul _ _).symm
  · simp

/-- The gradient of a pair's queries. -/
theorem dqPair_apply (h h' : Fin 8) (e : sideOf h = false) (e' : sideOf h' = true) (r l : Fin 128)
    (k0 : Fin 8) (d : Fin 64) (hk : k0 = if l.val < 64 then h else h') (hd : rot (crossOf k0) l = kcol k0 d) :
    dqPair i x0 x1 x2 x3 x4 x5 x6 x7 h h' (ix2 r l) = ((dqR s q g k v b (i 0).val k0 r d : ℝ) : EReal) := by
  pointwise [dqPair]
  rw [dqH_apply H, dqH_apply H, e, e']
  unfold dqR
  rw [← hd]
  by_cases hl : l.val < 64
  · simp [hk, hl, show ¬ 64 ≤ l.val by omega]
  · simp [hk, hl, show 64 ≤ l.val by omega]

/-- The block of the gradient of the queries. -/
theorem dqBlock_apply (r : Fin 128) (h : Fin 8) (d : Fin 64) :
    dqBlock i x0 x1 x2 x3 x4 x5 x6 x7 (ix2 r (col h d)) = ((dqR s q g k v b (i 0).val h r d : ℝ) : EReal) :=
  pairs_apply (fun h h' => dqPair i x0 x1 x2 x3 x4 x5 x6 x7 h h') (fun h => ((dqR s q g k v b (i 0).val h r d : ℝ) : EReal)) r d
    (fun h h' e e' l k0 hk hd => dqPair_apply (i := i) H h h' e e' r l k0 d hk hd) h

omit H in
/-- A head's kept queries or gradients, brought to the lanes of its keys. -/
theorem turn_kept (f : Fin 128 → Fin 512 → ℝ) (y : FVec Ideal S128x128 .f32) (h : Fin 8) (a : Fin 2) (d : Fin 64)
    (hy : ∀ r l, y (ix2 r l) = if decide (64 ≤ l.val) = sideOf h then ((f r (pcol h l) : ℝ) : EReal) else 0)
    (c : Fin 128) (e : c.val = a.val * 64 + d.val) (r : Fin 128) :
    turn (crossOf h) y (ix2 r c) = ((if h.val / 4 = a.val then f r (col h d) else 0 : ℝ) : EReal) := by
  rw [turn_apply, hy]
  have hd := d.isLt
  have h1 : decide (64 ≤ (rot (crossOf h) c).val) = sideOf h ↔ h.val / 4 = a.val := by
    rcases h with ⟨h, hh⟩
    rcases a with ⟨a, ha⟩
    interval_cases h <;> interval_cases a <;> simp [rot, crossOf, sideOf, e] <;> omega
  by_cases h2 : h.val / 4 = a.val
  · rw [if_pos (h1.2 h2), if_pos h2]
    congr 2
    apply Fin.ext
    rcases h with ⟨h, hh⟩
    rcases a with ⟨a, ha⟩
    interval_cases h <;> interval_cases a <;> simp [rot, crossOf, pcol, col, e] at h2 ⊢ <;> omega
  · rw [if_neg (fun hx => h2 (h1.1 hx)), if_neg h2, EReal.coe_zero]

/-- The block of the gradient of the keys. -/
theorem dkBlock_apply (j : Fin 256) (a : Fin 2) (d : Fin 64) (c : Fin 128) (e : c.val = a.val * 64 + d.val) :
    dkBlock i x0 x1 x2 x3 x4 x5 x6 x7 (ix3 0 j c)
      = ((∑ h : Fin 8, if h.val / 4 = a.val then dkR s q g k v b (i 0).val h j d else 0 : ℝ) : EReal) := by
  pointwise [dkBlock]
  rw [sum8_apply, ← coe_sum]
  pointwise []
  refine Finset.sum_congr rfl fun h _ => ?_
  pointwise [dkPart, dscaled]
  rw [eighth]
  rw [Finset.sum_congr rfl fun r _ => by
    rw [dscoreH_apply (i := i) H, turn_kept q _ h a d (fun r l => by rw [qm_apply]; simp only [H.qry]) c e, ← EReal.coe_mul,
      ← EReal.coe_mul], coe_sum]
  congr 1
  unfold dkR
  split <;> simp

/-- The block of the gradient of the values. -/
theorem dvBlock_apply (j : Fin 256) (a : Fin 2) (d : Fin 64) (c : Fin 128) (e : c.val = a.val * 64 + d.val) :
    dvBlock i x0 x1 x2 x3 x6 x7 (ix3 0 j c)
      = ((∑ h : Fin 8, if h.val / 4 = a.val then dvR s q g k b (i 0).val h j d else 0 : ℝ) : EReal) := by
  pointwise [dvBlock]
  rw [sum8_apply, ← coe_sum]
  pointwise []
  refine Finset.sum_congr rfl fun h _ => ?_
  pointwise [dvPart]
  rw [Finset.sum_congr rfl fun r _ => by
    rw [(probs (i := i) H h r).1 j, turn_kept g _ h a d (fun r l => by rw [dom_apply]; simp only [H.grad]) c e,
      ← EReal.coe_mul], coe_sum]
  congr 1
  unfold dvR
  split <;> simp

/-- What a head adds to the running gradient of the sinks. -/
theorem sinkTerm_apply (h : Fin 8) (r l : Fin 128) :
    sinkTerm i x0 x1 x2 x3 x4 x5 x6 x7 h (ix2 r l)
      = ((if l.val = h.val then -(PSH s q k b (i 0).val h r * DLH s q g k v b (i 0).val h r) else 0 : ℝ) : EReal) := by
  have c : IntOp.cmpi CmpIPredicate.eq (BitVec.ofNat 32 l.val) (BitVec.ofNat 32 h.val)
      = BitVec.ofBool (decide (l.val = h.val)) := by
    show BitVec.ofBool (BitVec.ofNat 32 l.val == BitVec.ofNat 32 h.val) = _
    congr 1
    rw [Bool.eq_iff_iff, beq_iff_eq, decide_eq_true_iff, ← BitVec.toNat_inj, BitVec.toNat_ofNat, BitVec.toNat_ofNat]
    omega
  pointwise [sinkTerm, lanes]
  rw [c, select_ofBool, (probs (i := i) H h r).2, deltaH_apply (i := i) H, ← EReal.coe_mul]
  by_cases e : l.val = h.val
  · simp [e]
  · simp [e]

/-- The running gradient of the sinks after a point. -/
theorem sinkNext_apply (acc : FVec Ideal S128x128 .f32) (r l : Fin 128) :
    sinkNext i x0 x1 x2 x3 x4 x5 x6 x7 acc (ix2 r l)
      = (acc (ix2 r l) : EReal) + ((sinkR s q g k v b (i 0).val r l : ℝ) : EReal) := by
  pointwise [sinkNext, sinkStep]
  simp only [sinkTerm_apply H, add_assoc, ← EReal.coe_add]
  refine congrArg (fun t : ℝ => (acc (ix2 r l) : EReal) + (t : EReal)) ?_
  unfold sinkR
  by_cases hl : l.val < 8
  · rw [dif_pos hl]
    rcases l with ⟨l, hl'⟩
    simp only at hl
    interval_cases l <;> simp
  · rw [dif_neg hl]
    have h0 : ∀ n : ℕ, n < 8 → ¬ l.val = n := fun n hn => by omega
    simp [h0]

/-- The planes of the gradient of the bias after a point. -/
theorem biasPieces_of (old : Vec Ideal S8x128x256 .f32) :
    View.PiecesOf (fun y => (old y : EReal) + ((DSH s q g k v b (i 0).val (y 0) (y 1) (y 2) : ℝ) : EReal))
      (biasPieces i x0 x1 x2 x3 x4 x5 x6 x7 old) := by
  have key : ∀ h : Fin 8, ∀ x : S1x128x256.Idx,
      biasPlane i x0 x1 x2 x3 x4 x5 x6 x7 old h x
        = (fun y : S8x128x256.Idx => (old y : EReal) + ((DSH s q g k v b (i 0).val (y 0) (y 1) (y 2) : ℝ) : EReal))
          ((biasPiece i x0 x1 x2 x3 x4 x5 x6 x7 old h).1.emb x) := by
    intro h x
    have e : (biasPiece i x0 x1 x2 x3 x4 x5 x6 x7 old h).1.emb x = (ix3 h (x 1) (x 2) : S8x128x256.Idx) := by
      funext a
      apply Fin.ext
      have hx : (x 0).val < 1 := (x 0).isLt
      have hx0 : (x 0).val = 0 := by omega
      match a with
      | ⟨0, _⟩ => show h.val + 1 * (x 0).val = h.val; omega
      | ⟨1, _⟩ => show 0 + 1 * (x 1).val = (x 1).val; omega
      | ⟨2, _⟩ => show 0 + 1 * (x 2).val = (x 2).val; omega
    rw [e]
    idx_vars x
    pointwise [biasPlane, plane]
    rw [dscoreH_apply (i := i) H]
  exact ⟨key 7, key 6, key 5, key 4, key 3, key 2, key 1, key 0, trivial⟩

end Blocks

end Cert.KernelIdeal.Block
-- ==== Proof.KernelRead.lean ====
module

public import proofs.«01_k».proof.Proof.HeadRead
public import proofs.«01_k».proof.Proof.Gen.KernelIdeal.Value

/-! # The run of the attention gradient over the reals

Where each grid point's input blocks lie in the arrays, and what the five result arrays hold after the run. -/

@[expose] public section

set_option maxRecDepth 16384

noncomputable section

open Idealize.ShloMosaic Idealize.ShloMosaic.TcCoe Idealize.SL.Sem
open Idealize.ShloMosaic.Pointwise

namespace Cert.KernelIdeal.Block

open Cert.KernelIdeal Cert.KernelIdeal.Gen Cert.KernelIdeal.Value

/-- The array the kernel is called with: the queries, the keys and the values in their columns, fillers elsewhere. -/
def projOf (q : (⟨S4224x512, .f32⟩ : BufTy).Contents (Elt Ideal)) (z0 : (⟨S4224x5632, .f32⟩ : BufTy).Contents (Elt Ideal))
    (k v : (⟨S4224x128, .f32⟩ : BufTy).Contents (Elt Ideal)) (z1 : (⟨S4224x256, .f32⟩ : BufTy).Contents (Elt Ideal)) :
    (⟨S4224x6656, .f32⟩ : BufTy).Contents (Elt Ideal) :=
  concatenate S4224x6656 1 [⟨S4224x512, q⟩, ⟨S4224x5632, z0⟩, ⟨S4224x128, k⟩, ⟨S4224x128, v⟩, ⟨S4224x256, z1⟩]
    concatenates_S4224x512_S4224x5632_S4224x128_S4224x128_S4224x256_S4224x6656_d1

/-- Its first columns are the queries. -/
theorem projOf_q (q z0 k v z1) (n : Fin 4224) (l : Fin 512) (x : Fin 6656) (hx : x.val = l.val) :
    projOf q z0 k v z1 (ix2 n x) = q (ix2 n l) := by
  have := l.isLt
  pointwise [projOf]
  rw [dif_pos (by omega)]
  blk_ext []

/-- The columns from 6144 are the keys. -/
theorem projOf_k (q z0 k v z1) (n : Fin 4224) (l : Fin 128) (x : Fin 6656) (hx : x.val = 6144 + l.val) :
    projOf q z0 k v z1 (ix2 n x) = k (ix2 n l) := by
  have := l.isLt
  pointwise [projOf]
  rw [dif_neg (by omega), dif_neg (by omega), dif_pos (by omega)]
  blk_ext []

/-- The columns from 6272 are the values. -/
theorem projOf_v (q z0 k v z1) (n : Fin 4224) (l : Fin 128) (x : Fin 6656) (hx : x.val = 6272 + l.val) :
    projOf q z0 k v z1 (ix2 n x) = v (ix2 n l) := by
  have := l.isLt
  pointwise [projOf]
  rw [dif_neg (by omega), dif_neg (by omega), dif_neg (by omega), dif_pos (by omega)]
  blk_ext []

variable (m : (b : Loc nD τ sig) → Buf (Elt Ideal) b) (c : Dev nD)

/-- The host lines before the call leave `projOf` of the arguments. -/
theorem V_proj : ∃ z0 z1, V m c main_v2 = projOf (m ((c : Thread nD τ).loc main_arg0)) z0 (m ((c : Thread nD τ).loc main_arg1)) (m ((c : Thread nD τ).loc main_arg2)) z1 := by
  have e : ∀ b : Ref sig .tc, b ≠ main_v2 →
      StableHlo.after (hostOps0 (F := Ideal)).dropLast (fun b => m (c, b)) (Proc.devRef .tc b) = V m c b := fun b hb =>
    ((StableHlo.nary_result_ne _ _ _ _ _ _ hb).symm : _)
  have h : V m c main_v2 = projOf (StableHlo.after (hostOps0 (F := Ideal)).dropLast (fun b => m (c, b)) (Proc.devRef .tc main_arg0))
      (StableHlo.after (hostOps0 (F := Ideal)).dropLast (fun b => m (c, b)) (Proc.devRef .tc main_v0))
      (StableHlo.after (hostOps0 (F := Ideal)).dropLast (fun b => m (c, b)) (Proc.devRef .tc main_arg1))
      (StableHlo.after (hostOps0 (F := Ideal)).dropLast (fun b => m (c, b)) (Proc.devRef .tc main_arg2))
      (StableHlo.after (hostOps0 (F := Ideal)).dropLast (fun b => m (c, b)) (Proc.devRef .tc main_v1)) := by
    unfold_abbrev_sides
    unfold hostOps0
    simp only [StableHlo.after_cons, StableHlo.after_nil]
    rw [StableHlo.nary_result]
    rfl
  rw [e main_arg0 (by decide), e main_arg1 (by decide), e main_arg2 (by decide), V_main_arg0, V_main_arg1, V_main_arg2] at h
  exact ⟨_, _, h⟩

/-! ## The blocks of a point -/

/-- The point's number is its grid coordinate. -/
theorem coord_val : ∀ t : Fin cfg0.N, ((grid0.coords t) 0).val = t.val := by decide +kernel

/-- Which block window 0 reads at a grid point. -/
theorem idx0 : ∀ t : Fin cfg0.N, win0_0.index t = ![0] := by decide +kernel
/-- Which block window 1 reads at a grid point. -/
theorem idx1 : ∀ t : Fin cfg0.N, win0_1.index t = ![t.val, 0] := by decide +kernel
/-- Which block window 2 reads at a grid point. -/
theorem idx2 : ∀ t : Fin cfg0.N, win0_2.index t = ![t.val - 1, 48] := by decide +kernel
/-- Which block window 3 reads at a grid point. -/
theorem idx3 : ∀ t : Fin cfg0.N, win0_3.index t = ![t.val, 48] := by decide +kernel
/-- Which block window 4 reads at a grid point. -/
theorem idx4 : ∀ t : Fin cfg0.N, win0_4.index t = ![t.val - 1, 49] := by decide +kernel
/-- Which block window 5 reads at a grid point. -/
theorem idx5 : ∀ t : Fin cfg0.N, win0_5.index t = ![t.val, 49] := by decide +kernel
/-- Which block window 6 reads at a grid point. -/
theorem idx6 : ∀ t : Fin cfg0.N, win0_6.index t = ![0, 0, 0] := by decide +kernel
/-- Which block window 7 reads at a grid point. -/
theorem idx7 : ∀ t : Fin cfg0.N, win0_7.index t = ![t.val, 0] := by decide +kernel
/-- Which block window 8 reads at a grid point. -/
theorem idx8 : ∀ t : Fin cfg0.N, win0_8.index t = ![0, 0, 0] := by decide +kernel

/-- Row `r` of block `n` of 128 rows. -/
def rowAt (n : ℕ) (h : n < 33) (r : Fin 128) : Fin 4224 := ⟨n * 128 + r.val, by have := r.isLt; omega⟩

/-- There are 33 grid points. -/
theorem pt_lt (t : Fin cfg0.N) : t.val < 33 := by have := t.isLt; have : cfg0.N = 33 := N_0; omega
/-- The block before a grid point is one of the 33. -/
theorem pt_pred_lt (t : Fin cfg0.N) : t.val - 1 < 33 := by have := pt_lt t; omega

/-- What window 0's block holds at a grid point, in terms of the argument arrays. -/
theorem blk0 (t : Fin cfg0.N) (h : Fin 8) : iblk m c 0 t (ix1 h) = m ((c : Thread nD τ).loc main_arg4) (ix1 h) := by
  rw [← V_main_arg4 m c]
  blk_ext [iblk, idx0 t]

/-- What window 1's block holds at a grid point, in terms of the argument arrays. -/
theorem blk1 (t : Fin cfg0.N) (r : Fin 128) (l : Fin 512) :
    iblk m c 1 t (ix2 r l) = m ((c : Thread nD τ).loc main_arg0) (ix2 (rowAt t.val (pt_lt t) r) l) := by
  obtain ⟨z0, z1, hV⟩ := V_proj m c
  have hl := l.isLt
  rw [← projOf_q (m ((c : Thread nD τ).loc main_arg0)) z0 (m ((c : Thread nD τ).loc main_arg1)) (m ((c : Thread nD τ).loc main_arg2)) z1 _ l
    ⟨l.val, by omega⟩ rfl, ← hV]
  blk_ext [iblk, idx1 t, rowAt]

/-- What window 2's block holds at a grid point, in terms of the argument arrays. -/
theorem blk2 (t : Fin cfg0.N) (r l : Fin 128) :
    iblk m c 2 t (ix2 r l) = m ((c : Thread nD τ).loc main_arg1) (ix2 (rowAt (t.val - 1) (pt_pred_lt t) r) l) := by
  obtain ⟨z0, z1, hV⟩ := V_proj m c
  have hl := l.isLt
  rw [← projOf_k (m ((c : Thread nD τ).loc main_arg0)) z0 (m ((c : Thread nD τ).loc main_arg1)) (m ((c : Thread nD τ).loc main_arg2)) z1 _ l
    ⟨6144 + l.val, by omega⟩ rfl, ← hV]
  blk_ext [iblk, idx2 t, rowAt]

/-- What window 3's block holds at a grid point, in terms of the argument arrays. -/
theorem blk3 (t : Fin cfg0.N) (r l : Fin 128) :
    iblk m c 3 t (ix2 r l) = m ((c : Thread nD τ).loc main_arg1) (ix2 (rowAt t.val (pt_lt t) r) l) := by
  obtain ⟨z0, z1, hV⟩ := V_proj m c
  have hl := l.isLt
  rw [← projOf_k (m ((c : Thread nD τ).loc main_arg0)) z0 (m ((c : Thread nD τ).loc main_arg1)) (m ((c : Thread nD τ).loc main_arg2)) z1 _ l
    ⟨6144 + l.val, by omega⟩ rfl, ← hV]
  blk_ext [iblk, idx3 t, rowAt]

/-- What window 4's block holds at a grid point, in terms of the argument arrays. -/
theorem blk4 (t : Fin cfg0.N) (r l : Fin 128) :
    iblk m c 4 t (ix2 r l) = m ((c : Thread nD τ).loc main_arg2) (ix2 (rowAt (t.val - 1) (pt_pred_lt t) r) l) := by
  obtain ⟨z0, z1, hV⟩ := V_proj m c
  have hl := l.isLt
  rw [← projOf_v (m ((c : Thread nD τ).loc main_arg0)) z0 (m ((c : Thread nD τ).loc main_arg1)) (m ((c : Thread nD τ).loc main_arg2)) z1 _ l
    ⟨6272 + l.val, by omega⟩ rfl, ← hV]
  blk_ext [iblk, idx4 t, rowAt]

/-- What window 5's block holds at a grid point, in terms of the argument arrays. -/
theorem blk5 (t : Fin cfg0.N) (r l : Fin 128) :
    iblk m c 5 t (ix2 r l) = m ((c : Thread nD τ).loc main_arg2) (ix2 (rowAt t.val (pt_lt t) r) l) := by
  obtain ⟨z0, z1, hV⟩ := V_proj m c
  have hl := l.isLt
  rw [← projOf_v (m ((c : Thread nD τ).loc main_arg0)) z0 (m ((c : Thread nD τ).loc main_arg1)) (m ((c : Thread nD τ).loc main_arg2)) z1 _ l
    ⟨6272 + l.val, by omega⟩ rfl, ← hV]
  blk_ext [iblk, idx5 t, rowAt]

/-- What window 6's block holds at a grid point, in terms of the argument arrays. -/
theorem blk6 (t : Fin cfg0.N) (h : Fin 8) (r : Fin 128) (j : Fin 256) :
    iblk m c 6 t (ix3 h r j) = m ((c : Thread nD τ).loc main_arg3) (ix3 h r j) := by
  rw [← V_main_arg3 m c]
  blk_ext [iblk, idx6 t]

/-- What window 7's block holds at a grid point, in terms of the argument arrays. -/
theorem blk7 (t : Fin cfg0.N) (r : Fin 128) (l : Fin 512) :
    iblk m c 7 t (ix2 r l) = m ((c : Thread nD τ).loc main_arg5) (ix2 (rowAt t.val (pt_lt t) r) l) := by
  rw [← V_main_arg5 m c]
  blk_ext [iblk, idx7 t, rowAt]

/-- The array the gradient of the bias is added to. -/
def biasIn : Vec Ideal S8x128x256 .f32 := m ((c : Thread nD τ).loc main_arg6)

/-- What window 8's block holds at a grid point, in terms of the argument arrays. -/
theorem blk8 (t : Fin cfg0.N) : iblk m c 8 t = biasIn m c := by
  unfold biasIn
  rw [← V_main_arg6 m c]
  funext x
  blk_ext [iblk, idx8 t]

/-- The arrays of device `c` hold these real numbers. -/
structure Real (s : Fin 8 → ℝ) (q g : Fin 4224 → Fin 512 → ℝ) (k v : Fin 4224 → Fin 128 → ℝ) (b : Fin 8 → Fin 128 → Fin 256 → ℝ) : Prop where
  qry : ∀ r l, m ((c : Thread nD τ).loc main_arg0) (ix2 r l) = ((q r l : ℝ) : EReal)
  key : ∀ r l, m ((c : Thread nD τ).loc main_arg1) (ix2 r l) = ((k r l : ℝ) : EReal)
  val : ∀ r l, m ((c : Thread nD τ).loc main_arg2) (ix2 r l) = ((v r l : ℝ) : EReal)
  bias : ∀ h r j, m ((c : Thread nD τ).loc main_arg3) (ix3 h r j) = ((b h r j : ℝ) : EReal)
  sink : ∀ h, m ((c : Thread nD τ).loc main_arg4) (ix1 h) = ((s h : ℝ) : EReal)
  grad : ∀ r l, m ((c : Thread nD τ).loc main_arg5) (ix2 r l) = ((g r l : ℝ) : EReal)

/-- The 256 rows block `n` attends to: block `n - 1` (block 0 for `n = 0`) and then block `n`. -/
def bandK (n : ℕ) (hn : n < 33) (k : Fin 4224 → Fin 128 → ℝ) (j : Fin 256) (l : Fin 128) : ℝ :=
  if h : j.val < 128 then k (rowAt (n - 1) (by omega) ⟨j.val, h⟩) l else k (rowAt n hn ⟨j.val - 128, by have := j.isLt; omega⟩) l

/-- The blocks of point `t` hold the rows of the arrays the point works on. -/
theorem holds_pt {s q g k v b} (R : Real m c s q g k v b) (t : Fin cfg0.N) :
    Holds (iblk m c 0 t) (iblk m c 1 t) (iblk m c 2 t) (iblk m c 3 t) (iblk m c 4 t) (iblk m c 5 t) (iblk m c 6 t) (iblk m c 7 t)
      s (fun r l => q (rowAt t.val (pt_lt t) r) l) (fun r l => g (rowAt t.val (pt_lt t) r) l)
      (bandK t.val (pt_lt t) k) (bandK t.val (pt_lt t) v) b where
  sink h := (blk0 m c t h).trans (R.sink h)
  qry r l := (blk1 m c t r l).trans (R.qry _ l)
  key j l := by
    pointwise [band]
    unfold bandK
    by_cases h : j.val < 128
    · rw [dif_pos h, dif_pos h]
      exact (blk2 m c t ⟨j.val, h⟩ l).trans (R.key _ l)
    · rw [dif_neg h, dif_neg h]
      exact (blk3 m c t ⟨j.val - 128, _⟩ l).trans (R.key _ l)
  val j l := by
    pointwise [band]
    unfold bandK
    by_cases h : j.val < 128
    · rw [dif_pos h, dif_pos h]
      exact (blk4 m c t ⟨j.val, h⟩ l).trans (R.val _ l)
    · rw [dif_neg h, dif_neg h]
      exact (blk5 m c t ⟨j.val - 128, _⟩ l).trans (R.val _ l)
  bias h r j := (blk6 m c t h r j).trans (R.bias h r j)
  grad r l := (blk7 m c t r l).trans (R.grad _ l)

/-! ## What a point leaves -/

/-- The block of the gradient of the queries that point `t` leaves. -/
theorem step_dq (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) : (stAt0 m c t.val t.isLt acc).1 = dqBlock (grid0.coords t) (iblk m c 0 t) (iblk m c 1 t) (iblk m c 2 t) (iblk m c 3 t) (iblk m c 4 t) (iblk m c 5 t) (iblk m c 6 t) (iblk m c 7 t) := by
  by_cases h0 : t.val % 33 = 0
  · have h1 : ¬ t.val % 33 = 32 := by omega
    rw [stAt0_A m c t acc h0 h1]; dsimp only; rw [out_A9]
  · by_cases h1 : t.val % 33 = 32
    · rw [stAt0_C m c t acc h0 h1]; dsimp only; rw [out_C9]
    · rw [stAt0_B m c t acc h0 h1]; dsimp only; rw [out_B9]

/-- The block of the gradient of the keys that point `t` leaves. -/
theorem step_dk (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) : (stAt0 m c t.val t.isLt acc).2.1 = dkBlock (grid0.coords t) (iblk m c 0 t) (iblk m c 1 t) (iblk m c 2 t) (iblk m c 3 t) (iblk m c 4 t) (iblk m c 5 t) (iblk m c 6 t) (iblk m c 7 t) := by
  by_cases h0 : t.val % 33 = 0
  · have h1 : ¬ t.val % 33 = 32 := by omega
    rw [stAt0_A m c t acc h0 h1]; dsimp only; rw [out_A10]
  · by_cases h1 : t.val % 33 = 32
    · rw [stAt0_C m c t acc h0 h1]; dsimp only; rw [out_C10]
    · rw [stAt0_B m c t acc h0 h1]; dsimp only; rw [out_B10]

/-- The block of the gradient of the values that point `t` leaves. -/
theorem step_dv (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) : (stAt0 m c t.val t.isLt acc).2.2.1 = dvBlock (grid0.coords t) (iblk m c 0 t) (iblk m c 1 t) (iblk m c 2 t) (iblk m c 3 t) (iblk m c 6 t) (iblk m c 7 t) := by
  by_cases h0 : t.val % 33 = 0
  · have h1 : ¬ t.val % 33 = 32 := by omega
    rw [stAt0_A m c t acc h0 h1]; dsimp only; rw [out_A11]
  · by_cases h1 : t.val % 33 = 32
    · rw [stAt0_C m c t acc h0 h1]; dsimp only; rw [out_C11]
    · rw [stAt0_B m c t acc h0 h1]; dsimp only; rw [out_B11]

/-- The running gradient of the sinks after the first point. -/
theorem step_sink0 (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) (h0 : t.val % 33 = 0) :
    (stAt0 m c t.val t.isLt acc).2.2.2.2.2 = sinkNext (grid0.coords t) (iblk m c 0 t) (iblk m c 1 t) (iblk m c 2 t) (iblk m c 3 t) (iblk m c 4 t) (iblk m c 5 t) (iblk m c 6 t) (iblk m c 7 t) k0_pay10 := by
  have h1 : ¬ t.val % 33 = 32 := by omega
  rw [stAt0_A m c t acc h0 h1]; dsimp only; rw [sout_A]

/-- The running gradient of the sinks after a later point. -/
theorem step_sink (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) (h0 : ¬ t.val % 33 = 0) :
    (stAt0 m c t.val t.isLt acc).2.2.2.2.2 = sinkNext (grid0.coords t) (iblk m c 0 t) (iblk m c 1 t) (iblk m c 2 t) (iblk m c 3 t) (iblk m c 4 t) (iblk m c 5 t) (iblk m c 6 t) (iblk m c 7 t) acc.2.2.2.2.2 := by
  by_cases h1 : t.val % 33 = 32
  · rw [stAt0_C m c t acc h0 h1]; dsimp only; rw [sout_C]
  · rw [stAt0_B m c t acc h0 h1]; dsimp only; rw [sout_B]

/-- The gradient of the sinks that the last point writes out. -/
theorem step_sinkSum (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) (h1 : t.val % 33 = 32) :
    (stAt0 m c t.val t.isLt acc).2.2.2.2.1 = sinkSum (F := Ideal) (stAt0 m c t.val t.isLt acc).2.2.2.2.2 := by
  have h0 : ¬ t.val % 33 = 0 := by omega
  rw [step_sink m c t acc h0, stAt0_C m c t acc h0 h1]; dsimp only; rw [out_C13]

/-- The gradient of the bias after the first point: the array it starts from, with the first point's part added. -/
theorem step_bias0 (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) (h0 : t.val % 33 = 0) :
    (stAt0 m c t.val t.isLt acc).2.2.2.1 = View.canon (biasPieces (F := Ideal) (grid0.coords t) (iblk m c 0 t) (iblk m c 1 t) (iblk m c 2 t) (iblk m c 3 t) (iblk m c 4 t) (iblk m c 5 t) (iblk m c 6 t) (iblk m c 7 t) (iblk m c 8 t)
      ++ [⟨Rect.unit ![0, 0, 0] S8x128x256.size inb_S8x128x256_S8x128x256_0_0_0, iblk m c 8 t⟩]) := by
  have h1 : ¬ t.val % 33 = 32 := by omega
  rw [stAt0_A m c t acc h0 h1]; dsimp only; rw [out_A12]

/-- The gradient of the bias after a later point. -/
theorem step_bias (t : Fin cfg0.N) (acc : Vec Ideal S128x512 .bf16 × Vec Ideal S1x256x128 .f32 × Vec Ideal S1x256x128 .f32 × Vec Ideal S8x128x256 .f32 × Vec Ideal S1x128 .f32 × Vec Ideal S128x128 .f32) (h0 : ¬ t.val % 33 = 0) :
    (stAt0 m c t.val t.isLt acc).2.2.2.1 = View.canon (biasPieces (F := Ideal) (grid0.coords t) (iblk m c 0 t) (iblk m c 1 t) (iblk m c 2 t) (iblk m c 3 t) (iblk m c 4 t) (iblk m c 5 t) (iblk m c 6 t) (iblk m c 7 t) acc.2.2.2.1) := by
  by_cases h1 : t.val % 33 = 32
  · rw [stAt0_C m c t acc h0 h1]; dsimp only; rw [out_C12]
  · rw [stAt0_B m c t acc h0 h1]; dsimp only; rw [out_B12]

/-! ## What the arrays hold after the run -/

section Values

variable {m c} {s : Fin 8 → ℝ} {q g : Fin 4224 → Fin 512 → ℝ} {k v : Fin 4224 → Fin 128 → ℝ} {b : Fin 8 → Fin 128 → Fin 256 → ℝ}

/-- The rows of point `n`. -/
def rowsOf (x : Fin 4224 → Fin 512 → ℝ) (n : Fin 33) (r : Fin 128) (l : Fin 512) : ℝ := x (rowAt n.val n.isLt r) l

/-- The attended rows of point `n`. -/
def bandOf (x : Fin 4224 → Fin 128 → ℝ) (n : Fin 33) (j : Fin 256) (l : Fin 128) : ℝ := bandK n.val n.isLt x j l

/-- Point `n` as a point of the grid. -/
def pt (n : Fin 33) : Fin cfg0.N := ⟨n.val, lt_of_lt_of_eq n.isLt N_0.symm⟩

/-- At every grid point the blocks read hold the real numbers of the arrays. -/
theorem holds (R : Real m c s q g k v b) (n : Fin 33) :
    Holds (iblk m c 0 (pt n)) (iblk m c 1 (pt n)) (iblk m c 2 (pt n)) (iblk m c 3 (pt n)) (iblk m c 4 (pt n)) (iblk m c 5 (pt n)) (iblk m c 6 (pt n)) (iblk m c 7 (pt n))
      s (rowsOf q n) (rowsOf g n) (bandOf k n) (bandOf v n) b := holds_pt m c R (pt n)

/-- The recursion over the points is the one the arrays are stated by. -/
theorem sweep (n : Fin 33) (h) :
    Pipeline.accAt (fun n h => stAt0 m c n h junk0) (stAt0 m c) 0 n.val h = outsAt0 m c (pt n).val (pt n).isLt :=
  (outsAt0_sweep m c (pt n).val (pt n).isLt).symm

/-- After point `n` the state is a step from some state. -/
theorem outs_step (n : Fin 33) : ∃ acc, outsAt0 m c (pt n).val (pt n).isLt = stAt0 m c (pt n).val (pt n).isLt acc := by
  obtain ⟨n, hn⟩ := n
  cases n with
  | zero => exact ⟨_, outsAt0_zero m c _⟩
  | succ n => exact ⟨_, outsAt0_succ m c n _⟩

/-- The gradient of the queries. -/
theorem G9_apply (R : Real m c s q g k v b) (n : Fin 33) (r : Fin 128) (h : Fin 8) (d : Fin 64) :
    G9 m c (ix2 (rowAt n.val n.isLt r) (col h d))
      = ((dqR s (rowsOf q n) (rowsOf g n) (bandOf k n) (bandOf v n) b n.val h r d : ℝ) : EReal) := by
  have hp : pt9Of (ix2 (rowAt n.val n.isLt r) (col h d)) = n.val := by
    have := r.isLt; have := h.isLt; have := d.isLt
    show 1 * ((n.val * 128 + r.val) / 128 - 0) + 1 * ((h.val * 64 + d.val) / 512 - 0) = n.val
    omega
  have hl : loc9Of (ix2 (rowAt n.val n.isLt r) (col h d)) = ix2 r (col h d) := by
    have := r.isLt; have := h.isLt; have := d.isLt
    funext a; apply Fin.ext
    match a with
    | ⟨0, _⟩ => show (n.val * 128 + r.val) % 128 = r.val; omega
    | ⟨1, _⟩ => show (h.val * 64 + d.val) % 512 = h.val * 64 + d.val; omega
  unfold G9
  rw [dif_pos (by rw [hp]; exact (pt n).isLt), hl]
  rw [fold0_congr m c _ _ n.val (by rw [Nat.zero_add]; exact (pt n).isLt) hp, sweep]
  obtain ⟨acc, ha⟩ := outs_step (m := m) (c := c) n
  rw [ha, step_dq]
  have := dqBlock_apply (i := grid0.coords (pt n)) (holds R n) r h d
  rw [coord_val] at this
  exact this

/-- The gradient of the keys, by band. -/
theorem G10_apply (R : Real m c s q g k v b) (n : Fin 33) (j : Fin 256) (a : Fin 2) (d : Fin 64) (e : Fin 128) (he : e.val = a.val * 64 + d.val) :
    G10 m c (ix3 n j e)
      = ((∑ h : Fin 8, if h.val / 4 = a.val then dkR s (rowsOf q n) (rowsOf g n) (bandOf k n) (bandOf v n) b n.val h j d else 0 : ℝ) : EReal) := by
  have hp : pt10Of (ix3 n j e) = n.val := by
    have := j.isLt; have := e.isLt
    show 1 * (n.val / 1 - 0) + 1 * (j.val / 256 - 0) + 1 * (e.val / 128 - 0) = n.val
    omega
  have hl : loc10Of (ix3 n j e) = ix3 0 j e := by
    have := j.isLt; have := e.isLt
    funext a; apply Fin.ext
    match a with
    | ⟨0, _⟩ => show n.val % 1 = 0; omega
    | ⟨1, _⟩ => show j.val % 256 = j.val; omega
    | ⟨2, _⟩ => show e.val % 128 = e.val; omega
  unfold G10
  rw [dif_pos (by rw [hp]; exact (pt n).isLt), hl]
  rw [fold0_congr m c _ _ n.val (by rw [Nat.zero_add]; exact (pt n).isLt) hp, sweep]
  obtain ⟨acc, ha⟩ := outs_step (m := m) (c := c) n
  rw [ha, step_dk]
  have := dkBlock_apply (i := grid0.coords (pt n)) (holds R n) j a d e he
  rw [coord_val] at this
  exact this

/-- The gradient of the values, by band. -/
theorem G11_apply (R : Real m c s q g k v b) (n : Fin 33) (j : Fin 256) (a : Fin 2) (d : Fin 64) (e : Fin 128) (he : e.val = a.val * 64 + d.val) :
    G11 m c (ix3 n j e)
      = ((∑ h : Fin 8, if h.val / 4 = a.val then dvR s (rowsOf q n) (rowsOf g n) (bandOf k n) b n.val h j d else 0 : ℝ) : EReal) := by
  have hp : pt11Of (ix3 n j e) = n.val := by
    have := j.isLt; have := e.isLt
    show 1 * (n.val / 1 - 0) + 1 * (j.val / 256 - 0) + 1 * (e.val / 128 - 0) = n.val
    omega
  have hl : loc11Of (ix3 n j e) = ix3 0 j e := by
    have := j.isLt; have := e.isLt
    funext a; apply Fin.ext
    match a with
    | ⟨0, _⟩ => show n.val % 1 = 0; omega
    | ⟨1, _⟩ => show j.val % 256 = j.val; omega
    | ⟨2, _⟩ => show e.val % 128 = e.val; omega
  unfold G11
  rw [dif_pos (by rw [hp]; exact (pt n).isLt), hl]
  rw [fold0_congr m c _ _ n.val (by rw [Nat.zero_add]; exact (pt n).isLt) hp, sweep]
  obtain ⟨acc, ha⟩ := outs_step (m := m) (c := c) n
  rw [ha, step_dv]
  have := dvBlock_apply (i := grid0.coords (pt n)) (holds R n) j a d e he
  rw [coord_val] at this
  exact this

/-- The running sums: the sum over the points up to the `n`-th. -/
def upTo (f : Fin 33 → ℝ) (n : Fin 33) : ℝ := ∑ i : Fin 33, if i.val ≤ n.val then f i else 0

/-- The sum up to the first point is its term. -/
theorem upTo_zero (f : Fin 33 → ℝ) (h : 0 < 33) : upTo f ⟨0, h⟩ = f ⟨0, h⟩ := by
  unfold upTo
  rw [Finset.sum_eq_single (⟨0, h⟩ : Fin 33)]
  · simp
  · intro i _ hi
    rw [if_neg]
    intro hle
    exact hi (Fin.ext (Nat.le_zero.mp hle))
  · simp

/-- The sum up to the next point adds its term. -/
theorem upTo_succ (f : Fin 33 → ℝ) (n : ℕ) (h : n + 1 < 33) :
    upTo f ⟨n + 1, h⟩ = upTo f ⟨n, Nat.lt_of_succ_lt h⟩ + f ⟨n + 1, h⟩ := by
  unfold upTo
  rw [show f ⟨n + 1, h⟩ = ∑ i : Fin 33, if i = ⟨n + 1, h⟩ then f i else 0 from by simp, ← Finset.sum_add_distrib]
  refine Finset.sum_congr rfl fun i _ => ?_
  by_cases h1 : i.val ≤ n
  · have : i ≠ ⟨n + 1, h⟩ := fun e => by rw [e] at h1; simp at h1
    simp [h1, this, Nat.le_succ_of_le h1]
  · by_cases h2 : i = ⟨n + 1, h⟩
    · subst h2; simp
    · have h3 : ¬ i.val ≤ n + 1 := fun hle => h2 (Fin.ext (by simp; omega))
      simp [h1, h2, h3]

/-- The sum up to the last point is the sum over all. -/
theorem upTo_last (f : Fin 33 → ℝ) : upTo f ⟨32, by decide⟩ = ∑ i, f i := by
  unfold upTo
  refine Finset.sum_congr rfl fun i _ => if_pos ?_
  have := i.isLt
  show i.val ≤ 32
  omega

/-- The running gradient of the sinks starts at zero. -/
theorem start_zero (r l : Fin 128) : k0_pay10 (F := Ideal) (ix2 r l) = (0 : EReal) := by
  pointwise [k0_pay10]

/-- The running gradient of the sinks after point `n`. -/
theorem sink_upTo (R : Real m c s q g k v b) (r l : Fin 128) : ∀ (n : ℕ) (hn : n < 33),
    (outsAt0 m c n (lt_of_lt_of_eq hn N_0.symm)).2.2.2.2.2 (ix2 r l)
      = ((upTo (fun n => sinkR s (rowsOf q n) (rowsOf g n) (bandOf k n) (bandOf v n) b n.val r l) ⟨n, hn⟩ : ℝ) : EReal)
  | 0, hn => by
    rw [outsAt0_zero, upTo_zero]
    refine (congrFun (step_sink0 m c (pt ⟨0, hn⟩) _ rfl) (ix2 r l)).trans ?_
    rw [sinkNext_apply (holds R ⟨0, hn⟩), coord_val, start_zero, zero_add]
    rfl
  | n + 1, hn => by
    rw [outsAt0_succ, upTo_succ, EReal.coe_add, ← sink_upTo R r l n (Nat.lt_of_succ_lt hn)]
    refine (congrFun (step_sink m c (pt ⟨n + 1, hn⟩) _ (by show ¬ (n + 1) % 33 = 0; omega)) (ix2 r l)).trans ?_
    rw [sinkNext_apply (holds R ⟨n + 1, hn⟩), coord_val]
    rfl

/-- The last point writes out the sum over the rows of the running gradient. -/
theorem last_sum (n : ℕ) (hn : n < 33) (h : n % 33 = 32) :
    (outsAt0 m c n (lt_of_lt_of_eq hn N_0.symm)).2.2.2.2.1 = sinkSum (F := Ideal) (outsAt0 m c n (lt_of_lt_of_eq hn N_0.symm)).2.2.2.2.2 := by
  obtain ⟨acc, ha⟩ := outs_step (m := m) (c := c) ⟨n, hn⟩
  have ha' : outsAt0 m c n (lt_of_lt_of_eq hn N_0.symm) = stAt0 m c n (lt_of_lt_of_eq hn N_0.symm) acc := ha
  rw [ha']
  exact step_sinkSum m c (pt ⟨n, hn⟩) acc h

/-- The gradient of the sinks. -/
theorem G13_apply (R : Real m c s q g k v b) (l : Fin 128) :
    G13 m c (ix2 0 l) = ((∑ r : Fin 128, ∑ n : Fin 33, sinkR s (rowsOf q n) (rowsOf g n) (bandOf k n) (bandOf v n) b n.val r l : ℝ) : EReal) := by
  rw [G13_last, ← outsAt0_sweep m c 32 (lt_of_lt_of_eq (by decide) N_0.symm), last_sum 32 (by decide) (by decide)]
  pointwise [sinkSum]
  rw [← Cert.Swa.coe_sum]
  refine Finset.sum_congr (M := EReal) rfl fun r _ => ?_
  rw [← upTo_last]
  exact sink_upTo R r l 32 (by decide)

/-- The eight stored pieces cover the whole accumulator of the bias. -/
theorem biasPieces_cover (i : grid0.Coords) (x0 x1 x2 x3 x4 x5 x6 x7 old) (y : S8x128x256.Idx) :
    ∃ p ∈ biasPieces (F := Ideal) i x0 x1 x2 x3 x4 x5 x6 x7 old, y ∈ p.1.set :=
  View.cover_of_tiled_head _ _ _ (by rfl) y

/-- The running gradient of the bias after point `n`. -/
theorem bias_upTo (R : Real m c s q g k v b) (h : Fin 8) (r : Fin 128) (j : Fin 256) : ∀ (n : ℕ) (hn : n < 33),
    (outsAt0 m c n (lt_of_lt_of_eq hn N_0.symm)).2.2.2.1 (ix3 h r j)
      = (biasIn m c (ix3 h r j) : EReal)
        + ((upTo (fun n => DSH s (rowsOf q n) (rowsOf g n) (bandOf k n) (bandOf v n) b n.val h r j) ⟨n, hn⟩ : ℝ) : EReal)
  | 0, hn => by
    rw [outsAt0_zero, upTo_zero]
    refine (congrFun (step_bias0 m c (pt ⟨0, hn⟩) _ rfl) (ix3 h r j)).trans ?_
    rw [View.canon_append_of_piecesOf _ _ _ (biasPieces_of (holds R ⟨0, hn⟩) _) _ (biasPieces_cover ..), coord_val, blk8]
    rfl
  | n + 1, hn => by
    rw [outsAt0_succ, upTo_succ, EReal.coe_add, ← add_assoc, ← bias_upTo R h r j n (Nat.lt_of_succ_lt hn)]
    refine (congrFun (step_bias m c (pt ⟨n + 1, hn⟩) _ (by show ¬ (n + 1) % 33 = 0; omega)) (ix3 h r j)).trans ?_
    have hb := biasPieces_of (i := grid0.coords (pt ⟨n + 1, hn⟩)) (holds R ⟨n + 1, hn⟩)
      (outsAt0 m c n (lt_of_lt_of_eq (Nat.lt_of_succ_lt hn) N_0.symm)).2.2.2.1
    have he := View.canon_append_of_piecesOf _ [] _ hb (ix3 h r j) (biasPieces_cover ..)
    rw [List.append_nil, coord_val] at he
    exact he

/-- The gradient of the bias. -/
theorem G12_apply (R : Real m c s q g k v b) (h : Fin 8) (r : Fin 128) (j : Fin 256) :
    G12 m c (ix3 h r j) = (biasIn m c (ix3 h r j) : EReal)
      + ((∑ n : Fin 33, DSH s (rowsOf q n) (rowsOf g n) (bandOf k n) (bandOf v n) b n.val h r j : ℝ) : EReal) := by
  rw [G12_last, ← outsAt0_sweep m c 32 (lt_of_lt_of_eq (by decide) N_0.symm), ← upTo_last]
  exact bias_upTo R h r j 32 (by decide)

end Values

end Cert.KernelIdeal.Block
-- ==== Proof.RefRead.lean ====
module

public import proofs.«01_k».proof.Proof.KernelRead
public import proofs.«01_k».proof.Proof.Gen.ReferenceIdeal.Read
public import Idealize.ShloMosaic.Lib.Pointwise

/-! # The reference over the reals

The reference's stages at an index, down to the real formulas of one head. -/

@[expose] public section

set_option maxRecDepth 16384

noncomputable section

open Idealize.ShloMosaic Idealize.ShloMosaic.TcCoe Idealize.SL.Sem
open Idealize.ShloMosaic.Pointwise
open Cert.Swa
open Cert.KernelIdeal.Block (vis mask_word select_ofBool col kcol rowAt rowsOf PH PSH DLH DSH)

namespace Cert.ReferenceIdeal.Read

open Cert.ReferenceIdeal Cert.ReferenceIdeal.Gen

/-- The head of a key head and a member of its group. -/
def hd (a : Fin 2) (u : Fin 4) : Fin 8 := ⟨a.val * 4 + u.val, by have := a.isLt; have := u.isLt; omega⟩

/-- The 256 rows block `n` attends to, the block before the first one all zeros. -/
def bandZ (x : Fin 4224 → Fin 128 → ℝ) (n : Fin 33) (j : Fin 256) (l : Fin 128) : ℝ :=
  if h : j.val < 128 then
    if 1 ≤ n.val then x (rowAt (n.val - 1) (by have := n.isLt; omega) ⟨j.val, h⟩) l else 0
  else x (rowAt n.val n.isLt ⟨j.val - 128, by have := j.isLt; omega⟩) l

/-- The reference's arguments hold these real numbers. -/
structure Args (x0 x5 : Vec Ideal S4224x512 .f32) (x1 x2 : Vec Ideal S4224x128 .f32) (x3 : Vec Ideal S8x128x256 .f32) (x4 : Vec Ideal S8 .f32)
    (s : Fin 8 → ℝ) (q g : Fin 4224 → Fin 512 → ℝ) (k v : Fin 4224 → Fin 128 → ℝ) (b : Fin 8 → Fin 128 → Fin 256 → ℝ) : Prop where
  qry : ∀ r l, x0 (ix2 r l) = ((q r l : ℝ) : EReal)
  key : ∀ r l, x1 (ix2 r l) = ((k r l : ℝ) : EReal)
  val : ∀ r l, x2 (ix2 r l) = ((v r l : ℝ) : EReal)
  bias : ∀ h r j, x3 (ix3 h r j) = ((b h r j : ℝ) : EReal)
  sink : ∀ h, x4 (ix1 h) = ((s h : ℝ) : EReal)
  grad : ∀ r l, x5 (ix2 r l) = ((g r l : ℝ) : EReal)

/-- The integer zero as a float. -/
theorem int_zero : (FloatOps.sitofp FTy.f32 0#32 : Ideal FTy.f32) = (0 : EReal) := by
  show (((0#32 : BitVec 32).toInt : ℝ) : EReal) = 0
  simp

variable {x0 x5 : Vec Ideal S4224x512 .f32} {x1 x2 : Vec Ideal S4224x128 .f32} {x3 : Vec Ideal S8x128x256 .f32} {x4 : Vec Ideal S8 .f32}
  {s : Fin 8 → ℝ} {q g : Fin 4224 → Fin 512 → ℝ} {k v : Fin 4224 → Fin 128 → ℝ} {b : Fin 8 → Fin 128 → Fin 256 → ℝ}
variable (H : Args x0 x5 x1 x2 x3 x4 s q g k v b)
variable (n : Fin 33) (a : Fin 2) (u : Fin 4) (r : Fin 128) (j : Fin 256) (d : Fin 64)
include H

omit n a u r j d

/-- The bands of the keys. -/
theorem key_band (n : Fin 33) (j : Fin 256) (l : Fin 128) : val_main_v4 (F := Ideal) x1 (ix3 n j l) = ((bandZ k n j l : ℝ) : EReal) := by
  pointwise [val_main_v4, val_main_v3, val_main_v2, val_main_v1, val_main_call0_v0, val_main_c]
  unfold bandZ
  by_cases h : j.val < 128
  · rw [dif_pos h, dif_pos h]
    by_cases h1 : 1 ≤ n.val
    · rw [dif_pos ⟨⟨h1, by have := n.isLt; omega⟩, h⟩, if_pos h1]; exact H.key _ _
    · rw [dif_neg (fun hh => h1 hh.1.1), if_neg h1, int_zero]; rfl
  · rw [dif_neg h, dif_neg h]; exact H.key _ _

/-- The bands of the values. -/
theorem val_band (n : Fin 33) (j : Fin 256) (l : Fin 128) : val_main_v8 (F := Ideal) x2 (ix3 n j l) = ((bandZ v n j l : ℝ) : EReal) := by
  pointwise [val_main_v8, val_main_v7, val_main_v6, val_main_v5, val_main_call1_v0, val_main_c_0]
  unfold bandZ
  by_cases h : j.val < 128
  · rw [dif_pos h, dif_pos h]
    by_cases h1 : 1 ≤ n.val
    · rw [dif_pos ⟨⟨h1, by have := n.isLt; omega⟩, h⟩, if_pos h1]; exact H.val _ _
    · rw [dif_neg (fun hh => h1 hh.1.1), if_neg h1, int_zero]; rfl
  · rw [dif_neg h, dif_neg h]; exact H.val _ _

omit H in
/-- The mask. -/
theorem mask_apply (n : Fin 33) (r : Fin 128) (j : Fin 256) :
    val_main_v46 (F := Ideal) (ix5 n 0 0 r j) = BitVec.ofBool (vis n.val r j) := by
  pointwise [val_main_v46,val_main_v45,val_main_v44,val_main_v43,val_main_v42,val_main_v41,val_main_v40,val_main_c_6,val_main_v39,val_main_v38,val_main_v37,val_main_v36,val_main_c_5,val_main_v35,val_main_v34,val_main_c_4,val_main_v33,val_main_v32,val_main_v31,val_main_v30,val_main_v29,val_main_c_3,val_main_v28,val_main_v27,val_main_c_2,val_main_v26,val_main_v25,val_main_v24,val_main_v23,val_main_v22,val_main_v21,val_main_v20,val_main_c_1,val_main_v19,val_main_v18,val_main_v17,val_main_v16]
  exact mask_word n.isLt r.isLt j.isLt

/-- A row of the queries. -/
theorem qry_apply (n : Fin 33) (r : Fin 128) (a : Fin 2) (u : Fin 4) (d : Fin 64) :
    val_main_v9 (F := Ideal) x0 (ix5 n r a u d) = ((rowsOf q n r (col (hd a u) d) : ℝ) : EReal) := by
  pointwise [val_main_v9]
  rw [H.qry]
  unfold rowsOf rowAt col hd
  congr 3
  show _ = (a.val * 4 + u.val) * 64 + d.val; omega

/-- A row of the keys, by key head. -/
theorem key_apply (n : Fin 33) (j : Fin 256) (a : Fin 2) (u : Fin 4) (d : Fin 64) :
    val_main_v10 (F := Ideal) x1 (ix4 n j a d) = ((bandZ k n j (kcol (hd a u) d) : ℝ) : EReal) := by
  pointwise [val_main_v10]
  rw [key_band H]
  unfold kcol hd
  congr 3
  show _ = (a.val * 4 + u.val) / 4 * 64 + d.val; have := u.isLt; omega

/-- A row of the values, by key head. -/
theorem val_apply (n : Fin 33) (j : Fin 256) (a : Fin 2) (u : Fin 4) (d : Fin 64) :
    val_main_v11 (F := Ideal) x2 (ix4 n j a d) = ((bandZ v n j (kcol (hd a u) d) : ℝ) : EReal) := by
  pointwise [val_main_v11]
  rw [val_band H]
  unfold kcol hd
  congr 3
  show _ = (a.val * 4 + u.val) / 4 * 64 + d.val; have := u.isLt; omega

/-- A row of the gradient of the output. -/
theorem grad_apply (n : Fin 33) (r : Fin 128) (a : Fin 2) (u : Fin 4) (d : Fin 64) :
    val_main_v99 (F := Ideal) x5 (ix5 n a d u r) = ((rowsOf g n r (col (hd a u) d) : ℝ) : EReal) := by
  pointwise [val_main_v99, val_main_v98, val_main_v0]
  rw [H.grad]
  unfold rowsOf rowAt col hd
  congr 3
  show _ = (a.val * 4 + u.val) * 64 + d.val; omega

/-- The sinks. -/
theorem sink_apply (a : Fin 2) (u : Fin 4) : val_main_v53 (F := Ideal) x4 (ix5 0 a u 0 0) = ((s (hd a u) : ℝ) : EReal) := by
  pointwise [val_main_v53, val_main_v52]
  exact H.sink _

/-- A head's score over the reals, with the zero-padded band. -/
abbrev scZ (q : Fin 4224 → Fin 512 → ℝ) (k : Fin 4224 → Fin 128 → ℝ) (b : Fin 8 → Fin 128 → Fin 256 → ℝ)
    (n : Fin 33) (h : Fin 8) : Fin 128 → Fin 256 → ℝ :=
  sc (fun r d => rowsOf q n r (col h d)) (fun j d => bandZ k n j (kcol h d)) (b h)

/-- The masked scores. -/
theorem masked_apply (n : Fin 33) (a : Fin 2) (u : Fin 4) (r : Fin 128) (j : Fin 256) :
    val_main_v51_0 (F := Ideal) x0 x1 x3 (ix5 n a u r j)
      = if vis n.val r j then ((scZ q k b n (hd a u) r j : ℝ) : EReal) else ⊥ := by
  pointwise [val_main_v51_0, val_main_v51_1, val_main_v50, val_main_v49, val_main_v48, val_main_v47, val_main_call2_v2, val_main_call2_v0, val_main_cst_7, val_main_v15, val_main_v14, val_main_cst, val_main_v13, val_main_v12]
  rw [mask_apply, select_ofBool]
  congr 1
  · rw [eighth, H.bias, Finset.sum_congr rfl fun d _ => by rw [key_apply H n j a u d, qry_apply H, ← EReal.coe_mul, mul_comm], coe_sum,
      ← EReal.coe_mul, ← EReal.coe_add]
    rfl

end Cert.ReferenceIdeal.Read
-- ==== Proof.RefRows.lean ====
module

public import proofs.«01_k».proof.Proof.RefRead

/-! # The reference's rows over the reals

One row of one head: the probabilities, the gradients of the probabilities and the gradients of the scores. -/

@[expose] public section

set_option maxRecDepth 16384

noncomputable section

open Idealize.ShloMosaic Idealize.ShloMosaic.TcCoe Idealize.SL.Sem
open Idealize.ShloMosaic.Pointwise
open Cert.Swa
open Cert.KernelIdeal.Block (vis mask_word select_ofBool col kcol rowAt rowsOf PH PSH DLH DSH)

namespace Cert.ReferenceIdeal.Read

open Cert.ReferenceIdeal Cert.ReferenceIdeal.Gen

variable {x0 x5 : Vec Ideal S4224x512 .f32} {x1 x2 : Vec Ideal S4224x128 .f32} {x3 : Vec Ideal S8x128x256 .f32} {x4 : Vec Ideal S8 .f32}
  {s : Fin 8 → ℝ} {q g : Fin 4224 → Fin 512 → ℝ} {k v : Fin 4224 → Fin 128 → ℝ} {b : Fin 8 → Fin 128 → Fin 256 → ℝ}

/-- The largest of a row's masked scores. -/
theorem rowmax_apply (n : Fin 33) (a : Fin 2) (u : Fin 4) (r : Fin 128) :
    val_main_v54 (F := Ideal) x0 x1 x3 (ix4 n a u r)
      = Finset.fold max ⊥ (fun j => (val_main_v51_0 (F := Ideal) x0 x1 x3 (ix5 n a u r j) : EReal)) Finset.univ := by
  pointwise [val_main_v54, val_main_cst_8]
  rw [negInf]

/-- The larger of that and the sink. -/
theorem top_apply (n : Fin 33) (a : Fin 2) (u : Fin 4) (r : Fin 128) :
    val_main_v62 (F := Ideal) x0 x1 x3 x4 (ix5 n a u r 0)
      = max (val_main_v54 (F := Ideal) x0 x1 x3 (ix4 n a u r) : EReal) (val_main_v53 (F := Ideal) x4 (ix5 0 a u 0 0)) := by
  rw [val_main_v62_apply, val_main_v60_apply, val_main_v61_apply]
  have e1 : idx_main_v60 (ix5 n a u r 0) = ix4 n a u r := by
    funext c
    apply Fin.ext
    match c with
    | ⟨0, _⟩ => rfl
    | ⟨1, _⟩ => rfl
    | ⟨2, _⟩ => rfl
    | ⟨3, _⟩ => rfl
  have e2 : idx_main_v61 (ix5 n a u r 0) = ix5 0 a u 0 0 := by
    funext c
    apply Fin.ext
    match c with
    | ⟨0, _⟩ => rfl
    | ⟨1, _⟩ => rfl
    | ⟨2, _⟩ => rfl
    | ⟨3, _⟩ => rfl
    | ⟨4, _⟩ => rfl
  rw [e1, e2, Ideal.maximumf_eq_max]

/-- Whether a score is its row's largest. -/
theorem ismax_apply (n : Fin 33) (a : Fin 2) (u : Fin 4) (r : Fin 128) (j : Fin 256) :
    val_main_v58 (F := Ideal) x0 x1 x3 (ix5 n a u r j)
      = if (val_main_v51_0 (F := Ideal) x0 x1 x3 (ix5 n a u r j) : EReal) = val_main_v54 (F := Ideal) x0 x1 x3 (ix4 n a u r)
        then ((1 : ℝ) : EReal) else ((0 : ℝ) : EReal) := by
  rw [val_main_v58_apply, val_main_v57_apply, val_main_v56_apply, val_main_v55_apply]
  have e : idx_main_v55 (idx_main_v56 (ix5 n a u r j)) = ix4 n a u r := by
    funext c
    apply Fin.ext
    have := n.isLt; have := a.isLt; have := u.isLt; have := r.isLt
    match c with
    | ⟨0, _⟩ => show ((((n.val * 2 + a.val) * 4 + u.val) * 128 + r.val) * 1 + 0) / 1024 = n.val; omega
    | ⟨1, _⟩ => show ((((n.val * 2 + a.val) * 4 + u.val) * 128 + r.val) * 1 + 0) / 512 % 2 = a.val; omega
    | ⟨2, _⟩ => show ((((n.val * 2 + a.val) * 4 + u.val) * 128 + r.val) * 1 + 0) / 128 % 4 = u.val; omega
    | ⟨3, _⟩ => show ((((n.val * 2 + a.val) * 4 + u.val) * 128 + r.val) * 1 + 0) % 128 = r.val; omega
  rw [e]
  generalize val_main_v51_0 (F := Ideal) x0 x1 x3 (ix5 n a u r j) = A
  generalize val_main_v54 (F := Ideal) x0 x1 x3 (ix4 n a u r) = B
  show (((BitVec.ofBool (decide ((A : EReal) = B))).toNat : ℝ) : EReal) = _
  by_cases h : (A : EReal) = B <;> simp [h]

/-- Some entry of a row is its largest, so the number of such is not zero. -/
theorem count_aux (f w : Fin 256 → EReal) (B : EReal) (hB : B = Finset.fold max ⊥ f Finset.univ)
    (hw : ∀ j, w j = if f j = B then ((1 : ℝ) : EReal) else ((0 : ℝ) : EReal)) : ∑ j, w j ≠ 0 := by
  obtain ⟨j₀, -, hj⟩ := Finset.exists_mem_eq_sup (Finset.univ : Finset (Fin 256)) ⟨0, Finset.mem_univ _⟩ f
  have hm : f j₀ = B := by rw [hB]; exact hj.symm
  have hs : ∀ j, w j = ((if f j = B then 1 else 0 : ℝ) : EReal) := fun j => by rw [hw]; split <;> rfl
  have hp : (0 : ℝ) < ∑ j, (if f j = B then 1 else 0 : ℝ) :=
    Finset.sum_pos' (fun j _ => by split <;> norm_num) ⟨j₀, Finset.mem_univ _, by rw [if_pos hm]; norm_num⟩
  rw [Finset.sum_congr rfl fun j _ => hs j, coe_sum]
  exact fun h => hp.ne' (EReal.coe_eq_zero.1 h)

/-- The number of largest scores in a row is not zero. -/
theorem count_ne (n : Fin 33) (a : Fin 2) (u : Fin 4) (r : Fin 128) :
    (val_main_v59 (F := Ideal) x0 x1 x3 (ix4 n a u r) : EReal) ≠ 0 := by
  rw [val_main_v59_apply]
  have e : ∀ j, idx_main_v59 (ix4 n a u r) j = ix5 n a u r j := fun j => by
    funext c
    apply Fin.ext
    match c with
    | ⟨0, _⟩ => rfl
    | ⟨1, _⟩ => rfl
    | ⟨2, _⟩ => rfl
    | ⟨3, _⟩ => rfl
    | ⟨4, _⟩ => rfl
  have z : (val_main_cst_9 (F := Ideal) (Shape.Idx.first h_S_) : EReal) = 0 := by
    pointwise [val_main_cst_9]
  rw [z, zero_add]
  rw [Finset.sum_congr (M := EReal) rfl fun j _ => congrArg (val_main_v58 (F := Ideal) x0 x1 x3) (e j)]
  exact count_aux _ _ _ (rowmax_apply n a u r) fun j => ismax_apply n a u r j

variable (H : Args x0 x5 x1 x2 x3 x4 s q g k v b)
include H

/-- That is finite. -/
theorem top_real (n : Fin 33) (a : Fin 2) (u : Fin 4) (r : Fin 128) :
    ∃ μ : ℝ, val_main_v62 (F := Ideal) x0 x1 x3 x4 (ix5 n a u r 0) = ((μ : ℝ) : EReal) := by
  rw [top_apply, rowmax_apply, sink_apply H]
  exact top_coe _ (vis n.val r) _ _ fun j => masked_apply H n a u r j

/-- A row's entries, from the finite number its exponentials are taken against: the weights, their sum, the
probabilities, the gradients. -/
theorem row (n : Fin 33) (a : Fin 2) (u : Fin 4) (r : Fin 128) :
    (∀ j, val_main_v91 (F := Ideal) x0 x1 x3 x4 (ix5 n a u r j) = ((PH s (rowsOf q n) (bandZ k n) b n.val (hd a u) r j : ℝ) : EReal))
    ∧ val_main_v111 (F := Ideal) x0 x1 x2 x3 x4 x5 (ix5 n a u r 0)
        = ((-(PSH s (rowsOf q n) (bandZ k n) b n.val (hd a u) r * DLH s (rowsOf q n) (rowsOf g n) (bandZ k n) (bandZ v n) b n.val (hd a u) r) : ℝ) : EReal)
    ∧ (∀ j, val_main_v118 (F := Ideal) x0 x1 x2 x3 x4 x5 (ix5 n a u r j)
        = ((DSH s (rowsOf q n) (rowsOf g n) (bandZ k n) (bandZ v n) b n.val (hd a u) r j : ℝ) : EReal)) := by
  obtain ⟨μ, hμ⟩ := top_real H n a u r
  have hpos := den_pos (vis n.val) (fun r d => rowsOf q n r (col (hd a u) d)) (fun j d => bandZ k n j (kcol (hd a u) d)) (b (hd a u)) (s (hd a u)) r
  have hE := Real.exp_pos (-μ)
  set E := Real.exp (-μ) with hEdef
  set D := den (vis n.val) (fun r d => rowsOf q n r (col (hd a u) d)) (fun j d => bandZ k n j (kcol (hd a u) d)) (b (hd a u)) (s (hd a u)) r with hD
  set X := ex (vis n.val) (fun r d => rowsOf q n r (col (hd a u) d)) (fun j d => bandZ k n j (kcol (hd a u) d)) (b (hd a u)) r with hX
  set G := DP (fun r d => rowsOf g n r (col (hd a u) d)) (fun j d => bandZ v n j (kcol (hd a u) d)) r with hG
  have hPH : ∀ j, PH s (rowsOf q n) (bandZ k n) b n.val (hd a u) r j = X j / D := fun j => rfl
  have hPSH : PSH s (rowsOf q n) (bandZ k n) b n.val (hd a u) r = Real.exp (s (hd a u)) / D := rfl
  have hDLH : DLH s (rowsOf q n) (rowsOf g n) (bandZ k n) (bandZ v n) b n.val (hd a u) r = ∑ j, X j / D * G j := rfl
  have hDSH : ∀ j, DSH s (rowsOf q n) (rowsOf g n) (bandZ k n) (bandZ v n) b n.val (hd a u) r j = X j / D * (G j - ∑ j, X j / D * G j) := fun j => rfl
  have w83 : ∀ j, val_main_v83 (F := Ideal) x0 x1 x3 x4 (ix5 n a u r j) = ((X j * E : ℝ) : EReal) := fun j => by
    pointwise [val_main_v83, val_main_v82, val_main_v81]
    rw [hμ, masked_apply H, exp_masked]
    rfl
  have w88 : val_main_v88 (F := Ideal) x0 x1 x3 x4 (ix5 n a u r 0) = ((Real.exp (s (hd a u)) * E : ℝ) : EReal) := by
    pointwise [val_main_v88, val_main_v87, val_main_v86]
    rw [hμ, sink_apply H, exp_sub_coe]
  have w89 : val_main_v89 (F := Ideal) x0 x1 x3 x4 (ix5 n a u r 0) = ((D * E : ℝ) : EReal) := by
    pointwise [val_main_v89, val_main_v85, val_main_v84, val_main_cst_16]
    rw [w88, Finset.sum_congr (M := EReal) rfl fun j _ => w83 j, coe_sum, ← EReal.coe_add, ← Finset.sum_mul, ← add_mul]
    rfl
  have w91 : ∀ j, val_main_v91 (F := Ideal) x0 x1 x3 x4 (ix5 n a u r j) = ((X j / D : ℝ) : EReal) := fun j => by
    pointwise [val_main_v91, val_main_v90]
    rw [w89, w83, div_coe_coe _ (mul_pos hpos hE).ne']
    refine congrArg Real.toEReal ?_
    field_simp
  have w94 : val_main_v94 (F := Ideal) x0 x1 x3 x4 (ix5 n a u r 0) = ((1 / ((D * E) * (D * E)) : ℝ) : EReal) := by
    pointwise [val_main_v94, val_main_v93, val_main_v92, val_main_cst_17]
    rw [w89, ← EReal.coe_mul, ← EReal.coe_one, div_coe_coe _ (mul_pos (mul_pos hpos hE) (mul_pos hpos hE)).ne']
  have w100 : ∀ j, val_main_v100 (F := Ideal) x2 x5 (ix5 n a u r j) = ((G j : ℝ) : EReal) := fun j => by
    pointwise [val_main_v100]
    rw [Finset.sum_congr (M := EReal) rfl fun d _ => by rw [grad_apply H, val_apply H n j a u d, ← EReal.coe_mul], coe_sum]
    rfl
  have w108 : val_main_v108 (F := Ideal) x0 x1 x2 x3 x4 x5 (ix5 n a u r 0) = ((-((∑ j, X j / D * G j) / (D * E)) : ℝ) : EReal) := by
    pointwise [val_main_v108, val_main_v107, val_main_v106, val_main_cst_18, val_main_v105, val_main_v104, val_main_v103]
    rw [Finset.sum_congr (M := EReal) rfl fun j _ => by rw [w100, w94, w83, ← EReal.coe_mul, ← EReal.coe_mul], coe_sum, ← EReal.coe_neg]
    refine congrArg (fun x : ℝ => ((-x : ℝ) : EReal)) ?_
    rw [Finset.sum_div]
    refine Finset.sum_congr rfl fun j _ => ?_
    field_simp
  have w111 : val_main_v111 (F := Ideal) x0 x1 x2 x3 x4 x5 (ix5 n a u r 0)
      = ((-(Real.exp (s (hd a u)) / D * ∑ j, X j / D * G j) : ℝ) : EReal) := by
    pointwise [val_main_v111]
    rw [w108, w88, ← EReal.coe_mul]
    refine congrArg Real.toEReal ?_
    generalize ∑ j, X j / D * G j = S
    field_simp
  have w118 : ∀ j, val_main_v118 (F := Ideal) x0 x1 x2 x3 x4 x5 (ix5 n a u r j) = ((X j / D * (G j - ∑ j, X j / D * G j) : ℝ) : EReal) := fun j => by
    pointwise [val_main_v118, val_main_v117, val_main_v116, val_main_v115, val_main_cst_20, val_main_v110, val_main_v109]
    rw [Fin.sum_univ_one (M := EReal), w100, w89, w108, w83, div_coe_coe _ (mul_pos hpos hE).ne', ← EReal.coe_add, ← EReal.coe_mul]
    refine congrArg Real.toEReal ?_
    generalize ∑ j, X j / D * G j = S
    field_simp
    ring
  refine ⟨fun j => by rw [w91, hPH], by rw [w111, hPSH, hDLH], fun j => by rw [w118, hDSH]⟩

/-- The sum of a row's gradients of the scores. -/
theorem sum_scores (n : Fin 33) (a : Fin 2) (u : Fin 4) (r : Fin 128) :
    ∑ j, DSH s (rowsOf q n) (rowsOf g n) (bandZ k n) (bandZ v n) b n.val (hd a u) r j
      = PSH s (rowsOf q n) (bandZ k n) b n.val (hd a u) r * DLH s (rowsOf q n) (rowsOf g n) (bandZ k n) (bandZ v n) b n.val (hd a u) r := by
  have hpos := den_pos (vis n.val) (fun r d => rowsOf q n r (col (hd a u) d)) (fun j d => bandZ k n j (kcol (hd a u) d)) (b (hd a u)) (s (hd a u)) r
  unfold DSH PSH DLH DS PS
  simp only [mul_sub, Finset.sum_sub_distrib, ← Finset.sum_mul]
  have e1 : ∑ j, P (vis n.val) (fun r d => rowsOf q n r (col (hd a u) d)) (fun j d => bandZ k n j (kcol (hd a u) d)) (b (hd a u)) (s (hd a u)) r j
      = 1 - Real.exp (s (hd a u)) / den (vis n.val) (fun r d => rowsOf q n r (col (hd a u) d)) (fun j d => bandZ k n j (kcol (hd a u) d)) (b (hd a u)) (s (hd a u)) r := by
    unfold P
    rw [← Finset.sum_div, eq_sub_iff_add_eq, ← add_div]
    exact div_self hpos.ne'
  rw [e1, show ∑ j, P (vis n.val) (fun r d => rowsOf q n r (col (hd a u) d)) (fun j d => bandZ k n j (kcol (hd a u) d)) (b (hd a u)) (s (hd a u)) r j
      * DP (fun r d => rowsOf g n r (col (hd a u) d)) (fun j d => bandZ v n j (kcol (hd a u) d)) r j
      = DL (vis n.val) (fun r d => rowsOf q n r (col (hd a u) d)) (fun r d => rowsOf g n r (col (hd a u) d)) (fun j d => bandZ k n j (kcol (hd a u) d)) (fun j d => bandZ v n j (kcol (hd a u) d)) (b (hd a u)) (s (hd a u)) r from rfl]
  ring

/-- The gradient that reaches the row's maximum is zero. -/
theorem top_grad (n : Fin 33) (a : Fin 2) (u : Fin 4) (r : Fin 128) :
    val_main_v122 (F := Ideal) x0 x1 x2 x3 x4 x5 (ix5 n a u r 0) = (0 : EReal) := by
  pointwise [val_main_v122, val_main_v121, val_main_v114, val_main_v120, val_main_v119, val_main_cst_21]
  rw [(row H n a u r).2.1, Finset.sum_congr (M := EReal) rfl fun j _ => by rw [(row H n a u r).2.2 j, ← EReal.coe_neg], coe_sum,
    Finset.sum_neg_distrib, sum_scores H, ← EReal.coe_neg, ← EReal.coe_add, neg_neg, add_neg_cancel, EReal.coe_zero]

/-- The gradients of the scores. -/
theorem dscore_apply (n : Fin 33) (a : Fin 2) (u : Fin 4) (r : Fin 128) (j : Fin 256) :
    val_main_v135 (F := Ideal) x0 x1 x2 x3 x4 x5 (ix5 n a u r j)
      = ((DSH s (rowsOf q n) (rowsOf g n) (bandZ k n) (bandZ v n) b n.val (hd a u) r j : ℝ) : EReal) := by
  have w128 : val_main_v128 (F := Ideal) x0 x1 x2 x3 x4 x5 (ix4 n a u r) = (0 : EReal) := by
    have w : ∀ z : Fin 1, (val_main_v127 (F := Ideal) x0 x1 x2 x3 x4 x5 (ix5 n a u r z) : EReal) = 0 := fun z => by
      rw [val_main_v127_apply, show z = 0 from Subsingleton.elim _ _, top_grad H]
      show (0 : EReal) * _ = 0
      exact zero_mul _
    have e : ∀ z, idx_main_v128 (ix4 n a u r) z = ix5 n a u r z := fun z => by
      funext c
      apply Fin.ext
      match c with
      | ⟨0, _⟩ => rfl
      | ⟨1, _⟩ => rfl
      | ⟨2, _⟩ => rfl
      | ⟨3, _⟩ => rfl
      | ⟨4, _⟩ => rfl
    have z0 : (val_main_cst_23 (F := Ideal) (Shape.Idx.first h_S_) : EReal) = 0 := by
      pointwise [val_main_cst_23]
    rw [val_main_v128_apply, z0, Finset.sum_congr (M := EReal) rfl fun z _ => by rw [e z, w z], Finset.sum_const_zero, add_zero]
  have w132 : val_main_v132 (F := Ideal) x0 x1 x2 x3 x4 x5 (ix5 n a u r j)
      = ((DSH s (rowsOf q n) (rowsOf g n) (bandZ k n) (bandZ v n) b n.val (hd a u) r j : ℝ) : EReal) := by
    pointwise [val_main_v132, val_main_v131, val_main_v130, val_main_v129]
    rw [(row H n a u r).2.2 j, w128]
    rw [show Ideal.div 0 (val_main_v59 (F := Ideal) x0 x1 x3 (ix4 n a u r) : EReal) = 0 by
      unfold Ideal.div; rw [if_neg (count_ne n a u r), zero_mul], zero_mul, add_zero]
  pointwise [val_main_v135, val_main_v51_1, val_main_call3_v0, val_main_call3_cst]
  rw [w132, mask_apply, select_ofBool]
  by_cases h : vis n.val r j = true
  · rw [if_pos h]
  · rw [if_neg h]
    unfold DSH
    rw [DS_hidden _ _ _ _ _ _ _ (by simpa using h), EReal.coe_zero]

end Cert.ReferenceIdeal.Read
-- ==== Proof.RefResults.lean ====
module

public import proofs.«01_k».proof.Proof.RefRows

/-! # The reference's results over the reals

Each result at an index, in the formulas of one head that the kernel's results are read by. -/

@[expose] public section

set_option maxRecDepth 16384

noncomputable section

open Idealize.ShloMosaic Idealize.ShloMosaic.TcCoe Idealize.SL.Sem
open Idealize.ShloMosaic.Pointwise
open Cert.Swa
open Cert.KernelIdeal.Block (vis col kcol rowAt rowsOf bandOf bandK PH PSH DLH DSH dqR dkR dvR sinkR)

namespace Cert.ReferenceIdeal.Read

open Cert.ReferenceIdeal Cert.ReferenceIdeal.Gen

/-! ## Which band -/

section Band

variable (s : Fin 8 → ℝ) (q g : Fin 4224 → Fin 512 → ℝ) (k v : Fin 4224 → Fin 128 → ℝ) (b : Fin 8 → Fin 128 → Fin 256 → ℝ)
variable (n : Fin 33) (h : Fin 8) (r : Fin 128) (j : Fin 256)

/-- The block before the first is never visible, so the two bands agree where it matters. -/
theorem band_vis (x : Fin 4224 → Fin 128 → ℝ) (hv : vis n.val r j = true) : bandZ x n j = bandOf x n j := by
  funext l
  unfold bandZ bandOf bandK
  by_cases hj : j.val < 128
  · rw [dif_pos hj, dif_pos hj, if_pos]
    simp only [vis, decide_eq_true_eq] at hv
    omega
  · rw [dif_neg hj, dif_neg hj]

/-- The probabilities do not see what lies before the first block. -/
theorem PH_band : PH s (rowsOf q n) (bandZ k n) b n.val h r j = PH s (rowsOf q n) (bandOf k n) b n.val h r j := by
  unfold PH
  exact P_congr _ _ _ _ _ (fun j hv => by rw [band_vis n r j k hv]) j

/-- Nor does the sink's probability. -/
theorem PSH_band : PSH s (rowsOf q n) (bandZ k n) b n.val h r = PSH s (rowsOf q n) (bandOf k n) b n.val h r := by
  unfold PSH
  exact PS_congr _ _ _ _ _ (fun j hv => by rw [band_vis n r j k hv])

/-- Nor does the row's sum of probability times its gradient. -/
theorem DLH_band : DLH s (rowsOf q n) (rowsOf g n) (bandZ k n) (bandZ v n) b n.val h r
    = DLH s (rowsOf q n) (rowsOf g n) (bandOf k n) (bandOf v n) b n.val h r := by
  unfold DLH
  exact DL_congr _ _ _ _ _ _ _ (fun j hv => by rw [band_vis n r j k hv]) (fun j hv => by rw [band_vis n r j v hv])

/-- Nor does the gradient of a score. -/
theorem DSH_band : DSH s (rowsOf q n) (rowsOf g n) (bandZ k n) (bandZ v n) b n.val h r j
    = DSH s (rowsOf q n) (rowsOf g n) (bandOf k n) (bandOf v n) b n.val h r j := by
  unfold DSH
  exact DS_congr _ _ _ _ _ _ _ (fun j hv => by rw [band_vis n r j k hv]) (fun j hv => by rw [band_vis n r j v hv]) j

end Band

/-! ## Sums over several axes -/

/-- The host's sum over the first and the fourth axis. -/
theorem sum_rows (h : S33x2x4x128x1.ReducesTo [0, 3] S2x4x1) (x : S33x2x4x128x1.Idx → EReal) (z : EReal) (a : Fin 2) (u : Fin 4) :
    Ideal.hostReduceAdd h x z (ix3 a u 0) = z + ∑ r : Fin 128, ∑ n : Fin 33, x (ix5 n a u r 0) := by
  unfold Ideal.hostReduceAdd
  refine congrArg (z + ·) ?_
  rw [← Finset.sum_product']
  refine Finset.sum_bij' (fun i _ => ((⟨(i 3).val, (i 3).isLt⟩ : Fin 128), (⟨(i 0).val, (i 0).isLt⟩ : Fin 33)))
    (fun p _ => ix5 p.2 a u p.1 0) (fun i _ => Finset.mem_product.2 ⟨Finset.mem_univ _, Finset.mem_univ _⟩) ?_ ?_ ?_ ?_
  · intro p _
    refine Finset.mem_filter.2 ⟨Finset.mem_univ _, ?_⟩
    funext c
    apply Fin.ext
    match c with
    | ⟨0, _⟩ => exact h.drop_apply_val_of_eq _ 0 1
    | ⟨1, _⟩ => exact h.drop_apply_val_of_eq _ 1 2
    | ⟨2, _⟩ => exact h.drop_apply_val_of_eq _ 2 4
  · intro i hi
    have e := (Finset.mem_filter.1 hi).2
    funext c
    apply Fin.ext
    match c with
    | ⟨0, _⟩ => rfl
    | ⟨1, _⟩ =>
      have e1 := h.drop_apply_val_of_eq i 0 1
      rw [e] at e1; exact e1
    | ⟨2, _⟩ =>
      have e1 := h.drop_apply_val_of_eq i 1 2
      rw [e] at e1; exact e1
    | ⟨3, _⟩ => rfl
    | ⟨4, _⟩ =>
      have e1 := h.drop_apply_val_of_eq i 2 4
      rw [e] at e1; exact e1
  · intro p _; rfl
  · intro i hi
    refine congrArg x ?_
    have e := (Finset.mem_filter.1 hi).2
    funext c
    apply Fin.ext
    match c with
    | ⟨0, _⟩ => rfl
    | ⟨1, _⟩ =>
      have e1 := h.drop_apply_val_of_eq i 0 1
      rw [e] at e1; exact e1.symm
    | ⟨2, _⟩ =>
      have e1 := h.drop_apply_val_of_eq i 1 2
      rw [e] at e1; exact e1.symm
    | ⟨3, _⟩ => rfl
    | ⟨4, _⟩ =>
      have e1 := h.drop_apply_val_of_eq i 2 4
      rw [e] at e1; exact e1.symm

/-- The host's sum over three axes of extent one. -/
theorem sum_ones (h : S1x2x4x1x1.ReducesTo [0, 3, 4] S2x4) (x : S1x2x4x1x1.Idx → EReal) (z : EReal) (a : Fin 2) (u : Fin 4) :
    Ideal.hostReduceAdd h x z (ix2 a u) = z + x (ix5 0 a u 0 0) := by
  unfold Ideal.hostReduceAdd
  refine congrArg (z + ·) ?_
  refine Finset.sum_eq_single_of_mem _ ?_ ?_
  · refine Finset.mem_filter.2 ⟨Finset.mem_univ _, ?_⟩
    funext c
    apply Fin.ext
    match c with
    | ⟨0, _⟩ => exact h.drop_apply_val_of_eq _ 0 1
    | ⟨1, _⟩ => exact h.drop_apply_val_of_eq _ 1 2
  · intro i hi hne
    refine absurd ?_ hne
    have e := (Finset.mem_filter.1 hi).2
    funext c
    apply Fin.ext
    match c with
    | ⟨0, _⟩ => exact Nat.lt_one_iff.1 (i 0).isLt
    | ⟨1, _⟩ =>
      have e1 := h.drop_apply_val_of_eq i 0 1
      rw [e] at e1; exact e1.symm
    | ⟨2, _⟩ =>
      have e1 := h.drop_apply_val_of_eq i 1 2
      rw [e] at e1; exact e1.symm
    | ⟨3, _⟩ => exact Nat.lt_one_iff.1 (i 3).isLt
    | ⟨4, _⟩ => exact Nat.lt_one_iff.1 (i 4).isLt

/-- A sum over the heads of one key head is the sum over its group. -/
theorem sum_group (f : Fin 8 → ℝ) (a : Fin 2) : ∑ h : Fin 8, (if h.val / 4 = a.val then f h else 0) = ∑ u : Fin 4, f (hd a u) := by
  rw [Fin.sum_univ_eight, Fin.sum_univ_four]
  match a with
  | ⟨0, _⟩ => simp [hd]
  | ⟨1, _⟩ => simp [hd]

/-! ## The results -/

variable {x0 x5 : Vec Ideal S4224x512 .f32} {x1 x2 : Vec Ideal S4224x128 .f32} {x3 x6 : Vec Ideal S8x128x256 .f32} {x4 : Vec Ideal S8 .f32}
  {s : Fin 8 → ℝ} {q g : Fin 4224 → Fin 512 → ℝ} {k v : Fin 4224 → Fin 128 → ℝ} {b : Fin 8 → Fin 128 → Fin 256 → ℝ}
variable (H : Args x0 x5 x1 x2 x3 x4 s q g k v b)

/-- Every head is a key head and a member of its group. -/
theorem hd_surj (h : Fin 8) : ∃ a u, h = hd a u :=
  ⟨⟨h.val / 4, by have := h.isLt; omega⟩, ⟨h.val % 4, by omega⟩, Fin.ext (by show h.val = h.val / 4 * 4 + h.val % 4; omega)⟩

include H

/-- The gradient of the queries. -/
theorem dq_apply (n : Fin 33) (r : Fin 128) (h : Fin 8) (d : Fin 64) :
    val_main_v153 (F := Ideal) x0 x1 x2 x3 x4 x5 (ix2 (rowAt n.val n.isLt r) (col h d))
      = ((dqR s (rowsOf q n) (rowsOf g n) (bandOf k n) (bandOf v n) b n.val h r d : ℝ) : EReal) := by
  obtain ⟨a, u, rfl⟩ := hd_surj h
  have e : val_main_v153 (F := Ideal) x0 x1 x2 x3 x4 x5 (ix2 (rowAt n.val n.isLt r) (col (hd a u) d))
      = ∑ j : Fin 256, (val_main_v135 (F := Ideal) x0 x1 x2 x3 x4 x5 (ix5 n a u r j) : EReal) * Ideal.ofBits FTy.f32 0x3E000000#32
          * val_main_v10 (F := Ideal) x1 (ix4 n j a d) := by
    show val_main_v153 (F := Ideal) x0 x1 x2 x3 x4 x5
      (ix2 (⟨n.val * 128 + r.val, by omega⟩ : Fin 4224) (⟨(a.val * 4 + u.val) * 64 + d.val, by omega⟩ : Fin 512)) = _
    pointwise [val_main_v153, val_main_v149, val_main_v144, val_main_v143, val_main_v142, val_main_v141, val_main_v140, val_main_cst_27]
  rw [e, Finset.sum_congr (M := EReal) rfl fun j _ => by rw [dscore_apply H, eighth, key_apply H n j a u d, ← EReal.coe_mul, ← EReal.coe_mul], coe_sum]
  refine congrArg Real.toEReal ?_
  unfold dqR
  refine Finset.sum_congr rfl fun j _ => ?_
  rw [DSH_band]
  by_cases hv : vis n.val r j = true
  · rw [band_vis n r j k hv]
  · have z : DSH s (rowsOf q n) (rowsOf g n) (bandOf k n) (bandOf v n) b n.val (hd a u) r j = 0 := by
      unfold DSH; exact DS_hidden _ _ _ _ _ _ _ (by simpa using hv)
    rw [z]; ring

/-- The gradient of the bands of the keys. -/
theorem dk_apply (n : Fin 33) (j : Fin 256) (a : Fin 2) (d : Fin 64) (l : Fin 128) (hl : l.val = a.val * 64 + d.val) :
    val_main_v148 (F := Ideal) x0 x1 x2 x3 x4 x5 (ix3 n j l)
      = ((∑ h : Fin 8, if h.val / 4 = a.val then dkR s (rowsOf q n) (rowsOf g n) (bandOf k n) (bandOf v n) b n.val h j d else 0 : ℝ) : EReal) := by
  have e : val_main_v148 (F := Ideal) x0 x1 x2 x3 x4 x5 (ix3 n j (⟨a.val * 64 + d.val, by omega⟩ : Fin 128))
      = ∑ r : Fin 128, ∑ u : Fin 4, (val_main_v135 (F := Ideal) x0 x1 x2 x3 x4 x5 (ix5 n a u r j) : EReal) * Ideal.ofBits FTy.f32 0x3E000000#32
          * val_main_v9 (F := Ideal) x0 (ix5 n r a u d) := by
    pointwise [val_main_v148, val_main_v146, val_main_v145, val_main_v142, val_main_v141, val_main_v140, val_main_cst_27]
  rw [show l = ⟨a.val * 64 + d.val, by omega⟩ from Fin.ext hl, e, sum_group]
  rw [Finset.sum_congr (M := EReal) rfl fun r _ => by
    rw [Finset.sum_congr (M := EReal) rfl fun u _ => by rw [dscore_apply H, eighth, qry_apply H, ← EReal.coe_mul, ← EReal.coe_mul], coe_sum], coe_sum]
  refine congrArg Real.toEReal ?_
  rw [Finset.sum_comm]
  refine Finset.sum_congr rfl fun u _ => Finset.sum_congr rfl fun r _ => ?_
  rw [DSH_band]

/-- The gradient of the bands of the values. -/
theorem dv_apply (n : Fin 33) (j : Fin 256) (a : Fin 2) (d : Fin 64) (l : Fin 128) (hl : l.val = a.val * 64 + d.val) :
    val_main_v147 (F := Ideal) x0 x1 x3 x4 x5 (ix3 n j l)
      = ((∑ h : Fin 8, if h.val / 4 = a.val then dvR s (rowsOf q n) (rowsOf g n) (bandOf k n) b n.val h j d else 0 : ℝ) : EReal) := by
  have e : val_main_v147 (F := Ideal) x0 x1 x3 x4 x5 (ix3 n j (⟨a.val * 64 + d.val, by omega⟩ : Fin 128))
      = ∑ u : Fin 4, ∑ r : Fin 128, (val_main_v99 (F := Ideal) x5 (ix5 n a d u r) : EReal)
          * val_main_v91 (F := Ideal) x0 x1 x3 x4 (ix5 n a u r j) := by
    pointwise [val_main_v147, val_main_v102, val_main_v101]
  rw [show l = ⟨a.val * 64 + d.val, by omega⟩ from Fin.ext hl, e, sum_group]
  rw [Finset.sum_congr (M := EReal) rfl fun u _ => by
    rw [Finset.sum_congr (M := EReal) rfl fun r _ => by rw [grad_apply H, (row H n a u r).1 j, ← EReal.coe_mul], coe_sum], coe_sum]
  refine congrArg Real.toEReal ?_
  refine Finset.sum_congr rfl fun u _ => Finset.sum_congr rfl fun r _ => ?_
  rw [PH_band, mul_comm]

/-- The gradient of the bias, onto what came in. -/
theorem dbias_apply (h : Fin 8) (r : Fin 128) (j : Fin 256) :
    val_main_v154 (F := Ideal) x0 x1 x2 x3 x4 x5 x6 (ix3 h r j)
      = x6 (ix3 h r j) + ((∑ n : Fin 33, DSH s (rowsOf q n) (rowsOf g n) (bandOf k n) (bandOf v n) b n.val h r j : ℝ) : EReal) := by
  obtain ⟨a, u, rfl⟩ := hd_surj h
  have e : val_main_v139 (F := Ideal) x0 x1 x2 x3 x4 x5 (ix3 (hd a u) r j)
      = ∑ _z : Fin 1, ∑ n : Fin 33, (val_main_v135 (F := Ideal) x0 x1 x2 x3 x4 x5 (ix5 n a u r j) : EReal) := by
    show val_main_v139 (F := Ideal) x0 x1 x2 x3 x4 x5 (ix3 (⟨a.val * 4 + u.val, by omega⟩ : Fin 8) r j) = _
    pointwise [val_main_v139, val_main_v138, val_main_cst_26, val_main_v137, val_main_v136, val_main_cst_25]
  rw [val_main_v154_apply, e, Fin.sum_univ_one (M := EReal), Finset.sum_congr (M := EReal) rfl fun n _ => by rw [dscore_apply H, DSH_band], coe_sum]
  rfl

/-- The gradient of the sinks. -/
theorem dsinks_apply (l : Fin 128) :
    val_main_v152 (F := Ideal) x0 x1 x2 x3 x4 x5 (ix2 0 l)
      = ((∑ r : Fin 128, ∑ n : Fin 33, sinkR s (rowsOf q n) (rowsOf g n) (bandOf k n) (bandOf v n) b n.val r l : ℝ) : EReal) := by
  have e : val_main_v152 (F := Ideal) x0 x1 x2 x3 x4 x5 (ix2 0 l)
      = if h : l.val < 8 then (val_main_v134 (F := Ideal) x0 x1 x2 x3 x4 x5 (ix1 (⟨l.val, h⟩ : Fin 8)) : EReal) else 0 := by
    pointwise [val_main_v152, val_main_v151, val_main_v150, val_main_cst_28]
  have f : ∀ a u, val_main_v134 (F := Ideal) x0 x1 x2 x3 x4 x5 (ix1 (hd a u))
      = val_main_v133 (F := Ideal) x0 x1 x2 x3 x4 x5 (ix2 a u) := fun a u => by
    show val_main_v134 (F := Ideal) x0 x1 x2 x3 x4 x5 (ix1 (⟨a.val * 4 + u.val, by omega⟩ : Fin 8)) = _
    pointwise [val_main_v134]
  have z24 : (val_main_cst_24 (F := Ideal) (Shape.Idx.first h_S_) : EReal) = 0 := by pointwise [val_main_cst_24]
  have z22 : (val_main_cst_22 (F := Ideal) (Shape.Idx.first h_S_) : EReal) = 0 := by pointwise [val_main_cst_22]
  have z19 : (val_main_cst_19 (F := Ideal) (Shape.Idx.first h_S_) : EReal) = 0 := by pointwise [val_main_cst_19]
  have f133 : ∀ a u, val_main_v133 (F := Ideal) x0 x1 x2 x3 x4 x5 (ix2 a u)
      = (val_main_v126 (F := Ideal) x0 x1 x2 x3 x4 x5 (ix5 0 a u 0 0) : EReal) := fun a u => by
    unfold val_main_v133
    refine (sum_ones _ _ _ a u).trans ?_
    rw [z24, zero_add]
  have f126 : ∀ a u, val_main_v126 (F := Ideal) x0 x1 x2 x3 x4 x5 (ix5 0 a u 0 0)
      = (val_main_v112 (F := Ideal) x0 x1 x2 x3 x4 x5 (ix3 a u 0) + val_main_v124 (F := Ideal) x0 x1 x2 x3 x4 x5 (ix3 a u 0) : EReal) := fun a u => by
    pointwise [val_main_v126, val_main_v125, val_main_v113]
  have f112 : ∀ a u, val_main_v112 (F := Ideal) x0 x1 x2 x3 x4 x5 (ix3 a u 0)
      = ∑ r : Fin 128, ∑ n : Fin 33, (val_main_v111 (F := Ideal) x0 x1 x2 x3 x4 x5 (ix5 n a u r 0) : EReal) := fun a u => by
    unfold val_main_v112
    refine (sum_rows _ _ _ a u).trans ?_
    rw [z19, zero_add]
  have f124 : ∀ a u, val_main_v124 (F := Ideal) x0 x1 x2 x3 x4 x5 (ix3 a u 0)
      = ∑ r : Fin 128, ∑ n : Fin 33, (val_main_v123 (F := Ideal) x0 x1 x2 x3 x4 x5 (ix5 n a u r 0) : EReal) := fun a u => by
    unfold val_main_v124
    refine (sum_rows _ _ _ a u).trans ?_
    rw [z22, zero_add]
  have f123 : ∀ n a u r, (val_main_v123 (F := Ideal) x0 x1 x2 x3 x4 x5 (ix5 n a u r 0) : EReal) = 0 := fun n a u r => by
    rw [val_main_v123_apply, top_grad H]
    show (0 : EReal) * _ = 0
    exact zero_mul _
  rw [e]
  by_cases hl : l.val < 8
  · rw [dif_pos hl]
    obtain ⟨a, u, hau⟩ := hd_surj ⟨l.val, hl⟩
    rw [hau, f, f133, f126, f112, f124]
    rw [Finset.sum_congr (M := EReal) rfl fun r _ => by
        rw [Finset.sum_congr (M := EReal) rfl fun n _ => by rw [(row H n a u r).2.1, PSH_band, DLH_band], coe_sum],
      coe_sum,
      show ∑ r : Fin 128, ∑ n : Fin 33, (val_main_v123 (F := Ideal) x0 x1 x2 x3 x4 x5 (ix5 n a u r 0) : EReal) = 0 from
        Finset.sum_eq_zero fun r _ => Finset.sum_eq_zero fun n _ => f123 n a u r, add_zero]
    refine congrArg Real.toEReal ?_
    refine Finset.sum_congr rfl fun r _ => Finset.sum_congr rfl fun n _ => ?_
    unfold sinkR
    rw [dif_pos hl, hau]
  · rw [dif_neg hl]
    rw [show (∑ r : Fin 128, ∑ n : Fin 33, sinkR s (rowsOf q n) (rowsOf g n) (bandOf k n) (bandOf v n) b n.val r l : ℝ) = 0 from
      Finset.sum_eq_zero fun r _ => Finset.sum_eq_zero fun n _ => by unfold sinkR; rw [dif_neg hl], EReal.coe_zero]

end Cert.ReferenceIdeal.Read
-- ==== Proof.Equal.lean ====
module

public import proofs.«01_k».proof.Proof.KernelRead
public import proofs.«01_k».proof.Proof.RefResults

/-! # The kernel's results are the reference's

Over arrays of real numbers, result by result. -/

@[expose] public section

set_option maxRecDepth 16384

noncomputable section

open Idealize.ShloMosaic Idealize.ShloMosaic.TcCoe Idealize.SL.Sem
open Idealize.ShloMosaic.Pointwise

namespace Cert.KernelIdeal.Block

open Cert.KernelIdeal Cert.KernelIdeal.Gen Cert.KernelIdeal.Value
open Cert.ReferenceIdeal.Read

/-- Every index of the 4224 rows and 512 columns is a row of a block and a column of a head. -/
theorem idx_rows (i : S4224x512.Idx) : ∃ (n : Fin 33) (r : Fin 128) (h : Fin 8) (d : Fin 64), i = ix2 (rowAt n.val n.isLt r) (col h d) := by
  have h0 : (i 0).val < 4224 := (i 0).isLt
  have h1 : (i 1).val < 512 := (i 1).isLt
  refine ⟨⟨(i 0).val / 128, by omega⟩, ⟨(i 0).val % 128, by omega⟩, ⟨(i 1).val / 64, by omega⟩, ⟨(i 1).val % 64, by omega⟩, ?_⟩
  funext a
  apply Fin.ext
  match a with
  | ⟨0, _⟩ => show (i 0).val = (i 0).val / 128 * 128 + (i 0).val % 128; omega
  | ⟨1, _⟩ => show (i 1).val = (i 1).val / 64 * 64 + (i 1).val % 64; omega

/-- Every index of the bands is a key head and one of its columns. -/
theorem idx_bands (i : S33x256x128.Idx) : ∃ (n : Fin 33) (j : Fin 256) (a : Fin 2) (d : Fin 64) (l : Fin 128), i = ix3 n j l ∧ l.val = a.val * 64 + d.val := by
  have h2 : (i 2).val < 128 := (i 2).isLt
  refine ⟨⟨(i 0).val, (i 0).isLt⟩, ⟨(i 1).val, (i 1).isLt⟩, ⟨(i 2).val / 64, by omega⟩, ⟨(i 2).val % 64, by omega⟩, ⟨(i 2).val, h2⟩, ?_, ?_⟩
  · funext a
    match a with
    | ⟨0, _⟩ => rfl
    | ⟨1, _⟩ => rfl
    | ⟨2, _⟩ => rfl
  · show (i 2).val = (i 2).val / 64 * 64 + (i 2).val % 64
    omega

/-- Every index of the bias. -/
theorem idx_bias (i : S8x128x256.Idx) : ∃ (h : Fin 8) (r : Fin 128) (j : Fin 256), i = ix3 h r j :=
  ⟨⟨(i 0).val, (i 0).isLt⟩, ⟨(i 1).val, (i 1).isLt⟩, ⟨(i 2).val, (i 2).isLt⟩, funext fun a => match a with
    | ⟨0, _⟩ => rfl
    | ⟨1, _⟩ => rfl
    | ⟨2, _⟩ => rfl⟩

/-- Every index of the row of the sinks. -/
theorem idx_sinks (i : S1x128.Idx) : ∃ l : Fin 128, i = ix2 0 l :=
  ⟨⟨(i 1).val, (i 1).isLt⟩, funext fun a => match a with
    | ⟨0, _⟩ => Fin.ext (Nat.lt_one_iff.1 (i 0).isLt)
    | ⟨1, _⟩ => rfl⟩

variable (m : (ℓ : Loc nD τ sig) → Buf (Elt Ideal) ℓ) (c : Dev nD)
variable {s : Fin 8 → ℝ} {q g : Fin 4224 → Fin 512 → ℝ} {k v : Fin 4224 → Fin 128 → ℝ} {b : Fin 8 → Fin 128 → Fin 256 → ℝ}
variable (R : Real m c s q g k v b)
include R

/-- The reference's arguments hold the same numbers. -/
theorem args : Args (m ((c : Thread nD τ).loc main_arg0)) (m ((c : Thread nD τ).loc main_arg5)) (m ((c : Thread nD τ).loc main_arg1))
    (m ((c : Thread nD τ).loc main_arg2)) (m ((c : Thread nD τ).loc main_arg3)) (m ((c : Thread nD τ).loc main_arg4)) s q g k v b :=
  ⟨R.qry, R.key, R.val, R.bias, R.sink, R.grad⟩

/-- The gradient of the queries is the reference's. -/
theorem dq_eq : G9 m c = Cert.ReferenceIdeal.Read.val_main_v153 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  obtain ⟨n, r, h, d, rfl⟩ := idx_rows i
  exact (G9_apply R n r h d).trans (dq_apply (args m c R) n r h d).symm

/-- The gradient of the bands of keys is the reference's. -/
theorem dk_eq : G10 m c = Cert.ReferenceIdeal.Read.val_main_v148 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  obtain ⟨n, j, a, d, l, rfl, hl⟩ := idx_bands i
  exact (G10_apply R n j a d l hl).trans (dk_apply (args m c R) n j a d l hl).symm

/-- The gradient of the bands of values is the reference's. -/
theorem dv_eq : G11 m c = Cert.ReferenceIdeal.Read.val_main_v147 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  funext i
  obtain ⟨n, j, a, d, l, rfl, hl⟩ := idx_bands i
  exact (G11_apply R n j a d l hl).trans (dv_apply (args m c R) n j a d l hl).symm

/-- The gradient of the bias, added to what came in, is the reference's. -/
theorem dbias_eq : G12 m c = Cert.ReferenceIdeal.Read.val_main_v154 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  funext i
  obtain ⟨h, r, j, rfl⟩ := idx_bias i
  exact (G12_apply R h r j).trans (dbias_apply (args m c R) h r j).symm

/-- The gradient of the sinks is the reference's. -/
theorem dsinks_eq : G13 m c = Cert.ReferenceIdeal.Read.val_main_v152 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  obtain ⟨l, rfl⟩ := idx_sinks i
  exact (G13_apply R l).trans (dsinks_apply (args m c R) l).symm

end Cert.KernelIdeal.Block
-- ==== Proof.Finite.lean ====
module

public import proofs.«01_k».proof.Pre_finite
public import proofs.«01_k».proof.Proof.Gen.Pre_finite
public import Idealize.ShloMosaic.Lib.Pointwise

/-! # What the precondition says

Where the predicate `finite` is true, every entry of the arrays it names is a real number. -/

@[expose] public section

set_option maxRecDepth 16384

noncomputable section

open Idealize.ShloMosaic Idealize.ShloMosaic.Pointwise

namespace Cert.Pre_finite

/-- An array whose largest absolute value lies below infinity holds real numbers. -/
theorem real_of_bound {φ : FTy} {s : Shape} {axes : List (Fin s.rank)} (x : FVec Ideal s φ) (h : s.ReducesTo axes S_) (hu : 0 < S_.numel)
    (init top : FVec Ideal S_ φ) (i : S_.Idx) (ht : top i = (⊤ : EReal))
    (hb : cmpf .olt (Host.reduce FloatOps.maximumf (Host.absf x) init h hu) top i = 1#1) (j : s.Idx) :
    ∃ y : ℝ, (x j : EReal) = (y : EReal) := by
  set B : FVec Ideal S_ φ := Host.reduce FloatOps.maximumf (Host.absf x) init h hu with hB
  have hlt : (B i : EReal) < ⊤ := by
    have hb' : Ideal.cmp .olt (B i : EReal) (top i) = 1#1 := hb
    rw [ht] at hb'
    by_contra hn
    rw [Ideal.cmp] at hb'
    simp only [hn, decide_false] at hb'
    exact absurd hb' (by decide)
  have hf : (B i : EReal)
      = (Finset.univ.filter fun k => h.drop k = i).fold max (init (Shape.Idx.first hu) : EReal) (fun k => max (x k : EReal) (-(x k : EReal))) :=
    Shape.foldl_filter_rowMajor_eq_fold h.drop (max : EReal → EReal → EReal) _ (fun k => max (x k : EReal) (-(x k : EReal))) i
  rw [hf, Finset.fold_max_lt] at hlt
  have hj := hlt.2 j (Finset.mem_filter.2 ⟨Finset.mem_univ _, funext fun a => a.elim0⟩)
  refine ⟨_, (EReal.coe_toReal (lt_of_le_of_lt (le_max_left _ _) hj).ne fun hbot => ?_).symm⟩
  rw [hbot] at hj
  exact absurd hj (by simp)

/-- Both of two bits are one where their conjunction is. -/
theorem both {a b : BitVec 1} (h : IntOp.andi a b = 1#1) : a = 1#1 ∧ b = 1#1 := by
  revert h; revert a b; decide

/-- Infinity in the two formats. -/
theorem top32 (i : S_.Idx) : (constant S_ .f32 0x7F800000#32 : FVec Ideal S_ .f32) i = (⊤ : EReal) := by
  show Ideal.ofBits .f32 0x7F800000#32 = ⊤
  simp [Ideal.ofBits, Ideal.ieee]

/-- The 16-bit word of infinity is the top element. -/
theorem top16 (i : S_.Idx) : (constant S_ .bf16 0x7F80#16 : FVec Ideal S_ .bf16) i = (⊤ : EReal) := by
  show Ideal.ofBits .bf16 0x7F80#16 = ⊤
  simp [Ideal.ofBits, Ideal.ieee]

/-- Where `finite` is true, the arrays hold real numbers. -/
theorem reals (x0 : FVec Ideal S4224x512 .f32) (x1 x2 : FVec Ideal S4224x128 .f32) (x3 : FVec Ideal S8x128x256 .f32) (x4 : FVec Ideal S8 .f32)
    (x5 : FVec Ideal S4224x512 .bf16) (x6 : FVec Ideal S8x128x256 .f32) (h : fn (F := Ideal) x0 x1 x2 x3 x4 x5 x6 = fun _ => 1#1) :
    (∀ j, ∃ y : ℝ, (x0 j : EReal) = y) ∧ (∀ j, ∃ y : ℝ, (x1 j : EReal) = y) ∧ (∀ j, ∃ y : ℝ, (x2 j : EReal) = y)
    ∧ (∀ j, ∃ y : ℝ, (x3 j : EReal) = y) ∧ (∀ j, ∃ y : ℝ, (x4 j : EReal) = y) ∧ (∀ j, ∃ y : ℝ, (x5 j : EReal) = y) := by
  have h0 := congrFun h ix0
  unfold fn fn_part1 at h0
  dsimp only at h0
  obtain ⟨h0, e5⟩ := both h0
  obtain ⟨h0, e4⟩ := both h0
  obtain ⟨h0, e3⟩ := both h0
  obtain ⟨h0, e2⟩ := both h0
  obtain ⟨e0, e1⟩ := both h0
  exact ⟨real_of_bound _ _ _ _ _ _ (top32 _) e0, real_of_bound _ _ _ _ _ _ (top32 _) e1, real_of_bound _ _ _ _ _ _ (top32 _) e2,
    real_of_bound _ _ _ _ _ _ (top32 _) e3, real_of_bound _ _ _ _ _ _ (top32 _) e4, real_of_bound _ _ _ _ _ _ (top16 _) e5⟩

end Cert.Pre_finite
-- ==== Proof.Sums.lean ====
module

public import Idealize.ShloMosaic.PureOps.Ideal.Laws

/-! # A sum taken in blocks -/

@[expose] public section

noncomputable section

namespace Cert.Sums

/-- A sum of `n + n` terms is the sum of the first `n` and of the last `n`. -/
theorem two {n N : ℕ} (h : N = n + n) (f : Fin N → EReal) :
    ∑ k : Fin N, f k = ∑ k : Fin n, f ⟨n * 0 + k.val, by omega⟩ + ∑ k : Fin n, f ⟨n * 1 + k.val, by omega⟩ := by
  subst h
  refine (Fin.sum_univ_add f).trans (congrArg₂ (· + ·) ?_ ?_) <;> refine Finset.sum_congr rfl fun k _ => congrArg f (Fin.ext ?_)
  · simp
  · simp; omega

/-- A sum of `n + n + n` terms is the sum of its three runs of `n`. -/
theorem three {n N : ℕ} (h : N = n + n + n) (f : Fin N → EReal) :
    ∑ k : Fin N, f k = ∑ k : Fin n, f ⟨n * 0 + k.val, by omega⟩ + ∑ k : Fin n, f ⟨n * 1 + k.val, by omega⟩ + ∑ k : Fin n, f ⟨n * 2 + k.val, by omega⟩ := by
  subst h
  refine ((Fin.sum_univ_add f).trans (congrArg (· + _) (Fin.sum_univ_add fun k => f (Fin.castAdd n k)))).trans
    (congrArg₂ (· + ·) (congrArg₂ (· + ·) ?_ ?_) ?_) <;> refine Finset.sum_congr rfl fun k _ => congrArg f (Fin.ext ?_)
  · simp
  · simp; omega
  · simp; omega

end Cert.Sums

end
-- ==== Proof.InDx.lean ====
module

public import proofs.«01_k».proof.Defs
public import proofs.«01_k».proof.Proof.Sums
public import proofs.«01_k».proof.Proof.Gen.InDxIdeal.Value
public import proofs.«01_k».proof.Proof.Gen.InDxRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the input projection's argument

A block of the result is added up in a scratch over two grid points, each taking half of the columns. -/

@[expose] public section

set_option maxRecDepth 16384

noncomputable section

open Idealize.ShloMosaic Idealize.ShloMosaic.TcCoe Idealize.SL.Sem
open Idealize.ShloMosaic.Pointwise

namespace Cert.InDxIdeal.Product

open Cert.InDxIdeal Cert.InDxIdeal.Gen Cert.InDxIdeal.Value

/-- One point's product at an element. -/
theorem part (x : Vec Ideal S1408x3328 .bf16) (y : Vec Ideal S512x3328 .bf16) (r : Fin 1408) (j : Fin 512) :
    k0_pay1 x y (ix2 r j) = ∑ k : Fin 3328, x (ix2 r k) * y (ix2 j k) := by
  pointwise [k0_pay1]

variable (m : (b : Loc nD τ sig) → Buf (Elt Ideal) b) (c : Dev nD)

/-- Which block the left factor's window reads. -/
theorem idx0 : ∀ t : Fin cfg0.N, win0_0.index t = ![t.val / 4, t.val % 2] := by decide +kernel
/-- Which block the right factor's window reads. -/
theorem idx1 : ∀ t : Fin cfg0.N, win0_1.index t = ![t.val / 2 % 2, t.val % 2] := by decide +kernel
/-- Which block the result's window writes. -/
theorem idx2 : ∀ t : Fin cfg0.N, win0_2.index t = ![t.val / 4, t.val / 2 % 2] := by decide +kernel

/-- The product of the first argument and the transposed second. -/
def product (a : Vec Ideal S4224x6656 .bf16) (b : Vec Ideal S1024x6656 .bf16) : Vec Ideal S4224x1024 .f32 :=
  fun i => ∑ k : Fin 6656, a (ix2 (i 0) k) * b (ix2 (i 1) k)

/-- What a point adds: its half of the sum. -/
theorem point (a : Vec Ideal S4224x6656 .bf16) (ha : m ((c : Thread nD τ).loc main_arg0) = a) (b : Vec Ideal S1024x6656 .bf16) (hb : m ((c : Thread nD τ).loc main_arg1) = b)
    (t : Fin cfg0.N) (q p s : ℕ) (hq : t.val % 2 = q) (hp : t.val / 4 = p) (hs : t.val / 2 % 2 = s) (r : Fin 1408) (j : Fin 512) :
    k0_pay1 (iblk m c 0 t) (iblk m c 1 t) (ix2 r j) = ∑ k : Fin 3328,
      a (ix2 ⟨1408 * p + r.val, by have := t.isLt; have : cfg0.N = 12 := N_0; omega⟩ ⟨3328 * q + k.val, by omega⟩)
      * b (ix2 ⟨512 * s + j.val, by omega⟩ ⟨3328 * q + k.val, by omega⟩) := by
  subst hq hp hs
  rw [part]
  refine Finset.sum_congr rfl fun k _ => ?_
  rw [← ha, ← hb, ← V_main_arg0 m c, ← V_main_arg1 m c]
  congr 1
  · blk_ext [iblk, idx0 t]
  · blk_ext [iblk, idx1 t]

/-- What the two points of a block leave. -/
theorem left (n : ℕ) (h : n + 1 < cfg0.N) (hn : n % 2 = 0) (y : S1408x512.Idx) :
    (outsAt0 m c (n + 1) h).1 y = k0_pay1 (iblk m c 0 ⟨n, by omega⟩) (iblk m c 1 ⟨n, by omega⟩) y
      + k0_pay1 (iblk m c 0 ⟨n + 1, by omega⟩) (iblk m c 1 ⟨n + 1, by omega⟩) y := by
  rw [show outsAt0 m c (n + 1) h = _ from outsAt0_B m c ⟨n + 1, h⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay3 k0_pay2
  simp only [read_unread_whole, shapeCast_self]
  rfl

/-- The array after the run. -/
theorem final (a : Vec Ideal S4224x6656 .bf16) (ha : m ((c : Thread nD τ).loc main_arg0) = a) (b : Vec Ideal S1024x6656 .bf16) (hb : m ((c : Thread nD τ).loc main_arg1) = b) :
    (dats m 0 c).arrAt 2 cfg0.N = product a b := by
  refine (dats m 0 c).arrAt_eq_of_covers 2 _ (by decide +kernel) fun t hf y => ?_
  blk_simp
  rw [after0_2]
  have h2 : t.val % 2 = 1 := (flush0_2 t).mp hf
  obtain ⟨t, ht⟩ := t
  obtain ⟨n, rfl⟩ : ∃ n, t = n + 1 := ⟨t - 1, by dsimp only at h2; omega⟩
  have hn : n % 2 = 0 := by dsimp only at h2; omega
  obtain ⟨r, j, rfl⟩ : ∃ (r : Fin 1408) (j : Fin 512), y = ix2 r j := ⟨y 0, y 1, (ix2_eta y).symm⟩
  refine (left m c n ht hn _).trans ?_
  have e : ((cfg0.win 2).blk ⟨n + 1, ht⟩).view.emb (ix2 r j) = ix2 ⟨1408 * (n / 4) + r.val, by have : cfg0.grid.N = 12 := N_0; omega⟩ ⟨512 * (n / 2 % 2) + j.val, by omega⟩ := by
    funext x; apply Fin.ext
    match x with
    | ⟨0, _⟩ => show win0_2.index ⟨n + 1, ht⟩ 0 * 1408 + 1 * r.val = 1408 * (n / 4) + r.val; rw [idx2]; show (n + 1) / 4 * 1408 + 1 * r.val = _; omega
    | ⟨1, _⟩ => show win0_2.index ⟨n + 1, ht⟩ 1 * 512 + 1 * j.val = 512 * (n / 2 % 2) + j.val; rw [idx2]; show (n + 1) / 2 % 2 * 512 + 1 * j.val = _; omega
  rw [e]
  unfold product
  rw [Cert.Sums.two (n := 3328) rfl]
  refine congrArg₂ (· + ·) ?_ ?_
  · exact point m c a ha b hb _ 0 (n / 4) (n / 2 % 2) hn rfl rfl r j
  · exact point m c a ha b hb _ 1 (n / 4) (n / 2 % 2) (by dsimp only; omega) (by dsimp only; omega) (by dsimp only; omega) r j

/-- The reference computes the same product. -/
theorem reference (a : Vec Ideal S4224x6656 .bf16) (b : Vec Ideal S1024x6656 .bf16) :
    Cert.InDxRefIdeal.Read.val_main_v4 (F := Ideal) a b = product a b := by
  funext i
  rw [Cert.InDxRefIdeal.Read.val_main_v4_apply]
  refine Finset.sum_congr rfl fun k _ => congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_InDxIdeal_InDxRefIdeal := by
  intro m g m' g' _ hagree
  refine ⟨_, run_blocks m g, (θ_run Cert.InDxRefIdeal.defs _ _).mono (fun r h c => ?_) (Cert.InDxRefIdeal.Value.run m' g')⟩
  obtain ⟨e0, e1⟩ := hagree c
  obtain ⟨h1, h⟩ := h c
  refine ⟨h1.trans ?_, h⟩
  rw [e0, e1, final m c _ rfl _ rfl]
  exact reference _ _

/-- The reference terminates without fault, its arguments unchanged and its counters, of which it has none, at zero. -/
theorem frame_reference : Cert.quiescent_InDxRefIdeal := fun m g _ =>
  (θ_run Cert.InDxRefIdeal.defs _ _).mono (fun r h => ⟨fun c => (h c).2, sem_eq_zero_of_no_sems (by decide) r.2⟩)
    (Cert.InDxRefIdeal.Value.run (F := Ideal) m g)

end Cert.InDxIdeal.Product

end
-- ==== Proof.InDw.lean ====
module

public import proofs.«01_k».proof.Defs
public import proofs.«01_k».proof.Proof.Sums
public import proofs.«01_k».proof.Proof.Gen.InDwIdeal.Value
public import proofs.«01_k».proof.Proof.Gen.InDwRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the input weights

A block of the result is added up in a scratch over three grid points, each taking a third of the rows. -/

@[expose] public section

set_option maxRecDepth 16384

noncomputable section

open Idealize.ShloMosaic Idealize.ShloMosaic.TcCoe Idealize.SL.Sem
open Idealize.ShloMosaic.Pointwise

namespace Cert.InDwIdeal.Product

open Cert.InDwIdeal Cert.InDwIdeal.Gen Cert.InDwIdeal.Value

/-- One point's product at an element. -/
theorem part (x : Vec Ideal S1024x1408 .bf16) (y : Vec Ideal S1408x1664 .bf16) (r : Fin 1024) (j : Fin 1664) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![0, t.val % 3] := by decide +kernel
/-- Which block the right factor's window reads. -/
theorem idx1 : ∀ t : Fin cfg0.N, win0_1.index t = ![t.val % 3, t.val / 3] := by decide +kernel
/-- Which block the result's window writes. -/
theorem idx2 : ∀ t : Fin cfg0.N, win0_2.index t = ![0, t.val / 3] := by decide +kernel

/-- The host line before the call transposes the first argument. -/
theorem V_left (r : Fin 1024) (k : Fin 4224) : V m c main_v0 (ix2 r k) = m ((c : Thread nD τ).loc main_arg0) (ix2 k r) := by
  unfold_abbrev_sides
  unfold hostOps0
  simp only [StableHlo.after_cons, StableHlo.after_nil]
  rw [StableHlo.unary_result]
  pointwise []

/-- The product of the transposed first argument and the second. -/
def product (a : Vec Ideal S4224x1024 .bf16) (b : Vec Ideal S4224x6656 .bf16) : Vec Ideal S1024x6656 .f32 :=
  fun i => ∑ k : Fin 4224, a (ix2 k (i 0)) * b (ix2 k (i 1))

/-- What a point adds: its third of the sum. -/
theorem point (a : Vec Ideal S4224x1024 .bf16) (ha : m ((c : Thread nD τ).loc main_arg0) = a) (b : Vec Ideal S4224x6656 .bf16) (hb : m ((c : Thread nD τ).loc main_arg1) = b)
    (t : Fin cfg0.N) (q p : ℕ) (hq : t.val % 3 = q) (hp : t.val / 3 = p) (r : Fin 1024) (j : Fin 1664) :
    k0_pay1 (iblk m c 0 t) (iblk m c 1 t) (ix2 r j) = ∑ k : Fin 1408,
      a (ix2 ⟨1408 * q + k.val, by omega⟩ r)
      * b (ix2 ⟨1408 * q + k.val, by omega⟩ ⟨1664 * p + j.val, by have := t.isLt; have : cfg0.N = 12 := N_0; omega⟩) := by
  subst hq hp
  rw [part]
  refine Finset.sum_congr rfl fun k _ => ?_
  rw [← ha, ← hb, ← V_left m c, ← V_main_arg1 m c]
  congr 1
  · blk_ext [iblk, idx0 t]
  · blk_ext [iblk, idx1 t]

/-- What the three points of a block leave. -/
theorem left (n : ℕ) (h : n + 2 < cfg0.N) (hn : n % 3 = 0) (y : S1024x1664.Idx) :
    (outsAt0 m c (n + 2) h).1 y = k0_pay1 (iblk m c 0 ⟨n, by omega⟩) (iblk m c 1 ⟨n, by omega⟩) y
      + k0_pay1 (iblk m c 0 ⟨n + 1, by omega⟩) (iblk m c 1 ⟨n + 1, by omega⟩) y
      + k0_pay1 (iblk m c 0 ⟨n + 2, by omega⟩) (iblk m c 1 ⟨n + 2, by omega⟩) y := by
  rw [show outsAt0 m c (n + 2) h = _ from outsAt0_C m c ⟨n + 2, h⟩ (by dsimp only; omega) (by dsimp only; omega) (by dsimp only; omega)]
  frame_out
  simp only [read_unread_whole]
  rw [show outsAt0 m c (n + 2 - 1) _ = _ from outsAt0_B m c ⟨n + 1, by omega⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay3 k0_pay2
  simp only [read_unread_whole, shapeCast_self]
  rfl

/-- The array after the run. -/
theorem final (a : Vec Ideal S4224x1024 .bf16) (ha : m ((c : Thread nD τ).loc main_arg0) = a) (b : Vec Ideal S4224x6656 .bf16) (hb : m ((c : Thread nD τ).loc main_arg1) = b) :
    (dats m 0 c).arrAt 2 cfg0.N = product a b := by
  refine (dats m 0 c).arrAt_eq_of_covers 2 _ (by decide +kernel) fun t hf y => ?_
  blk_simp
  rw [after0_2]
  have h2 : t.val % 3 = 2 := (flush0_2 t).mp hf
  obtain ⟨t, ht⟩ := t
  obtain ⟨n, rfl⟩ : ∃ n, t = n + 2 := ⟨t - 2, by dsimp only at h2; omega⟩
  have hn : n % 3 = 0 := by dsimp only at h2; omega
  obtain ⟨r, j, rfl⟩ : ∃ (r : Fin 1024) (j : Fin 1664), y = ix2 r j := ⟨y 0, y 1, (ix2_eta y).symm⟩
  refine (left m c n ht hn _).trans ?_
  have e : ((cfg0.win 2).blk ⟨n + 2, ht⟩).view.emb (ix2 r j) = ix2 r ⟨1664 * (n / 3) + j.val, by have : cfg0.grid.N = 12 := N_0; omega⟩ := by
    funext x; apply Fin.ext
    match x with
    | ⟨0, _⟩ => show win0_2.index ⟨n + 2, ht⟩ 0 * 1024 + 1 * r.val = r.val; rw [idx2]; show 0 * 1024 + 1 * r.val = r.val; omega
    | ⟨1, _⟩ => show win0_2.index ⟨n + 2, ht⟩ 1 * 1664 + 1 * j.val = 1664 * (n / 3) + j.val; rw [idx2]; show (n + 2) / 3 * 1664 + 1 * j.val = _; omega
  rw [e]
  unfold product
  rw [Cert.Sums.three (n := 1408) rfl]
  refine congrArg₂ (· + ·) (congrArg₂ (· + ·) ?_ ?_) ?_
  · exact point m c a ha b hb _ 0 (n / 3) hn rfl r j
  · exact point m c a ha b hb _ 1 (n / 3) (by dsimp only; omega) (by dsimp only; omega) r j
  · exact point m c a ha b hb _ 2 (n / 3) (by dsimp only; omega) (by dsimp only; omega) r j

/-- The reference computes the same product. -/
theorem reference (a : Vec Ideal S4224x1024 .bf16) (b : Vec Ideal S4224x6656 .bf16) :
    Cert.InDwRefIdeal.Read.val_main_v5 (F := Ideal) a b = product a b := by
  funext i
  rw [Cert.InDwRefIdeal.Read.val_main_v5_apply, Cert.InDwRefIdeal.Read.val_main_v4_apply]
  refine Finset.sum_congr rfl fun k _ => ?_
  rw [mul_comm]
  refine congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_InDwIdeal_InDwRefIdeal := by
  intro m g m' g' _ hagree
  refine ⟨_, run_blocks m g, (θ_run Cert.InDwRefIdeal.defs _ _).mono (fun r h c => ?_) (Cert.InDwRefIdeal.Value.run m' g')⟩
  obtain ⟨e0, e1⟩ := hagree c
  obtain ⟨h1, h⟩ := h c
  refine ⟨h1.trans ?_, h⟩
  rw [e0, e1, final m c _ rfl _ rfl]
  exact reference _ _

/-- The reference terminates without fault, its arguments unchanged and its counters, of which it has none, at zero. -/
theorem frame_reference : Cert.quiescent_InDwRefIdeal := fun m g _ =>
  (θ_run Cert.InDwRefIdeal.defs _ _).mono (fun r h => ⟨fun c => (h c).2, sem_eq_zero_of_no_sems (by decide) r.2⟩)
    (Cert.InDwRefIdeal.Value.run (F := Ideal) m g)

end Cert.InDwIdeal.Product

end
-- ==== Proof.FfnOutDw.lean ====
module

public import proofs.«01_k».proof.Defs
public import proofs.«01_k».proof.Proof.Sums
public import proofs.«01_k».proof.Proof.Gen.FfnOutDwIdeal.Value
public import proofs.«01_k».proof.Proof.Gen.FfnOutDwRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the feed-forward output weights

A block of the result is added up in a scratch over three grid points, each taking a third of the rows. -/

@[expose] public section

set_option maxRecDepth 16384

noncomputable section

open Idealize.ShloMosaic Idealize.ShloMosaic.TcCoe Idealize.SL.Sem
open Idealize.ShloMosaic.Pointwise

namespace Cert.FfnOutDwIdeal.Product

open Cert.FfnOutDwIdeal Cert.FfnOutDwIdeal.Gen Cert.FfnOutDwIdeal.Value

/-- One point's product at an element. -/
theorem part (x : Vec Ideal S1408x1408 .bf16) (y : Vec Ideal S1408x1024 .bf16) (r : Fin 1408) (j : Fin 1024) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![t.val / 3, t.val % 3] := by decide +kernel
/-- Which block the right factor's window reads. -/
theorem idx1 : ∀ t : Fin cfg0.N, win0_1.index t = ![t.val % 3, 0] := by decide +kernel
/-- Which block the result's window writes. -/
theorem idx2 : ∀ t : Fin cfg0.N, win0_2.index t = ![t.val / 3, 0] := by decide +kernel

/-- The host line before the call transposes the first argument. -/
theorem V_left (r : Fin 2816) (k : Fin 4224) : V m c main_v0 (ix2 r k) = m ((c : Thread nD τ).loc main_arg0) (ix2 k r) := by
  unfold_abbrev_sides
  unfold hostOps0
  simp only [StableHlo.after_cons, StableHlo.after_nil]
  rw [StableHlo.unary_result]
  pointwise []

/-- The product of the transposed first argument and the second. -/
def product (a : Vec Ideal S4224x2816 .bf16) (b : Vec Ideal S4224x1024 .bf16) : Vec Ideal S2816x1024 .f32 :=
  fun i => ∑ k : Fin 4224, a (ix2 k (i 0)) * b (ix2 k (i 1))

/-- What a point adds: its third of the sum. -/
theorem point (a : Vec Ideal S4224x2816 .bf16) (ha : m ((c : Thread nD τ).loc main_arg0) = a) (b : Vec Ideal S4224x1024 .bf16) (hb : m ((c : Thread nD τ).loc main_arg1) = b)
    (t : Fin cfg0.N) (q p : ℕ) (hq : t.val % 3 = q) (hp : t.val / 3 = p) (r : Fin 1408) (j : Fin 1024) :
    k0_pay1 (iblk m c 0 t) (iblk m c 1 t) (ix2 r j) = ∑ k : Fin 1408,
      a (ix2 ⟨1408 * q + k.val, by omega⟩ ⟨1408 * p + r.val, by have := t.isLt; have : cfg0.N = 6 := N_0; omega⟩)
      * b (ix2 ⟨1408 * q + k.val, by omega⟩ j) := by
  subst hq hp
  rw [part]
  refine Finset.sum_congr rfl fun k _ => ?_
  rw [← ha, ← hb, ← V_left m c, ← V_main_arg1 m c]
  congr 1
  · blk_ext [iblk, idx0 t]
  · blk_ext [iblk, idx1 t]

/-- What the three points of a block leave. -/
theorem left (n : ℕ) (h : n + 2 < cfg0.N) (hn : n % 3 = 0) (y : S1408x1024.Idx) :
    (outsAt0 m c (n + 2) h).1 y = k0_pay1 (iblk m c 0 ⟨n, by omega⟩) (iblk m c 1 ⟨n, by omega⟩) y
      + k0_pay1 (iblk m c 0 ⟨n + 1, by omega⟩) (iblk m c 1 ⟨n + 1, by omega⟩) y
      + k0_pay1 (iblk m c 0 ⟨n + 2, by omega⟩) (iblk m c 1 ⟨n + 2, by omega⟩) y := by
  rw [show outsAt0 m c (n + 2) h = _ from outsAt0_C m c ⟨n + 2, h⟩ (by dsimp only; omega) (by dsimp only; omega) (by dsimp only; omega)]
  frame_out
  simp only [read_unread_whole]
  rw [show outsAt0 m c (n + 2 - 1) _ = _ from outsAt0_B m c ⟨n + 1, by omega⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay3 k0_pay2
  simp only [read_unread_whole, shapeCast_self]
  rfl

/-- The array after the run. -/
theorem final (a : Vec Ideal S4224x2816 .bf16) (ha : m ((c : Thread nD τ).loc main_arg0) = a) (b : Vec Ideal S4224x1024 .bf16) (hb : m ((c : Thread nD τ).loc main_arg1) = b) :
    (dats m 0 c).arrAt 2 cfg0.N = product a b := by
  refine (dats m 0 c).arrAt_eq_of_covers 2 _ (by decide +kernel) fun t hf y => ?_
  blk_simp
  rw [after0_2]
  have h2 : t.val % 3 = 2 := (flush0_2 t).mp hf
  obtain ⟨t, ht⟩ := t
  obtain ⟨n, rfl⟩ : ∃ n, t = n + 2 := ⟨t - 2, by dsimp only at h2; omega⟩
  have hn : n % 3 = 0 := by dsimp only at h2; omega
  obtain ⟨r, j, rfl⟩ : ∃ (r : Fin 1408) (j : Fin 1024), y = ix2 r j := ⟨y 0, y 1, (ix2_eta y).symm⟩
  refine (left m c n ht hn _).trans ?_
  have e : ((cfg0.win 2).blk ⟨n + 2, ht⟩).view.emb (ix2 r j) = ix2 ⟨1408 * (n / 3) + r.val, by have : cfg0.grid.N = 6 := N_0; omega⟩ j := by
    funext x; apply Fin.ext
    match x with
    | ⟨0, _⟩ => show win0_2.index ⟨n + 2, ht⟩ 0 * 1408 + 1 * r.val = 1408 * (n / 3) + r.val; rw [idx2]; show (n + 2) / 3 * 1408 + 1 * r.val = _; omega
    | ⟨1, _⟩ => show win0_2.index ⟨n + 2, ht⟩ 1 * 1024 + 1 * j.val = j.val; rw [idx2]; show 0 * 1024 + 1 * j.val = j.val; omega
  rw [e]
  unfold product
  rw [Cert.Sums.three (n := 1408) rfl]
  refine congrArg₂ (· + ·) (congrArg₂ (· + ·) ?_ ?_) ?_
  · exact point m c a ha b hb _ 0 (n / 3) hn rfl r j
  · exact point m c a ha b hb _ 1 (n / 3) (by dsimp only; omega) (by dsimp only; omega) r j
  · exact point m c a ha b hb _ 2 (n / 3) (by dsimp only; omega) (by dsimp only; omega) r j

/-- The reference computes the same product. -/
theorem reference (a : Vec Ideal S4224x2816 .bf16) (b : Vec Ideal S4224x1024 .bf16) :
    Cert.FfnOutDwRefIdeal.Read.val_main_v5 (F := Ideal) a b = product a b := by
  funext i
  rw [Cert.FfnOutDwRefIdeal.Read.val_main_v5_apply, Cert.FfnOutDwRefIdeal.Read.val_main_v4_apply]
  refine Finset.sum_congr rfl fun k _ => ?_
  rw [mul_comm]
  refine congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_FfnOutDwIdeal_FfnOutDwRefIdeal := by
  intro m g m' g' _ hagree
  refine ⟨_, run_blocks m g, (θ_run Cert.FfnOutDwRefIdeal.defs _ _).mono (fun r h c => ?_) (Cert.FfnOutDwRefIdeal.Value.run m' g')⟩
  obtain ⟨e0, e1⟩ := hagree c
  obtain ⟨h1, h⟩ := h c
  refine ⟨h1.trans ?_, h⟩
  rw [e0, e1, final m c _ rfl _ rfl]
  exact reference _ _

/-- The reference terminates without fault, its arguments unchanged and its counters, of which it has none, at zero. -/
theorem frame_reference : Cert.quiescent_FfnOutDwRefIdeal := fun m g _ =>
  (θ_run Cert.FfnOutDwRefIdeal.defs _ _).mono (fun r h => ⟨fun c => (h c).2, sem_eq_zero_of_no_sems (by decide) r.2⟩)
    (Cert.FfnOutDwRefIdeal.Value.run (F := Ideal) m g)

end Cert.FfnOutDwIdeal.Product

end
-- ==== Proof.OutDw.lean ====
module

public import proofs.«01_k».proof.Defs
public import proofs.«01_k».proof.Proof.Sums
public import proofs.«01_k».proof.Proof.Gen.OutDwIdeal.Value
public import proofs.«01_k».proof.Proof.Gen.OutDwRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the output weights

The result is added up in a scratch over three grid points, each taking a third of the rows. -/

@[expose] public section

set_option maxRecDepth 16384

noncomputable section

open Idealize.ShloMosaic Idealize.ShloMosaic.TcCoe Idealize.SL.Sem
open Idealize.ShloMosaic.Pointwise

namespace Cert.OutDwIdeal.Product

open Cert.OutDwIdeal Cert.OutDwIdeal.Gen Cert.OutDwIdeal.Value

/-- One point's product at an element. -/
theorem part (x : Vec Ideal S1024x1408 .bf16) (y : Vec Ideal S1408x1024 .bf16) (r j : Fin 1024) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![0, t.val % 3] := by decide +kernel
/-- Which block the right factor's window reads. -/
theorem idx1 : ∀ t : Fin cfg0.N, win0_1.index t = ![t.val % 3, 0] := by decide +kernel
/-- Which block the result's window writes. -/
theorem idx2 : ∀ t : Fin cfg0.N, win0_2.index t = ![0, 0] := by decide +kernel

/-- The host line before the call transposes the first argument. -/
theorem V_left (r : Fin 1024) (k : Fin 4224) : V m c main_v0 (ix2 r k) = m ((c : Thread nD τ).loc main_arg0) (ix2 k r) := by
  unfold_abbrev_sides
  unfold hostOps0
  simp only [StableHlo.after_cons, StableHlo.after_nil]
  rw [StableHlo.unary_result]
  pointwise []

/-- The product of the transposed first argument and the second. -/
def product (a : Vec Ideal S4224x1024 .bf16) (b : Vec Ideal S4224x1024 .bf16) : Vec Ideal S1024x1024 .f32 :=
  fun i => ∑ k : Fin 4224, a (ix2 k (i 0)) * b (ix2 k (i 1))

/-- What a point adds: its third of the sum. -/
theorem point (a : Vec Ideal S4224x1024 .bf16) (ha : m ((c : Thread nD τ).loc main_arg0) = a) (b : Vec Ideal S4224x1024 .bf16) (hb : m ((c : Thread nD τ).loc main_arg1) = b)
    (t : Fin cfg0.N) (q : ℕ) (hq : t.val % 3 = q) (r j : Fin 1024) :
    k0_pay1 (iblk m c 0 t) (iblk m c 1 t) (ix2 r j) = ∑ k : Fin 1408,
      a (ix2 ⟨1408 * q + k.val, by omega⟩ r)
      * b (ix2 ⟨1408 * q + k.val, by omega⟩ j) := by
  subst hq
  rw [part]
  refine Finset.sum_congr rfl fun k _ => ?_
  rw [← ha, ← hb, ← V_left m c, ← V_main_arg1 m c]
  congr 1
  · blk_ext [iblk, idx0 t]
  · blk_ext [iblk, idx1 t]

/-- What the three points of a block leave. -/
theorem left (n : ℕ) (h : n + 2 < cfg0.N) (hn : n % 3 = 0) (y : S1024x1024.Idx) :
    (outsAt0 m c (n + 2) h).1 y = k0_pay1 (iblk m c 0 ⟨n, by omega⟩) (iblk m c 1 ⟨n, by omega⟩) y
      + k0_pay1 (iblk m c 0 ⟨n + 1, by omega⟩) (iblk m c 1 ⟨n + 1, by omega⟩) y
      + k0_pay1 (iblk m c 0 ⟨n + 2, by omega⟩) (iblk m c 1 ⟨n + 2, by omega⟩) y := by
  rw [show outsAt0 m c (n + 2) h = _ from outsAt0_C m c ⟨n + 2, h⟩ (by dsimp only; omega) (by have : cfg0.N = 3 := N_0; dsimp only; omega) (by dsimp only; omega)]
  frame_out
  simp only [read_unread_whole]
  rw [show outsAt0 m c (n + 2 - 1) _ = _ from outsAt0_B m c ⟨n + 1, by omega⟩ (by dsimp only; omega) (by have : cfg0.N = 3 := N_0; dsimp only; omega) (by dsimp only; omega)]
  frame_out
  simp only [read_unread_whole]
  rw [show outsAt0 m c (n + 1 - 1) _ = _ from outsAt0_A m c ⟨n, by omega⟩ (by dsimp only; omega) (by have : cfg0.N = 3 := N_0; dsimp only; omega) (by dsimp only; omega)]
  frame_out
  unfold k0_pay3 k0_pay2
  simp only [read_unread_whole, shapeCast_self]
  rfl

/-- The array after the run. -/
theorem final (a : Vec Ideal S4224x1024 .bf16) (ha : m ((c : Thread nD τ).loc main_arg0) = a) (b : Vec Ideal S4224x1024 .bf16) (hb : m ((c : Thread nD τ).loc main_arg1) = b) :
    (dats m 0 c).arrAt 2 cfg0.N = product a b := by
  refine (dats m 0 c).arrAt_eq_of_covers 2 _ (by decide +kernel) fun t hf y => ?_
  blk_simp
  rw [after0_2]
  have h2 : t.val % 3 = 2 := (flush0_2 t).mp hf
  obtain ⟨t, ht⟩ := t
  obtain ⟨n, rfl⟩ : ∃ n, t = n + 2 := ⟨t - 2, by dsimp only at h2; omega⟩
  have hn : n % 3 = 0 := by dsimp only at h2; omega
  obtain ⟨r, j, rfl⟩ : ∃ r j : Fin 1024, y = ix2 r j := ⟨y 0, y 1, (ix2_eta y).symm⟩
  refine (left m c n ht hn _).trans ?_
  have e : ((cfg0.win 2).blk ⟨n + 2, ht⟩).view.emb (ix2 r j) = ix2 r j := by
    funext x; apply Fin.ext
    match x with
    | ⟨0, _⟩ => show win0_2.index ⟨n + 2, ht⟩ 0 * 1024 + 1 * r.val = r.val; rw [idx2]; show 0 * 1024 + 1 * r.val = r.val; omega
    | ⟨1, _⟩ => show win0_2.index ⟨n + 2, ht⟩ 1 * 1024 + 1 * j.val = j.val; rw [idx2]; show 0 * 1024 + 1 * j.val = j.val; omega
  rw [e]
  unfold product
  rw [Cert.Sums.three (n := 1408) rfl]
  refine congrArg₂ (· + ·) (congrArg₂ (· + ·) ?_ ?_) ?_
  · exact point m c a ha b hb _ 0 hn r j
  · exact point m c a ha b hb _ 1 (by dsimp only; omega) r j
  · exact point m c a ha b hb _ 2 (by dsimp only; omega) r j

/-- The reference computes the same product. -/
theorem reference (a : Vec Ideal S4224x1024 .bf16) (b : Vec Ideal S4224x1024 .bf16) :
    Cert.OutDwRefIdeal.Read.val_main_v5 (F := Ideal) a b = product a b := by
  funext i
  rw [Cert.OutDwRefIdeal.Read.val_main_v5_apply, Cert.OutDwRefIdeal.Read.val_main_v4_apply]
  refine Finset.sum_congr rfl fun k _ => ?_
  rw [mul_comm]
  refine congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_OutDwIdeal_OutDwRefIdeal := by
  intro m g m' g' _ hagree
  refine ⟨_, run_blocks m g, (θ_run Cert.OutDwRefIdeal.defs _ _).mono (fun r h c => ?_) (Cert.OutDwRefIdeal.Value.run m' g')⟩
  obtain ⟨e0, e1⟩ := hagree c
  obtain ⟨h1, h⟩ := h c
  refine ⟨h1.trans ?_, h⟩
  rw [e0, e1, final m c _ rfl _ rfl]
  exact reference _ _

/-- The reference terminates without fault, its arguments unchanged and its counters, of which it has none, at zero. -/
theorem frame_reference : Cert.quiescent_OutDwRefIdeal := fun m g _ =>
  (θ_run Cert.OutDwRefIdeal.defs _ _).mono (fun r h => ⟨fun c => (h c).2, sem_eq_zero_of_no_sems (by decide) r.2⟩)
    (Cert.OutDwRefIdeal.Value.run (F := Ideal) m g)

end Cert.OutDwIdeal.Product

end
-- ==== Proof.FfnInDw.lean ====
module

public import proofs.«01_k».proof.Defs
public import proofs.«01_k».proof.Proof.Sums
public import proofs.«01_k».proof.Proof.Gen.FfnInDwIdeal.Value
public import proofs.«01_k».proof.Proof.Gen.FfnInDwRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the gate-and-up weights, the second half of the columns

A block of the result is added up in a scratch over three grid points, each taking a third of the rows; it is written in
place over an array whose first half of the columns is left as it was. -/

@[expose] public section

set_option maxRecDepth 16384

noncomputable section

open Idealize.ShloMosaic Idealize.ShloMosaic.TcCoe Idealize.SL.Sem
open Idealize.ShloMosaic.Pointwise

namespace Cert.FfnInDwIdeal.Product

open Cert.FfnInDwIdeal Cert.FfnInDwIdeal.Gen Cert.FfnInDwIdeal.Value

/-- One point's product at an element. -/
theorem part (x : Vec Ideal S1024x1408 .bf16) (y : Vec Ideal S1408x1408 .bf16) (r : Fin 1024) (j : Fin 1408) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![0, t.val % 3] := by decide +kernel
/-- Which block the right factor's window reads. -/
theorem idx1 : ∀ t : Fin cfg0.N, win0_1.index t = ![t.val % 3, t.val / 3] := by decide +kernel
/-- Which block the result's window writes. -/
theorem idx2 : ∀ t : Fin cfg0.N, win0_2.index t = ![0, 0, 2 + t.val / 3] := by decide +kernel

/-- The host line before the call transposes the first argument. -/
theorem V_left (r : Fin 1024) (k : Fin 4224) : V m c main_v0 (ix2 r k) = m ((c : Thread nD τ).loc main_arg0) (ix2 k r) := by
  unfold_abbrev_sides
  unfold hostOps0
  simp only [StableHlo.after_cons, StableHlo.after_nil]
  rw [StableHlo.unary_result_ne]
  rotate_left; decide
  rw [StableHlo.unary_result]
  pointwise []

/-- The host line before the call copies the third argument. -/
theorem V_kept : V m c main_v1 = m ((c : Thread nD τ).loc main_arg2) := by
  unfold_abbrev_sides
  unfold hostOps0
  simp only [StableHlo.after_cons, StableHlo.after_nil]
  rw [StableHlo.unary_result]
  rfl

/-- The product of the transposed first argument and the second, at an element. -/
def entry (a : Vec Ideal S4224x1024 .bf16) (b : Vec Ideal S4224x2816 .bf16) (r : Fin 1024) (j : Fin 2816) : EReal :=
  ∑ k : Fin 4224, a (ix2 k r) * b (ix2 k j)

/-- From column 2816 on the product of the transposed first argument and the second, before it the third argument. -/
def product (a : Vec Ideal S4224x1024 .bf16) (b : Vec Ideal S4224x2816 .bf16) (d : Vec Ideal S1x1024x5632 .f32) :
    Vec Ideal S1x1024x5632 .f32 :=
  fun i => if 2 ≤ (i 2 : ℕ) / 1408 then
      entry a b (i 1) ⟨(i 2).val - 2816, by have : (i 2).val < 5632 := (i 2).isLt; omega⟩
    else d i

/-- What a point adds: its third of the sum. -/
theorem point (a : Vec Ideal S4224x1024 .bf16) (ha : m ((c : Thread nD τ).loc main_arg0) = a) (b : Vec Ideal S4224x2816 .bf16) (hb : m ((c : Thread nD τ).loc main_arg1) = b)
    (t : Fin cfg0.N) (q p : ℕ) (hq : t.val % 3 = q) (hp : t.val / 3 = p) (r : Fin 1024) (j : Fin 1408) :
    k0_pay1 (iblk m c 0 t) (iblk m c 1 t) (ix2 r j) = ∑ k : Fin 1408,
      a (ix2 ⟨1408 * q + k.val, by omega⟩ r)
      * b (ix2 ⟨1408 * q + k.val, by omega⟩ ⟨1408 * p + j.val, by have := t.isLt; have : cfg0.N = 6 := N_0; omega⟩) := by
  subst hq hp
  rw [part]
  refine Finset.sum_congr rfl fun k _ => ?_
  rw [← ha, ← hb, ← V_left m c, ← V_main_arg1 m c]
  congr 1
  · blk_ext [iblk, idx0 t]
  · blk_ext [iblk, idx1 t]

/-- What the three points of a block leave. -/
theorem left (n : ℕ) (h : n + 2 < cfg0.N) (hn : n % 3 = 0) (r : Fin 1024) (j : Fin 1408) :
    (outsAt0 m c (n + 2) h).1 (ix3 0 r j) = k0_pay1 (iblk m c 0 ⟨n, by omega⟩) (iblk m c 1 ⟨n, by omega⟩) (ix2 r j)
      + k0_pay1 (iblk m c 0 ⟨n + 1, by omega⟩) (iblk m c 1 ⟨n + 1, by omega⟩) (ix2 r j)
      + k0_pay1 (iblk m c 0 ⟨n + 2, by omega⟩) (iblk m c 1 ⟨n + 2, by omega⟩) (ix2 r j) := by
  rw [show outsAt0 m c (n + 2) h = _ from outsAt0_C m c ⟨n + 2, h⟩ (by dsimp only; omega) (by dsimp only; omega) (by dsimp only; omega)]
  frame_out
  simp only [read_unread_whole]
  rw [show outsAt0 m c (n + 2 - 1) _ = _ from outsAt0_B m c ⟨n + 1, by omega⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay4 k0_pay3 k0_pay2
  simp only [read_unread_whole, shapeCast_self]
  pointwise []

/-- The array after the run. -/
theorem final (a : Vec Ideal S4224x1024 .bf16) (ha : m ((c : Thread nD τ).loc main_arg0) = a) (b : Vec Ideal S4224x2816 .bf16) (hb : m ((c : Thread nD τ).loc main_arg1) = b)
    (d : Vec Ideal S1x1024x5632 .f32) (hd : m ((c : Thread nD τ).loc main_arg2) = d) :
    (dats m 0 c).arrAt 2 cfg0.N = product a b d := by
  refine (dats m 0 c).arrAt_eq_of_coversWhere_of_agree 2 _ (fun β => 2 ≤ β (2 : Fin 3)) (by decide +kernel)
    (fun t hf y => ?_) (fun i hi => ?_)
  · blk_simp
    rw [after0_2]
    have h2 : t.val % 3 = 2 := (flush0_2 t).mp hf
    obtain ⟨t, ht⟩ := t
    obtain ⟨n, rfl⟩ : ∃ n, t = n + 2 := ⟨t - 2, by dsimp only at h2; omega⟩
    have hn : n % 3 = 0 := by dsimp only at h2; omega
    have hN : cfg0.N = 6 := N_0
    have hn6 : n + 2 < 6 := lt_of_lt_of_eq ht N_0
    obtain ⟨s, r, j, rfl⟩ : ∃ (s : Fin 1) (r : Fin 1024) (j : Fin 1408), y = ix3 s r j := ⟨y 0, y 1, y 2, (ix3_eta y).symm⟩
    obtain rfl : s = 0 := Subsingleton.elim _ _
    refine (left m c n ht hn r j).trans ?_
    have e : ((cfg0.win 2).blk ⟨n + 2, ht⟩).view.emb (ix3 0 r j) = ix3 0 r ⟨2816 + (1408 * (n / 3) + j.val), by omega⟩ := by
      funext x; apply Fin.ext
      match x with
      | ⟨0, _⟩ => show win0_2.index ⟨n + 2, ht⟩ 0 * 1 + 1 * 0 = 0; rw [idx2]; rfl
      | ⟨1, _⟩ => show win0_2.index ⟨n + 2, ht⟩ 1 * 1024 + 1 * r.val = r.val; rw [idx2]; show 0 * 1024 + 1 * r.val = r.val; omega
      | ⟨2, _⟩ => show win0_2.index ⟨n + 2, ht⟩ 2 * 1408 + 1 * j.val = 2816 + (1408 * (n / 3) + j.val); rw [idx2]; show (2 + (n + 2) / 3) * 1408 + 1 * j.val = _; omega
    rw [e]
    unfold product
    refine Eq.trans ?_ (if_pos (show 2 ≤ (2816 + (1408 * (n / 3) + j.val)) / 1408 by omega)).symm
    have e2 : (⟨2816 + (1408 * (n / 3) + j.val) - 2816, by omega⟩ : Fin 2816) = ⟨1408 * (n / 3) + j.val, by omega⟩ := Fin.ext (by dsimp only; omega)
    refine Eq.trans ?_ (congrArg (entry a b r) e2).symm
    unfold entry
    rw [Cert.Sums.three (n := 1408) rfl]
    refine congrArg₂ (· + ·) (congrArg₂ (· + ·) ?_ ?_) ?_
    · exact point m c a ha b hb _ 0 (n / 3) hn rfl r j
    · exact point m c a ha b hb _ 1 (n / 3) (by dsimp only; omega) (by dsimp only; omega) r j
    · exact point m c a ha b hb _ 2 (n / 3) (by dsimp only; omega) (by dsimp only; omega) r j
  · unfold product
    refine Eq.trans ?_ (if_neg hi).symm
    rw [← hd, ← V_kept m c]
    rfl

/-- The reference computes the same array. -/
theorem reference (a : Vec Ideal S4224x1024 .bf16) (b : Vec Ideal S4224x2816 .bf16) (d : Vec Ideal S1x1024x5632 .f32) :
    Cert.FfnInDwRefIdeal.Read.val_main_v8 (F := Ideal) a b d = product a b d := by
  funext i
  obtain ⟨s, r, j, rfl⟩ : ∃ (s : Fin 1) (r : Fin 1024) (j : Fin 5632), i = ix3 s r j := ⟨i 0, i 1, i 2, (ix3_eta i).symm⟩
  by_cases h : j.val < 2816
  · refine Eq.trans ?_ (if_neg (show ¬2 ≤ j.val / 1408 by omega)).symm
    unfold Cert.FfnInDwRefIdeal.Read.val_main_v8
    obtain rfl : s = 0 := Subsingleton.elim _ _
    pointwise [Cert.FfnInDwRefIdeal.Read.val_main_v6]
    rw [dif_pos h]
  · refine Eq.trans ?_ (if_pos (show 2 ≤ j.val / 1408 by omega)).symm
    unfold Cert.FfnInDwRefIdeal.Read.val_main_v8
    pointwise []
    rw [dif_neg h, Cert.FfnInDwRefIdeal.Read.val_main_v7_apply, Cert.FfnInDwRefIdeal.Read.val_main_v5_apply, Cert.FfnInDwRefIdeal.Read.val_main_v4_apply]
    refine Finset.sum_congr rfl fun k _ => ?_
    rw [mul_comm]
    refine congrArg₂ (· * ·) (congrArg a ?_) (congrArg b ?_)
    · funext x; match x with
      | ⟨0, _⟩ => rfl
      | ⟨1, _⟩ => rfl
    · funext x; match x with
      | ⟨0, _⟩ => rfl
      | ⟨1, _⟩ => rfl

/-- The kernel and the reference end with equal results. -/
theorem algebraic : Cert.algebraic_FfnInDwIdeal_FfnInDwRefIdeal := by
  intro m g m' g' _ hagree
  refine ⟨_, run_blocks m g, (θ_run Cert.FfnInDwRefIdeal.defs _ _).mono (fun r h c => ?_) (Cert.FfnInDwRefIdeal.Value.run m' g')⟩
  obtain ⟨e0, e1, e2⟩ := hagree c
  obtain ⟨h1, h⟩ := h c
  refine ⟨h1.trans ?_, h⟩
  rw [e0, e1, e2, final m c _ rfl _ rfl _ rfl]
  exact reference _ _ _

/-- The reference terminates without fault, its arguments unchanged and its counters, of which it has none, at zero. -/
theorem frame_reference : Cert.quiescent_FfnInDwRefIdeal := fun m g _ =>
  (θ_run Cert.FfnInDwRefIdeal.defs _ _).mono (fun r h => ⟨fun c => (h c).2, sem_eq_zero_of_no_sems (by decide) r.2⟩)
    (Cert.FfnInDwRefIdeal.Value.run (F := Ideal) m g)

end Cert.FfnInDwIdeal.Product

end
-- ==== Proof.FfnInDxGate.lean ====
module

public import proofs.«01_k».proof.Defs
public import proofs.«01_k».proof.Proof.Sums
public import proofs.«01_k».proof.Proof.Gen.FfnInDxGateIdeal.Value
public import proofs.«01_k».proof.Proof.Gen.FfnInDxGateRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The part of the feed-forward argument's gradient that comes from the gate

Each grid point computes one block of the result from the first half of the weights' columns. -/

@[expose] public section

set_option maxRecDepth 16384

noncomputable section

open Idealize.ShloMosaic Idealize.ShloMosaic.TcCoe Idealize.SL.Sem
open Idealize.ShloMosaic.Pointwise

namespace Cert.FfnInDxGateIdeal.Product

open Cert.FfnInDxGateIdeal Cert.FfnInDxGateIdeal.Gen Cert.FfnInDxGateIdeal.Value

/-- One point's product at an element. -/
theorem part (x : Vec Ideal S1408x2816 .bf16) (y : Vec Ideal S512x2816 .bf16) (r : Fin 1408) (j : Fin 512) :
    k0_pay1 x y (ix2 r j) = ∑ k : Fin 2816, x (ix2 r k) * y (ix2 j k) := by
  pointwise [k0_pay1]

variable (m : (b : Loc nD τ sig) → Buf (Elt Ideal) b) (c : Dev nD)

/-- Which block the left factor's window reads. -/
theorem idx0 : ∀ t : Fin cfg0.N, win0_0.index t = ![t.val / 2, 0] := by decide +kernel
/-- Which block the right factor's window reads. -/
theorem idx1 : ∀ t : Fin cfg0.N, win0_1.index t = ![t.val % 2, 0] := by decide +kernel
/-- Which block the result's window writes. -/
theorem idx2 : ∀ t : Fin cfg0.N, win0_2.index t = ![t.val / 2, t.val % 2] := by decide +kernel

/-- The product of the first argument and the transposed first half of the second. -/
def product (a : Vec Ideal S4224x2816 .bf16) (b : Vec Ideal S1024x5632 .bf16) : Vec Ideal S4224x1024 .f32 :=
  fun i => ∑ k : Fin 2816, a (ix2 (i 0) k) * b (ix2 (i 1) ⟨k.val, by omega⟩)

/-- What a point leaves. -/
theorem point (a : Vec Ideal S4224x2816 .bf16) (ha : m ((c : Thread nD τ).loc main_arg0) = a) (b : Vec Ideal S1024x5632 .bf16) (hb : m ((c : Thread nD τ).loc main_arg1) = b)
    (t : Fin cfg0.N) (r : Fin 1408) (j : Fin 512) :
    k0_pay1 (iblk m c 0 t) (iblk m c 1 t) (ix2 r j) = ∑ k : Fin 2816,
      a (ix2 ⟨1408 * (t.val / 2) + r.val, by have := t.isLt; have : cfg0.N = 6 := N_0; omega⟩ k) * b (ix2 ⟨512 * (t.val % 2) + j.val, by omega⟩ ⟨k.val, by omega⟩) := by
  rw [part]
  refine Finset.sum_congr rfl fun k _ => ?_
  rw [← ha, ← hb, ← V_main_arg0 m c, ← V_main_arg1 m c]
  congr 1
  · blk_ext [iblk, idx0 t]
  · blk_ext [iblk, idx1 t]

/-- The array after the run. -/
theorem final (a : Vec Ideal S4224x2816 .bf16) (ha : m ((c : Thread nD τ).loc main_arg0) = a) (b : Vec Ideal S1024x5632 .bf16) (hb : m ((c : Thread nD τ).loc main_arg1) = b) :
    (dats m 0 c).arrAt 2 cfg0.N = product a b := by
  refine (dats m 0 c).arrAt_eq_of_covers 2 _ (by decide +kernel) fun t hf y => ?_
  blk_simp
  rw [after0_2]
  frame_out
  obtain ⟨r, j, rfl⟩ : ∃ (r : Fin 1408) (j : Fin 512), y = ix2 r j := ⟨y 0, y 1, (ix2_eta y).symm⟩
  have e : ((cfg0.win 2).blk t).view.emb (ix2 r j) = ix2 ⟨1408 * (t.val / 2) + r.val, by have := t.isLt; have : cfg0.grid.N = 6 := N_0; omega⟩ ⟨512 * (t.val % 2) + j.val, by omega⟩ := by
    funext x; apply Fin.ext
    match x with
    | ⟨0, _⟩ => show win0_2.index t 0 * 1408 + 1 * r.val = 1408 * (t.val / 2) + r.val; rw [idx2]; show t.val / 2 * 1408 + 1 * r.val = _; omega
    | ⟨1, _⟩ => show win0_2.index t 1 * 512 + 1 * j.val = 512 * (t.val % 2) + j.val; rw [idx2]; show t.val % 2 * 512 + 1 * j.val = _; omega
  rw [e]
  exact point m c a ha b hb t r j

/-- The reference computes the same product: the other half of its sum has zeros for factors. -/
theorem reference (a : Vec Ideal S4224x2816 .bf16) (b : Vec Ideal S1024x5632 .bf16) :
    Cert.FfnInDxGateRefIdeal.Read.val_main_v8 (F := Ideal) a b = product a b := by
  funext i
  obtain ⟨r, j, rfl⟩ : ∃ (r : Fin 4224) (j : Fin 1024), i = ix2 r j := ⟨i 0, i 1, (ix2_eta i).symm⟩
  rw [Cert.FfnInDxGateRefIdeal.Read.val_main_v8_apply, Cert.Sums.two (n := 2816) rfl]
  have hl : ∀ k, Cert.FfnInDxGateRefIdeal.Read.lidx_main_v8 (ix2 r j) k = ix2 r k := fun k => by
    funext x; match x with
    | ⟨0, _⟩ => rfl
    | ⟨1, _⟩ => rfl
  have hr : ∀ k, Cert.FfnInDxGateRefIdeal.Read.ridx_main_v8 (ix2 r j) k = ix2 j k := fun k => by
    funext x; match x with
    | ⟨0, _⟩ => rfl
    | ⟨1, _⟩ => rfl
  have hz : ∀ k : Fin 2816, Cert.FfnInDxGateRefIdeal.Read.val_main_v7 (F := Ideal) a (ix2 r ⟨2816 * 1 + k.val, by omega⟩) = 0 := fun k => by
    unfold Cert.FfnInDxGateRefIdeal.Read.val_main_v7
    pointwise [Cert.FfnInDxGateRefIdeal.Read.val_main_v6, Cert.FfnInDxGateRefIdeal.Read.val_main_cst_0]
  have ha : ∀ k : Fin 2816, Cert.FfnInDxGateRefIdeal.Read.val_main_v7 (F := Ideal) a (ix2 r ⟨2816 * 0 + k.val, by omega⟩) = a (ix2 r k) := fun k => by
    unfold Cert.FfnInDxGateRefIdeal.Read.val_main_v7
    pointwise [Cert.FfnInDxGateRefIdeal.Read.val_main_v2]
  refine (congrArg₂ (· + ·) (Finset.sum_congr rfl fun k _ => ?_) (Finset.sum_eq_zero fun k _ => ?_)).trans (add_zero _)
  · rw [hl, ha, hr]
    refine congrArg (a (ix2 r k) * ·) (congrArg b (congrArg (ix2 j) (Fin.ext ?_)))
    simp
  · rw [hl, hz]
    exact zero_mul _

/-- The kernel and the reference end with equal results. -/
theorem algebraic : Cert.algebraic_FfnInDxGateIdeal_FfnInDxGateRefIdeal := by
  intro m g m' g' _ hagree
  refine ⟨_, run_blocks m g, (θ_run Cert.FfnInDxGateRefIdeal.defs _ _).mono (fun r h c => ?_) (Cert.FfnInDxGateRefIdeal.Value.run m' g')⟩
  obtain ⟨e0, e1⟩ := hagree c
  obtain ⟨h1, h⟩ := h c
  refine ⟨h1.trans ?_, h⟩
  rw [e0, e1, final m c _ rfl _ rfl]
  exact reference _ _

/-- The reference terminates without fault, its arguments unchanged and its counters, of which it has none, at zero. -/
theorem frame_reference : Cert.quiescent_FfnInDxGateRefIdeal := fun m g _ =>
  (θ_run Cert.FfnInDxGateRefIdeal.defs _ _).mono (fun r h => ⟨fun c => (h c).2, sem_eq_zero_of_no_sems (by decide) r.2⟩)
    (Cert.FfnInDxGateRefIdeal.Value.run (F := Ideal) m g)

end Cert.FfnInDxGateIdeal.Product

end
-- ==== Proof.FfnInDxUp.lean ====
module

public import proofs.«01_k».proof.Defs
public import proofs.«01_k».proof.Proof.Sums
public import proofs.«01_k».proof.Proof.Gen.FfnInDxUpIdeal.Value
public import proofs.«01_k».proof.Proof.Gen.FfnInDxUpRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The part of the feed-forward argument's gradient that comes from `up`, added to the other part

Each grid point computes one block of the result from the second half of the weights' columns. -/

@[expose] public section

set_option maxRecDepth 16384

noncomputable section

open Idealize.ShloMosaic Idealize.ShloMosaic.TcCoe Idealize.SL.Sem
open Idealize.ShloMosaic.Pointwise

namespace Cert.FfnInDxUpIdeal.Product

open Cert.FfnInDxUpIdeal Cert.FfnInDxUpIdeal.Gen Cert.FfnInDxUpIdeal.Value

/-- One point's product at an element. -/
theorem part (x : Vec Ideal S1408x2816 .bf16) (y : Vec Ideal S512x2816 .bf16) (z : Vec Ideal S1408x512 .f32) (r : Fin 1408) (j : Fin 512) :
    k0_pay1 x y z (ix2 r j) = z (ix2 r j) + ∑ k : Fin 2816, x (ix2 r k) * y (ix2 j k) := by
  rw [add_comm]
  pointwise [k0_pay1]

variable (m : (b : Loc nD τ sig) → Buf (Elt Ideal) b) (c : Dev nD)

/-- Which block the left factor's window reads. -/
theorem idx0 : ∀ t : Fin cfg0.N, win0_0.index t = ![t.val / 2, 0] := by decide +kernel
/-- Which block the right factor's window reads. -/
theorem idx1 : ∀ t : Fin cfg0.N, win0_1.index t = ![t.val % 2, 1] := by decide +kernel
/-- Which block the window of the other part reads. -/
theorem idx2 : ∀ t : Fin cfg0.N, win0_2.index t = ![t.val / 2, t.val % 2] := by decide +kernel
/-- Which block the result's window writes. -/
theorem idx3 : ∀ t : Fin cfg0.N, win0_3.index t = ![t.val / 2, t.val % 2] := by decide +kernel

/-- The other part plus the product of the first argument and the transposed second half of the second. -/
def product (a : Vec Ideal S4224x2816 .bf16) (b : Vec Ideal S1024x5632 .bf16) (d : Vec Ideal S4224x1024 .f32) : Vec Ideal S4224x1024 .f32 :=
  fun i => d i + ∑ k : Fin 2816, a (ix2 (i 0) k) * b (ix2 (i 1) ⟨2816 * 1 + k.val, by omega⟩)

/-- What a point leaves. -/
theorem point (a : Vec Ideal S4224x2816 .bf16) (ha : m ((c : Thread nD τ).loc main_arg0) = a) (b : Vec Ideal S1024x5632 .bf16) (hb : m ((c : Thread nD τ).loc main_arg1) = b)
    (d : Vec Ideal S4224x1024 .f32) (hd : m ((c : Thread nD τ).loc main_arg2) = d)
    (t : Fin cfg0.N) (r : Fin 1408) (j : Fin 512) :
    k0_pay1 (iblk m c 0 t) (iblk m c 1 t) (iblk m c 2 t) (ix2 r j) =
      d (ix2 ⟨1408 * (t.val / 2) + r.val, by have := t.isLt; have : cfg0.N = 6 := N_0; omega⟩ ⟨512 * (t.val % 2) + j.val, by omega⟩) + ∑ k : Fin 2816,
      a (ix2 ⟨1408 * (t.val / 2) + r.val, by have := t.isLt; have : cfg0.N = 6 := N_0; omega⟩ k) * b (ix2 ⟨512 * (t.val % 2) + j.val, by omega⟩ ⟨2816 * 1 + k.val, by omega⟩) := by
  rw [part]
  refine congrArg₂ (· + ·) (by rw [← hd, ← V_main_arg2 m c]; blk_ext [iblk, idx2 t]) (Finset.sum_congr rfl fun k _ => ?_)
  rw [← ha, ← hb, ← V_main_arg0 m c, ← V_main_arg1 m c]
  congr 1
  · blk_ext [iblk, idx0 t]
  · blk_ext [iblk, idx1 t]

/-- The array after the run. -/
theorem final (a : Vec Ideal S4224x2816 .bf16) (ha : m ((c : Thread nD τ).loc main_arg0) = a) (b : Vec Ideal S1024x5632 .bf16) (hb : m ((c : Thread nD τ).loc main_arg1) = b)
    (d : Vec Ideal S4224x1024 .f32) (hd : m ((c : Thread nD τ).loc main_arg2) = d) :
    (dats m 0 c).arrAt 3 cfg0.N = product a b d := by
  refine (dats m 0 c).arrAt_eq_of_covers 3 _ (by decide +kernel) fun t hf y => ?_
  blk_simp
  rw [after0_3]
  frame_out
  obtain ⟨r, j, rfl⟩ : ∃ (r : Fin 1408) (j : Fin 512), y = ix2 r j := ⟨y 0, y 1, (ix2_eta y).symm⟩
  have e : ((cfg0.win 3).blk t).view.emb (ix2 r j) = ix2 ⟨1408 * (t.val / 2) + r.val, by have := t.isLt; have : cfg0.grid.N = 6 := N_0; omega⟩ ⟨512 * (t.val % 2) + j.val, by omega⟩ := by
    funext x; apply Fin.ext
    match x with
    | ⟨0, _⟩ => show win0_3.index t 0 * 1408 + 1 * r.val = 1408 * (t.val / 2) + r.val; rw [idx3]; show t.val / 2 * 1408 + 1 * r.val = _; omega
    | ⟨1, _⟩ => show win0_3.index t 1 * 512 + 1 * j.val = 512 * (t.val % 2) + j.val; rw [idx3]; show t.val % 2 * 512 + 1 * j.val = _; omega
  rw [e]
  exact point m c a ha b hb d hd t r j

/-- The reference computes the same product: the other half of its sum has zeros for factors. -/
theorem reference (a : Vec Ideal S4224x2816 .bf16) (b : Vec Ideal S1024x5632 .bf16) (d : Vec Ideal S4224x1024 .f32) :
    Cert.FfnInDxUpRefIdeal.Read.val_main_v9 (F := Ideal) a b d = product a b d := by
  funext i
  obtain ⟨r, j, rfl⟩ : ∃ (r : Fin 4224) (j : Fin 1024), i = ix2 r j := ⟨i 0, i 1, (ix2_eta i).symm⟩
  refine congrArg (d (ix2 r j) + ·) ?_
  rw [Cert.FfnInDxUpRefIdeal.Read.val_main_v8_apply, Cert.Sums.two (n := 2816) rfl]
  have hl : ∀ k, Cert.FfnInDxUpRefIdeal.Read.lidx_main_v8 (ix2 r j) k = ix2 r k := fun k => by
    funext x; match x with
    | ⟨0, _⟩ => rfl
    | ⟨1, _⟩ => rfl
  have hr : ∀ k, Cert.FfnInDxUpRefIdeal.Read.ridx_main_v8 (ix2 r j) k = ix2 j k := fun k => by
    funext x; match x with
    | ⟨0, _⟩ => rfl
    | ⟨1, _⟩ => rfl
  have hz : ∀ k : Fin 2816, Cert.FfnInDxUpRefIdeal.Read.val_main_v7 (F := Ideal) a (ix2 r ⟨2816 * 0 + k.val, by omega⟩) = 0 := fun k => by
    unfold Cert.FfnInDxUpRefIdeal.Read.val_main_v7
    pointwise [Cert.FfnInDxUpRefIdeal.Read.val_main_v6, Cert.FfnInDxUpRefIdeal.Read.val_main_cst_0]
  have ha : ∀ k : Fin 2816, Cert.FfnInDxUpRefIdeal.Read.val_main_v7 (F := Ideal) a (ix2 r ⟨2816 * 1 + k.val, by omega⟩) = a (ix2 r k) := fun k => by
    unfold Cert.FfnInDxUpRefIdeal.Read.val_main_v7
    pointwise [Cert.FfnInDxUpRefIdeal.Read.val_main_v2]
  refine (congrArg₂ (· + ·) (Finset.sum_eq_zero fun k _ => ?_) (Finset.sum_congr rfl fun k _ => ?_)).trans (zero_add _)
  · rw [hl, hz]
    exact zero_mul _
  · rw [hl, ha, hr]
    rfl

/-- The kernel and the reference end with equal results. -/
theorem algebraic : Cert.algebraic_FfnInDxUpIdeal_FfnInDxUpRefIdeal := by
  intro m g m' g' _ hagree
  refine ⟨_, run_blocks m g, (θ_run Cert.FfnInDxUpRefIdeal.defs _ _).mono (fun r h c => ?_) (Cert.FfnInDxUpRefIdeal.Value.run m' g')⟩
  obtain ⟨e0, e1, e2⟩ := hagree c
  obtain ⟨h1, h⟩ := h c
  refine ⟨h1.trans ?_, h⟩
  rw [e0, e1, e2, final m c _ rfl _ rfl _ rfl]
  exact reference _ _ _

/-- The reference terminates without fault, its arguments unchanged and its counters, of which it has none, at zero. -/
theorem frame_reference : Cert.quiescent_FfnInDxUpRefIdeal := fun m g _ =>
  (θ_run Cert.FfnInDxUpRefIdeal.defs _ _).mono (fun r h => ⟨fun c => (h c).2, sem_eq_zero_of_no_sems (by decide) r.2⟩)
    (Cert.FfnInDxUpRefIdeal.Value.run (F := Ideal) m g)

end Cert.FfnInDxUpIdeal.Product

end
-- ==== Proof.BranchDx.lean ====
module

public import proofs.«01_k».proof.Defs
public import proofs.«01_k».proof.Proof.Sums
public import proofs.«01_k».proof.Proof.Gen.BranchDxIdeal.Value
public import proofs.«01_k».proof.Proof.Gen.BranchDxRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the branch projection's argument

Each grid point computes one block of the result. -/

@[expose] public section

set_option maxRecDepth 16384

noncomputable section

open Idealize.ShloMosaic Idealize.ShloMosaic.TcCoe Idealize.SL.Sem
open Idealize.ShloMosaic.Pointwise

namespace Cert.BranchDxIdeal.Product

open Cert.BranchDxIdeal Cert.BranchDxIdeal.Gen Cert.BranchDxIdeal.Value

/-- One point's product at an element. -/
theorem part (x : Vec Ideal S1408x1024 .bf16) (y : Vec Ideal S512x1024 .bf16) (r : Fin 1408) (j : Fin 512) :
    k0_pay1 x y (ix2 r j) = ∑ k : Fin 1024, x (ix2 r k) * y (ix2 j k) := by
  pointwise [k0_pay1]

variable (m : (b : Loc nD τ sig) → Buf (Elt Ideal) b) (c : Dev nD)

/-- Which block the left factor's window reads. -/
theorem idx0 : ∀ t : Fin cfg0.N, win0_0.index t = ![t.val, 0] := by decide +kernel
/-- Which block the right factor's window reads. -/
theorem idx1 : ∀ t : Fin cfg0.N, win0_1.index t = ![0, 0] := by decide +kernel
/-- Which block the result's window writes. -/
theorem idx2 : ∀ t : Fin cfg0.N, win0_2.index t = ![t.val, 0] := by decide +kernel

/-- The product of the first argument and the transposed second. -/
def product (a : Vec Ideal S4224x1024 .bf16) (b : Vec Ideal S512x1024 .bf16) : Vec Ideal S4224x512 .bf16 :=
  fun i => ∑ k : Fin 1024, a (ix2 (i 0) k) * b (ix2 (i 1) k)

/-- What a point leaves. -/
theorem point (a : Vec Ideal S4224x1024 .bf16) (ha : m ((c : Thread nD τ).loc main_arg0) = a) (b : Vec Ideal S512x1024 .bf16) (hb : m ((c : Thread nD τ).loc main_arg1) = b)
    (t : Fin cfg0.N) (r : Fin 1408) (j : Fin 512) :
    k0_pay1 (iblk m c 0 t) (iblk m c 1 t) (ix2 r j) = ∑ k : Fin 1024,
      a (ix2 ⟨1408 * t.val + r.val, by have := t.isLt; have : cfg0.N = 3 := N_0; omega⟩ k) * b (ix2 j k) := by
  rw [part]
  refine Finset.sum_congr rfl fun k _ => ?_
  rw [← ha, ← hb, ← V_main_arg0 m c, ← V_main_arg1 m c]
  congr 1
  · blk_ext [iblk, idx0 t]
  · blk_ext [iblk, idx1 t]

/-- The array after the run. -/
theorem final (a : Vec Ideal S4224x1024 .bf16) (ha : m ((c : Thread nD τ).loc main_arg0) = a) (b : Vec Ideal S512x1024 .bf16) (hb : m ((c : Thread nD τ).loc main_arg1) = b) :
    (dats m 0 c).arrAt 2 cfg0.N = product a b := by
  refine (dats m 0 c).arrAt_eq_of_covers 2 _ (by decide +kernel) fun t hf y => ?_
  blk_simp
  rw [after0_2]
  frame_out
  obtain ⟨r, j, rfl⟩ : ∃ (r : Fin 1408) (j : Fin 512), y = ix2 r j := ⟨y 0, y 1, (ix2_eta y).symm⟩
  have e : ((cfg0.win 2).blk t).view.emb (ix2 r j) = ix2 ⟨1408 * t.val + r.val, by have := t.isLt; have : cfg0.grid.N = 3 := N_0; omega⟩ j := by
    funext x; apply Fin.ext
    match x with
    | ⟨0, _⟩ => show win0_2.index t 0 * 1408 + 1 * r.val = 1408 * t.val + r.val; rw [idx2]; show t.val * 1408 + 1 * r.val = _; omega
    | ⟨1, _⟩ => show win0_2.index t 1 * 512 + 1 * j.val = j.val; rw [idx2]; show 0 * 512 + 1 * j.val = _; omega
  rw [e]
  exact point m c a ha b hb t r j

/-- The reference computes the same product. -/
theorem reference (a : Vec Ideal S4224x1024 .bf16) (b : Vec Ideal S512x1024 .bf16) :
    Cert.BranchDxRefIdeal.Read.val_main_v5 (F := Ideal) a b = product a b := by
  funext i
  rw [Cert.BranchDxRefIdeal.Read.val_main_v5_apply]
  refine (Cert.BranchDxRefIdeal.Read.val_main_v4_apply a b i).trans ?_
  refine Finset.sum_congr rfl fun k _ => congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_BranchDxIdeal_BranchDxRefIdeal := by
  intro m g m' g' _ hagree
  refine ⟨_, run_blocks m g, (θ_run Cert.BranchDxRefIdeal.defs _ _).mono (fun r h c => ?_) (Cert.BranchDxRefIdeal.Value.run m' g')⟩
  obtain ⟨e0, e1⟩ := hagree c
  obtain ⟨h1, h⟩ := h c
  refine ⟨h1.trans ?_, h⟩
  rw [e0, e1, final m c _ rfl _ rfl]
  exact reference _ _

/-- The reference terminates without fault, its arguments unchanged and its counters, of which it has none, at zero. -/
theorem frame_reference : Cert.quiescent_BranchDxRefIdeal := fun m g _ =>
  (θ_run Cert.BranchDxRefIdeal.defs _ _).mono (fun r h => ⟨fun c => (h c).2, sem_eq_zero_of_no_sems (by decide) r.2⟩)
    (Cert.BranchDxRefIdeal.Value.run (F := Ideal) m g)

end Cert.BranchDxIdeal.Product

end
-- ==== Proof.FfnInDwGate.lean ====
module

public import proofs.«01_k».proof.Defs
public import proofs.«01_k».proof.Proof.Sums
public import proofs.«01_k».proof.Proof.Gen.FfnInDwGateIdeal.Frame
public import proofs.«01_k».proof.Proof.Gen.FfnInDwGateRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the gate-and-up weights, the first half of the columns

A block of the result is added up in a scratch over three grid points, each taking a third of the rows; the call leaves the
second half of the columns of its array unwritten, and the host takes the first half. -/

@[expose] public section

set_option maxRecDepth 16384

noncomputable section

open Idealize.ShloMosaic Idealize.ShloMosaic.TcCoe Idealize.SL.Sem
open Idealize.ShloMosaic.Pointwise

namespace Cert.FfnInDwGateIdeal.Product

open Cert.FfnInDwGateIdeal Cert.FfnInDwGateIdeal.Gen

/-- One point's product at an element. -/
theorem part (x : Vec Ideal S1024x1408 .bf16) (y : Vec Ideal S1408x1408 .bf16) (r : Fin 1024) (j : Fin 1408) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![0, t.val % 3] := by decide +kernel
/-- Which block the right factor's window reads. -/
theorem idx1 : ∀ t : Fin cfg0.N, win0_1.index t = ![t.val % 3, t.val / 3] := by decide +kernel
/-- Which block the result's window writes. -/
theorem idx2 : ∀ t : Fin cfg0.N, win0_2.index t = ![0, 0, t.val / 3] := by decide +kernel

/-- The host line before the call transposes the first argument. -/
theorem V_left (r : Fin 1024) (k : Fin 4224) : V m c main_v0 (ix2 r k) = m ((c : Thread nD τ).loc main_arg0) (ix2 k r) := by
  unfold_abbrev_sides
  rw [show [hostOps0 (F := Ideal)].flatten = hostOps0 from List.append_nil _]
  unfold hostOps0
  simp only [StableHlo.after_cons, StableHlo.after_nil]
  rw [StableHlo.unary_result]
  pointwise []

/-- The product of the transposed first argument and the second, at an element. -/
def entry (a : Vec Ideal S4224x1024 .bf16) (b : Vec Ideal S4224x2816 .bf16) (r : Fin 1024) (j : Fin 2816) : EReal :=
  ∑ k : Fin 4224, a (ix2 k r) * b (ix2 k j)

/-- The product of the transposed first argument and the second. -/
def product (a : Vec Ideal S4224x1024 .bf16) (b : Vec Ideal S4224x2816 .bf16) : Vec Ideal S1024x2816 .f32 :=
  fun i => entry a b (i 0) (i 1)

/-- The call's array: up to column 2816 the product, from there on what it held. -/
def array (a : Vec Ideal S4224x1024 .bf16) (b : Vec Ideal S4224x2816 .bf16) (d : Vec Ideal S1x1024x5632 .f32) :
    Vec Ideal S1x1024x5632 .f32 :=
  fun i => if h : (i 2 : ℕ) / 1408 < 2 then entry a b (i 1) ⟨(i 2).val, by omega⟩ else d i

/-- What a point adds: its third of the sum. -/
theorem point (a : Vec Ideal S4224x1024 .bf16) (ha : m ((c : Thread nD τ).loc main_arg0) = a) (b : Vec Ideal S4224x2816 .bf16) (hb : m ((c : Thread nD τ).loc main_arg1) = b)
    (t : Fin cfg0.N) (q p : ℕ) (hq : t.val % 3 = q) (hp : t.val / 3 = p) (r : Fin 1024) (j : Fin 1408) :
    k0_pay1 (iblk m c 0 t) (iblk m c 1 t) (ix2 r j) = ∑ k : Fin 1408,
      a (ix2 ⟨1408 * q + k.val, by omega⟩ r)
      * b (ix2 ⟨1408 * q + k.val, by omega⟩ ⟨1408 * p + j.val, by have := t.isLt; have : cfg0.N = 6 := N_0; omega⟩) := by
  subst hq hp
  rw [part]
  refine Finset.sum_congr rfl fun k _ => ?_
  rw [← ha, ← hb, ← V_left m c, ← V_main_arg1 m c]
  congr 1
  · blk_ext [iblk, idx0 t]
  · blk_ext [iblk, idx1 t]

/-- What the three points of a block leave. -/
theorem left (n : ℕ) (h : n + 2 < cfg0.N) (hn : n % 3 = 0) (r : Fin 1024) (j : Fin 1408) :
    (outsAt0 m c (n + 2) h).1 (ix3 0 r j) = k0_pay1 (iblk m c 0 ⟨n, by omega⟩) (iblk m c 1 ⟨n, by omega⟩) (ix2 r j)
      + k0_pay1 (iblk m c 0 ⟨n + 1, by omega⟩) (iblk m c 1 ⟨n + 1, by omega⟩) (ix2 r j)
      + k0_pay1 (iblk m c 0 ⟨n + 2, by omega⟩) (iblk m c 1 ⟨n + 2, by omega⟩) (ix2 r j) := by
  rw [show outsAt0 m c (n + 2) h = _ from outsAt0_C m c ⟨n + 2, h⟩ (by dsimp only; omega) (by dsimp only; omega) (by dsimp only; omega)]
  frame_out
  simp only [read_unread_whole]
  rw [show outsAt0 m c (n + 2 - 1) _ = _ from outsAt0_B m c ⟨n + 1, by omega⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay4 k0_pay3 k0_pay2
  simp only [read_unread_whole, shapeCast_self]
  pointwise []

/-- The call's array after the run. -/
theorem final (a : Vec Ideal S4224x1024 .bf16) (ha : m ((c : Thread nD τ).loc main_arg0) = a) (b : Vec Ideal S4224x2816 .bf16) (hb : m ((c : Thread nD τ).loc main_arg1) = b) :
    (dats m 0 c).arrAt 2 cfg0.N = array a b (V m c main_v1) := by
  refine (dats m 0 c).arrAt_eq_of_coversWhere_of_agree 2 _ (fun β => β (2 : Fin 3) < 2) (by decide +kernel)
    (fun t hf y => ?_) (fun i hi => ?_)
  · blk_simp
    rw [after0_2]
    have h2 : t.val % 3 = 2 := (flush0_2 t).mp hf
    obtain ⟨t, ht⟩ := t
    obtain ⟨n, rfl⟩ : ∃ n, t = n + 2 := ⟨t - 2, by dsimp only at h2; omega⟩
    have hn : n % 3 = 0 := by dsimp only at h2; omega
    have hN : cfg0.N = 6 := N_0
    have hn6 : n + 2 < 6 := lt_of_lt_of_eq ht N_0
    obtain ⟨s, r, j, rfl⟩ : ∃ (s : Fin 1) (r : Fin 1024) (j : Fin 1408), y = ix3 s r j := ⟨y 0, y 1, y 2, (ix3_eta y).symm⟩
    obtain rfl : s = 0 := Subsingleton.elim _ _
    refine (left m c n ht hn r j).trans ?_
    have e : ((cfg0.win 2).blk ⟨n + 2, ht⟩).view.emb (ix3 0 r j) = ix3 0 r ⟨1408 * (n / 3) + j.val, by omega⟩ := by
      funext x; apply Fin.ext
      match x with
      | ⟨0, _⟩ => show win0_2.index ⟨n + 2, ht⟩ 0 * 1 + 1 * 0 = 0; rw [idx2]; rfl
      | ⟨1, _⟩ => show win0_2.index ⟨n + 2, ht⟩ 1 * 1024 + 1 * r.val = r.val; rw [idx2]; show 0 * 1024 + 1 * r.val = r.val; omega
      | ⟨2, _⟩ => show win0_2.index ⟨n + 2, ht⟩ 2 * 1408 + 1 * j.val = 1408 * (n / 3) + j.val; rw [idx2]; show ((n + 2) / 3) * 1408 + 1 * j.val = _; omega
    rw [e]
    unfold array
    refine Eq.trans ?_ (dif_pos (show (1408 * (n / 3) + j.val) / 1408 < 2 by omega)).symm
    unfold entry
    rw [Cert.Sums.three (n := 1408) rfl]
    refine congrArg₂ (· + ·) (congrArg₂ (· + ·) ?_ ?_) ?_
    · exact point m c a ha b hb _ 0 (n / 3) hn rfl r j
    · exact point m c a ha b hb _ 1 (n / 3) (by dsimp only; omega) (by dsimp only; omega) r j
    · exact point m c a ha b hb _ 2 (n / 3) (by dsimp only; omega) (by dsimp only; omega) r j
  · unfold array
    refine Eq.trans ?_ (dif_neg hi).symm
    rfl

/-- The two host lines after the call take the first half of the columns of its array. -/
theorem taken (r : Fin 1024) (j : Fin 2816) :
    (Pipeline.afterTail₀ cfgs (dats m) 0 (V0 m) [hostOps1] c main_v3 : Vec Ideal S1024x2816 .f32) (ix2 r j)
      = (dats m 0 c).arrAt 2 cfg0.N (ix3 0 r ⟨j.val, by omega⟩) := by
  unfold Pipeline.afterTail₀
  rw [show [hostOps1 (F := Ideal)].flatten = hostOps1 from List.append_nil _]
  unfold hostOps1
  simp only [StableHlo.after_cons, StableHlo.after_nil]
  rw [StableHlo.reshape_result, StableHlo.unary_result]
  have e : Pipeline.withArrays spec0 c (V0 m c) (fun w => (dats m 0 c).arrAt w cfg0.N) (Proc.devRef .tc main_v1) = (dats m 0 c).arrAt 2 cfg0.N :=
    Pipeline.withArrays_arr spec0 launch0.win.arr_inj c (V0 m c) _ 2
  refine Eq.trans ?_ (congrFun e _)
  pointwise []

/-- The reference computes the same array. -/
theorem reference (a : Vec Ideal S4224x1024 .bf16) (b : Vec Ideal S4224x2816 .bf16) :
    Cert.FfnInDwGateRefIdeal.Read.val_main_v5 (F := Ideal) a b = product a b := by
  funext i
  obtain ⟨r, j, rfl⟩ : ∃ (r : Fin 1024) (j : Fin 2816), i = ix2 r j := ⟨i 0, i 1, (ix2_eta i).symm⟩
  rw [Cert.FfnInDwGateRefIdeal.Read.val_main_v5_apply, Cert.FfnInDwGateRefIdeal.Read.val_main_v4_apply]
  show _ = entry a b r j
  refine Finset.sum_congr rfl fun k _ => ?_
  rw [mul_comm]
  refine congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The result after the run. -/
theorem result (a : Vec Ideal S4224x1024 .bf16) (ha : m ((c : Thread nD τ).loc main_arg0) = a) (b : Vec Ideal S4224x2816 .bf16) (hb : m ((c : Thread nD τ).loc main_arg1) = b) :
    Pipeline.afterTail₀ cfgs (dats m) 0 (V0 m) [hostOps1] c main_v3 = product a b := by
  funext i
  obtain ⟨r, j, rfl⟩ : ∃ (r : Fin 1024) (j : Fin 2816), i = ix2 r j := ⟨i 0, i 1, (ix2_eta i).symm⟩
  refine (taken m c r j).trans ?_
  rw [final m c a ha b hb]
  exact dif_pos (show j.val / 1408 < 2 by omega)

/-- The kernel and the reference end with equal results. -/
theorem algebraic : Cert.algebraic_FfnInDwGateIdeal_FfnInDwGateRefIdeal := by
  intro m g m' g' _ hagree
  refine ⟨fun c => Pipeline.afterTail₀ cfgs (dats m) 0 (V0 m) [hostOps1] c main_v3, ?_,
    (θ_run Cert.FfnInDwGateRefIdeal.defs _ _).mono (fun r h c => ?_) (Cert.FfnInDwGateRefIdeal.Value.run m' g')⟩
  · exact (θ_run defs _ _).mono
      (fun r h c => ⟨(h.1 c).2 main_v3 (Pipeline.mem_restRefs_of main_v3 (by decide) (by decide)), h.2 c⟩)
      (θ_run_and (run_main m g) (unchanged m g))
  · obtain ⟨e0, e1⟩ := hagree c
    obtain ⟨h1, h⟩ := h c
    refine ⟨h1.trans ?_, h⟩
    rw [e0, e1]
    refine Eq.trans ?_ (result m c _ rfl _ rfl).symm
    exact reference _ _

/-- The reference terminates without fault, its arguments unchanged and its counters, of which it has none, at zero. -/
theorem frame_reference : Cert.quiescent_FfnInDwGateRefIdeal := fun m g _ =>
  (θ_run Cert.FfnInDwGateRefIdeal.defs _ _).mono (fun r h => ⟨fun c => (h c).2, sem_eq_zero_of_no_sems (by decide) r.2⟩)
    (Cert.FfnInDwGateRefIdeal.Value.run (F := Ideal) m g)

end Cert.FfnInDwGateIdeal.Product

end
-- ==== Proof.BranchDwFirst.lean ====
module

public import proofs.«01_k».proof.Defs
public import proofs.«01_k».proof.Proof.Sums
public import proofs.«01_k».proof.Proof.Gen.BranchDwFirstIdeal.Frame
public import proofs.«01_k».proof.Proof.Gen.BranchDwFirstRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the first branch's weights

The result is added up in a scratch over three grid points, each taking a third of the rows; the call leaves the other two
branches' part of its array unwritten, and the host takes the first. -/

@[expose] public section

set_option maxRecDepth 16384

noncomputable section

open Idealize.ShloMosaic Idealize.ShloMosaic.TcCoe Idealize.SL.Sem
open Idealize.ShloMosaic.Pointwise

namespace Cert.BranchDwFirstIdeal.Product

open Cert.BranchDwFirstIdeal Cert.BranchDwFirstIdeal.Gen

/-- One point's product at an element. -/
theorem part (x : Vec Ideal S512x1408 .bf16) (y : Vec Ideal S1408x1024 .bf16) (r : Fin 512) (j : Fin 1024) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![0, t.val] := by decide +kernel
/-- Which block the right factor's window reads. -/
theorem idx1 : ∀ t : Fin cfg0.N, win0_1.index t = ![t.val, 0] := by decide +kernel
/-- Which block the result's window writes. -/
theorem idx2 : ∀ t : Fin cfg0.N, win0_2.index t = ![0, 0, 0] := by decide +kernel

/-- The host line before the call transposes the first argument. -/
theorem V_left (r : Fin 512) (k : Fin 4224) : V m c main_v0 (ix2 r k) = m ((c : Thread nD τ).loc main_arg0) (ix2 k r) := by
  unfold_abbrev_sides
  rw [show [hostOps0 (F := Ideal)].flatten = hostOps0 from List.append_nil _]
  unfold hostOps0
  simp only [StableHlo.after_cons, StableHlo.after_nil]
  rw [StableHlo.unary_result]
  pointwise []

/-- The product of the transposed first argument and the second, at an element. -/
def entry (a : Vec Ideal S4224x512 .bf16) (b : Vec Ideal S4224x1024 .bf16) (r : Fin 512) (j : Fin 1024) : EReal :=
  ∑ k : Fin 4224, a (ix2 k r) * b (ix2 k j)

/-- The product of the transposed first argument and the second. -/
def product (a : Vec Ideal S4224x512 .bf16) (b : Vec Ideal S4224x1024 .bf16) : Vec Ideal S512x1024 .f32 :=
  fun i => entry a b (i 0) (i 1)

/-- The call's array: first the product, the rest what it held. -/
def array (a : Vec Ideal S4224x512 .bf16) (b : Vec Ideal S4224x1024 .bf16) (d : Vec Ideal S3x512x1024 .f32) :
    Vec Ideal S3x512x1024 .f32 :=
  fun i => if (i 0 : ℕ) = 0 then entry a b (i 1) (i 2) else d i

/-- What a point adds: its third of the sum. -/
theorem point (a : Vec Ideal S4224x512 .bf16) (ha : m ((c : Thread nD τ).loc main_arg0) = a) (b : Vec Ideal S4224x1024 .bf16) (hb : m ((c : Thread nD τ).loc main_arg1) = b)
    (t : Fin cfg0.N) (q : ℕ) (hq : t.val = q) (r : Fin 512) (j : Fin 1024) :
    k0_pay1 (iblk m c 0 t) (iblk m c 1 t) (ix2 r j) = ∑ k : Fin 1408,
      a (ix2 ⟨1408 * q + k.val, by have := t.isLt; have : cfg0.N = 3 := N_0; omega⟩ r)
      * b (ix2 ⟨1408 * q + k.val, by have := t.isLt; have : cfg0.N = 3 := N_0; omega⟩ j) := by
  subst hq
  rw [part]
  refine Finset.sum_congr rfl fun k _ => ?_
  rw [← ha, ← hb, ← V_left m c, ← V_main_arg1 m c]
  congr 1
  · blk_ext [iblk, idx0 t]
  · blk_ext [iblk, idx1 t]

/-- What the three points leave. -/
theorem left (n : ℕ) (h : n + 2 < cfg0.N) (hn : n = 0) (r : Fin 512) (j : Fin 1024) :
    (outsAt0 m c (n + 2) h).1 (ix3 0 r j) = k0_pay1 (iblk m c 0 ⟨n, by omega⟩) (iblk m c 1 ⟨n, by omega⟩) (ix2 r j)
      + k0_pay1 (iblk m c 0 ⟨n + 1, by omega⟩) (iblk m c 1 ⟨n + 1, by omega⟩) (ix2 r j)
      + k0_pay1 (iblk m c 0 ⟨n + 2, by omega⟩) (iblk m c 1 ⟨n + 2, by omega⟩) (ix2 r j) := by
  rw [show outsAt0 m c (n + 2) h = _ from outsAt0_C m c ⟨n + 2, h⟩ (by dsimp only; omega) (by dsimp only; omega) (by dsimp only; omega)]
  frame_out
  simp only [read_unread_whole]
  rw [show outsAt0 m c (n + 2 - 1) _ = _ from outsAt0_B m c ⟨n + 1, by omega⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay4 k0_pay3 k0_pay2
  simp only [read_unread_whole, shapeCast_self]
  pointwise []

/-- The call's array after the run. -/
theorem final (a : Vec Ideal S4224x512 .bf16) (ha : m ((c : Thread nD τ).loc main_arg0) = a) (b : Vec Ideal S4224x1024 .bf16) (hb : m ((c : Thread nD τ).loc main_arg1) = b) :
    (dats m 0 c).arrAt 2 cfg0.N = array a b (V m c main_v1) := by
  refine (dats m 0 c).arrAt_eq_of_coversWhere_of_agree 2 _ (fun β => β (0 : Fin 3) = 0) (by decide +kernel)
    (fun t hf y => ?_) (fun i hi => ?_)
  · blk_simp
    rw [after0_2]
    have h2 : t.val % 3 = 2 := (flush0_2 t).mp hf
    obtain ⟨t, ht⟩ := t
    have hN : t < 3 := lt_of_lt_of_eq ht N_0
    obtain ⟨n, rfl, hn⟩ : ∃ n, t = n + 2 ∧ n = 0 := ⟨t - 2, by dsimp only at h2; omega, by dsimp only at h2; omega⟩
    obtain ⟨s, r, j, rfl⟩ : ∃ (s : Fin 1) (r : Fin 512) (j : Fin 1024), y = ix3 s r j := ⟨y 0, y 1, y 2, (ix3_eta y).symm⟩
    obtain rfl : s = 0 := Subsingleton.elim _ _
    refine (left m c n ht hn r j).trans ?_
    have e : ((cfg0.win 2).blk ⟨n + 2, ht⟩).view.emb (ix3 0 r j) = ix3 0 r j := by
      funext x; apply Fin.ext
      match x with
      | ⟨0, _⟩ => show win0_2.index ⟨n + 2, ht⟩ 0 * 1 + 1 * 0 = 0; rw [idx2]; rfl
      | ⟨1, _⟩ => show win0_2.index ⟨n + 2, ht⟩ 1 * 512 + 1 * r.val = r.val; rw [idx2]; show 0 * 512 + 1 * r.val = r.val; omega
      | ⟨2, _⟩ => show win0_2.index ⟨n + 2, ht⟩ 2 * 1024 + 1 * j.val = j.val; rw [idx2]; show 0 * 1024 + 1 * j.val = j.val; omega
    rw [e]
    refine Eq.trans ?_ (if_pos (show (0 : ℕ) = 0 from rfl)).symm
    unfold entry
    rw [Cert.Sums.three (n := 1408) rfl]
    refine congrArg₂ (· + ·) (congrArg₂ (· + ·) ?_ ?_) ?_
    · exact point m c a ha b hb _ 0 hn r j
    · exact point m c a ha b hb _ 1 (by dsimp only; omega) r j
    · exact point m c a ha b hb _ 2 (by dsimp only; omega) r j
  · unfold array
    refine Eq.trans ?_ (if_neg fun h => hi ((Nat.div_one _).trans h)).symm
    rfl

/-- The two host lines after the call take the first part of its array. -/
theorem taken (r : Fin 512) (j : Fin 1024) :
    (Pipeline.afterTail₀ cfgs (dats m) 0 (V0 m) [hostOps1] c main_v3 : Vec Ideal S512x1024 .f32) (ix2 r j)
      = (dats m 0 c).arrAt 2 cfg0.N (ix3 0 r j) := by
  unfold Pipeline.afterTail₀
  rw [show [hostOps1 (F := Ideal)].flatten = hostOps1 from List.append_nil _]
  unfold hostOps1
  simp only [StableHlo.after_cons, StableHlo.after_nil]
  rw [StableHlo.reshape_result, StableHlo.unary_result]
  have e : Pipeline.withArrays spec0 c (V0 m c) (fun w => (dats m 0 c).arrAt w cfg0.N) (Proc.devRef .tc main_v1) = (dats m 0 c).arrAt 2 cfg0.N :=
    Pipeline.withArrays_arr spec0 launch0.win.arr_inj c (V0 m c) _ 2
  refine Eq.trans ?_ (congrFun e _)
  pointwise []

/-- The reference computes the same array. -/
theorem reference (a : Vec Ideal S4224x512 .bf16) (b : Vec Ideal S4224x1024 .bf16) :
    Cert.BranchDwFirstRefIdeal.Read.val_main_v5 (F := Ideal) a b = product a b := by
  funext i
  obtain ⟨r, j, rfl⟩ : ∃ (r : Fin 512) (j : Fin 1024), i = ix2 r j := ⟨i 0, i 1, (ix2_eta i).symm⟩
  rw [Cert.BranchDwFirstRefIdeal.Read.val_main_v5_apply, Cert.BranchDwFirstRefIdeal.Read.val_main_v4_apply]
  show _ = entry a b r j
  refine Finset.sum_congr rfl fun k _ => ?_
  rw [mul_comm]
  refine congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The result after the run. -/
theorem result (a : Vec Ideal S4224x512 .bf16) (ha : m ((c : Thread nD τ).loc main_arg0) = a) (b : Vec Ideal S4224x1024 .bf16) (hb : m ((c : Thread nD τ).loc main_arg1) = b) :
    Pipeline.afterTail₀ cfgs (dats m) 0 (V0 m) [hostOps1] c main_v3 = product a b := by
  funext i
  obtain ⟨r, j, rfl⟩ : ∃ (r : Fin 512) (j : Fin 1024), i = ix2 r j := ⟨i 0, i 1, (ix2_eta i).symm⟩
  refine (taken m c r j).trans ?_
  rw [final m c a ha b hb]
  exact if_pos (show (0 : ℕ) = 0 from rfl)

/-- The kernel and the reference end with equal results. -/
theorem algebraic : Cert.algebraic_BranchDwFirstIdeal_BranchDwFirstRefIdeal := by
  intro m g m' g' _ hagree
  refine ⟨fun c => Pipeline.afterTail₀ cfgs (dats m) 0 (V0 m) [hostOps1] c main_v3, ?_,
    (θ_run Cert.BranchDwFirstRefIdeal.defs _ _).mono (fun r h c => ?_) (Cert.BranchDwFirstRefIdeal.Value.run m' g')⟩
  · exact (θ_run defs _ _).mono
      (fun r h c => ⟨(h.1 c).2 main_v3 (Pipeline.mem_restRefs_of main_v3 (by decide) (by decide)), h.2 c⟩)
      (θ_run_and (run_main m g) (unchanged m g))
  · obtain ⟨e0, e1⟩ := hagree c
    obtain ⟨h1, h⟩ := h c
    refine ⟨h1.trans ?_, h⟩
    rw [e0, e1]
    refine Eq.trans ?_ (result m c _ rfl _ rfl).symm
    exact reference _ _

/-- The reference terminates without fault, its arguments unchanged and its counters, of which it has none, at zero. -/
theorem frame_reference : Cert.quiescent_BranchDwFirstRefIdeal := fun m g _ =>
  (θ_run Cert.BranchDwFirstRefIdeal.defs _ _).mono (fun r h => ⟨fun c => (h c).2, sem_eq_zero_of_no_sems (by decide) r.2⟩)
    (Cert.BranchDwFirstRefIdeal.Value.run (F := Ideal) m g)

end Cert.BranchDwFirstIdeal.Product

end
-- ==== Proof.BranchDwSecond.lean ====
module

public import proofs.«01_k».proof.Defs
public import proofs.«01_k».proof.Proof.Sums
public import proofs.«01_k».proof.Proof.Gen.BranchDwSecondIdeal.Value
public import proofs.«01_k».proof.Proof.Gen.BranchDwSecondRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the second branch's weights

The result is added up in a scratch over three grid points, each taking a third of the rows; it is written in place over an
array whose other parts are left as they were. -/

@[expose] public section

set_option maxRecDepth 16384

noncomputable section

open Idealize.ShloMosaic Idealize.ShloMosaic.TcCoe Idealize.SL.Sem
open Idealize.ShloMosaic.Pointwise

namespace Cert.BranchDwSecondIdeal.Product

open Cert.BranchDwSecondIdeal Cert.BranchDwSecondIdeal.Gen Cert.BranchDwSecondIdeal.Value

/-- One point's product at an element. -/
theorem part (x : Vec Ideal S512x1408 .bf16) (y : Vec Ideal S1408x1024 .bf16) (r : Fin 512) (j : Fin 1024) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![0, t.val] := by decide +kernel
/-- Which block the right factor's window reads. -/
theorem idx1 : ∀ t : Fin cfg0.N, win0_1.index t = ![t.val, 0] := by decide +kernel
/-- Which block the result's window writes. -/
theorem idx2 : ∀ t : Fin cfg0.N, win0_2.index t = ![1, 0, 0] := by decide +kernel

/-- The host line before the call transposes the first argument. -/
theorem V_left (r : Fin 512) (k : Fin 4224) : V m c main_v0 (ix2 r k) = m ((c : Thread nD τ).loc main_arg0) (ix2 k r) := by
  unfold_abbrev_sides
  unfold hostOps0
  simp only [StableHlo.after_cons, StableHlo.after_nil]
  rw [StableHlo.unary_result_ne]
  rotate_left; decide
  rw [StableHlo.unary_result]
  pointwise []

/-- The host line before the call copies the third argument. -/
theorem V_kept : V m c main_v1 = m ((c : Thread nD τ).loc main_arg2) := by
  unfold_abbrev_sides
  unfold hostOps0
  simp only [StableHlo.after_cons, StableHlo.after_nil]
  rw [StableHlo.unary_result]
  rfl

/-- The product of the transposed first argument and the second, at an element. -/
def entry (a : Vec Ideal S4224x512 .bf16) (b : Vec Ideal S4224x1024 .bf16) (r : Fin 512) (j : Fin 1024) : EReal :=
  ∑ k : Fin 4224, a (ix2 k r) * b (ix2 k j)

/-- At the second branch the product of the transposed first argument and the second, elsewhere the third argument. -/
def product (a : Vec Ideal S4224x512 .bf16) (b : Vec Ideal S4224x1024 .bf16) (d : Vec Ideal S3x512x1024 .f32) :
    Vec Ideal S3x512x1024 .f32 :=
  fun i => if (i 0 : ℕ) = 1 then entry a b (i 1) (i 2) else d i

/-- What a point adds: its third of the sum. -/
theorem point (a : Vec Ideal S4224x512 .bf16) (ha : m ((c : Thread nD τ).loc main_arg0) = a) (b : Vec Ideal S4224x1024 .bf16) (hb : m ((c : Thread nD τ).loc main_arg1) = b)
    (t : Fin cfg0.N) (q : ℕ) (hq : t.val = q) (r : Fin 512) (j : Fin 1024) :
    k0_pay1 (iblk m c 0 t) (iblk m c 1 t) (ix2 r j) = ∑ k : Fin 1408,
      a (ix2 ⟨1408 * q + k.val, by have := t.isLt; have : cfg0.N = 3 := N_0; omega⟩ r)
      * b (ix2 ⟨1408 * q + k.val, by have := t.isLt; have : cfg0.N = 3 := N_0; omega⟩ j) := by
  subst hq
  rw [part]
  refine Finset.sum_congr rfl fun k _ => ?_
  rw [← ha, ← hb, ← V_left m c, ← V_main_arg1 m c]
  congr 1
  · blk_ext [iblk, idx0 t]
  · blk_ext [iblk, idx1 t]

/-- What the three points leave. -/
theorem left (n : ℕ) (h : n + 2 < cfg0.N) (hn : n = 0) (r : Fin 512) (j : Fin 1024) :
    (outsAt0 m c (n + 2) h).1 (ix3 0 r j) = k0_pay1 (iblk m c 0 ⟨n, by omega⟩) (iblk m c 1 ⟨n, by omega⟩) (ix2 r j)
      + k0_pay1 (iblk m c 0 ⟨n + 1, by omega⟩) (iblk m c 1 ⟨n + 1, by omega⟩) (ix2 r j)
      + k0_pay1 (iblk m c 0 ⟨n + 2, by omega⟩) (iblk m c 1 ⟨n + 2, by omega⟩) (ix2 r j) := by
  rw [show outsAt0 m c (n + 2) h = _ from outsAt0_C m c ⟨n + 2, h⟩ (by dsimp only; omega) (by dsimp only; omega) (by dsimp only; omega)]
  frame_out
  simp only [read_unread_whole]
  rw [show outsAt0 m c (n + 2 - 1) _ = _ from outsAt0_B m c ⟨n + 1, by omega⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay4 k0_pay3 k0_pay2
  simp only [read_unread_whole, shapeCast_self]
  pointwise []

/-- The array after the run. -/
theorem final (a : Vec Ideal S4224x512 .bf16) (ha : m ((c : Thread nD τ).loc main_arg0) = a) (b : Vec Ideal S4224x1024 .bf16) (hb : m ((c : Thread nD τ).loc main_arg1) = b)
    (d : Vec Ideal S3x512x1024 .f32) (hd : m ((c : Thread nD τ).loc main_arg2) = d) :
    (dats m 0 c).arrAt 2 cfg0.N = product a b d := by
  refine (dats m 0 c).arrAt_eq_of_coversWhere_of_agree 2 _ (fun β => β (0 : Fin 3) = 1) (by decide +kernel)
    (fun t hf y => ?_) (fun i hi => ?_)
  · blk_simp
    rw [after0_2]
    have h2 : t.val % 3 = 2 := (flush0_2 t).mp hf
    obtain ⟨t, ht⟩ := t
    have hN : t < 3 := lt_of_lt_of_eq ht N_0
    obtain ⟨n, rfl, hn⟩ : ∃ n, t = n + 2 ∧ n = 0 := ⟨t - 2, by dsimp only at h2; omega, by dsimp only at h2; omega⟩
    obtain ⟨s, r, j, rfl⟩ : ∃ (s : Fin 1) (r : Fin 512) (j : Fin 1024), y = ix3 s r j := ⟨y 0, y 1, y 2, (ix3_eta y).symm⟩
    obtain rfl : s = 0 := Subsingleton.elim _ _
    refine (left m c n ht hn r j).trans ?_
    have e : ((cfg0.win 2).blk ⟨n + 2, ht⟩).view.emb (ix3 0 r j) = ix3 1 r j := by
      funext x; apply Fin.ext
      match x with
      | ⟨0, _⟩ => show win0_2.index ⟨n + 2, ht⟩ 0 * 1 + 1 * 0 = 1; rw [idx2]; rfl
      | ⟨1, _⟩ => show win0_2.index ⟨n + 2, ht⟩ 1 * 512 + 1 * r.val = r.val; rw [idx2]; show 0 * 512 + 1 * r.val = r.val; omega
      | ⟨2, _⟩ => show win0_2.index ⟨n + 2, ht⟩ 2 * 1024 + 1 * j.val = j.val; rw [idx2]; show 0 * 1024 + 1 * j.val = j.val; omega
    rw [e]
    refine Eq.trans ?_ (if_pos (show (1 : ℕ) = 1 from rfl)).symm
    unfold entry
    rw [Cert.Sums.three (n := 1408) rfl]
    refine congrArg₂ (· + ·) (congrArg₂ (· + ·) ?_ ?_) ?_
    · exact point m c a ha b hb _ 0 hn r j
    · exact point m c a ha b hb _ 1 (by dsimp only; omega) r j
    · exact point m c a ha b hb _ 2 (by dsimp only; omega) r j
  · unfold product
    refine Eq.trans ?_ (if_neg fun h => hi ((Nat.div_one _).trans h)).symm
    rw [← hd, ← V_kept m c]
    rfl

/-- The reference's product. -/
theorem reference_entry (a : Vec Ideal S4224x512 .bf16) (b : Vec Ideal S4224x1024 .bf16) (s : Fin 1) (r : Fin 512) (j : Fin 1024) :
    Cert.BranchDwSecondRefIdeal.Read.val_main_v7 (F := Ideal) a b (ix3 s r j) = entry a b r j := by
  rw [Cert.BranchDwSecondRefIdeal.Read.val_main_v7_apply, Cert.BranchDwSecondRefIdeal.Read.val_main_v5_apply, Cert.BranchDwSecondRefIdeal.Read.val_main_v4_apply]
  unfold entry
  refine Finset.sum_congr rfl fun k _ => ?_
  rw [mul_comm]
  refine congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The reference computes the same array. -/
theorem reference (a : Vec Ideal S4224x512 .bf16) (b : Vec Ideal S4224x1024 .bf16) (d : Vec Ideal S3x512x1024 .f32) :
    Cert.BranchDwSecondRefIdeal.Read.val_main_v9 (F := Ideal) a b d = product a b d := by
  funext i
  obtain ⟨s, r, j, rfl⟩ : ∃ (s : Fin 3) (r : Fin 512) (j : Fin 1024), i = ix3 s r j := ⟨i 0, i 1, i 2, (ix3_eta i).symm⟩
  unfold Cert.BranchDwSecondRefIdeal.Read.val_main_v9
  fin_cases s
  · refine Eq.trans ?_ (if_neg (show ¬(0 : ℕ) = 1 by omega)).symm
    pointwise [Cert.BranchDwSecondRefIdeal.Read.val_main_v6]
  · refine Eq.trans ?_ (if_pos (show (1 : ℕ) = 1 from rfl)).symm
    refine Eq.trans ?_ (reference_entry a b 0 r j)
    pointwise []
  · refine Eq.trans ?_ (if_neg (show ¬(2 : ℕ) = 1 by omega)).symm
    pointwise [Cert.BranchDwSecondRefIdeal.Read.val_main_v8]

/-- The kernel and the reference end with equal results. -/
theorem algebraic : Cert.algebraic_BranchDwSecondIdeal_BranchDwSecondRefIdeal := by
  intro m g m' g' _ hagree
  refine ⟨_, run_blocks m g, (θ_run Cert.BranchDwSecondRefIdeal.defs _ _).mono (fun r h c => ?_) (Cert.BranchDwSecondRefIdeal.Value.run m' g')⟩
  obtain ⟨e0, e1, e2⟩ := hagree c
  obtain ⟨h1, h⟩ := h c
  refine ⟨h1.trans ?_, h⟩
  rw [e0, e1, e2, final m c _ rfl _ rfl _ rfl]
  exact reference _ _ _

/-- The reference terminates without fault, its arguments unchanged and its counters, of which it has none, at zero. -/
theorem frame_reference : Cert.quiescent_BranchDwSecondRefIdeal := fun m g _ =>
  (θ_run Cert.BranchDwSecondRefIdeal.defs _ _).mono (fun r h => ⟨fun c => (h c).2, sem_eq_zero_of_no_sems (by decide) r.2⟩)
    (Cert.BranchDwSecondRefIdeal.Value.run (F := Ideal) m g)

end Cert.BranchDwSecondIdeal.Product

end
-- ==== Proof.BranchDwThird.lean ====
module

public import proofs.«01_k».proof.Defs
public import proofs.«01_k».proof.Proof.Sums
public import proofs.«01_k».proof.Proof.Gen.BranchDwThirdIdeal.Value
public import proofs.«01_k».proof.Proof.Gen.BranchDwThirdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradient of the third branch's weights

The result is added up in a scratch over three grid points, each taking a third of the rows; it is written in place over an
array whose other parts are left as they were. -/

@[expose] public section

set_option maxRecDepth 16384

noncomputable section

open Idealize.ShloMosaic Idealize.ShloMosaic.TcCoe Idealize.SL.Sem
open Idealize.ShloMosaic.Pointwise

namespace Cert.BranchDwThirdIdeal.Product

open Cert.BranchDwThirdIdeal Cert.BranchDwThirdIdeal.Gen Cert.BranchDwThirdIdeal.Value

/-- One point's product at an element. -/
theorem part (x : Vec Ideal S512x1408 .bf16) (y : Vec Ideal S1408x1024 .bf16) (r : Fin 512) (j : Fin 1024) :
    k0_pay1 x y (ix2 r j) = ∑ k : Fin 1408, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![0, t.val] := by decide +kernel
/-- Which block the right factor's window reads. -/
theorem idx1 : ∀ t : Fin cfg0.N, win0_1.index t = ![t.val, 0] := by decide +kernel
/-- Which block the result's window writes. -/
theorem idx2 : ∀ t : Fin cfg0.N, win0_2.index t = ![2, 0, 0] := by decide +kernel

/-- The host line before the call transposes the first argument. -/
theorem V_left (r : Fin 512) (k : Fin 4224) : V m c main_v0 (ix2 r k) = m ((c : Thread nD τ).loc main_arg0) (ix2 k r) := by
  unfold_abbrev_sides
  unfold hostOps0
  simp only [StableHlo.after_cons, StableHlo.after_nil]
  rw [StableHlo.unary_result_ne]
  rotate_left; decide
  rw [StableHlo.unary_result]
  pointwise []

/-- The host line before the call copies the third argument. -/
theorem V_kept : V m c main_v1 = m ((c : Thread nD τ).loc main_arg2) := by
  unfold_abbrev_sides
  unfold hostOps0
  simp only [StableHlo.after_cons, StableHlo.after_nil]
  rw [StableHlo.unary_result]
  rfl

/-- The product of the transposed first argument and the second, at an element. -/
def entry (a : Vec Ideal S4224x512 .bf16) (b : Vec Ideal S4224x1024 .bf16) (r : Fin 512) (j : Fin 1024) : EReal :=
  ∑ k : Fin 4224, a (ix2 k r) * b (ix2 k j)

/-- At the third branch the product of the transposed first argument and the second, elsewhere the third argument. -/
def product (a : Vec Ideal S4224x512 .bf16) (b : Vec Ideal S4224x1024 .bf16) (d : Vec Ideal S3x512x1024 .f32) :
    Vec Ideal S3x512x1024 .f32 :=
  fun i => if (i 0 : ℕ) = 2 then entry a b (i 1) (i 2) else d i

/-- What a point adds: its third of the sum. -/
theorem point (a : Vec Ideal S4224x512 .bf16) (ha : m ((c : Thread nD τ).loc main_arg0) = a) (b : Vec Ideal S4224x1024 .bf16) (hb : m ((c : Thread nD τ).loc main_arg1) = b)
    (t : Fin cfg0.N) (q : ℕ) (hq : t.val = q) (r : Fin 512) (j : Fin 1024) :
    k0_pay1 (iblk m c 0 t) (iblk m c 1 t) (ix2 r j) = ∑ k : Fin 1408,
      a (ix2 ⟨1408 * q + k.val, by have := t.isLt; have : cfg0.N = 3 := N_0; omega⟩ r)
      * b (ix2 ⟨1408 * q + k.val, by have := t.isLt; have : cfg0.N = 3 := N_0; omega⟩ j) := by
  subst hq
  rw [part]
  refine Finset.sum_congr rfl fun k _ => ?_
  rw [← ha, ← hb, ← V_left m c, ← V_main_arg1 m c]
  congr 1
  · blk_ext [iblk, idx0 t]
  · blk_ext [iblk, idx1 t]

/-- What the three points leave. -/
theorem left (n : ℕ) (h : n + 2 < cfg0.N) (hn : n = 0) (r : Fin 512) (j : Fin 1024) :
    (outsAt0 m c (n + 2) h).1 (ix3 0 r j) = k0_pay1 (iblk m c 0 ⟨n, by omega⟩) (iblk m c 1 ⟨n, by omega⟩) (ix2 r j)
      + k0_pay1 (iblk m c 0 ⟨n + 1, by omega⟩) (iblk m c 1 ⟨n + 1, by omega⟩) (ix2 r j)
      + k0_pay1 (iblk m c 0 ⟨n + 2, by omega⟩) (iblk m c 1 ⟨n + 2, by omega⟩) (ix2 r j) := by
  rw [show outsAt0 m c (n + 2) h = _ from outsAt0_C m c ⟨n + 2, h⟩ (by dsimp only; omega) (by dsimp only; omega) (by dsimp only; omega)]
  frame_out
  simp only [read_unread_whole]
  rw [show outsAt0 m c (n + 2 - 1) _ = _ from outsAt0_B m c ⟨n + 1, by omega⟩ (by dsimp only; omega) (by dsimp only; omega) (by dsimp only; omega)]
  frame_out
  simp only [read_unread_whole]
  rw [show outsAt0 m c (n + 1 - 1) _ = _ from outsAt0_A m c ⟨n, by omega⟩ (by dsimp only; omega) (by dsimp only; omega) (by dsimp only; omega)]
  frame_out
  unfold k0_pay4 k0_pay3 k0_pay2
  simp only [read_unread_whole, shapeCast_self]
  pointwise []

/-- The array after the run. -/
theorem final (a : Vec Ideal S4224x512 .bf16) (ha : m ((c : Thread nD τ).loc main_arg0) = a) (b : Vec Ideal S4224x1024 .bf16) (hb : m ((c : Thread nD τ).loc main_arg1) = b)
    (d : Vec Ideal S3x512x1024 .f32) (hd : m ((c : Thread nD τ).loc main_arg2) = d) :
    (dats m 0 c).arrAt 2 cfg0.N = product a b d := by
  refine (dats m 0 c).arrAt_eq_of_coversWhere_of_agree 2 _ (fun β => β (0 : Fin 3) = 2) (by decide +kernel)
    (fun t hf y => ?_) (fun i hi => ?_)
  · blk_simp
    rw [after0_2]
    have h2 : t.val % 3 = 2 := (flush0_2 t).mp hf
    obtain ⟨t, ht⟩ := t
    have hN : t < 3 := lt_of_lt_of_eq ht N_0
    obtain ⟨n, rfl, hn⟩ : ∃ n, t = n + 2 ∧ n = 0 := ⟨t - 2, by dsimp only at h2; omega, by dsimp only at h2; omega⟩
    obtain ⟨s, r, j, rfl⟩ : ∃ (s : Fin 1) (r : Fin 512) (j : Fin 1024), y = ix3 s r j := ⟨y 0, y 1, y 2, (ix3_eta y).symm⟩
    obtain rfl : s = 0 := Subsingleton.elim _ _
    refine (left m c n ht hn r j).trans ?_
    have e : ((cfg0.win 2).blk ⟨n + 2, ht⟩).view.emb (ix3 0 r j) = ix3 2 r j := by
      funext x; apply Fin.ext
      match x with
      | ⟨0, _⟩ => show win0_2.index ⟨n + 2, ht⟩ 0 * 1 + 1 * 0 = 2; rw [idx2]; rfl
      | ⟨1, _⟩ => show win0_2.index ⟨n + 2, ht⟩ 1 * 512 + 1 * r.val = r.val; rw [idx2]; show 0 * 512 + 1 * r.val = r.val; omega
      | ⟨2, _⟩ => show win0_2.index ⟨n + 2, ht⟩ 2 * 1024 + 1 * j.val = j.val; rw [idx2]; show 0 * 1024 + 1 * j.val = j.val; omega
    rw [e]
    refine Eq.trans ?_ (if_pos (show (2 : ℕ) = 2 from rfl)).symm
    unfold entry
    rw [Cert.Sums.three (n := 1408) rfl]
    refine congrArg₂ (· + ·) (congrArg₂ (· + ·) ?_ ?_) ?_
    · exact point m c a ha b hb _ 0 hn r j
    · exact point m c a ha b hb _ 1 (by dsimp only; omega) r j
    · exact point m c a ha b hb _ 2 (by dsimp only; omega) r j
  · unfold product
    refine Eq.trans ?_ (if_neg fun h => hi ((Nat.div_one _).trans h)).symm
    rw [← hd, ← V_kept m c]
    rfl

/-- The reference's product. -/
theorem reference_entry (a : Vec Ideal S4224x512 .bf16) (b : Vec Ideal S4224x1024 .bf16) (s : Fin 1) (r : Fin 512) (j : Fin 1024) :
    Cert.BranchDwThirdRefIdeal.Read.val_main_v7 (F := Ideal) a b (ix3 s r j) = entry a b r j := by
  rw [Cert.BranchDwThirdRefIdeal.Read.val_main_v7_apply, Cert.BranchDwThirdRefIdeal.Read.val_main_v5_apply, Cert.BranchDwThirdRefIdeal.Read.val_main_v4_apply]
  unfold entry
  refine Finset.sum_congr rfl fun k _ => ?_
  rw [mul_comm]
  refine congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The reference computes the same array. -/
theorem reference (a : Vec Ideal S4224x512 .bf16) (b : Vec Ideal S4224x1024 .bf16) (d : Vec Ideal S3x512x1024 .f32) :
    Cert.BranchDwThirdRefIdeal.Read.val_main_v8 (F := Ideal) a b d = product a b d := by
  funext i
  obtain ⟨s, r, j, rfl⟩ : ∃ (s : Fin 3) (r : Fin 512) (j : Fin 1024), i = ix3 s r j := ⟨i 0, i 1, i 2, (ix3_eta i).symm⟩
  unfold Cert.BranchDwThirdRefIdeal.Read.val_main_v8
  by_cases h : s.val < 2
  · refine Eq.trans ?_ (if_neg (show ¬s.val = 2 by omega)).symm
    pointwise [Cert.BranchDwThirdRefIdeal.Read.val_main_v6]
    rw [dif_pos h]
  · obtain rfl : s = 2 := Fin.ext (by have := s.isLt; show s.val = 2; omega)
    refine Eq.trans ?_ (if_pos (show (2 : ℕ) = 2 from rfl)).symm
    refine Eq.trans ?_ (reference_entry a b 0 r j)
    pointwise []

/-- The kernel and the reference end with equal results. -/
theorem algebraic : Cert.algebraic_BranchDwThirdIdeal_BranchDwThirdRefIdeal := by
  intro m g m' g' _ hagree
  refine ⟨_, run_blocks m g, (θ_run Cert.BranchDwThirdRefIdeal.defs _ _).mono (fun r h c => ?_) (Cert.BranchDwThirdRefIdeal.Value.run m' g')⟩
  obtain ⟨e0, e1, e2⟩ := hagree c
  obtain ⟨h1, h⟩ := h c
  refine ⟨h1.trans ?_, h⟩
  rw [e0, e1, e2, final m c _ rfl _ rfl _ rfl]
  exact reference _ _ _

/-- The reference terminates without fault, its arguments unchanged and its counters, of which it has none, at zero. -/
theorem frame_reference : Cert.quiescent_BranchDwThirdRefIdeal := fun m g _ =>
  (θ_run Cert.BranchDwThirdRefIdeal.defs _ _).mono (fun r h => ⟨fun c => (h c).2, sem_eq_zero_of_no_sems (by decide) r.2⟩)
    (Cert.BranchDwThirdRefIdeal.Value.run (F := Ideal) m g)

end Cert.BranchDwThirdIdeal.Product

end
-- ==== Proof.Gate.lean ====
module

public import Idealize.ShloMosaic.Lib.Pointwise
public import Idealize.ShloMosaic.Lib.Tactic

/-! # The logistic function of the gates -/

@[expose] public section

noncomputable section

open Idealize.ShloMosaic

namespace Cert.Gate

/-- One over one plus the exponential of the opposite. -/
def sg (x : EReal) : EReal := Ideal.div 1 (1 + Ideal.exp (-x))

/-- The word of one. -/
theorem one : (FloatOps.ofBits .f32 0x3F800000#32 : Ideal .f32) = (1 : EReal) := by
  show Ideal.ofBits .f32 0x3F800000#32 = 1
  simp [Ideal.ofBits, Ideal.ieee]
  rw [← EReal.coe_mul]
  norm_num

/-- The word of zero. -/
theorem zero : (FloatOps.ofBits .f32 0x00000000#32 : Ideal .f32) = (0 : EReal) := by
  show Ideal.ofBits .f32 0x00000000#32 = 0
  simp [Ideal.ofBits, Ideal.ieee]

/-- As the kernels write it. -/
theorem kernel (x : EReal) : Ideal.div 1 (1 + Ideal.exp (0 - x)) = sg x := by
  rw [zero_sub]
  rfl

/-- As the references write it. -/
theorem host (x : Ideal .f32) :
    FloatOps.hostDivf (FloatOps.ofBits .f32 0x3F800000#32 : Ideal .f32)
      (FloatOps.addf (FloatOps.ofBits .f32 0x3F800000#32) (FloatOps.hostUnary .exp (FloatOps.hostNegf x))) = sg x := by
  rw [one]
  rfl

/-- At a real number it is a real number. -/
theorem sg_coe (x : ℝ) : sg (x : EReal) = ((1 + Real.exp (-x))⁻¹ : ℝ) := by
  have h : (1 : EReal) + Ideal.exp (-(x : EReal)) = ((1 + Real.exp (-x) : ℝ) : EReal) := by
    rw [← EReal.coe_neg]
    show (1 : EReal) + ((Real.exp (-x) : ℝ) : EReal) = _
    rw [EReal.coe_add, EReal.coe_one]
  have hn : ((1 + Real.exp (-x) : ℝ) : EReal) ≠ 0 := by
    have : (0 : ℝ) < 1 + Real.exp (-x) := by positivity
    exact_mod_cast this.ne'
  rw [sg, h, Ideal.div, if_neg hn, one_mul, EReal.coe_inv]

/-- At infinity it is one. -/
theorem sg_top : sg ⊤ = 1 := by
  have h : (1 : EReal) + Ideal.exp (-⊤) = 1 := by
    rw [EReal.neg_top]
    show (1 : EReal) + 0 = 1
    rw [add_zero]
  rw [sg, h, Ideal.div, if_neg one_ne_zero, one_mul, inv_one]

/-- At minus infinity it is zero. -/
theorem sg_bot : sg ⊥ = 0 := by
  have h : (1 : EReal) + Ideal.exp (-⊥) = ⊤ := by
    rw [EReal.neg_bot]
    show (1 : EReal) + ⊤ = ⊤
    rfl
  rw [sg, h, Ideal.div, if_neg EReal.top_ne_zero, EReal.inv_top, mul_zero]

/-- The gradient at the gate, in the two ways it is written, where the factor from above is a real number. -/
theorem gradient (x : ℝ) (g : EReal) :
    (x : EReal) * (sg g + g * sg g * (1 - sg g)) = x * sg g + g * x * (sg g * (1 - sg g)) := by
  induction g with
  | bot => simp [sg_bot]
  | top => rw [sg_top, show (1 : EReal) - 1 = 0 from EReal.sub_self (by decide) (by decide)]; simp
  | coe g =>
    rw [sg_coe]
    norm_cast
    ring

end Cert.Gate

end
-- ==== Proof.OutDxMerge.lean ====
module

public import proofs.«01_k».proof.Defs
public import proofs.«01_k».proof.Proof.Gate
public import proofs.«01_k».proof.Proof.Gen.OutDxMergeIdeal.Value
public import proofs.«01_k».proof.Proof.Gen.OutDxMergeRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradients that leave the output product through the merge of the three branches

Each grid point computes one block of the gradient at the merged array, and from it one block of the gradient at each branch and
at each gate. -/

@[expose] public section

set_option maxRecDepth 16384

noncomputable section

open Idealize.ShloMosaic Idealize.ShloMosaic.TcCoe Idealize.SL.Sem
open Idealize.ShloMosaic.Pointwise

namespace Cert.OutDxMergeIdeal.Product

open Cert.OutDxMergeIdeal Cert.OutDxMergeIdeal.Gen Cert.OutDxMergeIdeal.Value

/-- The merged array's gradient at an element of a block. -/
theorem part_dot (x : Vec Ideal S384x1024 .bf16) (y : Vec Ideal S512x1024 .bf16) (r : Fin 384) (j : Fin 512) :
    k0_pay5 x y (ix2 r j) = ∑ k : Fin 1024, x (ix2 r k) * y (ix2 j k) := by pointwise [k0_pay5]

/-- The product as the later results name it. -/
theorem named (x0 : Vec Ideal S384x1024 .bf16) (x1 : Vec Ideal S512x1024 .bf16) (x2 x3 x4 x5 x6 x7 : Vec Ideal S384x512 .f32) :
    k0_pay11 x0 x1 x2 x3 x4 x5 x6 x7 = k0_pay5 x0 x1 :=
  congrArg₂ k0_pay5 (View.ld_unit_zero (by decide) _ x0) (View.ld_unit_zero (by decide) _ x1)

/-- The logistic function of a block of gates. -/
theorem part_sg (z : Vec Ideal S384x512 .f32) (r : Fin 384) (j : Fin 512) :
    k0_pay2 z (ix2 r j) = Cert.Gate.sg (z (ix2 r j)) := by
  rw [← Cert.Gate.kernel]
  pointwise [k0_pay2]

/-- A block of a branch's gradient at an element. -/
theorem part_branch (x : FVec Ideal S384x512 .f32) (z : Vec Ideal S384x512 .f32) (r : Fin 384) (j : Fin 512) :
    k0_pay3 x z (ix2 r j) = x (ix2 r j) * Cert.Gate.sg (z (ix2 r j)) := by
  rw [← part_sg]
  rfl

/-- A block of a gate's gradient at an element. -/
theorem part_gate (x : FVec Ideal S384x512 .f32) (z s : Vec Ideal S384x512 .f32) (r : Fin 384) (j : Fin 512) :
    k0_pay4 x z s (ix2 r j) = x (ix2 r j) * s (ix2 r j) * Cert.Gate.sg (z (ix2 r j)) * (1 - Cert.Gate.sg (z (ix2 r j))) := by
  rw [← part_sg, ← Cert.Gate.one]
  rfl

/-- The merged array's gradient: the first argument times the second transposed. -/
def dot (a : Vec Ideal S4224x1024 .bf16) (b : Vec Ideal S1024x1024 .bf16) (r : Fin 4224) (j : Fin 1024) : EReal :=
  ∑ k : Fin 1024, a (ix2 r k) * b (ix2 j k)

/-- The logistic function of one of the three groups of gates. -/
def gate (p : Vec Ideal S4224x6656 .f32) (g : Fin 3) (r : Fin 4224) (j : Fin 1024) : EReal :=
  Cert.Gate.sg (p (ix2 r ⟨3072 + 1024 * g.val + j.val, by omega⟩))

/-- The gradient at a branch. -/
def dbranch (a : Vec Ideal S4224x1024 .bf16) (b : Vec Ideal S1024x1024 .bf16) (p : Vec Ideal S4224x6656 .f32) (g : Fin 3) : Vec Ideal S4224x1024 .bf16 :=
  fun i => dot a b (i 0) (i 1) * gate p g (i 0) (i 1)

/-- The gradient at a gate. -/
def dgate (a : Vec Ideal S4224x1024 .bf16) (b : Vec Ideal S1024x1024 .bf16) (p : Vec Ideal S4224x6656 .f32) (g : Fin 3) (s : Vec Ideal S4224x1024 .f32) : Vec Ideal S4224x1024 .bf16 :=
  fun i => dot a b (i 0) (i 1) * s i * gate p g (i 0) (i 1) * (1 - gate p g (i 0) (i 1))

variable (m : (b : Loc nD τ sig) → Buf (Elt Ideal) b) (c : Dev nD)

/-- Which block the left factor's window reads. -/
theorem idx0 : ∀ t : Fin cfg0.N, win0_0.index t = ![t.val % 11, 0] := by decide +kernel
/-- Which block the weights' window reads. -/
theorem idx1 : ∀ t : Fin cfg0.N, win0_1.index t = ![t.val / 11, 0] := by decide +kernel
/-- Which block the window of the first gates reads. -/
theorem idx2 : ∀ t : Fin cfg0.N, win0_2.index t = ![t.val % 11, t.val / 11 + 6] := by decide +kernel
/-- Which block the window of the second gates reads. -/
theorem idx3 : ∀ t : Fin cfg0.N, win0_3.index t = ![t.val % 11, t.val / 11 + 8] := by decide +kernel
/-- Which block the window of the third gates reads. -/
theorem idx4 : ∀ t : Fin cfg0.N, win0_4.index t = ![t.val % 11, t.val / 11 + 10] := by decide +kernel
/-- Which block the first branch's window reads. -/
theorem idx5 : ∀ t : Fin cfg0.N, win0_5.index t = ![t.val % 11, t.val / 11] := by decide +kernel
/-- Which block the second branch's window reads. -/
theorem idx6 : ∀ t : Fin cfg0.N, win0_6.index t = ![t.val % 11, t.val / 11] := by decide +kernel
/-- Which block the third branch's window reads. -/
theorem idx7 : ∀ t : Fin cfg0.N, win0_7.index t = ![t.val % 11, t.val / 11] := by decide +kernel
/-- Which block a result's window writes. -/
theorem idx8 : ∀ t : Fin cfg0.N, win0_8.index t = ![t.val % 11, t.val / 11] := by decide +kernel

/-- A point's row of the whole arrays. -/
def row (t : Fin cfg0.N) (r : Fin 384) : Fin 4224 := ⟨384 * (t.val % 11) + r.val, by omega⟩

/-- A point's column of the whole arrays. -/
def col (t : Fin cfg0.N) (j : Fin 512) : Fin 1024 :=
  ⟨512 * (t.val / 11) + j.val, by have := t.isLt; have : cfg0.N = 22 := N_0; omega⟩

/-- What a point computes of the merged array's gradient. -/
theorem point_dot (a : Vec Ideal S4224x1024 .bf16) (ha : m ((c : Thread nD τ).loc main_arg0) = a) (b : Vec Ideal S1024x1024 .bf16) (hb : m ((c : Thread nD τ).loc main_arg1) = b)
    (t : Fin cfg0.N) (r : Fin 384) (j : Fin 512) :
    k0_pay5 (iblk m c 0 t) (iblk m c 1 t) (ix2 r j) = dot a b (row t r) (col t j) := by
  rw [part_dot]
  refine Finset.sum_congr rfl fun k _ => ?_
  rw [← ha, ← hb, ← V_main_arg0 m c, ← V_main_arg1 m c]
  congr 1
  · blk_ext [iblk, idx0 t, row]
  · blk_ext [iblk, idx1 t, col]

/-- What a point reads of the first gates. -/
theorem point_z0 (p : Vec Ideal S4224x6656 .f32) (hp : m ((c : Thread nD τ).loc main_arg2) = p) (t : Fin cfg0.N) (r : Fin 384) (j : Fin 512) :
    Cert.Gate.sg ((iblk m c 2 t : Vec Ideal S384x512 .f32) (ix2 r j)) = gate p 0 (row t r) (col t j) := by
  refine congrArg Cert.Gate.sg ?_
  rw [← hp, ← V_main_arg2 m c]
  blk_ext [iblk, idx2 t, row, col]

/-- What a point reads of the second gates. -/
theorem point_z1 (p : Vec Ideal S4224x6656 .f32) (hp : m ((c : Thread nD τ).loc main_arg2) = p) (t : Fin cfg0.N) (r : Fin 384) (j : Fin 512) :
    Cert.Gate.sg ((iblk m c 3 t : Vec Ideal S384x512 .f32) (ix2 r j)) = gate p 1 (row t r) (col t j) := by
  refine congrArg Cert.Gate.sg ?_
  rw [← hp, ← V_main_arg2 m c]
  blk_ext [iblk, idx3 t, row, col]

/-- What a point reads of the third gates. -/
theorem point_z2 (p : Vec Ideal S4224x6656 .f32) (hp : m ((c : Thread nD τ).loc main_arg2) = p) (t : Fin cfg0.N) (r : Fin 384) (j : Fin 512) :
    Cert.Gate.sg ((iblk m c 4 t : Vec Ideal S384x512 .f32) (ix2 r j)) = gate p 2 (row t r) (col t j) := by
  refine congrArg Cert.Gate.sg ?_
  rw [← hp, ← V_main_arg2 m c]
  blk_ext [iblk, idx4 t, row, col]

/-- What a point reads of the first branch. -/
theorem point_s0 (s : Vec Ideal S4224x1024 .f32) (hs : m ((c : Thread nD τ).loc main_arg3) = s) (t : Fin cfg0.N) (r : Fin 384) (j : Fin 512) :
    (iblk m c 5 t : Vec Ideal S384x512 .f32) (ix2 r j) = s (ix2 (row t r) (col t j)) := by
  rw [← hs, ← V_main_arg3 m c]
  blk_ext [iblk, idx5 t, row, col]

/-- What a point reads of the second branch. -/
theorem point_s1 (s : Vec Ideal S4224x1024 .f32) (hs : m ((c : Thread nD τ).loc main_arg4) = s) (t : Fin cfg0.N) (r : Fin 384) (j : Fin 512) :
    (iblk m c 6 t : Vec Ideal S384x512 .f32) (ix2 r j) = s (ix2 (row t r) (col t j)) := by
  rw [← hs, ← V_main_arg4 m c]
  blk_ext [iblk, idx6 t, row, col]

/-- What a point reads of the third branch. -/
theorem point_s2 (s : Vec Ideal S4224x1024 .f32) (hs : m ((c : Thread nD τ).loc main_arg5) = s) (t : Fin cfg0.N) (r : Fin 384) (j : Fin 512) :
    (iblk m c 7 t : Vec Ideal S384x512 .f32) (ix2 r j) = s (ix2 (row t r) (col t j)) := by
  rw [← hs, ← V_main_arg5 m c]
  blk_ext [iblk, idx7 t, row, col]

/-- Where a result's window puts an element. -/
theorem emb (t : Fin cfg0.N) (r : Fin 384) (j : Fin 512) : ((cfg0.win 8).blk t).view.emb (ix2 r j) = ix2 (row t r) (col t j) := by
  funext x; apply Fin.ext
  match x with
  | ⟨0, _⟩ => show win0_8.index t 0 * 384 + 1 * r.val = 384 * (t.val % 11) + r.val; rw [idx8]; show t.val % 11 * 384 + 1 * r.val = _; omega
  | ⟨1, _⟩ => show win0_8.index t 1 * 512 + 1 * j.val = 512 * (t.val / 11) + j.val; rw [idx8]; show t.val / 11 * 512 + 1 * j.val = _; omega

/-- The first branch's gradient after the run. -/
theorem final_branch0 (a : Vec Ideal S4224x1024 .bf16) (ha : m ((c : Thread nD τ).loc main_arg0) = a) (b : Vec Ideal S1024x1024 .bf16) (hb : m ((c : Thread nD τ).loc main_arg1) = b)
    (p : Vec Ideal S4224x6656 .f32) (hp : m ((c : Thread nD τ).loc main_arg2) = p) : (dats m 0 c).arrAt 8 cfg0.N = dbranch a b p 0 := by
  refine (dats m 0 c).arrAt_eq_of_covers 8 _ (by decide +kernel) fun t hf y => ?_
  blk_simp
  rw [after0_8]
  frame_out
  obtain ⟨r, j, rfl⟩ : ∃ (r : Fin 384) (j : Fin 512), y = ix2 r j := ⟨y 0, y 1, (ix2_eta y).symm⟩
  refine Eq.trans ?_ (congrArg (dbranch a b p 0) (emb t r j)).symm
  refine (part_branch (k0_pay5 (iblk m c 0 t) (iblk m c 1 t)) (iblk m c 2 t) r j).trans ?_
  rw [point_dot m c a ha b hb, point_z0 m c p hp]
  rfl

/-- The second branch's gradient after the run. -/
theorem final_branch1 (a : Vec Ideal S4224x1024 .bf16) (ha : m ((c : Thread nD τ).loc main_arg0) = a) (b : Vec Ideal S1024x1024 .bf16) (hb : m ((c : Thread nD τ).loc main_arg1) = b)
    (p : Vec Ideal S4224x6656 .f32) (hp : m ((c : Thread nD τ).loc main_arg2) = p) : (dats m 0 c).arrAt 9 cfg0.N = dbranch a b p 1 := by
  refine (dats m 0 c).arrAt_eq_of_covers 9 _ (by decide +kernel) fun t hf y => ?_
  blk_simp
  rw [after0_9]
  frame_out
  obtain ⟨r, j, rfl⟩ : ∃ (r : Fin 384) (j : Fin 512), y = ix2 r j := ⟨y 0, y 1, (ix2_eta y).symm⟩
  refine Eq.trans ?_ (congrArg (dbranch a b p 1) (emb t r j)).symm
  refine (part_branch (k0_pay5 (iblk m c 0 t) (iblk m c 1 t)) (iblk m c 3 t) r j).trans ?_
  rw [point_dot m c a ha b hb, point_z1 m c p hp]
  rfl

/-- The third branch's gradient after the run. -/
theorem final_branch2 (a : Vec Ideal S4224x1024 .bf16) (ha : m ((c : Thread nD τ).loc main_arg0) = a) (b : Vec Ideal S1024x1024 .bf16) (hb : m ((c : Thread nD τ).loc main_arg1) = b)
    (p : Vec Ideal S4224x6656 .f32) (hp : m ((c : Thread nD τ).loc main_arg2) = p) : (dats m 0 c).arrAt 10 cfg0.N = dbranch a b p 2 := by
  refine (dats m 0 c).arrAt_eq_of_covers 10 _ (by decide +kernel) fun t hf y => ?_
  blk_simp
  rw [after0_10]
  frame_out
  rw [named]
  obtain ⟨r, j, rfl⟩ : ∃ (r : Fin 384) (j : Fin 512), y = ix2 r j := ⟨y 0, y 1, (ix2_eta y).symm⟩
  refine Eq.trans ?_ (congrArg (dbranch a b p 2) (emb t r j)).symm
  refine (part_branch (k0_pay5 (iblk m c 0 t) (iblk m c 1 t)) (iblk m c 4 t) r j).trans ?_
  rw [point_dot m c a ha b hb, point_z2 m c p hp]
  rfl

/-- The first gate's gradient after the run. -/
theorem final_gate0 (a : Vec Ideal S4224x1024 .bf16) (ha : m ((c : Thread nD τ).loc main_arg0) = a) (b : Vec Ideal S1024x1024 .bf16) (hb : m ((c : Thread nD τ).loc main_arg1) = b)
    (p : Vec Ideal S4224x6656 .f32) (hp : m ((c : Thread nD τ).loc main_arg2) = p) (s : Vec Ideal S4224x1024 .f32) (hs : m ((c : Thread nD τ).loc main_arg3) = s) :
    (dats m 0 c).arrAt 11 cfg0.N = dgate a b p 0 s := by
  refine (dats m 0 c).arrAt_eq_of_covers 11 _ (by decide +kernel) fun t hf y => ?_
  blk_simp
  rw [after0_11]
  frame_out
  obtain ⟨r, j, rfl⟩ : ∃ (r : Fin 384) (j : Fin 512), y = ix2 r j := ⟨y 0, y 1, (ix2_eta y).symm⟩
  refine Eq.trans ?_ (congrArg (dgate a b p 0 s) (emb t r j)).symm
  refine (part_gate (k0_pay5 (iblk m c 0 t) (iblk m c 1 t)) (iblk m c 2 t) (iblk m c 5 t) r j).trans ?_
  rw [point_dot m c a ha b hb, point_z0 m c p hp, point_s0 m c s hs]
  rfl

/-- The second gate's gradient after the run. -/
theorem final_gate1 (a : Vec Ideal S4224x1024 .bf16) (ha : m ((c : Thread nD τ).loc main_arg0) = a) (b : Vec Ideal S1024x1024 .bf16) (hb : m ((c : Thread nD τ).loc main_arg1) = b)
    (p : Vec Ideal S4224x6656 .f32) (hp : m ((c : Thread nD τ).loc main_arg2) = p) (s : Vec Ideal S4224x1024 .f32) (hs : m ((c : Thread nD τ).loc main_arg4) = s) :
    (dats m 0 c).arrAt 12 cfg0.N = dgate a b p 1 s := by
  refine (dats m 0 c).arrAt_eq_of_covers 12 _ (by decide +kernel) fun t hf y => ?_
  blk_simp
  rw [after0_12]
  frame_out
  rw [named]
  obtain ⟨r, j, rfl⟩ : ∃ (r : Fin 384) (j : Fin 512), y = ix2 r j := ⟨y 0, y 1, (ix2_eta y).symm⟩
  refine Eq.trans ?_ (congrArg (dgate a b p 1 s) (emb t r j)).symm
  refine (part_gate (k0_pay5 (iblk m c 0 t) (iblk m c 1 t)) (iblk m c 3 t) (iblk m c 6 t) r j).trans ?_
  rw [point_dot m c a ha b hb, point_z1 m c p hp, point_s1 m c s hs]
  rfl

/-- The third gate's gradient after the run. -/
theorem final_gate2 (a : Vec Ideal S4224x1024 .bf16) (ha : m ((c : Thread nD τ).loc main_arg0) = a) (b : Vec Ideal S1024x1024 .bf16) (hb : m ((c : Thread nD τ).loc main_arg1) = b)
    (p : Vec Ideal S4224x6656 .f32) (hp : m ((c : Thread nD τ).loc main_arg2) = p) (s : Vec Ideal S4224x1024 .f32) (hs : m ((c : Thread nD τ).loc main_arg5) = s) :
    (dats m 0 c).arrAt 13 cfg0.N = dgate a b p 2 s := by
  refine (dats m 0 c).arrAt_eq_of_covers 13 _ (by decide +kernel) fun t hf y => ?_
  blk_simp
  rw [after0_13]
  frame_out
  rw [named]
  obtain ⟨r, j, rfl⟩ : ∃ (r : Fin 384) (j : Fin 512), y = ix2 r j := ⟨y 0, y 1, (ix2_eta y).symm⟩
  refine Eq.trans ?_ (congrArg (dgate a b p 2 s) (emb t r j)).symm
  refine (part_gate (k0_pay5 (iblk m c 0 t) (iblk m c 1 t)) (iblk m c 4 t) (iblk m c 7 t) r j).trans ?_
  rw [point_dot m c a ha b hb, point_z2 m c p hp, point_s2 m c s hs]
  rfl

section

open Cert.OutDxMergeRefIdeal.Read

/-- The reference's gradient at the merged array. -/
theorem reference_dot (a : Vec Ideal S4224x1024 .bf16) (b : Vec Ideal S1024x1024 .bf16) (r : Fin 4224) (j : Fin 1024) :
    val_main_v40 (F := Ideal) a b (ix2 r j) = dot a b r j := by
  rw [val_main_v40_apply]
  refine Finset.sum_congr rfl fun k _ => ?_
  have hl : lidx_main_v40 (ix2 r j) k = ix2 r k := by
    funext x; match x with
    | ⟨0, _⟩ => rfl
    | ⟨1, _⟩ => rfl
  have hr : ridx_main_v40 (ix2 r j) k = ix2 j k := by
    funext x; match x with
    | ⟨0, _⟩ => rfl
    | ⟨1, _⟩ => rfl
  rw [hl, hr]
  rfl

/-- The reference's logistic function of the first gates. -/
theorem reference_gate0 (p : Vec Ideal S4224x6656 .f32) (r : Fin 4224) (j : Fin 1024) :
    val_main_v9 (F := Ideal) p (ix2 r j) = gate p 0 r j := by
  have e : idx_main_v1 (ix2 r j) = ix2 r ⟨3072 + 1024 * ((0 : Fin 3) : ℕ) + j.val, by have := j.isLt; omega⟩ := by
    funext x; apply Fin.ext; match x with
    | ⟨0, _⟩ => simp [idx_main_v1, ix2]
    | ⟨1, _⟩ => simp [idx_main_v1, ix2]
  simp only [val_main_v9_apply, val_main_v8_apply, val_main_cst_0_apply, val_main_v7_apply, val_main_v6_apply, val_main_cst_apply, val_main_v5_apply, val_main_v4_apply]
  exact (Cert.Gate.host _).trans (congrArg Cert.Gate.sg ((val_main_v1_apply p _).trans (congrArg p e)))

/-- The reference's logistic function of the second gates. -/
theorem reference_gate1 (p : Vec Ideal S4224x6656 .f32) (r : Fin 4224) (j : Fin 1024) :
    val_main_v21 (F := Ideal) p (ix2 r j) = gate p 1 r j := by
  have e : idx_main_v2 (ix2 r j) = ix2 r ⟨3072 + 1024 * ((1 : Fin 3) : ℕ) + j.val, by have := j.isLt; omega⟩ := by
    funext x; apply Fin.ext; match x with
    | ⟨0, _⟩ => simp [idx_main_v2, ix2]
    | ⟨1, _⟩ => simp [idx_main_v2, ix2]
  simp only [val_main_v21_apply, val_main_v20_apply, val_main_cst_4_apply, val_main_v19_apply, val_main_v18_apply, val_main_cst_3_apply, val_main_v17_apply, val_main_v16_apply]
  exact (Cert.Gate.host _).trans (congrArg Cert.Gate.sg ((val_main_v2_apply p _).trans (congrArg p e)))

/-- The reference's logistic function of the third gates. -/
theorem reference_gate2 (p : Vec Ideal S4224x6656 .f32) (r : Fin 4224) (j : Fin 1024) :
    val_main_v32 (F := Ideal) p (ix2 r j) = gate p 2 r j := by
  have e : idx_main_v3 (ix2 r j) = ix2 r ⟨3072 + 1024 * ((2 : Fin 3) : ℕ) + j.val, by have := j.isLt; omega⟩ := by
    funext x; apply Fin.ext; match x with
    | ⟨0, _⟩ => simp [idx_main_v3, ix2]
    | ⟨1, _⟩ => simp [idx_main_v3, ix2]
  simp only [val_main_v32_apply, val_main_v31_apply, val_main_cst_7_apply, val_main_v30_apply, val_main_v29_apply, val_main_cst_6_apply, val_main_v28_apply, val_main_v27_apply]
  exact (Cert.Gate.host _).trans (congrArg Cert.Gate.sg ((val_main_v3_apply p _).trans (congrArg p e)))

/-- The reference's gradient at the first branch. -/
theorem reference_branch0 (a : Vec Ideal S4224x1024 .bf16) (b : Vec Ideal S1024x1024 .bf16) (p : Vec Ideal S4224x6656 .f32) :
    val_main_v50 (F := Ideal) a b p = dbranch a b p 0 := by
  funext i
  obtain ⟨r, j, rfl⟩ : ∃ (r : Fin 4224) (j : Fin 1024), i = ix2 r j := ⟨i 0, i 1, (ix2_eta i).symm⟩
  have h1 := reference_dot a b r j
  have h2 := reference_gate0 p r j
  simp only [val_main_v50_apply, val_main_v47_apply]
  rw [h1, h2]
  exact mul_comm (gate p 0 r j) (dot a b r j)

/-- The reference's gradient at the second branch. -/
theorem reference_branch1 (a : Vec Ideal S4224x1024 .bf16) (b : Vec Ideal S1024x1024 .bf16) (p : Vec Ideal S4224x6656 .f32) :
    val_main_v51 (F := Ideal) a b p = dbranch a b p 1 := by
  funext i
  obtain ⟨r, j, rfl⟩ : ∃ (r : Fin 4224) (j : Fin 1024), i = ix2 r j := ⟨i 0, i 1, (ix2_eta i).symm⟩
  have h1 := reference_dot a b r j
  have h2 := reference_gate1 p r j
  simp only [val_main_v51_apply, val_main_v44_apply]
  rw [h1, h2]
  exact mul_comm (gate p 1 r j) (dot a b r j)

/-- The reference's gradient at the third branch. -/
theorem reference_branch2 (a : Vec Ideal S4224x1024 .bf16) (b : Vec Ideal S1024x1024 .bf16) (p : Vec Ideal S4224x6656 .f32) :
    val_main_v52 (F := Ideal) a b p = dbranch a b p 2 := by
  funext i
  obtain ⟨r, j, rfl⟩ : ∃ (r : Fin 4224) (j : Fin 1024), i = ix2 r j := ⟨i 0, i 1, (ix2_eta i).symm⟩
  have h1 := reference_dot a b r j
  have h2 := reference_gate2 p r j
  simp only [val_main_v52_apply, val_main_v41_apply]
  rw [h1, h2]
  exact mul_comm (gate p 2 r j) (dot a b r j)

/-- The reference's gradient at the first gate. -/
theorem reference_dgate0 (a : Vec Ideal S4224x1024 .bf16) (b : Vec Ideal S1024x1024 .bf16) (p : Vec Ideal S4224x6656 .f32) (s : Vec Ideal S4224x1024 .f32) :
    val_main_v53 (F := Ideal) a b p s = dgate a b p 0 s := by
  funext i
  obtain ⟨r, j, rfl⟩ : ∃ (r : Fin 4224) (j : Fin 1024), i = ix2 r j := ⟨i 0, i 1, (ix2_eta i).symm⟩
  have h1 := reference_dot a b r j
  have h2 := reference_gate0 p r j
  simp only [val_main_v53_apply, val_main_v49_apply, val_main_v48_apply, val_main_v12_apply, val_main_v11_apply, val_main_v10_apply, val_main_cst_1_apply]
  rw [h1, h2, Cert.Gate.one]
  exact (mul_assoc (dot a b r j * (s (ix2 r j) : EReal)) (gate p 0 r j) (1 - gate p 0 r j)).symm

/-- The reference's gradient at the second gate. -/
theorem reference_dgate1 (a : Vec Ideal S4224x1024 .bf16) (b : Vec Ideal S1024x1024 .bf16) (p : Vec Ideal S4224x6656 .f32) (s : Vec Ideal S4224x1024 .f32) :
    val_main_v54 (F := Ideal) a b p s = dgate a b p 1 s := by
  funext i
  obtain ⟨r, j, rfl⟩ : ∃ (r : Fin 4224) (j : Fin 1024), i = ix2 r j := ⟨i 0, i 1, (ix2_eta i).symm⟩
  have h1 := reference_dot a b r j
  have h2 := reference_gate1 p r j
  simp only [val_main_v54_apply, val_main_v46_apply, val_main_v45_apply, val_main_v24_apply, val_main_v23_apply, val_main_v22_apply, val_main_cst_5_apply]
  rw [h1, h2, Cert.Gate.one]
  exact (mul_assoc (dot a b r j * (s (ix2 r j) : EReal)) (gate p 1 r j) (1 - gate p 1 r j)).symm

/-- The reference's gradient at the third gate. -/
theorem reference_dgate2 (a : Vec Ideal S4224x1024 .bf16) (b : Vec Ideal S1024x1024 .bf16) (p : Vec Ideal S4224x6656 .f32) (s : Vec Ideal S4224x1024 .f32) :
    val_main_v55 (F := Ideal) a b p s = dgate a b p 2 s := by
  funext i
  obtain ⟨r, j, rfl⟩ : ∃ (r : Fin 4224) (j : Fin 1024), i = ix2 r j := ⟨i 0, i 1, (ix2_eta i).symm⟩
  have h1 := reference_dot a b r j
  have h2 := reference_gate2 p r j
  simp only [val_main_v55_apply, val_main_v43_apply, val_main_v42_apply, val_main_v35_apply, val_main_v34_apply, val_main_v33_apply, val_main_cst_8_apply]
  rw [h1, h2, Cert.Gate.one]
  exact (mul_assoc (dot a b r j * (s (ix2 r j) : EReal)) (gate p 2 r j) (1 - gate p 2 r j)).symm

end

/-- The kernel and the reference end with equal results. -/
theorem algebraic : Cert.algebraic_OutDxMergeIdeal_OutDxMergeRefIdeal := by
  intro m g m' g' _ hagree
  refine ⟨_, _, _, _, _, _, run_blocks m g, (θ_run Cert.OutDxMergeRefIdeal.defs _ _).mono (fun r h c => ?_) (Cert.OutDxMergeRefIdeal.Value.run m' g')⟩
  obtain ⟨e0, e1, e2, e3, e4, e5⟩ := hagree c
  obtain ⟨h0, h1, h2, h3, h4, h5, h⟩ := h c
  refine ⟨h0.trans ?_, h1.trans ?_, h2.trans ?_, h3.trans ?_, h4.trans ?_, h5.trans ?_, h⟩
  · rw [e0, e1, e2, final_branch0 m c _ rfl _ rfl _ rfl]
    exact reference_branch0 _ _ _
  · rw [e0, e1, e2, final_branch1 m c _ rfl _ rfl _ rfl]
    exact reference_branch1 _ _ _
  · rw [e0, e1, e2, final_branch2 m c _ rfl _ rfl _ rfl]
    exact reference_branch2 _ _ _
  · rw [e0, e1, e2, e3, final_gate0 m c _ rfl _ rfl _ rfl _ rfl]
    exact reference_dgate0 _ _ _ _
  · rw [e0, e1, e2, e4, final_gate1 m c _ rfl _ rfl _ rfl _ rfl]
    exact reference_dgate1 _ _ _ _
  · rw [e0, e1, e2, e5, final_gate2 m c _ rfl _ rfl _ rfl _ rfl]
    exact reference_dgate2 _ _ _ _

/-- The reference terminates without fault, its arguments unchanged and its counters, of which it has none, at zero. -/
theorem frame_reference : Cert.quiescent_OutDxMergeRefIdeal := fun m g _ =>
  (θ_run Cert.OutDxMergeRefIdeal.defs _ _).mono (fun r h => ⟨fun c => (h c).2.2.2.2.2.2, sem_eq_zero_of_no_sems (by decide) r.2⟩)
    (Cert.OutDxMergeRefIdeal.Value.run (F := Ideal) m g)

end Cert.OutDxMergeIdeal.Product

end
-- ==== Proof.InFwd.lean ====
module

public import proofs.«01_k».proof.Defs
public import proofs.«01_k».proof.Proof.Sums
public import proofs.«01_k».proof.Proof.Gen.InFwdIdeal.Value
public import proofs.«01_k».proof.Proof.Gen.InFwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The input product

A point computes a block of the result. -/

@[expose] public section

set_option maxRecDepth 16384

noncomputable section

open Idealize.ShloMosaic Idealize.ShloMosaic.TcCoe Idealize.SL.Sem
open Idealize.ShloMosaic.Pointwise

namespace Cert.InFwdIdeal.Product

open Cert.InFwdIdeal Cert.InFwdIdeal.Gen Cert.InFwdIdeal.Value

/-- One point's product at an element. -/
theorem part (x : Vec Ideal S1408x1024 .bf16) (y : Vec Ideal S1024x512 .bf16) (r : Fin 1408) (j : Fin 512) :
    k0_pay1 x y (ix2 r j) = ∑ k : Fin 1024, x (ix2 r k) * y (ix2 k j) := by
  pointwise [k0_pay1]

variable (m : (b : Loc nD τ sig) → Buf (Elt Ideal) b) (c : Dev nD)

/-- Which block the left factor's window reads. -/
theorem idx0 : ∀ t : Fin cfg0.N, win0_0.index t = ![t.val / 13, 0] := by decide +kernel
/-- Which block the right factor's window reads. -/
theorem idx1 : ∀ t : Fin cfg0.N, win0_1.index t = ![0, t.val % 13] := by decide +kernel
/-- Which block the result's window writes. -/
theorem idx2 : ∀ t : Fin cfg0.N, win0_2.index t = ![t.val / 13, t.val % 13] := by decide +kernel

/-- The product of the first argument and the second. -/
def product (a : Vec Ideal S4224x1024 .bf16) (b : Vec Ideal S1024x6656 .bf16) : Vec Ideal S4224x6656 .f32 :=
  fun i => ∑ k : Fin 1024, a (ix2 (i 0) k) * b (ix2 k (i 1))

/-- What a point leaves. -/
theorem point (a : Vec Ideal S4224x1024 .bf16) (ha : m ((c : Thread nD τ).loc main_arg0) = a) (b : Vec Ideal S1024x6656 .bf16) (hb : m ((c : Thread nD τ).loc main_arg1) = b)
    (t : Fin cfg0.N) (r : Fin 1408) (j : Fin 512) :
    k0_pay1 (iblk m c 0 t) (iblk m c 1 t) (ix2 r j) = ∑ k : Fin 1024,
      a (ix2 ⟨1408 * (t.val / 13) + r.val, by have := t.isLt; have : cfg0.N = 39 := N_0; omega⟩ k) * b (ix2 k ⟨512 * (t.val % 13) + j.val, by omega⟩) := by
  rw [part]
  refine Finset.sum_congr rfl fun k _ => ?_
  rw [← ha, ← hb, ← V_main_arg0 m c, ← V_main_arg1 m c]
  congr 1
  · blk_ext [iblk, idx0 t]
  · blk_ext [iblk, idx1 t]

/-- The array after the run. -/
theorem final (a : Vec Ideal S4224x1024 .bf16) (ha : m ((c : Thread nD τ).loc main_arg0) = a) (b : Vec Ideal S1024x6656 .bf16) (hb : m ((c : Thread nD τ).loc main_arg1) = b) :
    (dats m 0 c).arrAt 2 cfg0.N = product a b := by
  refine (dats m 0 c).arrAt_eq_of_covers 2 _ (by decide +kernel) fun t hf y => ?_
  blk_simp
  rw [after0_2]
  frame_out
  obtain ⟨r, j, rfl⟩ : ∃ (r : Fin 1408) (j : Fin 512), y = ix2 r j := ⟨y 0, y 1, (ix2_eta y).symm⟩
  have e : ((cfg0.win 2).blk t).view.emb (ix2 r j) = ix2 ⟨1408 * (t.val / 13) + r.val, by have := t.isLt; have : cfg0.grid.N = 39 := N_0; omega⟩ ⟨512 * (t.val % 13) + j.val, by omega⟩ := by
    funext x; apply Fin.ext
    match x with
    | ⟨0, _⟩ => show win0_2.index t 0 * 1408 + 1 * r.val = 1408 * (t.val / 13) + r.val; rw [idx2]; show t.val / 13 * 1408 + 1 * r.val = _; omega
    | ⟨1, _⟩ => show win0_2.index t 1 * 512 + 1 * j.val = 512 * (t.val % 13) + j.val; rw [idx2]; show t.val % 13 * 512 + 1 * j.val = _; omega
  rw [e]
  exact point m c a ha b hb t r j

/-- The reference computes the same product. -/
theorem reference (a : Vec Ideal S4224x1024 .bf16) (b : Vec Ideal S1024x6656 .bf16) :
    Cert.InFwdRefIdeal.Read.val_main_v2 (F := Ideal) a b = product a b := by
  funext i
  rw [Cert.InFwdRefIdeal.Read.val_main_v2_apply]
  refine Finset.sum_congr rfl fun k _ => congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_InFwdIdeal_InFwdRefIdeal := by
  intro m g m' g' _ hagree
  refine ⟨_, run_blocks m g, (θ_run Cert.InFwdRefIdeal.defs _ _).mono (fun r h c => ?_) (Cert.InFwdRefIdeal.Value.run m' g')⟩
  obtain ⟨e0, e1⟩ := hagree c
  obtain ⟨h1, h⟩ := h c
  refine ⟨h1.trans ?_, h⟩
  rw [e0, e1, final m c _ rfl _ rfl]
  exact reference _ _

/-- The reference terminates without fault, its arguments unchanged and its counters, of which it has none, at zero. -/
theorem frame_reference : Cert.quiescent_InFwdRefIdeal := fun m g _ =>
  (θ_run Cert.InFwdRefIdeal.defs _ _).mono (fun r h => ⟨fun c => (h c).2, sem_eq_zero_of_no_sems (by decide) r.2⟩)
    (Cert.InFwdRefIdeal.Value.run (F := Ideal) m g)

end Cert.InFwdIdeal.Product

end
-- ==== Proof.OutFwd.lean ====
module

public import proofs.«01_k».proof.Defs
public import proofs.«01_k».proof.Proof.Sums
public import proofs.«01_k».proof.Proof.Gen.OutFwdIdeal.Value
public import proofs.«01_k».proof.Proof.Gen.OutFwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The output product

A point computes a block of the result. -/

@[expose] public section

set_option maxRecDepth 16384

noncomputable section

open Idealize.ShloMosaic Idealize.ShloMosaic.TcCoe Idealize.SL.Sem
open Idealize.ShloMosaic.Pointwise

namespace Cert.OutFwdIdeal.Product

open Cert.OutFwdIdeal Cert.OutFwdIdeal.Gen Cert.OutFwdIdeal.Value

/-- One point's product at an element. -/
theorem part (x : Vec Ideal S1408x1024 .bf16) (y : Vec Ideal S1024x512 .bf16) (z : Vec Ideal S1408x512 .f32) (r : Fin 1408) (j : Fin 512) :
    k0_pay1 x y z (ix2 r j) = z (ix2 r j) + ∑ k : Fin 1024, x (ix2 r k) * y (ix2 k j) := by
  rw [add_comm]
  pointwise [k0_pay1]

variable (m : (b : Loc nD τ sig) → Buf (Elt Ideal) b) (c : Dev nD)

/-- Which block the left factor's window reads. -/
theorem idx0 : ∀ t : Fin cfg0.N, win0_0.index t = ![t.val / 2, 0] := by decide +kernel
/-- Which block the right factor's window reads. -/
theorem idx1 : ∀ t : Fin cfg0.N, win0_1.index t = ![0, t.val % 2] := by decide +kernel
/-- Which block the window of the array added reads. -/
theorem idx2 : ∀ t : Fin cfg0.N, win0_2.index t = ![t.val / 2, t.val % 2] := by decide +kernel
/-- Which block the result's window writes. -/
theorem idx3 : ∀ t : Fin cfg0.N, win0_3.index t = ![t.val / 2, t.val % 2] := by decide +kernel

/-- The third argument plus the product of the first argument and the second. -/
def product (a : Vec Ideal S4224x1024 .bf16) (b : Vec Ideal S1024x1024 .bf16) (d : Vec Ideal S4224x1024 .f32) : Vec Ideal S4224x1024 .f32 :=
  fun i => d i + ∑ k : Fin 1024, a (ix2 (i 0) k) * b (ix2 k (i 1))

/-- What a point leaves. -/
theorem point (a : Vec Ideal S4224x1024 .bf16) (ha : m ((c : Thread nD τ).loc main_arg0) = a) (b : Vec Ideal S1024x1024 .bf16) (hb : m ((c : Thread nD τ).loc main_arg1) = b)
    (d : Vec Ideal S4224x1024 .f32) (hd : m ((c : Thread nD τ).loc main_arg2) = d)
    (t : Fin cfg0.N) (r : Fin 1408) (j : Fin 512) :
    k0_pay1 (iblk m c 0 t) (iblk m c 1 t) (iblk m c 2 t) (ix2 r j) =
      d (ix2 ⟨1408 * (t.val / 2) + r.val, by have := t.isLt; have : cfg0.N = 6 := N_0; omega⟩ ⟨512 * (t.val % 2) + j.val, by omega⟩) + ∑ k : Fin 1024,
      a (ix2 ⟨1408 * (t.val / 2) + r.val, by have := t.isLt; have : cfg0.N = 6 := N_0; omega⟩ k) * b (ix2 k ⟨512 * (t.val % 2) + j.val, by omega⟩) := by
  rw [part]
  refine congrArg₂ (· + ·) (by rw [← hd, ← V_main_arg2 m c]; blk_ext [iblk, idx2 t]) (Finset.sum_congr rfl fun k _ => ?_)
  rw [← ha, ← hb, ← V_main_arg0 m c, ← V_main_arg1 m c]
  congr 1
  · blk_ext [iblk, idx0 t]
  · blk_ext [iblk, idx1 t]

/-- The array after the run. -/
theorem final (a : Vec Ideal S4224x1024 .bf16) (ha : m ((c : Thread nD τ).loc main_arg0) = a) (b : Vec Ideal S1024x1024 .bf16) (hb : m ((c : Thread nD τ).loc main_arg1) = b)
    (d : Vec Ideal S4224x1024 .f32) (hd : m ((c : Thread nD τ).loc main_arg2) = d) :
    (dats m 0 c).arrAt 3 cfg0.N = product a b d := by
  refine (dats m 0 c).arrAt_eq_of_covers 3 _ (by decide +kernel) fun t hf y => ?_
  blk_simp
  rw [after0_3]
  frame_out
  obtain ⟨r, j, rfl⟩ : ∃ (r : Fin 1408) (j : Fin 512), y = ix2 r j := ⟨y 0, y 1, (ix2_eta y).symm⟩
  have e : ((cfg0.win 3).blk t).view.emb (ix2 r j) = ix2 ⟨1408 * (t.val / 2) + r.val, by have := t.isLt; have : cfg0.grid.N = 6 := N_0; omega⟩ ⟨512 * (t.val % 2) + j.val, by omega⟩ := by
    funext x; apply Fin.ext
    match x with
    | ⟨0, _⟩ => show win0_3.index t 0 * 1408 + 1 * r.val = 1408 * (t.val / 2) + r.val; rw [idx3]; show t.val / 2 * 1408 + 1 * r.val = _; omega
    | ⟨1, _⟩ => show win0_3.index t 1 * 512 + 1 * j.val = 512 * (t.val % 2) + j.val; rw [idx3]; show t.val % 2 * 512 + 1 * j.val = _; omega
  rw [e]
  exact point m c a ha b hb d hd t r j

/-- The reference computes the same sum. -/
theorem reference (a : Vec Ideal S4224x1024 .bf16) (b : Vec Ideal S1024x1024 .bf16) (d : Vec Ideal S4224x1024 .f32) :
    Cert.OutFwdRefIdeal.Read.val_main_v3 (F := Ideal) a b d = product a b d := by
  funext i
  refine congrArg (d i + ·) ((Cert.OutFwdRefIdeal.Read.val_main_v2_apply a b i).trans ?_)
  refine Finset.sum_congr rfl fun k _ => congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_OutFwdIdeal_OutFwdRefIdeal := by
  intro m g m' g' _ hagree
  refine ⟨_, run_blocks m g, (θ_run Cert.OutFwdRefIdeal.defs _ _).mono (fun r h c => ?_) (Cert.OutFwdRefIdeal.Value.run m' g')⟩
  obtain ⟨e0, e1, e2⟩ := hagree c
  obtain ⟨h1, h⟩ := h c
  refine ⟨h1.trans ?_, h⟩
  rw [e0, e1, e2, final m c _ rfl _ rfl _ rfl]
  exact reference _ _ _

/-- The reference terminates without fault, its arguments unchanged and its counters, of which it has none, at zero. -/
theorem frame_reference : Cert.quiescent_OutFwdRefIdeal := fun m g _ =>
  (θ_run Cert.OutFwdRefIdeal.defs _ _).mono (fun r h => ⟨fun c => (h c).2, sem_eq_zero_of_no_sems (by decide) r.2⟩)
    (Cert.OutFwdRefIdeal.Value.run (F := Ideal) m g)

end Cert.OutFwdIdeal.Product

end
-- ==== Proof.FfnOutFwd.lean ====
module

public import proofs.«01_k».proof.Defs
public import proofs.«01_k».proof.Proof.Sums
public import proofs.«01_k».proof.Proof.Gen.FfnOutFwdIdeal.Value
public import proofs.«01_k».proof.Proof.Gen.FfnOutFwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The second product of the feed-forward part

A point computes a block of the result. -/

@[expose] public section

set_option maxRecDepth 16384

noncomputable section

open Idealize.ShloMosaic Idealize.ShloMosaic.TcCoe Idealize.SL.Sem
open Idealize.ShloMosaic.Pointwise

namespace Cert.FfnOutFwdIdeal.Product

open Cert.FfnOutFwdIdeal Cert.FfnOutFwdIdeal.Gen Cert.FfnOutFwdIdeal.Value

/-- One point's product at an element. -/
theorem part (x : Vec Ideal S1408x2816 .bf16) (y : Vec Ideal S2816x512 .bf16) (z : Vec Ideal S1408x512 .f32) (r : Fin 1408) (j : Fin 512) :
    k0_pay1 x y z (ix2 r j) = z (ix2 r j) + ∑ k : Fin 2816, x (ix2 r k) * y (ix2 k j) := by
  rw [add_comm]
  pointwise [k0_pay1]

variable (m : (b : Loc nD τ sig) → Buf (Elt Ideal) b) (c : Dev nD)

/-- Which block the left factor's window reads. -/
theorem idx0 : ∀ t : Fin cfg0.N, win0_0.index t = ![t.val / 2, 0] := by decide +kernel
/-- Which block the right factor's window reads. -/
theorem idx1 : ∀ t : Fin cfg0.N, win0_1.index t = ![0, t.val % 2] := by decide +kernel
/-- Which block the window of the array added reads. -/
theorem idx2 : ∀ t : Fin cfg0.N, win0_2.index t = ![t.val / 2, t.val % 2] := by decide +kernel
/-- Which block the result's window writes. -/
theorem idx3 : ∀ t : Fin cfg0.N, win0_3.index t = ![t.val / 2, t.val % 2] := by decide +kernel

/-- The third argument plus the product of the first argument and the second. -/
def product (a : Vec Ideal S4224x2816 .bf16) (b : Vec Ideal S2816x1024 .bf16) (d : Vec Ideal S4224x1024 .f32) : Vec Ideal S4224x1024 .f32 :=
  fun i => d i + ∑ k : Fin 2816, a (ix2 (i 0) k) * b (ix2 k (i 1))

/-- What a point leaves. -/
theorem point (a : Vec Ideal S4224x2816 .bf16) (ha : m ((c : Thread nD τ).loc main_arg0) = a) (b : Vec Ideal S2816x1024 .bf16) (hb : m ((c : Thread nD τ).loc main_arg1) = b)
    (d : Vec Ideal S4224x1024 .f32) (hd : m ((c : Thread nD τ).loc main_arg2) = d)
    (t : Fin cfg0.N) (r : Fin 1408) (j : Fin 512) :
    k0_pay1 (iblk m c 0 t) (iblk m c 1 t) (iblk m c 2 t) (ix2 r j) =
      d (ix2 ⟨1408 * (t.val / 2) + r.val, by have := t.isLt; have : cfg0.N = 6 := N_0; omega⟩ ⟨512 * (t.val % 2) + j.val, by omega⟩) + ∑ k : Fin 2816,
      a (ix2 ⟨1408 * (t.val / 2) + r.val, by have := t.isLt; have : cfg0.N = 6 := N_0; omega⟩ k) * b (ix2 k ⟨512 * (t.val % 2) + j.val, by omega⟩) := by
  rw [part]
  refine congrArg₂ (· + ·) (by rw [← hd, ← V_main_arg2 m c]; blk_ext [iblk, idx2 t]) (Finset.sum_congr rfl fun k _ => ?_)
  rw [← ha, ← hb, ← V_main_arg0 m c, ← V_main_arg1 m c]
  congr 1
  · blk_ext [iblk, idx0 t]
  · blk_ext [iblk, idx1 t]

/-- The array after the run. -/
theorem final (a : Vec Ideal S4224x2816 .bf16) (ha : m ((c : Thread nD τ).loc main_arg0) = a) (b : Vec Ideal S2816x1024 .bf16) (hb : m ((c : Thread nD τ).loc main_arg1) = b)
    (d : Vec Ideal S4224x1024 .f32) (hd : m ((c : Thread nD τ).loc main_arg2) = d) :
    (dats m 0 c).arrAt 3 cfg0.N = product a b d := by
  refine (dats m 0 c).arrAt_eq_of_covers 3 _ (by decide +kernel) fun t hf y => ?_
  blk_simp
  rw [after0_3]
  frame_out
  obtain ⟨r, j, rfl⟩ : ∃ (r : Fin 1408) (j : Fin 512), y = ix2 r j := ⟨y 0, y 1, (ix2_eta y).symm⟩
  have e : ((cfg0.win 3).blk t).view.emb (ix2 r j) = ix2 ⟨1408 * (t.val / 2) + r.val, by have := t.isLt; have : cfg0.grid.N = 6 := N_0; omega⟩ ⟨512 * (t.val % 2) + j.val, by omega⟩ := by
    funext x; apply Fin.ext
    match x with
    | ⟨0, _⟩ => show win0_3.index t 0 * 1408 + 1 * r.val = 1408 * (t.val / 2) + r.val; rw [idx3]; show t.val / 2 * 1408 + 1 * r.val = _; omega
    | ⟨1, _⟩ => show win0_3.index t 1 * 512 + 1 * j.val = 512 * (t.val % 2) + j.val; rw [idx3]; show t.val % 2 * 512 + 1 * j.val = _; omega
  rw [e]
  exact point m c a ha b hb d hd t r j

/-- The reference computes the same sum. -/
theorem reference (a : Vec Ideal S4224x2816 .bf16) (b : Vec Ideal S2816x1024 .bf16) (d : Vec Ideal S4224x1024 .f32) :
    Cert.FfnOutFwdRefIdeal.Read.val_main_v3 (F := Ideal) a b d = product a b d := by
  funext i
  refine congrArg (d i + ·) ((Cert.FfnOutFwdRefIdeal.Read.val_main_v2_apply a b i).trans ?_)
  refine Finset.sum_congr rfl fun k _ => congrArg₂ (· * ·) (congrArg a ?_) (congrArg b ?_)
  · funext x; match x with
    | ⟨0, _⟩ => rfl
    | ⟨1, _⟩ => rfl
  · funext x; match x with
    | ⟨0, _⟩ => rfl
    | ⟨1, _⟩ => rfl

/-- The kernel and the reference end with equal results. -/
theorem algebraic : Cert.algebraic_FfnOutFwdIdeal_FfnOutFwdRefIdeal := by
  intro m g m' g' _ hagree
  refine ⟨_, run_blocks m g, (θ_run Cert.FfnOutFwdRefIdeal.defs _ _).mono (fun r h c => ?_) (Cert.FfnOutFwdRefIdeal.Value.run m' g')⟩
  obtain ⟨e0, e1, e2⟩ := hagree c
  obtain ⟨h1, h⟩ := h c
  refine ⟨h1.trans ?_, h⟩
  rw [e0, e1, e2, final m c _ rfl _ rfl _ rfl]
  exact reference _ _ _

/-- The reference terminates without fault, its arguments unchanged and its counters, of which it has none, at zero. -/
theorem frame_reference : Cert.quiescent_FfnOutFwdRefIdeal := fun m g _ =>
  (θ_run Cert.FfnOutFwdRefIdeal.defs _ _).mono (fun r h => ⟨fun c => (h c).2, sem_eq_zero_of_no_sems (by decide) r.2⟩)
    (Cert.FfnOutFwdRefIdeal.Value.run (F := Ideal) m g)

end Cert.FfnOutFwdIdeal.Product

end
-- ==== Proof.SwigluFwd.lean ====
module

public import proofs.«01_k».proof.Defs
public import proofs.«01_k».proof.Proof.Gate
public import proofs.«01_k».proof.Proof.Gen.SwigluFwdIdeal.Value
public import proofs.«01_k».proof.Proof.Gen.SwigluFwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The feed-forward forward product with its gated activation

Each grid point computes one block of the gate, of the other half, of the activation and of the activation transposed. -/

@[expose] public section

set_option maxRecDepth 16384

noncomputable section

open Idealize.ShloMosaic Idealize.ShloMosaic.TcCoe Idealize.SL.Sem
open Idealize.ShloMosaic.Pointwise

namespace Cert.SwigluFwdIdeal.Product

open Cert.SwigluFwdIdeal Cert.SwigluFwdIdeal.Gen Cert.SwigluFwdIdeal.Value

/-- The gate's block at an element. -/
theorem part_gate (x : Vec Ideal S384x1024 .bf16) (y : Vec Ideal S1024x1408 .bf16) (r : Fin 384) (j : Fin 1408) :
    k0_pay1 x y (ix2 r j) = ∑ k : Fin 1024, x (ix2 r k) * y (ix2 k j) := by pointwise [k0_pay1]

/-- The other half's block at an element. -/
theorem part_up (x : Vec Ideal S384x1024 .bf16) (y : Vec Ideal S1024x1408 .bf16) (r : Fin 384) (j : Fin 1408) :
    k0_pay2 x y (ix2 r j) = ∑ k : Fin 1024, x (ix2 r k) * y (ix2 k j) := by pointwise [k0_pay2]

/-- The activation's block at an element. -/
theorem part_act (x : Vec Ideal S384x1024 .bf16) (y z : Vec Ideal S1024x1408 .bf16) (r : Fin 384) (j : Fin 1408) :
    k0_pay3 x y z (ix2 r j) = k0_pay1 x y (ix2 r j) * Cert.Gate.sg (k0_pay1 x y (ix2 r j)) * k0_pay2 x z (ix2 r j) := by
  rw [← Cert.Gate.kernel]
  pointwise [k0_pay3, k0_pay1, k0_pay2]

/-- The transposed block. -/
theorem part_turned (x : Vec Ideal S384x1024 .bf16) (y z : Vec Ideal S1024x1408 .bf16) (r : Fin 384) (j : Fin 1408) :
    k0_pay4 x y z (ix2 j r) = k0_pay3 x y z (ix2 r j) := by pointwise [k0_pay4]

/-- The product of the first argument and the second, at a row and a column. -/
def dot (a : Vec Ideal S4224x1024 .bf16) (b : Vec Ideal S1024x5632 .bf16) (r : Fin 4224) (j : Fin 5632) : EReal :=
  ∑ k : Fin 1024, a (ix2 r k) * b (ix2 k j)

/-- The gate: the product's left half. -/
def gate (a : Vec Ideal S4224x1024 .bf16) (b : Vec Ideal S1024x5632 .bf16) : Vec Ideal S4224x2816 .bf16 :=
  fun i => dot a b (i 0) ⟨(i 1).val, by have h : (i 1).val < 2816 := (i 1).isLt; omega⟩

/-- The product's right half. -/
def up (a : Vec Ideal S4224x1024 .bf16) (b : Vec Ideal S1024x5632 .bf16) : Vec Ideal S4224x2816 .bf16 :=
  fun i => dot a b (i 0) ⟨2816 + (i 1).val, by have h : (i 1).val < 2816 := (i 1).isLt; omega⟩

/-- The activation. -/
def act (a : Vec Ideal S4224x1024 .bf16) (b : Vec Ideal S1024x5632 .bf16) : Vec Ideal S4224x2816 .bf16 :=
  fun i => (gate a b i : EReal) * Cert.Gate.sg (gate a b i) * up a b i

/-- The activation transposed. -/
def turned (a : Vec Ideal S4224x1024 .bf16) (b : Vec Ideal S1024x5632 .bf16) : Vec Ideal S2816x4224 .bf16 :=
  fun i => act a b (ix2 (i 1) (i 0))

variable (m : (b : Loc nD τ sig) → Buf (Elt Ideal) b) (c : Dev nD)

/-- Which block the left factor's window reads. -/
theorem idx0 : ∀ t : Fin cfg0.N, win0_0.index t = ![t.val % 11, 0] := by decide +kernel
/-- Which block the gate's weights' window reads. -/
theorem idx1 : ∀ t : Fin cfg0.N, win0_1.index t = ![0, t.val / 11] := by decide +kernel
/-- Which block the other weights' window reads. -/
theorem idx2 : ∀ t : Fin cfg0.N, win0_2.index t = ![0, t.val / 11 + 2] := by decide +kernel
/-- Which block the gate's window writes. -/
theorem idx3 : ∀ t : Fin cfg0.N, win0_3.index t = ![t.val % 11, t.val / 11] := by decide +kernel
/-- Which block the other half's window writes. -/
theorem idx4 : ∀ t : Fin cfg0.N, win0_4.index t = ![t.val % 11, t.val / 11] := by decide +kernel
/-- Which block the activation's window writes. -/
theorem idx5 : ∀ t : Fin cfg0.N, win0_5.index t = ![t.val % 11, t.val / 11] := by decide +kernel
/-- Which block the transposed activation's window writes. -/
theorem idx6 : ∀ t : Fin cfg0.N, win0_6.index t = ![t.val / 11, t.val % 11] := by decide +kernel

/-- A point's row of the whole arrays. -/
def row (t : Fin cfg0.N) (r : Fin 384) : Fin 4224 := ⟨384 * (t.val % 11) + r.val, by omega⟩

/-- A point's column of the whole arrays. -/
def col (t : Fin cfg0.N) (j : Fin 1408) : Fin 2816 :=
  ⟨1408 * (t.val / 11) + j.val, by have := t.isLt; have : cfg0.N = 22 := N_0; omega⟩

/-- What a point leaves of the gate. -/
theorem point_gate (a : Vec Ideal S4224x1024 .bf16) (ha : m ((c : Thread nD τ).loc main_arg0) = a) (b : Vec Ideal S1024x5632 .bf16) (hb : m ((c : Thread nD τ).loc main_arg1) = b)
    (t : Fin cfg0.N) (r : Fin 384) (j : Fin 1408) :
    k0_pay1 (iblk m c 0 t) (iblk m c 1 t) (ix2 r j) = gate a b (ix2 (row t r) (col t j)) := by
  rw [part_gate]
  show _ = ∑ k : Fin 1024, a (ix2 (row t r) k) * b (ix2 k ⟨(col t j).val, by omega⟩)
  refine Finset.sum_congr rfl fun k _ => ?_
  rw [← ha, ← hb, ← V_main_arg0 m c, ← V_main_arg1 m c]
  congr 1
  · blk_ext [iblk, idx0 t, row]
  · blk_ext [iblk, idx1 t, col]

/-- What a point leaves of the other half. -/
theorem point_up (a : Vec Ideal S4224x1024 .bf16) (ha : m ((c : Thread nD τ).loc main_arg0) = a) (b : Vec Ideal S1024x5632 .bf16) (hb : m ((c : Thread nD τ).loc main_arg1) = b)
    (t : Fin cfg0.N) (r : Fin 384) (j : Fin 1408) :
    k0_pay2 (iblk m c 0 t) (iblk m c 2 t) (ix2 r j) = up a b (ix2 (row t r) (col t j)) := by
  rw [part_up]
  show _ = ∑ k : Fin 1024, a (ix2 (row t r) k) * b (ix2 k ⟨2816 + (col t j).val, by omega⟩)
  refine Finset.sum_congr rfl fun k _ => ?_
  rw [← ha, ← hb, ← V_main_arg0 m c, ← V_main_arg1 m c]
  congr 1
  · blk_ext [iblk, idx0 t, row]
  · blk_ext [iblk, idx2 t, col]

/-- What a point leaves of the activation. -/
theorem point_act (a : Vec Ideal S4224x1024 .bf16) (ha : m ((c : Thread nD τ).loc main_arg0) = a) (b : Vec Ideal S1024x5632 .bf16) (hb : m ((c : Thread nD τ).loc main_arg1) = b)
    (t : Fin cfg0.N) (r : Fin 384) (j : Fin 1408) :
    k0_pay3 (iblk m c 0 t) (iblk m c 1 t) (iblk m c 2 t) (ix2 r j) = act a b (ix2 (row t r) (col t j)) := by
  rw [part_act, point_gate m c a ha b hb, point_up m c a ha b hb]
  rfl

/-- The gate after the run. -/
theorem final_gate (a : Vec Ideal S4224x1024 .bf16) (ha : m ((c : Thread nD τ).loc main_arg0) = a) (b : Vec Ideal S1024x5632 .bf16) (hb : m ((c : Thread nD τ).loc main_arg1) = b) :
    (dats m 0 c).arrAt 3 cfg0.N = gate a b := by
  refine (dats m 0 c).arrAt_eq_of_covers 3 _ (by decide +kernel) fun t hf y => ?_
  blk_simp
  rw [after0_3]
  frame_out
  obtain ⟨r, j, rfl⟩ : ∃ (r : Fin 384) (j : Fin 1408), y = ix2 r j := ⟨y 0, y 1, (ix2_eta y).symm⟩
  have e : ((cfg0.win 3).blk t).view.emb (ix2 r j) = ix2 (row t r) (col t j) := by
    funext x; apply Fin.ext
    match x with
    | ⟨0, _⟩ => show win0_3.index t 0 * 384 + 1 * r.val = 384 * (t.val % 11) + r.val; rw [idx3]; show t.val % 11 * 384 + 1 * r.val = _; omega
    | ⟨1, _⟩ => show win0_3.index t 1 * 1408 + 1 * j.val = 1408 * (t.val / 11) + j.val; rw [idx3]; show t.val / 11 * 1408 + 1 * j.val = _; omega
  rw [e]
  exact point_gate m c a ha b hb t r j

/-- The other half after the run. -/
theorem final_up (a : Vec Ideal S4224x1024 .bf16) (ha : m ((c : Thread nD τ).loc main_arg0) = a) (b : Vec Ideal S1024x5632 .bf16) (hb : m ((c : Thread nD τ).loc main_arg1) = b) :
    (dats m 0 c).arrAt 4 cfg0.N = up a b := by
  refine (dats m 0 c).arrAt_eq_of_covers 4 _ (by decide +kernel) fun t hf y => ?_
  blk_simp
  rw [after0_4]
  frame_out
  obtain ⟨r, j, rfl⟩ : ∃ (r : Fin 384) (j : Fin 1408), y = ix2 r j := ⟨y 0, y 1, (ix2_eta y).symm⟩
  have e : ((cfg0.win 4).blk t).view.emb (ix2 r j) = ix2 (row t r) (col t j) := by
    funext x; apply Fin.ext
    match x with
    | ⟨0, _⟩ => show win0_4.index t 0 * 384 + 1 * r.val = 384 * (t.val % 11) + r.val; rw [idx4]; show t.val % 11 * 384 + 1 * r.val = _; omega
    | ⟨1, _⟩ => show win0_4.index t 1 * 1408 + 1 * j.val = 1408 * (t.val / 11) + j.val; rw [idx4]; show t.val / 11 * 1408 + 1 * j.val = _; omega
  rw [e]
  exact point_up m c a ha b hb t r j

/-- The activation after the run. -/
theorem final_act (a : Vec Ideal S4224x1024 .bf16) (ha : m ((c : Thread nD τ).loc main_arg0) = a) (b : Vec Ideal S1024x5632 .bf16) (hb : m ((c : Thread nD τ).loc main_arg1) = b) :
    (dats m 0 c).arrAt 5 cfg0.N = act a b := by
  refine (dats m 0 c).arrAt_eq_of_covers 5 _ (by decide +kernel) fun t hf y => ?_
  blk_simp
  rw [after0_5]
  frame_out
  obtain ⟨r, j, rfl⟩ : ∃ (r : Fin 384) (j : Fin 1408), y = ix2 r j := ⟨y 0, y 1, (ix2_eta y).symm⟩
  have e : ((cfg0.win 5).blk t).view.emb (ix2 r j) = ix2 (row t r) (col t j) := by
    funext x; apply Fin.ext
    match x with
    | ⟨0, _⟩ => show win0_5.index t 0 * 384 + 1 * r.val = 384 * (t.val % 11) + r.val; rw [idx5]; show t.val % 11 * 384 + 1 * r.val = _; omega
    | ⟨1, _⟩ => show win0_5.index t 1 * 1408 + 1 * j.val = 1408 * (t.val / 11) + j.val; rw [idx5]; show t.val / 11 * 1408 + 1 * j.val = _; omega
  rw [e]
  exact point_act m c a ha b hb t r j

/-- The transposed activation after the run. -/
theorem final_turned (a : Vec Ideal S4224x1024 .bf16) (ha : m ((c : Thread nD τ).loc main_arg0) = a) (b : Vec Ideal S1024x5632 .bf16) (hb : m ((c : Thread nD τ).loc main_arg1) = b) :
    (dats m 0 c).arrAt 6 cfg0.N = turned a b := by
  refine (dats m 0 c).arrAt_eq_of_covers 6 _ (by decide +kernel) fun t hf y => ?_
  blk_simp
  rw [after0_6]
  frame_out
  obtain ⟨j, r, rfl⟩ : ∃ (j : Fin 1408) (r : Fin 384), y = ix2 j r := ⟨y 0, y 1, (ix2_eta y).symm⟩
  have e : ((cfg0.win 6).blk t).view.emb (ix2 j r) = ix2 (col t j) (row t r) := by
    funext x; apply Fin.ext
    match x with
    | ⟨0, _⟩ => show win0_6.index t 0 * 1408 + 1 * j.val = 1408 * (t.val / 11) + j.val; rw [idx6]; show t.val / 11 * 1408 + 1 * j.val = _; omega
    | ⟨1, _⟩ => show win0_6.index t 1 * 384 + 1 * r.val = 384 * (t.val % 11) + r.val; rw [idx6]; show t.val % 11 * 384 + 1 * r.val = _; omega
  rw [e]
  exact (part_turned _ _ _ r j).trans (point_act m c a ha b hb t r j)

open Cert.SwigluFwdRefIdeal.Read in
/-- The reference's product at an index. -/
theorem reference_dot (a : Vec Ideal S4224x1024 .bf16) (b : Vec Ideal S1024x5632 .bf16) (r : Fin 4224) (j : Fin 5632) :
    val_main_v2 (F := Ideal) a b (ix2 r j) = dot a b r j := by
  rw [val_main_v2_apply]
  refine Finset.sum_congr rfl fun k _ => ?_
  have hl : lidx_main_v2 (ix2 r j) k = ix2 r k := by
    funext x; match x with
    | ⟨0, _⟩ => rfl
    | ⟨1, _⟩ => rfl
  have hr : ridx_main_v2 (ix2 r j) k = ix2 k j := by
    funext x; match x with
    | ⟨0, _⟩ => rfl
    | ⟨1, _⟩ => rfl
  rw [hl, hr]
  rfl

open Cert.SwigluFwdRefIdeal.Read in
/-- The reference's gate. -/
theorem reference_gate (a : Vec Ideal S4224x1024 .bf16) (b : Vec Ideal S1024x5632 .bf16) :
    val_main_v3 (F := Ideal) a b = gate a b := by
  funext i
  obtain ⟨r, j, rfl⟩ : ∃ (r : Fin 4224) (j : Fin 2816), i = ix2 r j := ⟨i 0, i 1, (ix2_eta i).symm⟩
  have e : idx_main_v3 (ix2 r j) = ix2 r ⟨j.val, by omega⟩ := by
    funext x; apply Fin.ext; match x with
    | ⟨0, _⟩ => simp [idx_main_v3, ix2]
    | ⟨1, _⟩ => simp [idx_main_v3, ix2]
  exact (val_main_v3_apply a b _).trans ((congrArg _ e).trans (reference_dot a b r _))

open Cert.SwigluFwdRefIdeal.Read in
/-- The reference's other half. -/
theorem reference_up (a : Vec Ideal S4224x1024 .bf16) (b : Vec Ideal S1024x5632 .bf16) :
    val_main_v4 (F := Ideal) a b = up a b := by
  funext i
  obtain ⟨r, j, rfl⟩ : ∃ (r : Fin 4224) (j : Fin 2816), i = ix2 r j := ⟨i 0, i 1, (ix2_eta i).symm⟩
  have e : idx_main_v4 (ix2 r j) = ix2 r ⟨2816 + j.val, by omega⟩ := by
    funext x; apply Fin.ext; match x with
    | ⟨0, _⟩ => simp [idx_main_v4, ix2]
    | ⟨1, _⟩ => simp [idx_main_v4, ix2]
  exact (val_main_v4_apply a b _).trans ((congrArg _ e).trans (reference_dot a b r _))

open Cert.SwigluFwdRefIdeal.Read in
/-- The reference's activation. -/
theorem reference_act (a : Vec Ideal S4224x1024 .bf16) (b : Vec Ideal S1024x5632 .bf16) :
    val_main_v7 (F := Ideal) a b = act a b := by
  funext i
  simp only [val_main_v7_apply, val_main_v6_apply, val_main_v5_apply, val_main_call0_v5_apply, val_main_call0_v4_apply, val_main_call0_cst_0_apply,
    val_main_call0_v3_apply, val_main_call0_v2_apply, val_main_call0_cst_apply, val_main_call0_v1_apply, val_main_call0_v0_apply]
  rw [Cert.Gate.host, reference_gate, reference_up]
  rfl

open Cert.SwigluFwdRefIdeal.Read in
/-- The reference's transposed activation. -/
theorem reference_turned (a : Vec Ideal S4224x1024 .bf16) (b : Vec Ideal S1024x5632 .bf16) :
    val_main_v8 (F := Ideal) a b = turned a b := by
  funext i
  have e : idx_main_v8 i = ix2 (i 1) (i 0) := by
    funext x; match x with
    | ⟨0, _⟩ => rfl
    | ⟨1, _⟩ => rfl
  rw [val_main_v8_apply, e, reference_act]
  rfl

/-- The kernel and the reference end with equal results. -/
theorem algebraic : Cert.algebraic_SwigluFwdIdeal_SwigluFwdRefIdeal := by
  intro m g m' g' _ hagree
  refine ⟨_, _, _, _, run_blocks m g, (θ_run Cert.SwigluFwdRefIdeal.defs _ _).mono (fun r h c => ?_) (Cert.SwigluFwdRefIdeal.Value.run m' g')⟩
  obtain ⟨e0, e1⟩ := hagree c
  obtain ⟨h3, h4, h5, h6, h⟩ := h c
  refine ⟨h3.trans ?_, h4.trans ?_, h5.trans ?_, h6.trans ?_, h⟩
  · rw [e0, e1, final_gate m c _ rfl _ rfl]
    exact reference_gate _ _
  · rw [e0, e1, final_up m c _ rfl _ rfl]
    exact reference_up _ _
  · rw [e0, e1, final_act m c _ rfl _ rfl]
    exact reference_act _ _
  · rw [e0, e1, final_turned m c _ rfl _ rfl]
    exact reference_turned _ _

/-- The reference terminates without fault, its arguments unchanged and its counters, of which it has none, at zero. -/
theorem frame_reference : Cert.quiescent_SwigluFwdRefIdeal := fun m g _ =>
  (θ_run Cert.SwigluFwdRefIdeal.defs _ _).mono (fun r h => ⟨fun c => (h c).2.2.2.2, sem_eq_zero_of_no_sems (by decide) r.2⟩)
    (Cert.SwigluFwdRefIdeal.Value.run (F := Ideal) m g)

end Cert.SwigluFwdIdeal.Product

end
-- ==== Proof.BranchFwd.lean ====
module

public import proofs.«01_k».proof.Defs
public import proofs.«01_k».proof.Proof.Gate
public import proofs.«01_k».proof.Proof.Gen.BranchFwdIdeal.Value
public import proofs.«01_k».proof.Proof.Gen.BranchFwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The three branches' forward products and their merge

Each grid point computes one block of each product and from them one block of the merged array and of its transpose. -/

@[expose] public section

set_option maxRecDepth 16384

noncomputable section

open Idealize.ShloMosaic Idealize.ShloMosaic.TcCoe Idealize.SL.Sem
open Idealize.ShloMosaic.Pointwise

namespace Cert.BranchFwdIdeal.Product

open Cert.BranchFwdIdeal Cert.BranchFwdIdeal.Gen Cert.BranchFwdIdeal.Value

/-- One point's product at an element. -/
theorem part_dot (x : Vec Ideal S384x512 .bf16) (y : Vec Ideal S1x512x512 .bf16) (r : Fin 384) (j : Fin 512) :
    k0_pay4 x y (ix2 r j) = ∑ k : Fin 512, x (ix2 r k) * y (ix3 0 k j) := by pointwise [k0_pay4]

/-- The merged block at an element. -/
theorem part_merged (x0 x1 x2 : Vec Ideal S384x512 .bf16) (y0 y1 y2 : Vec Ideal S1x512x512 .bf16) (z0 z1 z2 : Vec Ideal S384x512 .f32) (r : Fin 384) (j : Fin 512) :
    k0_pay2 (k0_pay6 x0 y0 z0 x1 y1 z1) x2 y2 z2 (ix2 r j) =
      Cert.Gate.sg (z0 (ix2 r j)) * k0_pay4 x0 y0 (ix2 r j) + Cert.Gate.sg (z1 (ix2 r j)) * k0_pay4 x1 y1 (ix2 r j)
        + Cert.Gate.sg (z2 (ix2 r j)) * k0_pay4 x2 y2 (ix2 r j) := by
  rw [← Cert.Gate.kernel, ← Cert.Gate.kernel, ← Cert.Gate.kernel, ← Cert.Gate.one, ← Cert.Gate.zero]
  rfl

/-- The transposed block. -/
theorem part_turned (s : FVec Ideal S384x512 .f32) (x : Vec Ideal S384x512 .bf16) (y : Vec Ideal S1x512x512 .bf16) (z : Vec Ideal S384x512 .f32) (r : Fin 384) (j : Fin 512) :
    k0_pay3 s x y z (ix2 j r) = k0_pay2 s x y z (ix2 r j) := by pointwise [k0_pay3]

/-- The sum of two merged terms as the later results name it. -/
theorem named (x0 x1 x2 : Vec Ideal S384x512 .bf16) (x3 : Vec Ideal S3x512x512 .bf16) (x4 x5 x6 : Vec Ideal S384x512 .f32) :
    k0_pay7 x0 x1 x2 x3 x4 x5 x6 = k0_pay6 x0 (View.ld x3 r0_1) x4 x1 (View.ld x3 r0_2) x5 := by
  have e0 : View.ld x0 r0_0 = x0 := View.ld_unit_zero (by decide) _ x0
  have e1 : View.ld x1 r0_0 = x1 := View.ld_unit_zero (by decide) _ x1
  have e4 : View.ld x4 r0_0 = x4 := View.ld_unit_zero (by decide) _ x4
  have e5 : View.ld x5 r0_0 = x5 := View.ld_unit_zero (by decide) _ x5
  rw [k0_pay7, e0, e1, e4, e5]

/-- One of the three products at a row and a column. -/
def dot (a : Vec Ideal S4224x512 .bf16) (w : Vec Ideal S3x512x1024 .bf16) (g : Fin 3) (r : Fin 4224) (j : Fin 1024) : EReal :=
  ∑ k : Fin 512, a (ix2 r k) * w (ix3 g k j)

/-- One of the three products. -/
def product (a : Vec Ideal S4224x512 .bf16) (w : Vec Ideal S3x512x1024 .bf16) (g : Fin 3) : Vec Ideal S4224x1024 .f32 := fun i => dot a w g (i 0) (i 1)

/-- The logistic function of one of the three groups of gates. -/
def gate (p : Vec Ideal S4224x6656 .f32) (g : Fin 3) (r : Fin 4224) (j : Fin 1024) : EReal :=
  Cert.Gate.sg (p (ix2 r ⟨3072 + 1024 * g.val + j.val, by omega⟩))

/-- The merged array: each product times its gate, summed. -/
def merged (a b d : Vec Ideal S4224x512 .bf16) (w : Vec Ideal S3x512x1024 .bf16) (p : Vec Ideal S4224x6656 .f32) : Vec Ideal S4224x1024 .bf16 :=
  fun i => gate p 0 (i 0) (i 1) * dot a w 0 (i 0) (i 1) + gate p 1 (i 0) (i 1) * dot b w 1 (i 0) (i 1) + gate p 2 (i 0) (i 1) * dot d w 2 (i 0) (i 1)

/-- The merged array transposed. -/
def turned (a b d : Vec Ideal S4224x512 .bf16) (w : Vec Ideal S3x512x1024 .bf16) (p : Vec Ideal S4224x6656 .f32) : Vec Ideal S1024x4224 .bf16 :=
  fun i => merged a b d w p (ix2 (i 1) (i 0))

variable (m : (b : Loc nD τ sig) → Buf (Elt Ideal) b) (c : Dev nD)

/-- Which block the window of the first left factor reads. -/
theorem idx0 : ∀ t : Fin cfg0.N, win0_0.index t = ![t.val % 11, 0] := by decide +kernel
/-- Which block the window of the second left factor reads. -/
theorem idx1 : ∀ t : Fin cfg0.N, win0_1.index t = ![t.val % 11, 0] := by decide +kernel
/-- Which block the window of the third left factor reads. -/
theorem idx2 : ∀ t : Fin cfg0.N, win0_2.index t = ![t.val % 11, 0] := by decide +kernel
/-- Which block the weights' window reads. -/
theorem idx3 : ∀ t : Fin cfg0.N, win0_3.index t = ![0, 0, t.val / 11] := by decide +kernel
/-- Which block the window of the first gates reads. -/
theorem idx4 : ∀ t : Fin cfg0.N, win0_4.index t = ![t.val % 11, t.val / 11 + 6] := by decide +kernel
/-- Which block the window of the second gates reads. -/
theorem idx5 : ∀ t : Fin cfg0.N, win0_5.index t = ![t.val % 11, t.val / 11 + 8] := by decide +kernel
/-- Which block the window of the third gates reads. -/
theorem idx6 : ∀ t : Fin cfg0.N, win0_6.index t = ![t.val % 11, t.val / 11 + 10] := by decide +kernel
/-- Which block the window of a result not transposed writes. -/
theorem idx7 : ∀ t : Fin cfg0.N, win0_7.index t = ![t.val % 11, t.val / 11] := by decide +kernel
/-- Which block the transposed result's window writes. -/
theorem idx11 : ∀ t : Fin cfg0.N, win0_11.index t = ![t.val / 11, t.val % 11] := by decide +kernel

/-- A point's row of the whole arrays. -/
def row (t : Fin cfg0.N) (r : Fin 384) : Fin 4224 := ⟨384 * (t.val % 11) + r.val, by omega⟩

/-- A point's column of the whole arrays. -/
def col (t : Fin cfg0.N) (j : Fin 512) : Fin 1024 :=
  ⟨512 * (t.val / 11) + j.val, by have := t.isLt; have : cfg0.N = 22 := N_0; omega⟩

/-- A load of the first matrix of a block of weights. -/
theorem slab0 (x : Vec Ideal S3x512x512 .bf16) (k j : Fin 512) :
    (View.ld x r0_1 : Vec Ideal S1x512x512 .bf16) (ix3 0 k j) = x (ix3 0 k j) := by
  refine congrArg x (funext fun a => Fin.ext ?_)
  match a with
  | ⟨0, _⟩ => rfl
  | ⟨1, _⟩ => show 0 + 1 * k.val = k.val; omega
  | ⟨2, _⟩ => show 0 + 1 * j.val = j.val; omega

/-- What a point computes of the first product. -/
theorem point_dot0 (a : Vec Ideal S4224x512 .bf16) (ha : m ((c : Thread nD τ).loc main_arg0) = a) (w : Vec Ideal S3x512x1024 .bf16) (hw : m ((c : Thread nD τ).loc main_arg3) = w)
    (t : Fin cfg0.N) (r : Fin 384) (j : Fin 512) :
    k0_pay4 (iblk m c 0 t) (View.ld (iblk m c 3 t) r0_1) (ix2 r j) = dot a w 0 (row t r) (col t j) := by
  rw [part_dot]
  refine Finset.sum_congr rfl fun k _ => ?_
  rw [slab0, ← ha, ← hw, ← V_main_arg0 m c, ← V_main_arg3 m c]
  congr 1
  · blk_ext [iblk, idx0 t, row]
  · blk_ext [iblk, idx3 t, col]

/-- What a point reads of the first gates. -/
theorem point_z0 (p : Vec Ideal S4224x6656 .f32) (hp : m ((c : Thread nD τ).loc main_arg4) = p) (t : Fin cfg0.N) (r : Fin 384) (j : Fin 512) :
    Cert.Gate.sg ((iblk m c 4 t : Vec Ideal S384x512 .f32) (ix2 r j)) = gate p 0 (row t r) (col t j) := by
  refine congrArg Cert.Gate.sg ?_
  rw [← hp, ← V_main_arg4 m c]
  blk_ext [iblk, idx4 t, row, col]

/-- A load of the second matrix of a block of weights. -/
theorem slab1 (x : Vec Ideal S3x512x512 .bf16) (k j : Fin 512) :
    (View.ld x r0_2 : Vec Ideal S1x512x512 .bf16) (ix3 0 k j) = x (ix3 1 k j) := by
  refine congrArg x (funext fun a => Fin.ext ?_)
  match a with
  | ⟨0, _⟩ => rfl
  | ⟨1, _⟩ => show 0 + 1 * k.val = k.val; omega
  | ⟨2, _⟩ => show 0 + 1 * j.val = j.val; omega

/-- What a point computes of the second product. -/
theorem point_dot1 (a : Vec Ideal S4224x512 .bf16) (ha : m ((c : Thread nD τ).loc main_arg1) = a) (w : Vec Ideal S3x512x1024 .bf16) (hw : m ((c : Thread nD τ).loc main_arg3) = w)
    (t : Fin cfg0.N) (r : Fin 384) (j : Fin 512) :
    k0_pay4 (iblk m c 1 t) (View.ld (iblk m c 3 t) r0_2) (ix2 r j) = dot a w 1 (row t r) (col t j) := by
  rw [part_dot]
  refine Finset.sum_congr rfl fun k _ => ?_
  rw [slab1, ← ha, ← hw, ← V_main_arg1 m c, ← V_main_arg3 m c]
  congr 1
  · blk_ext [iblk, idx1 t, row]
  · blk_ext [iblk, idx3 t, col]

/-- What a point reads of the second gates. -/
theorem point_z1 (p : Vec Ideal S4224x6656 .f32) (hp : m ((c : Thread nD τ).loc main_arg4) = p) (t : Fin cfg0.N) (r : Fin 384) (j : Fin 512) :
    Cert.Gate.sg ((iblk m c 5 t : Vec Ideal S384x512 .f32) (ix2 r j)) = gate p 1 (row t r) (col t j) := by
  refine congrArg Cert.Gate.sg ?_
  rw [← hp, ← V_main_arg4 m c]
  blk_ext [iblk, idx5 t, row, col]

/-- A load of the third matrix of a block of weights. -/
theorem slab2 (x : Vec Ideal S3x512x512 .bf16) (k j : Fin 512) :
    (View.ld x r0_3 : Vec Ideal S1x512x512 .bf16) (ix3 0 k j) = x (ix3 2 k j) := by
  refine congrArg x (funext fun a => Fin.ext ?_)
  match a with
  | ⟨0, _⟩ => rfl
  | ⟨1, _⟩ => show 0 + 1 * k.val = k.val; omega
  | ⟨2, _⟩ => show 0 + 1 * j.val = j.val; omega

/-- What a point computes of the third product. -/
theorem point_dot2 (a : Vec Ideal S4224x512 .bf16) (ha : m ((c : Thread nD τ).loc main_arg2) = a) (w : Vec Ideal S3x512x1024 .bf16) (hw : m ((c : Thread nD τ).loc main_arg3) = w)
    (t : Fin cfg0.N) (r : Fin 384) (j : Fin 512) :
    k0_pay4 (iblk m c 2 t) (View.ld (iblk m c 3 t) r0_3) (ix2 r j) = dot a w 2 (row t r) (col t j) := by
  rw [part_dot]
  refine Finset.sum_congr rfl fun k _ => ?_
  rw [slab2, ← ha, ← hw, ← V_main_arg2 m c, ← V_main_arg3 m c]
  congr 1
  · blk_ext [iblk, idx2 t, row]
  · blk_ext [iblk, idx3 t, col]

/-- What a point reads of the third gates. -/
theorem point_z2 (p : Vec Ideal S4224x6656 .f32) (hp : m ((c : Thread nD τ).loc main_arg4) = p) (t : Fin cfg0.N) (r : Fin 384) (j : Fin 512) :
    Cert.Gate.sg ((iblk m c 6 t : Vec Ideal S384x512 .f32) (ix2 r j)) = gate p 2 (row t r) (col t j) := by
  refine congrArg Cert.Gate.sg ?_
  rw [← hp, ← V_main_arg4 m c]
  blk_ext [iblk, idx6 t, row, col]

/-- Where the window of a result not transposed puts an element. -/
theorem emb (t : Fin cfg0.N) (r : Fin 384) (j : Fin 512) : ((cfg0.win 7).blk t).view.emb (ix2 r j) = ix2 (row t r) (col t j) := by
  funext x; apply Fin.ext
  match x with
  | ⟨0, _⟩ => show win0_7.index t 0 * 384 + 1 * r.val = 384 * (t.val % 11) + r.val; rw [idx7]; show t.val % 11 * 384 + 1 * r.val = _; omega
  | ⟨1, _⟩ => show win0_7.index t 1 * 512 + 1 * j.val = 512 * (t.val / 11) + j.val; rw [idx7]; show t.val / 11 * 512 + 1 * j.val = _; omega

/-- Where the transposed result's window puts an element. -/
theorem emb_turned (t : Fin cfg0.N) (r : Fin 384) (j : Fin 512) : ((cfg0.win 11).blk t).view.emb (ix2 j r) = ix2 (col t j) (row t r) := by
  funext x; apply Fin.ext
  match x with
  | ⟨0, _⟩ => show win0_11.index t 0 * 512 + 1 * j.val = 512 * (t.val / 11) + j.val; rw [idx11]; show t.val / 11 * 512 + 1 * j.val = _; omega
  | ⟨1, _⟩ => show win0_11.index t 1 * 384 + 1 * r.val = 384 * (t.val % 11) + r.val; rw [idx11]; show t.val % 11 * 384 + 1 * r.val = _; omega

/-- The first product after the run. -/
theorem final0 (a : Vec Ideal S4224x512 .bf16) (ha : m ((c : Thread nD τ).loc main_arg0) = a) (w : Vec Ideal S3x512x1024 .bf16) (hw : m ((c : Thread nD τ).loc main_arg3) = w) :
    (dats m 0 c).arrAt 7 cfg0.N = product a w 0 := by
  refine (dats m 0 c).arrAt_eq_of_covers 7 _ (by decide +kernel) fun t hf y => ?_
  blk_simp
  rw [after0_7]
  frame_out
  obtain ⟨r, j, rfl⟩ : ∃ (r : Fin 384) (j : Fin 512), y = ix2 r j := ⟨y 0, y 1, (ix2_eta y).symm⟩
  refine Eq.trans ?_ (congrArg (product a w 0) (emb t r j)).symm
  exact point_dot0 m c a ha w hw t r j

/-- The second product after the run. -/
theorem final1 (a : Vec Ideal S4224x512 .bf16) (ha : m ((c : Thread nD τ).loc main_arg1) = a) (w : Vec Ideal S3x512x1024 .bf16) (hw : m ((c : Thread nD τ).loc main_arg3) = w) :
    (dats m 0 c).arrAt 8 cfg0.N = product a w 1 := by
  refine (dats m 0 c).arrAt_eq_of_covers 8 _ (by decide +kernel) fun t hf y => ?_
  blk_simp
  rw [after0_8]
  frame_out
  obtain ⟨r, j, rfl⟩ : ∃ (r : Fin 384) (j : Fin 512), y = ix2 r j := ⟨y 0, y 1, (ix2_eta y).symm⟩
  refine Eq.trans ?_ (congrArg (product a w 1) (emb t r j)).symm
  exact point_dot1 m c a ha w hw t r j

/-- The third product after the run. -/
theorem final2 (a : Vec Ideal S4224x512 .bf16) (ha : m ((c : Thread nD τ).loc main_arg2) = a) (w : Vec Ideal S3x512x1024 .bf16) (hw : m ((c : Thread nD τ).loc main_arg3) = w) :
    (dats m 0 c).arrAt 9 cfg0.N = product a w 2 := by
  refine (dats m 0 c).arrAt_eq_of_covers 9 _ (by decide +kernel) fun t hf y => ?_
  blk_simp
  rw [after0_9]
  frame_out
  obtain ⟨r, j, rfl⟩ : ∃ (r : Fin 384) (j : Fin 512), y = ix2 r j := ⟨y 0, y 1, (ix2_eta y).symm⟩
  refine Eq.trans ?_ (congrArg (product a w 2) (emb t r j)).symm
  exact point_dot2 m c a ha w hw t r j

/-- What a point leaves of the merged array. -/
theorem point_merged (a : Vec Ideal S4224x512 .bf16) (ha : m ((c : Thread nD τ).loc main_arg0) = a) (b : Vec Ideal S4224x512 .bf16) (hb : m ((c : Thread nD τ).loc main_arg1) = b)
    (d : Vec Ideal S4224x512 .bf16) (hd : m ((c : Thread nD τ).loc main_arg2) = d) (w : Vec Ideal S3x512x1024 .bf16) (hw : m ((c : Thread nD τ).loc main_arg3) = w)
    (p : Vec Ideal S4224x6656 .f32) (hp : m ((c : Thread nD τ).loc main_arg4) = p)
    (t : Fin cfg0.N) (r : Fin 384) (j : Fin 512) :
    k0_pay2 (k0_pay6 (iblk m c 0 t) (View.ld (iblk m c 3 t) r0_1) (iblk m c 4 t) (iblk m c 1 t) (View.ld (iblk m c 3 t) r0_2) (iblk m c 5 t))
      (iblk m c 2 t) (View.ld (iblk m c 3 t) r0_3) (iblk m c 6 t) (ix2 r j) = merged a b d w p (ix2 (row t r) (col t j)) := by
  refine (part_merged (iblk m c 0 t) (iblk m c 1 t) (iblk m c 2 t) (View.ld (iblk m c 3 t) r0_1) (View.ld (iblk m c 3 t) r0_2) (View.ld (iblk m c 3 t) r0_3)
    (iblk m c 4 t) (iblk m c 5 t) (iblk m c 6 t) r j).trans ?_
  rw [point_dot0 m c a ha w hw, point_dot1 m c b hb w hw, point_dot2 m c d hd w hw, point_z0 m c p hp, point_z1 m c p hp, point_z2 m c p hp]
  rfl

/-- The merged array after the run. -/
theorem final_merged (a : Vec Ideal S4224x512 .bf16) (ha : m ((c : Thread nD τ).loc main_arg0) = a) (b : Vec Ideal S4224x512 .bf16) (hb : m ((c : Thread nD τ).loc main_arg1) = b)
    (d : Vec Ideal S4224x512 .bf16) (hd : m ((c : Thread nD τ).loc main_arg2) = d) (w : Vec Ideal S3x512x1024 .bf16) (hw : m ((c : Thread nD τ).loc main_arg3) = w)
    (p : Vec Ideal S4224x6656 .f32) (hp : m ((c : Thread nD τ).loc main_arg4) = p) :
    (dats m 0 c).arrAt 10 cfg0.N = merged a b d w p := by
  refine (dats m 0 c).arrAt_eq_of_covers 10 _ (by decide +kernel) fun t hf y => ?_
  blk_simp
  rw [after0_10]
  frame_out
  rw [named]
  obtain ⟨r, j, rfl⟩ : ∃ (r : Fin 384) (j : Fin 512), y = ix2 r j := ⟨y 0, y 1, (ix2_eta y).symm⟩
  refine Eq.trans ?_ (congrArg (merged a b d w p) (emb t r j)).symm
  exact point_merged m c a ha b hb d hd w hw p hp t r j

/-- The transposed merged array after the run. -/
theorem final_turned (a : Vec Ideal S4224x512 .bf16) (ha : m ((c : Thread nD τ).loc main_arg0) = a) (b : Vec Ideal S4224x512 .bf16) (hb : m ((c : Thread nD τ).loc main_arg1) = b)
    (d : Vec Ideal S4224x512 .bf16) (hd : m ((c : Thread nD τ).loc main_arg2) = d) (w : Vec Ideal S3x512x1024 .bf16) (hw : m ((c : Thread nD τ).loc main_arg3) = w)
    (p : Vec Ideal S4224x6656 .f32) (hp : m ((c : Thread nD τ).loc main_arg4) = p) :
    (dats m 0 c).arrAt 11 cfg0.N = turned a b d w p := by
  refine (dats m 0 c).arrAt_eq_of_covers 11 _ (by decide +kernel) fun t hf y => ?_
  blk_simp
  rw [after0_11]
  frame_out
  rw [named]
  obtain ⟨j, r, rfl⟩ : ∃ (j : Fin 512) (r : Fin 384), y = ix2 j r := ⟨y 0, y 1, (ix2_eta y).symm⟩
  refine Eq.trans ?_ (congrArg (turned a b d w p) (emb_turned t r j)).symm
  exact (part_turned _ _ _ _ r j).trans (point_merged m c a ha b hb d hd w hw p hp t r j)

section

open Cert.BranchFwdRefIdeal.Read

/-- The reference's first product. -/
theorem reference0 (a : Vec Ideal S4224x512 .bf16) (w : Vec Ideal S3x512x1024 .bf16) (r : Fin 4224) (j : Fin 1024) :
    val_main_v4 (F := Ideal) a w (ix2 r j) = dot a w 0 r j := by
  rw [val_main_v4_apply]
  refine Finset.sum_congr rfl fun k _ => ?_
  have hl : lidx_main_v4 (ix2 r j) k = ix2 r k := by
    funext x; match x with
    | ⟨0, _⟩ => rfl
    | ⟨1, _⟩ => rfl
  have hr : idx_main_v1 (idx_main_v2 (ridx_main_v4 (ix2 r j) k)) = ix3 0 k j := by
    funext x; apply Fin.ext; match x with
    | ⟨0, _⟩ => rfl
    | ⟨1, _⟩ => show (k.val * 1024 + j.val) / 1024 % 512 = k.val; omega
    | ⟨2, _⟩ => show (k.val * 1024 + j.val) % 1024 = j.val; omega
  rw [hl, val_main_v3_apply, val_main_v2_apply, val_main_v1_apply, hr]
  rfl

/-- The reference's second product. -/
theorem reference1 (a : Vec Ideal S4224x512 .bf16) (w : Vec Ideal S3x512x1024 .bf16) (r : Fin 4224) (j : Fin 1024) :
    val_main_v9 (F := Ideal) a w (ix2 r j) = dot a w 1 r j := by
  rw [val_main_v9_apply]
  refine Finset.sum_congr rfl fun k _ => ?_
  have hl : lidx_main_v9 (ix2 r j) k = ix2 r k := by
    funext x; match x with
    | ⟨0, _⟩ => rfl
    | ⟨1, _⟩ => rfl
  have hr : idx_main_v6 (idx_main_v7 (ridx_main_v9 (ix2 r j) k)) = ix3 1 k j := by
    funext x; apply Fin.ext; match x with
    | ⟨0, _⟩ => rfl
    | ⟨1, _⟩ => show (k.val * 1024 + j.val) / 1024 % 512 = k.val; omega
    | ⟨2, _⟩ => show (k.val * 1024 + j.val) % 1024 = j.val; omega
  rw [hl, val_main_v8_apply, val_main_v7_apply, val_main_v6_apply, hr]
  rfl

/-- The reference's third product. -/
theorem reference2 (a : Vec Ideal S4224x512 .bf16) (w : Vec Ideal S3x512x1024 .bf16) (r : Fin 4224) (j : Fin 1024) :
    val_main_v14 (F := Ideal) a w (ix2 r j) = dot a w 2 r j := by
  rw [val_main_v14_apply]
  refine Finset.sum_congr rfl fun k _ => ?_
  have hl : lidx_main_v14 (ix2 r j) k = ix2 r k := by
    funext x; match x with
    | ⟨0, _⟩ => rfl
    | ⟨1, _⟩ => rfl
  have hr : idx_main_v11 (idx_main_v12 (ridx_main_v14 (ix2 r j) k)) = ix3 2 k j := by
    funext x; apply Fin.ext; match x with
    | ⟨0, _⟩ => rfl
    | ⟨1, _⟩ => show (k.val * 1024 + j.val) / 1024 % 512 = k.val; omega
    | ⟨2, _⟩ => show (k.val * 1024 + j.val) % 1024 = j.val; omega
  rw [hl, val_main_v13_apply, val_main_v12_apply, val_main_v11_apply, hr]
  rfl

/-- The reference's logistic function of the first gates. -/
theorem reference_gate0 (p : Vec Ideal S4224x6656 .f32) (r : Fin 4224) (j : Fin 1024) :
    val_main_v23 (F := Ideal) p (ix2 r j) = gate p 0 r j := by
  have e : idx_main_v15 (ix2 r j) = ix2 r ⟨3072 + 1024 * ((0 : Fin 3) : ℕ) + j.val, by have := j.isLt; omega⟩ := by
    funext x; apply Fin.ext; match x with
    | ⟨0, _⟩ => simp [idx_main_v15, ix2]
    | ⟨1, _⟩ => simp [idx_main_v15, ix2]
  simp only [val_main_v23_apply, val_main_v22_apply, val_main_cst_0_apply, val_main_v21_apply, val_main_v20_apply, val_main_cst_apply, val_main_v19_apply, val_main_v18_apply]
  exact (Cert.Gate.host _).trans (congrArg Cert.Gate.sg ((val_main_v15_apply p _).trans (congrArg p e)))

/-- The reference's logistic function of the second gates. -/
theorem reference_gate1 (p : Vec Ideal S4224x6656 .f32) (r : Fin 4224) (j : Fin 1024) :
    val_main_v32 (F := Ideal) p (ix2 r j) = gate p 1 r j := by
  have e : idx_main_v16 (ix2 r j) = ix2 r ⟨3072 + 1024 * ((1 : Fin 3) : ℕ) + j.val, by have := j.isLt; omega⟩ := by
    funext x; apply Fin.ext; match x with
    | ⟨0, _⟩ => simp [idx_main_v16, ix2]
    | ⟨1, _⟩ => simp [idx_main_v16, ix2]
  simp only [val_main_v32_apply, val_main_v31_apply, val_main_cst_3_apply, val_main_v30_apply, val_main_v29_apply, val_main_cst_2_apply, val_main_v28_apply, val_main_v27_apply]
  exact (Cert.Gate.host _).trans (congrArg Cert.Gate.sg ((val_main_v16_apply p _).trans (congrArg p e)))

/-- The reference's logistic function of the third gates. -/
theorem reference_gate2 (p : Vec Ideal S4224x6656 .f32) (r : Fin 4224) (j : Fin 1024) :
    val_main_v40 (F := Ideal) p (ix2 r j) = gate p 2 r j := by
  have e : idx_main_v17 (ix2 r j) = ix2 r ⟨3072 + 1024 * ((2 : Fin 3) : ℕ) + j.val, by have := j.isLt; omega⟩ := by
    funext x; apply Fin.ext; match x with
    | ⟨0, _⟩ => simp [idx_main_v17, ix2]
    | ⟨1, _⟩ => simp [idx_main_v17, ix2]
  simp only [val_main_v40_apply, val_main_v39_apply, val_main_cst_5_apply, val_main_v38_apply, val_main_v37_apply, val_main_cst_4_apply, val_main_v36_apply, val_main_v35_apply]
  exact (Cert.Gate.host _).trans (congrArg Cert.Gate.sg ((val_main_v17_apply p _).trans (congrArg p e)))

/-- The reference's merged array, whose sum starts at zero. -/
theorem reference_merged (a b d : Vec Ideal S4224x512 .bf16) (w : Vec Ideal S3x512x1024 .bf16) (p : Vec Ideal S4224x6656 .f32) :
    val_main_v43 (F := Ideal) a b d w p = merged a b d w p := by
  funext i
  obtain ⟨r, j, rfl⟩ : ∃ (r : Fin 4224) (j : Fin 1024), i = ix2 r j := ⟨i 0, i 1, (ix2_eta i).symm⟩
  have h0 := reference0 a w r j
  have h1 := reference1 b w r j
  have h2 := reference2 d w r j
  have g0 := reference_gate0 p r j
  have g1 := reference_gate1 p r j
  have g2 := reference_gate2 p r j
  simp only [val_main_v43_apply, val_main_v42_apply, val_main_v41_apply, val_main_v34_apply, val_main_v33_apply, val_main_v26_apply,
    val_main_v25_apply, val_main_cst_1_apply, val_main_v24_apply]
  rw [h0, h1, h2, g0, g1, g2, Cert.Gate.zero]
  exact congrArg (· + gate p 1 r j * dot b w 1 r j + gate p 2 r j * dot d w 2 r j) (zero_add (gate p 0 r j * dot a w 0 r j))

/-- The reference's transposed merged array. -/
theorem reference_turned (a b d : Vec Ideal S4224x512 .bf16) (w : Vec Ideal S3x512x1024 .bf16) (p : Vec Ideal S4224x6656 .f32) :
    val_main_v44 (F := Ideal) a b d w p = turned a b d w p := by
  funext i
  have e : idx_main_v44 i = ix2 (i 1) (i 0) := by
    funext x; match x with
    | ⟨0, _⟩ => rfl
    | ⟨1, _⟩ => rfl
  rw [val_main_v44_apply, e, reference_merged]
  rfl

end

/-- The kernel and the reference end with equal results. -/
theorem algebraic : Cert.algebraic_BranchFwdIdeal_BranchFwdRefIdeal := by
  intro m g m' g' _ hagree
  refine ⟨_, _, _, _, _, run_blocks m g, (θ_run Cert.BranchFwdRefIdeal.defs _ _).mono (fun r h c => ?_) (Cert.BranchFwdRefIdeal.Value.run m' g')⟩
  obtain ⟨e0, e1, e2, e3, e4⟩ := hagree c
  obtain ⟨h0, h1, h2, h3, h4, h⟩ := h c
  refine ⟨h0.trans ?_, h1.trans ?_, h2.trans ?_, h3.trans ?_, h4.trans ?_, h⟩
  · rw [e0, e3, final0 m c _ rfl _ rfl]
    exact funext fun i => (congrArg _ (ix2_eta i).symm).trans (reference0 _ _ (i 0) (i 1))
  · rw [e1, e3, final1 m c _ rfl _ rfl]
    exact funext fun i => (congrArg _ (ix2_eta i).symm).trans (reference1 _ _ (i 0) (i 1))
  · rw [e2, e3, final2 m c _ rfl _ rfl]
    exact funext fun i => (congrArg _ (ix2_eta i).symm).trans (reference2 _ _ (i 0) (i 1))
  · rw [e0, e1, e2, e3, e4, final_merged m c _ rfl _ rfl _ rfl _ rfl _ rfl]
    exact reference_merged _ _ _ _ _
  · rw [e0, e1, e2, e3, e4, final_turned m c _ rfl _ rfl _ rfl _ rfl _ rfl]
    exact reference_turned _ _ _ _ _

/-- The reference terminates without fault, its arguments unchanged and its counters, of which it has none, at zero. -/
theorem frame_reference : Cert.quiescent_BranchFwdRefIdeal := fun m g _ =>
  (θ_run Cert.BranchFwdRefIdeal.defs _ _).mono (fun r h => ⟨fun c => (h c).2.2.2.2.2, sem_eq_zero_of_no_sems (by decide) r.2⟩)
    (Cert.BranchFwdRefIdeal.Value.run (F := Ideal) m g)

end Cert.BranchFwdIdeal.Product

end
-- ==== Proof.SwigluBwd.lean ====
module

public import proofs.«01_k».proof.Defs
public import proofs.«01_k».proof.Proof.Gate
public import proofs.«01_k».proof.Proof.Finite
public import proofs.«01_k».proof.Proof.Gen.Pre_finite_factors
public import proofs.«01_k».proof.Proof.Gen.SwigluBwdIdeal.Value
public import proofs.«01_k».proof.Proof.Gen.SwigluBwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The gradients at the two halves of the feed-forward product

Each grid point computes one block of the gradient at the activation and from it one block of each result. -/

@[expose] public section

set_option maxRecDepth 16384

noncomputable section

open Idealize.ShloMosaic Idealize.ShloMosaic.TcCoe Idealize.SL.Sem
open Idealize.ShloMosaic.Pointwise

namespace Cert.SwigluBwdIdeal.Product

open Cert.SwigluBwdIdeal Cert.SwigluBwdIdeal.Gen Cert.SwigluBwdIdeal.Value

/-- The activation's gradient at an element of a block. -/
theorem part_dot (x : Vec Ideal S384x1024 .bf16) (y : Vec Ideal S1408x1024 .bf16) (r : Fin 384) (j : Fin 1408) :
    k0_pay1 x y (ix2 r j) = ∑ k : Fin 1024, x (ix2 r k) * y (ix2 j k) := by pointwise [k0_pay1]

/-- The logistic function of a block of gates. -/
theorem part_sg (z : Vec Ideal S384x1408 .f32) (r : Fin 384) (j : Fin 1408) :
    k0_pay2 z (ix2 r j) = Cert.Gate.sg (z (ix2 r j)) := by
  rw [← Cert.Gate.kernel]
  pointwise [k0_pay2]

/-- A block of the gate's gradient at an element. -/
theorem part_gate (x : Vec Ideal S384x1024 .bf16) (y : Vec Ideal S1408x1024 .bf16) (z u : Vec Ideal S384x1408 .f32) (r : Fin 384) (j : Fin 1408) :
    k0_pay3 x y z u (ix2 r j) = k0_pay1 x y (ix2 r j) * u (ix2 r j)
      * (k0_pay2 z (ix2 r j) + z (ix2 r j) * k0_pay2 z (ix2 r j) * (1 - k0_pay2 z (ix2 r j))) := by
  rw [← Cert.Gate.one]
  rfl

/-- A block of the other half's gradient at an element. -/
theorem part_up (x : Vec Ideal S384x1024 .bf16) (y : Vec Ideal S1408x1024 .bf16) (z : Vec Ideal S384x1408 .f32) (r : Fin 384) (j : Fin 1408) :
    k0_pay4 x y z (ix2 r j) = k0_pay1 x y (ix2 r j) * z (ix2 r j) * k0_pay2 z (ix2 r j) := rfl

/-- The gradient at the activation: the first argument times the second transposed. -/
def dot (a : Vec Ideal S4224x1024 .bf16) (b : Vec Ideal S2816x1024 .bf16) (r : Fin 4224) (j : Fin 2816) : EReal :=
  ∑ k : Fin 1024, a (ix2 r k) * b (ix2 j k)

/-- The gradient at the gate. -/
def dgate (a : Vec Ideal S4224x1024 .bf16) (b : Vec Ideal S2816x1024 .bf16) (z u : Vec Ideal S4224x2816 .f32) : Vec Ideal S4224x2816 .bf16 :=
  fun i => dot a b (i 0) (i 1) * u i * (Cert.Gate.sg (z i) + z i * Cert.Gate.sg (z i) * (1 - Cert.Gate.sg (z i)))

/-- The gradient at the other half. -/
def dup (a : Vec Ideal S4224x1024 .bf16) (b : Vec Ideal S2816x1024 .bf16) (z : Vec Ideal S4224x2816 .f32) : Vec Ideal S4224x2816 .bf16 :=
  fun i => dot a b (i 0) (i 1) * z i * Cert.Gate.sg (z i)

variable (m : (b : Loc nD τ sig) → Buf (Elt Ideal) b) (c : Dev nD)

/-- Which block the left factor's window reads. -/
theorem idx0 : ∀ t : Fin cfg0.N, win0_0.index t = ![t.val % 11, 0] := by decide +kernel
/-- Which block the weights' window reads. -/
theorem idx1 : ∀ t : Fin cfg0.N, win0_1.index t = ![t.val / 11, 0] := by decide +kernel
/-- Which block the gate's window reads. -/
theorem idx2 : ∀ t : Fin cfg0.N, win0_2.index t = ![t.val % 11, t.val / 11] := by decide +kernel
/-- Which block the other half's window reads. -/
theorem idx3 : ∀ t : Fin cfg0.N, win0_3.index t = ![t.val % 11, t.val / 11] := by decide +kernel
/-- Which block the window of the gate's gradient writes. -/
theorem idx4 : ∀ t : Fin cfg0.N, win0_4.index t = ![t.val % 11, t.val / 11] := by decide +kernel
/-- Which block the window of the other gradient writes. -/
theorem idx5 : ∀ t : Fin cfg0.N, win0_5.index t = ![t.val % 11, t.val / 11] := by decide +kernel

/-- A point's row of the whole arrays. -/
def row (t : Fin cfg0.N) (r : Fin 384) : Fin 4224 := ⟨384 * (t.val % 11) + r.val, by omega⟩

/-- A point's column of the whole arrays. -/
def col (t : Fin cfg0.N) (j : Fin 1408) : Fin 2816 :=
  ⟨1408 * (t.val / 11) + j.val, by have := t.isLt; have : cfg0.N = 22 := N_0; omega⟩

/-- What a point computes of the activation's gradient. -/
theorem point_dot (a : Vec Ideal S4224x1024 .bf16) (ha : m ((c : Thread nD τ).loc main_arg0) = a) (b : Vec Ideal S2816x1024 .bf16) (hb : m ((c : Thread nD τ).loc main_arg1) = b)
    (t : Fin cfg0.N) (r : Fin 384) (j : Fin 1408) :
    k0_pay1 (iblk m c 0 t) (iblk m c 1 t) (ix2 r j) = dot a b (row t r) (col t j) := by
  rw [part_dot]
  refine Finset.sum_congr rfl fun k _ => ?_
  rw [← ha, ← hb, ← V_main_arg0 m c, ← V_main_arg1 m c]
  congr 1
  · blk_ext [iblk, idx0 t, row]
  · blk_ext [iblk, idx1 t, col]

/-- What a point reads of the gate. -/
theorem point_z (z : Vec Ideal S4224x2816 .f32) (hz : m ((c : Thread nD τ).loc main_arg2) = z) (t : Fin cfg0.N) (r : Fin 384) (j : Fin 1408) :
    (iblk m c 2 t : Vec Ideal S384x1408 .f32) (ix2 r j) = z (ix2 (row t r) (col t j)) := by
  rw [← hz, ← V_main_arg2 m c]
  blk_ext [iblk, idx2 t, row, col]

/-- What a point reads of the other half. -/
theorem point_u (u : Vec Ideal S4224x2816 .f32) (hu : m ((c : Thread nD τ).loc main_arg3) = u) (t : Fin cfg0.N) (r : Fin 384) (j : Fin 1408) :
    (iblk m c 3 t : Vec Ideal S384x1408 .f32) (ix2 r j) = u (ix2 (row t r) (col t j)) := by
  rw [← hu, ← V_main_arg3 m c]
  blk_ext [iblk, idx3 t, row, col]

/-- The gate's gradient after the run. -/
theorem final_dgate (a : Vec Ideal S4224x1024 .bf16) (ha : m ((c : Thread nD τ).loc main_arg0) = a) (b : Vec Ideal S2816x1024 .bf16) (hb : m ((c : Thread nD τ).loc main_arg1) = b)
    (z : Vec Ideal S4224x2816 .f32) (hz : m ((c : Thread nD τ).loc main_arg2) = z) (u : Vec Ideal S4224x2816 .f32) (hu : m ((c : Thread nD τ).loc main_arg3) = u) :
    (dats m 0 c).arrAt 4 cfg0.N = dgate a b z u := by
  refine (dats m 0 c).arrAt_eq_of_covers 4 _ (by decide +kernel) fun t hf y => ?_
  blk_simp
  rw [after0_4]
  frame_out
  obtain ⟨r, j, rfl⟩ : ∃ (r : Fin 384) (j : Fin 1408), y = ix2 r j := ⟨y 0, y 1, (ix2_eta y).symm⟩
  have e : ((cfg0.win 4).blk t).view.emb (ix2 r j) = ix2 (row t r) (col t j) := by
    funext x; apply Fin.ext
    match x with
    | ⟨0, _⟩ => show win0_4.index t 0 * 384 + 1 * r.val = 384 * (t.val % 11) + r.val; rw [idx4]; show t.val % 11 * 384 + 1 * r.val = _; omega
    | ⟨1, _⟩ => show win0_4.index t 1 * 1408 + 1 * j.val = 1408 * (t.val / 11) + j.val; rw [idx4]; show t.val / 11 * 1408 + 1 * j.val = _; omega
  rw [e]
  refine (part_gate _ _ _ _ r j).trans ?_
  rw [part_sg, point_dot m c a ha b hb, point_z m c z hz, point_u m c u hu]
  rfl

/-- The other half's gradient after the run. -/
theorem final_dup (a : Vec Ideal S4224x1024 .bf16) (ha : m ((c : Thread nD τ).loc main_arg0) = a) (b : Vec Ideal S2816x1024 .bf16) (hb : m ((c : Thread nD τ).loc main_arg1) = b)
    (z : Vec Ideal S4224x2816 .f32) (hz : m ((c : Thread nD τ).loc main_arg2) = z) :
    (dats m 0 c).arrAt 5 cfg0.N = dup a b z := by
  refine (dats m 0 c).arrAt_eq_of_covers 5 _ (by decide +kernel) fun t hf y => ?_
  blk_simp
  rw [after0_5]
  frame_out
  obtain ⟨r, j, rfl⟩ : ∃ (r : Fin 384) (j : Fin 1408), y = ix2 r j := ⟨y 0, y 1, (ix2_eta y).symm⟩
  have e : ((cfg0.win 5).blk t).view.emb (ix2 r j) = ix2 (row t r) (col t j) := by
    funext x; apply Fin.ext
    match x with
    | ⟨0, _⟩ => show win0_5.index t 0 * 384 + 1 * r.val = 384 * (t.val % 11) + r.val; rw [idx5]; show t.val % 11 * 384 + 1 * r.val = _; omega
    | ⟨1, _⟩ => show win0_5.index t 1 * 1408 + 1 * j.val = 1408 * (t.val / 11) + j.val; rw [idx5]; show t.val / 11 * 1408 + 1 * j.val = _; omega
  rw [e]
  refine (part_up _ _ _ r j).trans ?_
  rw [part_sg, point_dot m c a ha b hb, point_z m c z hz]
  rfl

open Cert.SwigluBwdRefIdeal.Read in
/-- The reference's gradient at the activation. -/
theorem reference_dot (a : Vec Ideal S4224x1024 .bf16) (b : Vec Ideal S2816x1024 .bf16) (r : Fin 4224) (j : Fin 2816) :
    val_main_v5 (F := Ideal) a b (ix2 r j) = dot a b r j := by
  rw [val_main_v5_apply]
  refine Finset.sum_congr rfl fun k _ => ?_
  have hl : lidx_main_v5 (ix2 r j) k = ix2 r k := by
    funext x; match x with
    | ⟨0, _⟩ => rfl
    | ⟨1, _⟩ => rfl
  have hr : ridx_main_v5 (ix2 r j) k = ix2 j k := by
    funext x; match x with
    | ⟨0, _⟩ => rfl
    | ⟨1, _⟩ => rfl
  rw [hl, hr]
  rfl

open Cert.SwigluBwdRefIdeal.Read in
/-- The reference's logistic function of the gate. -/
theorem reference_sg (z : Vec Ideal S4224x2816 .f32) (i : S4224x2816.Idx) :
    val_main_v1_2 (F := Ideal) z i = Cert.Gate.sg (z i) := by
  simp only [val_main_v1_2_apply, val_main_call0_v4_apply, val_main_call0_cst_0_apply, val_main_call0_v3_apply, val_main_call0_v2_apply,
    val_main_call0_cst_apply, val_main_call0_v1_apply, val_main_call0_v0_apply]
  exact Cert.Gate.host _

/-- A sum of products of real numbers is a real number. -/
theorem dot_real (a : Vec Ideal S4224x1024 .bf16) (b : Vec Ideal S2816x1024 .bf16) (ra : ∀ j, ∃ y : ℝ, (a j : EReal) = y) (rb : ∀ j, ∃ y : ℝ, (b j : EReal) = y)
    (r : Fin 4224) (j : Fin 2816) : ∃ y : ℝ, dot a b r j = y := by
  choose f hf using ra
  choose g hg using rb
  refine ⟨∑ k : Fin 1024, f (ix2 r k) * g (ix2 j k), ?_⟩
  have hc : ∀ (s : Finset (Fin 1024)) (w : Fin 1024 → ℝ), ((∑ k ∈ s, w k : ℝ) : EReal) = ∑ k ∈ s, (w k : EReal) := fun s w => by
    induction s using Finset.cons_induction with
    | empty => simp
    | cons k s hk ih => rw [Finset.sum_cons, Finset.sum_cons, EReal.coe_add, ih]
  rw [hc]
  refine Finset.sum_congr rfl fun k _ => ?_
  rw [EReal.coe_mul]
  exact congrArg₂ (· * ·) (hf _) (hg _)

open Cert.SwigluBwdRefIdeal.Read in
/-- The reference's gradient at the gate: the same number, with the sum multiplied out. -/
theorem reference_dgate (a : Vec Ideal S4224x1024 .bf16) (b : Vec Ideal S2816x1024 .bf16) (z u : Vec Ideal S4224x2816 .f32)
    (ra : ∀ j, ∃ y : ℝ, (a j : EReal) = y) (rb : ∀ j, ∃ y : ℝ, (b j : EReal) = y) (ru : ∀ j, ∃ y : ℝ, (u j : EReal) = y) :
    val_main_v9 (F := Ideal) a b z u = dgate a b z u := by
  funext i
  obtain ⟨r, j, rfl⟩ : ∃ (r : Fin 4224) (j : Fin 2816), i = ix2 r j := ⟨i 0, i 1, (ix2_eta i).symm⟩
  obtain ⟨d, hd⟩ := dot_real a b ra rb r j
  obtain ⟨v, hv⟩ := ru (ix2 r j)
  have h1 := reference_dot a b r j
  have h2 := reference_sg z (ix2 r j)
  simp only [val_main_v9_apply, val_main_v8_apply, val_main_call1_v2_apply, val_main_call1_v1_apply, val_main_call1_v0_apply, val_main_v7_apply,
    val_main_v1_1_apply, val_main_call0_v7_apply, val_main_call0_v6_apply, val_main_call0_cst_1_apply]
  rw [h1, h2, Cert.Gate.one]
  have hx : dot a b r j * (u (ix2 r j) : EReal) = ((d * v : ℝ) : EReal) := by rw [hd, hv, EReal.coe_mul]
  show dot a b r j * (u (ix2 r j) : EReal) * Cert.Gate.sg (z (ix2 r j))
      + (z (ix2 r j) : EReal) * (dot a b r j * (u (ix2 r j) : EReal)) * (Cert.Gate.sg (z (ix2 r j)) * (1 - Cert.Gate.sg (z (ix2 r j))))
    = dot a b r j * (u (ix2 r j) : EReal) * (Cert.Gate.sg (z (ix2 r j)) + (z (ix2 r j) : EReal) * Cert.Gate.sg (z (ix2 r j)) * (1 - Cert.Gate.sg (z (ix2 r j))))
  rw [hx]
  exact (Cert.Gate.gradient _ _).symm

open Cert.SwigluBwdRefIdeal.Read in
/-- The reference's gradient at the other half. -/
theorem reference_dup (a : Vec Ideal S4224x1024 .bf16) (b : Vec Ideal S2816x1024 .bf16) (z : Vec Ideal S4224x2816 .f32) :
    val_main_v10 (F := Ideal) a b z = dup a b z := by
  funext i
  obtain ⟨r, j, rfl⟩ : ∃ (r : Fin 4224) (j : Fin 2816), i = ix2 r j := ⟨i 0, i 1, (ix2_eta i).symm⟩
  have h1 := reference_dot a b r j
  have h2 := reference_sg z (ix2 r j)
  simp only [val_main_v10_apply, val_main_v6_apply, val_main_v1_0_apply]
  rw [h1, h2]
  show (z (ix2 r j) : EReal) * Cert.Gate.sg (z (ix2 r j)) * dot a b r j = dot a b r j * (z (ix2 r j) : EReal) * Cert.Gate.sg (z (ix2 r j))
  rw [mul_comm, mul_assoc]

/-- Where `finite_factors` is true, the three arrays it names hold real numbers. -/
theorem reals (x0 : FVec Ideal S4224x1024 .bf16) (x1 : FVec Ideal S2816x1024 .bf16) (x2 x3 : FVec Ideal S4224x2816 .f32)
    (h : Cert.Pre_finite_factors.fn (F := Ideal) x0 x1 x2 x3 = fun _ => 1#1) :
    (∀ j, ∃ y : ℝ, (x0 j : EReal) = y) ∧ (∀ j, ∃ y : ℝ, (x1 j : EReal) = y) ∧ (∀ j, ∃ y : ℝ, (x3 j : EReal) = y) := by
  have h0 := congrFun h ix0
  unfold Cert.Pre_finite_factors.fn at h0
  dsimp only at h0
  obtain ⟨h0, e3⟩ := Cert.Pre_finite.both h0
  obtain ⟨e0, e1⟩ := Cert.Pre_finite.both h0
  exact ⟨Cert.Pre_finite.real_of_bound _ _ _ _ _ _ (Cert.Pre_finite.top16 _) e0, Cert.Pre_finite.real_of_bound _ _ _ _ _ _ (Cert.Pre_finite.top16 _) e1,
    Cert.Pre_finite.real_of_bound _ _ _ _ _ _ (Cert.Pre_finite.top32 _) e3⟩

/-- The kernel and the reference end with equal results. -/
theorem algebraic : Cert.algebraic_SwigluBwdIdeal_SwigluBwdRefIdeal_pre_finite_factors := by
  intro m g m' g' hp hagree
  refine ⟨_, _, run_blocks m g, (θ_run Cert.SwigluBwdRefIdeal.defs _ _).mono (fun r h c => ?_) (Cert.SwigluBwdRefIdeal.Value.run m' g')⟩
  obtain ⟨e0, e1, e2, e3⟩ := hagree c
  obtain ⟨ra, rb, ru⟩ := reals _ _ _ _ (hp c)
  obtain ⟨h4, h5, h⟩ := h c
  refine ⟨h4.trans ?_, h5.trans ?_, h⟩
  · rw [e0, e1, e2, e3, final_dgate m c _ rfl _ rfl _ rfl _ rfl]
    exact reference_dgate _ _ _ _ ra rb ru
  · rw [e0, e1, e2, final_dup m c _ rfl _ rfl _ rfl]
    exact reference_dup _ _ _

/-- The reference terminates without fault, its arguments unchanged and its counters, of which it has none, at zero. -/
theorem frame_reference : Cert.quiescent_SwigluBwdRefIdeal := fun m g _ =>
  (θ_run Cert.SwigluBwdRefIdeal.defs _ _).mono (fun r h => ⟨fun c => (h c).2.2, sem_eq_zero_of_no_sems (by decide) r.2⟩)
    (Cert.SwigluBwdRefIdeal.Value.run (F := Ideal) m g)

end Cert.SwigluBwdIdeal.Product

end
-- ==== Proof.Norm.lean ====
module

public import Idealize.ShloMosaic.PureOps.Ideal.Laws
public import Mathlib.Tactic.FieldSimp
public import Mathlib.Tactic.Ring

/-! # The root-mean-square norm of a row

The factor a row is multiplied by, and the algebra that makes two ways of writing the gradient one. -/

@[expose] public section

noncomputable section

open Idealize.ShloMosaic

namespace Cert.Norm

/-- The width of a row, as the programs write it. -/
def width : EReal := Ideal.ofBits .f32 0x44800000#32

/-- The small number added to the mean, as the programs write it. -/
def small : EReal := Ideal.ofBits .f32 0x358637BD#32

/-- The mean of the squares whose sum is `s`, with the small number added. -/
def mean (s : EReal) : EReal := Ideal.div s width + small

/-- The factor of a row whose squares add up to `s`. -/
def factor (s : EReal) : EReal := Ideal.rsqrt (mean s)

/-- The width is 1024. -/
theorem width_eq : width = ((1024 : ℝ) : EReal) := by
  unfold width
  simp [Ideal.ofBits, Ideal.ieee, -EReal.coe_mul]
  norm_num

/-- The small number is a positive real number. -/
theorem small_pos : ∃ e : ℝ, 0 < e ∧ small = (e : EReal) := by
  refine ⟨8796093 * 2 ^ ((107 : ℤ) - 127 - 23), by positivity, ?_⟩
  simp [small, Ideal.ofBits, Ideal.ieee, -EReal.coe_mul]

/-- The word of minus one half. -/
theorem minus_half : Ideal.ofBits .f32 0xBF000000#32 = ((-(1 / 2) : ℝ) : EReal) := by
  simp [Ideal.ofBits, Ideal.ieee, -EReal.coe_mul, -EReal.coe_neg]
  norm_num

/-- A finite sum of real numbers is the real sum. -/
theorem coe_sum {n : ℕ} (f : Fin n → ℝ) : ((∑ k, f k : ℝ) : EReal) = ∑ k, (f k : EReal) := by
  have h : ∀ s : Finset (Fin n), ((∑ k ∈ s, f k : ℝ) : EReal) = ∑ k ∈ s, (f k : EReal) := fun s => by
    induction s using Finset.cons_induction with
    | empty => simp
    | cons k s hk ih => rw [Finset.sum_cons, Finset.sum_cons, EReal.coe_add, ih]
  exact h _

/-- Over a nonnegative real sum the mean is a positive real `a` and the factor is one over its root. -/
theorem factor_real (s : ℝ) (hs : 0 ≤ s) : ∃ a : ℝ, 0 < a ∧ mean s = (a : EReal) ∧ factor s = (((Real.sqrt a)⁻¹ : ℝ) : EReal) := by
  obtain ⟨e, he, h⟩ := small_pos
  have hm : mean s = ((s / 1024 + e : ℝ) : EReal) := by
    unfold mean
    rw [h, width_eq, Ideal.div_coe (by norm_num : (1024 : ℝ) ≠ 0), ← EReal.coe_mul, ← EReal.coe_add]
    congr 2
    ring
  have hp : 0 < s / 1024 + e := by positivity
  refine ⟨_, hp, hm, ?_⟩
  unfold factor
  rw [hm, Ideal.rsqrt_coe, if_neg (not_lt.2 hp.le), if_neg hp.ne']

/-- A nonnegative real factor goes inside a sum, infinities included. -/
theorem mul_sum {ι : Type*} (s : Finset ι) (f : ι → EReal) (r : ℝ) (hr : 0 ≤ r) : (r : EReal) * ∑ k ∈ s, f k = ∑ k ∈ s, (r : EReal) * f k := by
  induction s using Finset.cons_induction with
  | empty => simp
  | cons k s hk ih => rw [Finset.sum_cons, Finset.sum_cons, EReal.left_distrib_of_nonneg_of_ne_top (EReal.coe_nonneg.2 hr) (EReal.coe_ne_top r), ih]

/-- Squares are nonnegative. -/
theorem square_nonneg (x : EReal) : 0 ≤ x * x := by
  induction x with
  | bot => rw [EReal.bot_mul_bot]; exact le_top
  | top => rw [EReal.top_mul_top]; exact le_top
  | coe x => rw [← EReal.coe_mul]; exact EReal.coe_nonneg.2 (mul_self_nonneg x)

/-- A row with an infinite entry has an infinite sum of squares. -/
theorem squares_top {n : ℕ} (x : Fin n → EReal) (h : ¬ ∀ k, ∃ y : ℝ, x k = (y : EReal)) : ∑ k, x k * x k = ⊤ := by
  push Not at h
  obtain ⟨k, hk⟩ := h
  have e : x k * x k = ⊤ := by
    induction hx : x k with
    | bot => exact EReal.bot_mul_bot
    | top => exact EReal.top_mul_top
    | coe y => exact absurd hx (hk y)
  exact top_le_iff.1 (e ▸ Finset.single_le_sum (f := fun k => x k * x k) (fun i _ => square_nonneg (x i)) (Finset.mem_univ k))

/-- Over an infinite sum of squares the mean is infinite. -/
theorem mean_top : mean ⊤ = ⊤ := by
  obtain ⟨e, -, h⟩ := small_pos
  unfold mean
  rw [h, width_eq, Ideal.div_coe (by norm_num : (1024 : ℝ) ≠ 0), EReal.top_mul_coe_of_pos (by norm_num), EReal.top_add_coe]

/-- Over an infinite sum of squares the factor is zero. -/
theorem factor_top : factor ⊤ = 0 := by
  unfold factor
  rw [mean_top]
  rfl

/-- Nothing over the infinite. -/
theorem zero_div (y : EReal) (hy : y ≠ 0) : Ideal.div 0 y = 0 := by
  unfold Ideal.div
  rw [if_neg hy, zero_mul]

/-- The gradient at an entry, the two ways: the kernel takes the row's mean of the scaled gradient times the normed row off before
    scaling; the reference differentiates the factor and adds its share twice, once for each factor of the square. At a row with an
    infinite entry the factor is zero and both add nothing; at other rows the factor is a positive real number and goes inside. -/
theorem gradient {n : ℕ} (x y w : Fin n → EReal) (j : Fin n) (d : EReal) :
    d + factor (∑ k, x k * x k) * (y j * w j
        - x j * factor (∑ k, x k * x k) * Ideal.div (∑ k, y k * w k * (x k * factor (∑ k, x k * x k))) width)
      = d + y j * w j * factor (∑ k, x k * x k)
        + x j * Ideal.div ((∑ k, x k * (y k * w k))
            * (((-(1 / 2) : ℝ) : EReal) * Ideal.div (factor (∑ k, x k * x k)) (mean (∑ k, x k * x k)))) width
        + Ideal.div ((∑ k, x k * (y k * w k))
            * (((-(1 / 2) : ℝ) : EReal) * Ideal.div (factor (∑ k, x k * x k)) (mean (∑ k, x k * x k)))) width * x j := by
  by_cases hx : ∀ k, ∃ r : ℝ, x k = (r : EReal)
  swap
  · rw [squares_top x hx, factor_top, mean_top, zero_div ⊤ (by decide)]
    simp only [zero_mul, mul_zero, zero_div width (by rw [width_eq]; norm_num), add_zero]
  choose z hz using hx
  have hq : (∑ k, x k * x k) = ((∑ k, z k * z k : ℝ) : EReal) := by
    rw [coe_sum]; exact Finset.sum_congr rfl fun k _ => by rw [hz, EReal.coe_mul]
  obtain ⟨a, ha, hm, hf⟩ := factor_real (∑ k, z k * z k) (Finset.sum_nonneg fun k _ => mul_self_nonneg _)
  obtain ⟨r, hr⟩ : ∃ r : ℝ, r = (Real.sqrt a)⁻¹ := ⟨_, rfl⟩
  have hra : r * r = a⁻¹ := by rw [hr, ← mul_inv, Real.mul_self_sqrt ha.le]
  have r0 : 0 ≤ r := by rw [hr]; positivity
  rw [hq, hm, hf, ← hr]
  have hs : (∑ k, y k * w k * (x k * (r : EReal))) = (r : EReal) * ∑ k, x k * (y k * w k) := by
    rw [mul_sum _ _ r r0]
    exact Finset.sum_congr rfl fun k _ => by rw [← mul_assoc, mul_comm, mul_comm (y k * w k)]
  rw [hs, width_eq, hz j]
  generalize (∑ k, x k * (y k * w k) : EReal) = S
  generalize y j * w j = Y
  simp only [Ideal.div_coe (by norm_num : (1024 : ℝ) ≠ 0), Ideal.div_coe ha.ne']
  rw [sub_eq_add_neg, EReal.left_distrib_of_nonneg_of_ne_top (EReal.coe_nonneg.2 r0) (EReal.coe_ne_top r), ← add_assoc, add_assoc (d + Y * r), mul_comm (r : EReal) Y]
  congr 1
  obtain ⟨t, ht⟩ : ∃ t : ℝ, t = z j * (-(1 / 2) * (r * (1 / a))) * (1 / 1024) := ⟨_, rfl⟩
  have e1 : (z j : EReal) * (S * (((-(1 / 2) : ℝ) : EReal) * ((r : EReal) * ((1 / a : ℝ) : EReal))) * ((1 / 1024 : ℝ) : EReal)) = S * (t : EReal) := by
    rw [ht]
    simp only [EReal.coe_mul]
    ac_rfl
  have e2 : S * (((-(1 / 2) : ℝ) : EReal) * ((r : EReal) * ((1 / a : ℝ) : EReal))) * ((1 / 1024 : ℝ) : EReal) * (z j : EReal) = S * (t : EReal) := by
    rw [← e1, mul_comm]
  rw [e1, e2]
  have e3 : (r : EReal) * -((z j : EReal) * (r : EReal) * ((r : EReal) * S * ((1 / 1024 : ℝ) : EReal))) = ((2 : ℝ) : EReal) * (S * (t : EReal)) := by
    have : ((2 : ℝ) : EReal) * (S * (t : EReal)) = S * ((2 * t : ℝ) : EReal) := by
      rw [EReal.coe_mul]; ac_rfl
    rw [this, show 2 * t = -(r * (z j * r * (r * (1 / 1024)))) from by
      rw [ht, show (1 : ℝ) / a = r * r from by rw [hra, one_div]]; ring]
    rw [mul_neg, EReal.coe_neg, mul_neg]
    congr 1
    simp only [EReal.coe_mul]
    ac_rfl
  rw [e3, show ((2 : ℝ) : EReal) = ((1 : ℝ) : EReal) + ((1 : ℝ) : EReal) from by rw [← EReal.coe_add]; norm_num,
    EReal.right_distrib_of_nonneg (by norm_num) (by norm_num), EReal.coe_one, one_mul]

end Cert.Norm

end
-- ==== Proof.RmsFwd.lean ====
module

public import proofs.«01_k».proof.Defs
public import proofs.«01_k».proof.Proof.Norm
public import proofs.«01_k».proof.Proof.Gen.RmsFwdIdeal.Value
public import proofs.«01_k».proof.Proof.Gen.RmsFwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The norm of the rows, forward

Each grid point norms 384 rows and writes them, and their transpose. -/

@[expose] public section

set_option maxRecDepth 16384

noncomputable section

open Idealize.ShloMosaic Idealize.ShloMosaic.TcCoe Idealize.SL.Sem
open Idealize.ShloMosaic.Pointwise

namespace Cert.RmsFwdIdeal.Product

open Cert.RmsFwdIdeal Cert.RmsFwdIdeal.Gen Cert.RmsFwdIdeal.Value

/-- A normed block at an element. -/
theorem part (x : Vec Ideal S384x1024 .f32) (w : Vec Ideal S1x1024 .f32) (r : Fin 384) (j : Fin 1024) :
    k0_pay1 x w (ix2 r j) = x (ix2 r j) * Cert.Norm.factor (∑ k : Fin 1024, x (ix2 r k) * x (ix2 r k)) * w (ix2 0 j) := by
  pointwise [k0_pay1]
  rfl

/-- The transposed block at an element. -/
theorem part_t (x : Vec Ideal S384x1024 .f32) (w : Vec Ideal S1x1024 .f32) (r : Fin 384) (j : Fin 1024) :
    k0_pay2 x w (ix2 j r) = k0_pay1 x w (ix2 r j) := by
  unfold k0_pay2
  generalize k0_pay1 x w = z
  pointwise []

variable (m : (b : Loc nD τ sig) → Buf (Elt Ideal) b) (c : Dev nD)

/-- Which block the rows' window reads. -/
theorem idx0 : ∀ t : Fin cfg0.N, win0_0.index t = ![t.val, 0] := by decide +kernel
/-- Which block the scale's window reads. -/
theorem idx1 : ∀ t : Fin cfg0.N, win0_1.index t = ![0, 0] := by decide +kernel
/-- Which block the first result's window writes. -/
theorem idx2 : ∀ t : Fin cfg0.N, win0_2.index t = ![t.val, 0] := by decide +kernel
/-- Which block the transposed result's window writes. -/
theorem idx3 : ∀ t : Fin cfg0.N, win0_3.index t = ![0, t.val] := by decide +kernel

/-- The host line before the call makes the scale a row. -/
theorem V_scale (j : Fin 1024) : V m c main_v0 (ix2 0 j) = m ((c : Thread nD τ).loc main_arg1) (ix1 j) := by
  unfold_abbrev_sides
  unfold hostOps0
  simp only [StableHlo.after_cons, StableHlo.after_nil]
  rw [StableHlo.reshape_result]
  pointwise []

/-- The normed rows. -/
def normed (h : Vec Ideal S4224x1024 .f32) (g : Vec Ideal S1024 .f32) (r : Fin 4224) (j : Fin 1024) : EReal :=
  h (ix2 r j) * Cert.Norm.factor (∑ k : Fin 1024, h (ix2 r k) * h (ix2 r k)) * g (ix1 j)

/-- A point's row of the whole array. -/
def row (t : Fin cfg0.N) (r : Fin 384) : Fin 4224 := ⟨384 * t.val + r.val, by have := t.isLt; have : cfg0.N = 11 := N_0; omega⟩

/-- What a point reads of the rows. -/
theorem point_h (h : Vec Ideal S4224x1024 .f32) (hh : m ((c : Thread nD τ).loc main_arg0) = h) (t : Fin cfg0.N) (r : Fin 384) (j : Fin 1024) :
    (iblk m c 0 t : Vec Ideal S384x1024 .f32) (ix2 r j) = h (ix2 (row t r) j) := by
  rw [← hh, ← V_main_arg0 m c]
  blk_ext [iblk, idx0 t, row]

/-- What a point reads of the scale. -/
theorem point_g (g : Vec Ideal S1024 .f32) (hg : m ((c : Thread nD τ).loc main_arg1) = g) (t : Fin cfg0.N) (j : Fin 1024) :
    (iblk m c 1 t : Vec Ideal S1x1024 .f32) (ix2 0 j) = g (ix1 j) := by
  rw [← hg, ← V_scale m c]
  blk_ext [iblk, idx1 t]

/-- What a point computes. -/
theorem point (h : Vec Ideal S4224x1024 .f32) (hh : m ((c : Thread nD τ).loc main_arg0) = h) (g : Vec Ideal S1024 .f32) (hg : m ((c : Thread nD τ).loc main_arg1) = g)
    (t : Fin cfg0.N) (r : Fin 384) (j : Fin 1024) :
    k0_pay1 (iblk m c 0 t) (iblk m c 1 t) (ix2 r j) = normed h g (row t r) j := by
  rw [part]
  simp only [point_h m c h hh, point_g m c g hg]
  rfl

/-- The normed rows after the run. -/
theorem final (h : Vec Ideal S4224x1024 .f32) (hh : m ((c : Thread nD τ).loc main_arg0) = h) (g : Vec Ideal S1024 .f32) (hg : m ((c : Thread nD τ).loc main_arg1) = g) :
    (dats m 0 c).arrAt 2 cfg0.N = fun i : S4224x1024.Idx => normed h g (i 0) (i 1) := by
  refine (dats m 0 c).arrAt_eq_of_covers 2 _ (by decide +kernel) fun t hf y => ?_
  blk_simp
  rw [after0_2]
  frame_out
  obtain ⟨r, j, rfl⟩ : ∃ (r : Fin 384) (j : Fin 1024), y = ix2 r j := ⟨y 0, y 1, (ix2_eta y).symm⟩
  have e : ((cfg0.win 2).blk t).view.emb (ix2 r j) = ix2 (row t r) j := by
    funext x; apply Fin.ext
    match x with
    | ⟨0, _⟩ => show win0_2.index t 0 * 384 + 1 * r.val = 384 * t.val + r.val; rw [idx2]; show t.val * 384 + 1 * r.val = _; omega
    | ⟨1, _⟩ => show win0_2.index t 1 * 1024 + 1 * j.val = j.val; rw [idx2]; show 0 * 1024 + 1 * j.val = j.val; omega
  rw [e]
  exact point m c h hh g hg t r j

/-- Their transpose after the run. -/
theorem final_t (h : Vec Ideal S4224x1024 .f32) (hh : m ((c : Thread nD τ).loc main_arg0) = h) (g : Vec Ideal S1024 .f32) (hg : m ((c : Thread nD τ).loc main_arg1) = g) :
    (dats m 0 c).arrAt 3 cfg0.N = fun i : S1024x4224.Idx => normed h g (i 1) (i 0) := by
  refine (dats m 0 c).arrAt_eq_of_covers 3 _ (by decide +kernel) fun t hf y => ?_
  blk_simp
  rw [after0_3]
  frame_out
  obtain ⟨j, r, rfl⟩ : ∃ (j : Fin 1024) (r : Fin 384), y = ix2 j r := ⟨y 0, y 1, (ix2_eta y).symm⟩
  have e : ((cfg0.win 3).blk t).view.emb (ix2 j r) = ix2 j (row t r) := by
    funext x; apply Fin.ext
    match x with
    | ⟨0, _⟩ => show win0_3.index t 0 * 1024 + 1 * j.val = j.val; rw [idx3]; show 0 * 1024 + 1 * j.val = j.val; omega
    | ⟨1, _⟩ => show win0_3.index t 1 * 384 + 1 * r.val = 384 * t.val + r.val; rw [idx3]; show t.val * 384 + 1 * r.val = _; omega
  rw [e]
  exact (part_t _ _ r j).trans (point m c h hh g hg t r j)

open Cert.RmsFwdRefIdeal.Read in
/-- The reference's normed rows. -/
theorem reference (h : Vec Ideal S4224x1024 .f32) (g : Vec Ideal S1024 .f32) (r : Fin 4224) (j : Fin 1024) :
    val_main_v13 (F := Ideal) h g (ix2 r j) = normed h g r j := by
  simp only [val_main_v13_apply, val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply, val_main_v2_apply,
    val_main_v1_apply, val_main_cst_apply, val_main_v0_apply]
  have hk : ∀ k, idx_main_v1 (idx_main_v2 (idx_main_v8 (ix2 r j))) k = ix2 r k := fun k => by
    funext x; match x with
    | ⟨0, _⟩ => rfl
    | ⟨1, _⟩ => rfl
  have hg : idx_main_v10 (idx_main_v11 (ix2 r j)) = ix1 j := by
    funext x; match x with
    | ⟨0, _⟩ => rfl
  simp only [hk, hg]
  pointwise []
  rfl

/-- The kernel and the reference end with equal results. -/
theorem algebraic : Cert.algebraic_RmsFwdIdeal_RmsFwdRefIdeal := by
  intro m g m' g' _ hagree
  refine ⟨_, _, run_blocks m g, (θ_run Cert.RmsFwdRefIdeal.defs _ _).mono (fun r h c => ?_) (Cert.RmsFwdRefIdeal.Value.run m' g')⟩
  obtain ⟨e0, e1⟩ := hagree c
  obtain ⟨h2, h3, h⟩ := h c
  refine ⟨h2.trans ?_, h3.trans ?_, h⟩
  · rw [e0, e1, final m c _ rfl _ rfl]
    funext i
    obtain ⟨r, j, rfl⟩ : ∃ (r : Fin 4224) (j : Fin 1024), i = ix2 r j := ⟨i 0, i 1, (ix2_eta i).symm⟩
    exact reference _ _ r j
  · rw [e0, e1, final_t m c _ rfl _ rfl]
    funext i
    obtain ⟨j, r, rfl⟩ : ∃ (j : Fin 1024) (r : Fin 4224), i = ix2 j r := ⟨i 0, i 1, (ix2_eta i).symm⟩
    refine (Cert.RmsFwdRefIdeal.Read.val_main_v14_apply (F := Ideal) _ _ (ix2 j r)).trans (Eq.trans (congrArg _ ?_) (reference _ _ r j))
    funext x; match x with
    | ⟨0, _⟩ => rfl
    | ⟨1, _⟩ => rfl

/-- The reference terminates without fault, its arguments unchanged and its counters, of which it has none, at zero. -/
theorem frame_reference : Cert.quiescent_RmsFwdRefIdeal := fun m g _ =>
  (θ_run Cert.RmsFwdRefIdeal.defs _ _).mono (fun r h => ⟨fun c => (h c).2.2, sem_eq_zero_of_no_sems (by decide) r.2⟩)
    (Cert.RmsFwdRefIdeal.Value.run (F := Ideal) m g)

end Cert.RmsFwdIdeal.Product

end
-- ==== Proof.RmsBwd.lean ====
module

public import proofs.«01_k».proof.Defs
public import proofs.«01_k».proof.Proof.Norm
public import proofs.«01_k».proof.Proof.Gen.RmsBwdIdeal.Value
public import proofs.«01_k».proof.Proof.Gen.RmsBwdRefIdeal.Read
public import Idealize.ShloMosaic.Lib.Pipeline.ValueKit
public import Idealize.ShloMosaic.Lib.Pipeline.ReadBack
public import Idealize.ShloMosaic.Lib.Pointwise
public import Idealize.ShloMosaic.Lib.Tactic

/-! # The norm of the rows, backward

Each grid point computes the gradient at 384 rows, and adds their share of the gradient at the scale to one row kept over all
points. -/

@[expose] public section

set_option maxRecDepth 16384

noncomputable section

open Idealize.ShloMosaic Idealize.ShloMosaic.TcCoe Idealize.SL.Sem
open Idealize.ShloMosaic.Pointwise

namespace Cert.RmsBwdIdeal.Product

open Cert.RmsBwdIdeal Cert.RmsBwdIdeal.Gen Cert.RmsBwdIdeal.Value

/-- A block's rows normed, at an element. -/
theorem part_xh (x : Vec Ideal S384x1024 .f32) (r : Fin 384) (j : Fin 1024) :
    k0_pay3 x (ix2 r j) = x (ix2 r j) * Cert.Norm.factor (∑ k : Fin 1024, x (ix2 r k) * x (ix2 r k)) := by
  pointwise [k0_pay3, k0_pay2]
  rfl

/-- A block's factors. -/
theorem part_factor (x : Vec Ideal S384x1024 .f32) (r : Fin 384) :
    k0_pay2 x (ix2 r 0) = Cert.Norm.factor (∑ k : Fin 1024, x (ix2 r k) * x (ix2 r k)) := by
  pointwise [k0_pay2]
  rfl

/-- A block of the gradient at the rows, at an element. -/
theorem part_dh (x y : Vec Ideal S384x1024 .f32) (w : Vec Ideal S1x1024 .f32) (d : Vec Ideal S384x1024 .f32) (r : Fin 384) (j : Fin 1024) :
    k0_pay4 x y w d (ix2 r j) = d (ix2 r j) + k0_pay2 x (ix2 r 0) * (y (ix2 r j) * w (ix2 0 j)
      - k0_pay3 x (ix2 r j) * Ideal.div (∑ k : Fin 1024, y (ix2 r k) * w (ix2 0 k) * k0_pay3 x (ix2 r k)) Cert.Norm.width) := by
  unfold k0_pay4
  generalize k0_pay3 x = z
  generalize k0_pay2 x = f
  pointwise []
  rfl

/-- A block's share of the gradient at the scale, at an element. -/
theorem part_dg (x y : Vec Ideal S384x1024 .f32) (j : Fin 1024) :
    k0_pay6 x y (ix2 0 j) = ∑ r : Fin 384, y (ix2 r j) * k0_pay3 x (ix2 r j) := by
  unfold k0_pay6
  generalize k0_pay3 x = z
  pointwise []

/-- Adding a share to what is kept, at an element. -/
theorem part_add (p o : Vec Ideal S1x1024 .f32) (j : Fin 1024) : k0_pay1 p o (ix2 0 j) = o (ix2 0 j) + p (ix2 0 j) := by
  pointwise [k0_pay1]

/-- The factor of a row of an array. -/
def fac (h : Vec Ideal S4224x1024 .f32) (r : Fin 4224) : EReal := Cert.Norm.factor (∑ k : Fin 1024, h (ix2 r k) * h (ix2 r k))

/-- The gradient at the rows, as the kernel writes it. -/
def dh (a h : Vec Ideal S4224x1024 .f32) (g : Vec Ideal S1024 .f32) (d : Vec Ideal S4224x1024 .f32) (r : Fin 4224) (j : Fin 1024) : EReal :=
  d (ix2 r j) + fac h r * (a (ix2 r j) * g (ix1 j)
    - h (ix2 r j) * fac h r * Ideal.div (∑ k : Fin 1024, a (ix2 r k) * g (ix1 k) * (h (ix2 r k) * fac h r)) Cert.Norm.width)

/-- A row's share of the gradient at the scale. -/
def share (a h : Vec Ideal S4224x1024 .f32) (j : Fin 1024) (r : Fin 4224) : EReal := a (ix2 r j) * (h (ix2 r j) * fac h r)

variable (m : (b : Loc nD τ sig) → Buf (Elt Ideal) b) (c : Dev nD)

/-- Which block the window of the incoming gradient reads. -/
theorem idx0 : ∀ t : Fin cfg0.N, win0_0.index t = ![t.val, 0] := by decide +kernel
/-- Which block the rows' window reads. -/
theorem idx1 : ∀ t : Fin cfg0.N, win0_1.index t = ![t.val, 0] := by decide +kernel
/-- Which block the scale's window reads. -/
theorem idx2 : ∀ t : Fin cfg0.N, win0_2.index t = ![0, 0] := by decide +kernel
/-- Which block the window of the gradient carried past the norm reads. -/
theorem idx3 : ∀ t : Fin cfg0.N, win0_3.index t = ![t.val, 0] := by decide +kernel
/-- Which block the window of the rows' gradient writes. -/
theorem idx4 : ∀ t : Fin cfg0.N, win0_4.index t = ![t.val, 0] := by decide +kernel
/-- Which block the window of its narrow copy writes. -/
theorem idx5 : ∀ t : Fin cfg0.N, win0_5.index t = ![t.val, 0] := by decide +kernel
/-- Which block the window of the scale's gradient writes. -/
theorem idx6 : ∀ t : Fin cfg0.N, win0_6.index t = ![0, 0] := by decide +kernel

/-- The host line before the call makes the scale a row. -/
theorem V_scale (j : Fin 1024) : V m c main_v0 (ix2 0 j) = m ((c : Thread nD τ).loc main_arg2) (ix1 j) := by
  unfold_abbrev_sides
  unfold hostOps0
  simp only [StableHlo.after_cons, StableHlo.after_nil]
  rw [StableHlo.reshape_result]
  pointwise []

/-- A point's row of the whole array. -/
def row (t : Fin cfg0.N) (r : Fin 384) : Fin 4224 := ⟨384 * t.val + r.val, by have := t.isLt; have : cfg0.N = 11 := N_0; omega⟩

/-- What a point reads of the incoming gradient. -/
theorem point_a (a : Vec Ideal S4224x1024 .f32) (ha : m ((c : Thread nD τ).loc main_arg0) = a) (t : Fin cfg0.N) (r : Fin 384) (j : Fin 1024) :
    (iblk m c 0 t : Vec Ideal S384x1024 .f32) (ix2 r j) = a (ix2 (row t r) j) := by
  rw [← ha, ← V_main_arg0 m c]
  blk_ext [iblk, idx0 t, row]

/-- What a point reads of the rows. -/
theorem point_h (h : Vec Ideal S4224x1024 .f32) (hh : m ((c : Thread nD τ).loc main_arg1) = h) (t : Fin cfg0.N) (r : Fin 384) (j : Fin 1024) :
    (iblk m c 1 t : Vec Ideal S384x1024 .f32) (ix2 r j) = h (ix2 (row t r) j) := by
  rw [← hh, ← V_main_arg1 m c]
  blk_ext [iblk, idx1 t, row]

/-- What a point reads of the scale. -/
theorem point_g (g : Vec Ideal S1024 .f32) (hg : m ((c : Thread nD τ).loc main_arg2) = g) (t : Fin cfg0.N) (j : Fin 1024) :
    (iblk m c 2 t : Vec Ideal S1x1024 .f32) (ix2 0 j) = g (ix1 j) := by
  rw [← hg, ← V_scale m c]
  blk_ext [iblk, idx2 t]

/-- What a point reads of the gradient carried past the norm. -/
theorem point_d (d : Vec Ideal S4224x1024 .f32) (hd : m ((c : Thread nD τ).loc main_arg3) = d) (t : Fin cfg0.N) (r : Fin 384) (j : Fin 1024) :
    (iblk m c 3 t : Vec Ideal S384x1024 .f32) (ix2 r j) = d (ix2 (row t r) j) := by
  rw [← hd, ← V_main_arg3 m c]
  blk_ext [iblk, idx3 t, row]

/-- What a point computes of the gradient at the rows. -/
theorem point_dh (a : Vec Ideal S4224x1024 .f32) (ha : m ((c : Thread nD τ).loc main_arg0) = a) (h : Vec Ideal S4224x1024 .f32) (hh : m ((c : Thread nD τ).loc main_arg1) = h)
    (g : Vec Ideal S1024 .f32) (hg : m ((c : Thread nD τ).loc main_arg2) = g) (d : Vec Ideal S4224x1024 .f32) (hd : m ((c : Thread nD τ).loc main_arg3) = d)
    (t : Fin cfg0.N) (r : Fin 384) (j : Fin 1024) :
    k0_pay4 (iblk m c 1 t) (iblk m c 0 t) (iblk m c 2 t) (iblk m c 3 t) (ix2 r j) = dh a h g d (row t r) j := by
  rw [part_dh]
  simp only [part_xh, part_factor, point_a m c a ha, point_h m c h hh, point_g m c g hg, point_d m c d hd]
  rfl

/-- What a point computes of the gradient at the scale. -/
theorem point_dg (a : Vec Ideal S4224x1024 .f32) (ha : m ((c : Thread nD τ).loc main_arg0) = a) (h : Vec Ideal S4224x1024 .f32) (hh : m ((c : Thread nD τ).loc main_arg1) = h)
    (t : Fin cfg0.N) (j : Fin 1024) :
    k0_pay6 (iblk m c 1 t) (iblk m c 0 t) (ix2 0 j) = ∑ r : Fin 384, share a h j (row t r) := by
  rw [part_dg]
  simp only [part_xh, point_a m c a ha, point_h m c h hh]
  rfl

/-- What a point leaves for the rows' gradient, whichever point it is. -/
theorem left4 (t : Fin cfg0.N) : (outsAt0 m c t.val t.isLt).1 = k0_pay4 (iblk m c 1 t) (iblk m c 0 t) (iblk m c 2 t) (iblk m c 3 t) := by
  have ht : t.val < 11 := lt_of_lt_of_eq t.isLt N_0
  by_cases h : t.val = 0
  · rw [outsAt0_A m c t (by omega) (by omega)]
    frame_out
  · rw [outsAt0_B m c t (by omega) (by omega)]
    frame_out

/-- What a point leaves for the narrow copy, whichever point it is. -/
theorem left5 (t : Fin cfg0.N) : (outsAt0 m c t.val t.isLt).2.1 = k0_pay5 (iblk m c 1 t) (iblk m c 0 t) (iblk m c 2 t) (iblk m c 3 t) := by
  have ht : t.val < 11 := lt_of_lt_of_eq t.isLt N_0
  by_cases h : t.val = 0
  · rw [outsAt0_A m c t (by omega) (by omega)]
    frame_out
  · rw [outsAt0_B m c t (by omega) (by omega)]
    frame_out

/-- A function of the rows, continued by zero. -/
def ext (f : Fin 4224 → EReal) (n : ℕ) : EReal := if h : n < 4224 then f ⟨n, h⟩ else 0

/-- A point's rows are 384 consecutive ones. -/
theorem rows_eq (f : Fin 4224 → EReal) (t : Fin cfg0.N) : ∑ r : Fin 384, f (row t r) = ∑ k ∈ Finset.range 384, ext f (384 * t.val + k) := by
  rw [Finset.sum_range]
  refine Finset.sum_congr rfl fun r _ => ?_
  unfold ext
  have hb : 384 * t.val + r.val < 4224 := (row t r).isLt
  rw [dif_pos hb]
  rfl

/-- What is kept of the scale's gradient after a point: the sum over the rows up to it. -/
theorem left6 (a : Vec Ideal S4224x1024 .f32) (ha : m ((c : Thread nD τ).loc main_arg0) = a) (h : Vec Ideal S4224x1024 .f32) (hh : m ((c : Thread nD τ).loc main_arg1) = h)
    (j : Fin 1024) : ∀ (n : ℕ) (hn : n < cfg0.N), (outsAt0 m c n hn).2.2 (ix2 0 j) = ∑ k ∈ Finset.range (384 * (n + 1)), ext (share a h j) k
  | 0, hn => by
    rw [show outsAt0 m c 0 hn = _ from outsAt0_A m c ⟨0, hn⟩ (by dsimp only) (by dsimp only; omega)]
    frame_out
    refine (point_dg m c a ha h hh ⟨0, hn⟩ j).trans ?_
    rw [rows_eq]
    simp only [Nat.mul_zero, Nat.zero_add, Nat.mul_one]
  | n + 1, hn => by
    have hN : n + 1 < 11 := lt_of_lt_of_eq hn N_0
    rw [show outsAt0 m c (n + 1) hn = _ from outsAt0_B m c ⟨n + 1, hn⟩ (by dsimp only; omega) (by dsimp only; omega)]
    frame_out
    refine (part_add _ _ j).trans ?_
    refine (congrArg₂ (· + ·) (left6 a ha h hh j n (by omega)) (point_dg m c a ha h hh ⟨n + 1, hn⟩ j)).trans ?_
    rw [rows_eq, show 384 * (n + 1 + 1) = 384 * (n + 1) + 384 from by ring, Finset.sum_range_add]

/-- The rows' gradient after the run. -/
theorem final (a : Vec Ideal S4224x1024 .f32) (ha : m ((c : Thread nD τ).loc main_arg0) = a) (h : Vec Ideal S4224x1024 .f32) (hh : m ((c : Thread nD τ).loc main_arg1) = h)
    (g : Vec Ideal S1024 .f32) (hg : m ((c : Thread nD τ).loc main_arg2) = g) (d : Vec Ideal S4224x1024 .f32) (hd : m ((c : Thread nD τ).loc main_arg3) = d) :
    (dats m 0 c).arrAt 4 cfg0.N = fun i : S4224x1024.Idx => dh a h g d (i 0) (i 1) := by
  refine (dats m 0 c).arrAt_eq_of_covers 4 _ (by decide +kernel) fun t hf y => ?_
  blk_simp
  rw [after0_4, left4]
  obtain ⟨r, j, rfl⟩ : ∃ (r : Fin 384) (j : Fin 1024), y = ix2 r j := ⟨y 0, y 1, (ix2_eta y).symm⟩
  have e : ((cfg0.win 4).blk t).view.emb (ix2 r j) = ix2 (row t r) j := by
    funext x; apply Fin.ext
    match x with
    | ⟨0, _⟩ => show win0_4.index t 0 * 384 + 1 * r.val = 384 * t.val + r.val; rw [idx4]; show t.val * 384 + 1 * r.val = _; omega
    | ⟨1, _⟩ => show win0_4.index t 1 * 1024 + 1 * j.val = j.val; rw [idx4]; show 0 * 1024 + 1 * j.val = j.val; omega
  rw [e]
  exact point_dh m c a ha h hh g hg d hd t r j

/-- Its narrow copy after the run. -/
theorem final_b (a : Vec Ideal S4224x1024 .f32) (ha : m ((c : Thread nD τ).loc main_arg0) = a) (h : Vec Ideal S4224x1024 .f32) (hh : m ((c : Thread nD τ).loc main_arg1) = h)
    (g : Vec Ideal S1024 .f32) (hg : m ((c : Thread nD τ).loc main_arg2) = g) (d : Vec Ideal S4224x1024 .f32) (hd : m ((c : Thread nD τ).loc main_arg3) = d) :
    (dats m 0 c).arrAt 5 cfg0.N = fun i : S4224x1024.Idx => dh a h g d (i 0) (i 1) := by
  refine (dats m 0 c).arrAt_eq_of_covers 5 _ (by decide +kernel) fun t hf y => ?_
  blk_simp
  rw [after0_5, left5]
  obtain ⟨r, j, rfl⟩ : ∃ (r : Fin 384) (j : Fin 1024), y = ix2 r j := ⟨y 0, y 1, (ix2_eta y).symm⟩
  have e : ((cfg0.win 5).blk t).view.emb (ix2 r j) = ix2 (row t r) j := by
    funext x; apply Fin.ext
    match x with
    | ⟨0, _⟩ => show win0_5.index t 0 * 384 + 1 * r.val = 384 * t.val + r.val; rw [idx5]; show t.val * 384 + 1 * r.val = _; omega
    | ⟨1, _⟩ => show win0_5.index t 1 * 1024 + 1 * j.val = j.val; rw [idx5]; show 0 * 1024 + 1 * j.val = j.val; omega
  rw [e]
  exact point_dh m c a ha h hh g hg d hd t r j

/-- The scale's gradient after the run. -/
theorem final_g (a : Vec Ideal S4224x1024 .f32) (ha : m ((c : Thread nD τ).loc main_arg0) = a) (h : Vec Ideal S4224x1024 .f32) (hh : m ((c : Thread nD τ).loc main_arg1) = h) :
    (dats m 0 c).arrAt 6 cfg0.N = fun i : S1x1024.Idx => ∑ r : Fin 4224, share a h (i 1) r := by
  refine (dats m 0 c).arrAt_eq_of_covers 6 _ (by decide +kernel) fun t hf y => ?_
  blk_simp
  rw [after0_6]
  have ht : t.val = 10 := by have := (flush0_6 t).mp hf; have : t.val < 11 := lt_of_lt_of_eq t.isLt N_0; omega
  obtain ⟨j, rfl⟩ : ∃ j : Fin 1024, y = ix2 0 j := ⟨y 1, by rw [← ix2_eta y]; congr 1; exact Subsingleton.elim _ _⟩
  have e : ((cfg0.win 6).blk t).view.emb (ix2 0 j) = ix2 0 j := by
    funext x; apply Fin.ext
    match x with
    | ⟨0, _⟩ => show win0_6.index t 0 * 1 + 1 * 0 = 0; rw [idx6]; rfl
    | ⟨1, _⟩ => show win0_6.index t 1 * 1024 + 1 * j.val = j.val; rw [idx6]; show 0 * 1024 + 1 * j.val = j.val; omega
  rw [e]
  refine (left6 m c a ha h hh j t.val t.isLt).trans ?_
  rw [ht, Finset.sum_range]
  refine Finset.sum_congr rfl fun r _ => ?_
  unfold ext
  exact dif_pos r.isLt

open Cert.RmsBwdRefIdeal.Read in
/-- The reference's gradient at the rows is the same. -/
theorem reference (a h : Vec Ideal S4224x1024 .f32) (g : Vec Ideal S1024 .f32) (d : Vec Ideal S4224x1024 .f32) (r : Fin 4224) (j : Fin 1024) :
    val_main_v36 (F := Ideal) a h g d (ix2 r j) = dh a h g d r j := by
  have key := Cert.Norm.gradient (fun k => h (ix2 r k)) (fun k => a (ix2 r k)) (fun k => g (ix1 k)) j (d (ix2 r j))
  refine Eq.trans ?_ key.symm
  simp only [val_main_v36_apply, val_main_v35_apply, val_main_v34_apply, val_main_v33_apply, val_main_v32_apply, val_main_v31_apply, val_main_cst_7_apply,
    val_main_v30_apply, val_main_v29_apply, val_main_cst_6_apply, val_main_v28_apply, val_main_v27_apply, val_main_v26_apply, val_main_v25_apply,
    val_main_v24_apply, val_main_v23_apply, val_main_cst_5_apply, val_main_v22_apply, val_main_v20_apply, val_main_v19_apply, val_main_v13_apply,
    val_main_v10_apply, val_main_v9_apply, val_main_cst_2_apply, val_main_v8_apply, val_main_v7_apply,
    val_main_v6_apply, val_main_v5_apply, val_main_cst_1_apply, val_main_v4_apply, val_main_v3_apply, val_main_cst_0_apply, val_main_v2_apply,
    val_main_v1_apply, val_main_cst_apply, val_main_v0_apply]
  have e1 : ∀ k, idx_main_v1 (idx_main_v2 (idx_main_v25 (ix2 r j))) k = ix2 r k := fun k => by
    funext x; match x with
    | ⟨0, _⟩ => rfl
    | ⟨1, _⟩ => rfl
  have e2 : ∀ i k, idx_main_v1 (idx_main_v2 (idx_main_v31 (idx_main_v32 (ix2 r j)) i)) k = ix2 r k := fun i k => by
    funext x; match x with
    | ⟨0, _⟩ => rfl
    | ⟨1, _⟩ => rfl
  have e3 : ∀ i k, idx_main_v23 (idx_main_v24 (idx_main_v31 (idx_main_v32 (ix2 r j)) i)) k = ix2 r k := fun i k => by
    funext x; match x with
    | ⟨0, _⟩ => apply Fin.ext; show r.val * 1 + i.val = r.val; omega
    | ⟨1, _⟩ => rfl
  have e4 : ∀ k : Fin 1024, idx_main_v13 (idx_main_v19 (ix2 r k)) = ix1 k := fun k => by
    funext x; match x with
    | ⟨0, _⟩ => rfl
  simp only [e1, e2, e3, e4, Fin.sum_univ_one]
  rw [← Cert.Norm.minus_half]
  pointwise []
  rfl

open Cert.RmsBwdRefIdeal.Read in
/-- The reference's gradient at the scale. -/
theorem reference_g (a h : Vec Ideal S4224x1024 .f32) (j : Fin 1024) :
    val_main_v38 (F := Ideal) a h (ix2 0 j) = ∑ r : Fin 4224, share a h j r := by
  simp only [val_main_v38_apply, val_main_v21_apply, val_main_cst_4_apply, val_main_v18_apply, val_main_v17_apply, val_main_cst_3_apply,
    val_main_v16_apply, val_main_v12_apply, val_main_v11_apply, val_main_v7_apply,
    val_main_v6_apply, val_main_v5_apply, val_main_cst_1_apply, val_main_v4_apply, val_main_v3_apply, val_main_cst_0_apply, val_main_v2_apply,
    val_main_v1_apply, val_main_cst_apply, val_main_v0_apply]
  have e0 : ∀ i r, idx_main_v17 (idx_main_v18 (idx_main_v21 (idx_main_v38 (ix2 0 j)) i)) r = ix2 r j := fun i r => by
    funext x; match x with
    | ⟨0, _⟩ => rfl
    | ⟨1, _⟩ => apply Fin.ext; show i.val * 1024 + (0 * 1024 + j.val) = j.val; omega
  have e1 : ∀ r k, idx_main_v1 (idx_main_v2 (idx_main_v11 (ix2 r j))) k = ix2 r k := fun r k => by
    funext x; match x with
    | ⟨0, _⟩ => rfl
    | ⟨1, _⟩ => rfl
  simp only [e0, e1, Fin.sum_univ_one]
  pointwise []
  refine Finset.sum_congr rfl fun r _ => ?_
  exact mul_comm _ _

/-- The kernel and the reference end with equal results. -/
theorem algebraic : Cert.algebraic_RmsBwdIdeal_RmsBwdRefIdeal := by
  intro m g m' g' _ hagree
  refine ⟨_, _, _, run_blocks m g, (θ_run Cert.RmsBwdRefIdeal.defs _ _).mono (fun r h c => ?_) (Cert.RmsBwdRefIdeal.Value.run m' g')⟩
  obtain ⟨e0, e1, e2, e3⟩ := hagree c
  obtain ⟨h4, h5, h6, h⟩ := h c
  refine ⟨h4.trans ?_, h5.trans ?_, h6.trans ?_, h⟩
  · rw [e0, e1, e2, e3, final m c _ rfl _ rfl _ rfl _ rfl]
    funext i
    obtain ⟨r, j, rfl⟩ : ∃ (r : Fin 4224) (j : Fin 1024), i = ix2 r j := ⟨i 0, i 1, (ix2_eta i).symm⟩
    exact reference _ _ _ _ r j
  · rw [e0, e1, e2, e3, final_b m c _ rfl _ rfl _ rfl _ rfl]
    funext i
    obtain ⟨r, j, rfl⟩ : ∃ (r : Fin 4224) (j : Fin 1024), i = ix2 r j := ⟨i 0, i 1, (ix2_eta i).symm⟩
    exact reference _ _ _ _ r j
  · rw [e0, e1, final_g m c _ rfl _ rfl]
    funext i
    obtain ⟨j, rfl⟩ : ∃ j : Fin 1024, i = ix2 0 j := ⟨i 1, by rw [← ix2_eta i]; congr 1; exact Subsingleton.elim _ _⟩
    exact reference_g _ _ j

/-- The reference terminates without fault, its arguments unchanged and its counters, of which it has none, at zero. -/
theorem frame_reference : Cert.quiescent_RmsBwdRefIdeal := fun m g _ =>
  (θ_run Cert.RmsBwdRefIdeal.defs _ _).mono (fun r h => ⟨fun c => (h c).2.2.2, sem_eq_zero_of_no_sems (by decide) r.2⟩)
    (Cert.RmsBwdRefIdeal.Value.run (F := Ideal) m g)

end Cert.RmsBwdIdeal.Product

end
-- ==== Proof.BandFold.lean ====
module

public import proofs.«01_k».proof.Defs
public import proofs.«01_k».proof.Proof.KernelRead
public import proofs.«01_k».proof.Proof.Gen.BandFoldIdeal.Value
public import proofs.«01_k».proof.Proof.Gen.BandFoldRefIdeal.Read

/-! # The gradients of the bands folded into the gradients of the keys and the values

Block `n` of 128 rows is the second half of band `n` and the first half of band `n + 1`, so its gradient is the sum
of those two halves' gradients; the last block has no band after it. -/

@[expose] public section

set_option maxRecDepth 16384

noncomputable section

open Idealize.ShloMosaic Idealize.ShloMosaic.TcCoe Idealize.SL.Sem
open Idealize.ShloMosaic.Pointwise

namespace Cert.BandFoldIdeal.Product

open Cert.BandFoldIdeal Cert.BandFoldIdeal.Gen Cert.BandFoldIdeal.Value
open Cert.KernelIdeal.Block (select_ofBool rowAt)

/-- Whether a point is the last. -/
theorem last_word : ∀ n : Fin 33, Scalar.cmpi .eq (BitVec.ofNat 32 n.val) 32#32 = BitVec.ofBool (decide (n.val = 32)) := by decide

/-- A block of the keys' gradient at an element. -/
theorem part (i : grid0.Coords) (n : Fin 33) (hn : (i 0).val = n.val) (x y : Vec Ideal S1x128x128 .f32) (r l : Fin 128) :
    k0_pay1 i x y (ix2 r l) = x (ix3 0 r l) + if n.val = 32 then (0 : EReal) else y (ix3 0 r l) := by
  pointwise [k0_pay1]
  rw [hn, last_word, select_ofBool]
  by_cases h : n.val = 32
  · rw [if_pos h, if_pos (decide_eq_true h)]
  · rw [if_neg h, if_neg (by simp [h])]

/-- The values' block is computed as the keys' is. -/
theorem part_v (i : grid0.Coords) (x y : Vec Ideal S1x128x128 .f32) : k0_pay2 i x y = k0_pay1 i x y := rfl

/-- The folded gradient of an array of bands. -/
def fold (x : Vec Ideal S33x256x128 .f32) (n : Fin 33) (r l : Fin 128) : EReal :=
  x (ix3 n ⟨128 + r.val, by omega⟩ l) + if h : n.val = 32 then 0 else x (ix3 ⟨n.val + 1, by have := n.isLt; omega⟩ ⟨r.val, by omega⟩ l)

variable (m : (b : Loc nD τ sig) → Buf (Elt Ideal) b) (c : Dev nD)

/-- The point's number is its grid coordinate. -/
theorem coord_val : ∀ t : Fin cfg0.N, ((grid0.coords t) 0).val = t.val := by decide +kernel
/-- Which block window 0 reads. -/
theorem idx0 : ∀ t : Fin cfg0.N, win0_0.index t = ![t.val, 1, 0] := by decide +kernel
/-- Which block window 1 reads. -/
theorem idx1 : ∀ t : Fin cfg0.N, win0_1.index t = ![min (t.val + 1) 32, 0, 0] := by decide +kernel
/-- Which block window 2 reads. -/
theorem idx2 : ∀ t : Fin cfg0.N, win0_2.index t = ![t.val, 1, 0] := by decide +kernel
/-- Which block window 3 reads. -/
theorem idx3 : ∀ t : Fin cfg0.N, win0_3.index t = ![min (t.val + 1) 32, 0, 0] := by decide +kernel
/-- Which block window 4 writes. -/
theorem idx4 : ∀ t : Fin cfg0.N, win0_4.index t = ![t.val, 0] := by decide +kernel
/-- Which block window 5 writes. -/
theorem idx5 : ∀ t : Fin cfg0.N, win0_5.index t = ![t.val, 0] := by decide +kernel

/-- There are 33 grid points. -/
theorem pt_lt (t : Fin cfg0.N) : t.val < 33 := by have := t.isLt; have : cfg0.N = 33 := N_0; omega

/-- What a point computes from the bands' gradient of the keys. -/
theorem point_k (x : Vec Ideal S33x256x128 .f32) (hx : m ((c : Thread nD τ).loc main_arg0) = x) (t : Fin cfg0.N) (r l : Fin 128) :
    k0_pay1 (grid0.coords t) (iblk m c 0 t) (iblk m c 1 t) (ix2 r l) = fold x ⟨t.val, pt_lt t⟩ r l := by
  rw [part (grid0.coords t) ⟨t.val, pt_lt t⟩ (coord_val t)]
  unfold fold
  rw [← hx, ← V_main_arg0 m c]
  have e0 : (iblk m c 0 t : Vec Ideal S1x128x128 .f32) (ix3 0 r l) = V m c main_arg0 (ix3 ⟨t.val, pt_lt t⟩ ⟨128 + r.val, by omega⟩ l) := by
    blk_ext [iblk, idx0 t]
  rw [e0]
  by_cases h : t.val = 32
  · rw [if_pos h, dif_pos h]
  · have hm : min (t.val + 1) 32 = t.val + 1 := by have := pt_lt t; omega
    have e1 : (iblk m c 1 t : Vec Ideal S1x128x128 .f32) (ix3 0 r l)
        = V m c main_arg0 (ix3 ⟨t.val + 1, by have := pt_lt t; omega⟩ ⟨r.val, by omega⟩ l) := by
      blk_ext [iblk, idx1 t, hm]
    rw [if_neg h, dif_neg h, e1]

/-- What a point computes from the bands' gradient of the values. -/
theorem point_v (x : Vec Ideal S33x256x128 .f32) (hx : m ((c : Thread nD τ).loc main_arg1) = x) (t : Fin cfg0.N) (r l : Fin 128) :
    k0_pay2 (grid0.coords t) (iblk m c 2 t) (iblk m c 3 t) (ix2 r l) = fold x ⟨t.val, pt_lt t⟩ r l := by
  rw [part_v, part (grid0.coords t) ⟨t.val, pt_lt t⟩ (coord_val t)]
  unfold fold
  rw [← hx, ← V_main_arg1 m c]
  have e0 : (iblk m c 2 t : Vec Ideal S1x128x128 .f32) (ix3 0 r l) = V m c main_arg1 (ix3 ⟨t.val, pt_lt t⟩ ⟨128 + r.val, by omega⟩ l) := by
    blk_ext [iblk, idx2 t]
  rw [e0]
  by_cases h : t.val = 32
  · rw [if_pos h, dif_pos h]
  · have hm : min (t.val + 1) 32 = t.val + 1 := by have := pt_lt t; omega
    have e1 : (iblk m c 3 t : Vec Ideal S1x128x128 .f32) (ix3 0 r l)
        = V m c main_arg1 (ix3 ⟨t.val + 1, by have := pt_lt t; omega⟩ ⟨r.val, by omega⟩ l) := by
      blk_ext [iblk, idx3 t, hm]
    rw [if_neg h, dif_neg h, e1]

open Cert.BandFoldRefIdeal.Read in
/-- The reference's folded gradient at an element. -/
theorem reference (x : Vec Ideal S33x256x128 .f32) (n : Fin 33) (r l : Fin 128) :
    val_main_v14 (F := Ideal) x (ix2 (rowAt n.val n.isLt r) l) = fold x n r l := by
  show val_main_v14 (F := Ideal) x (ix2 (⟨n.val * 128 + r.val, by omega⟩ : Fin 4224) l) = _
  pointwise [val_main_v14, val_main_v13, val_main_v12, val_main_v11, val_main_v10, val_main_v8, val_main_v7, val_main_cst_2]
  unfold fold
  by_cases h : n.val = 32
  · rw [dif_neg (by omega), dif_pos h]
  · rw [dif_pos (by omega), dif_neg h]
    simp only [Nat.add_comm 1 n.val]

/-- Both results of the reference are computed alike. -/
theorem ref_v (x : Vec Ideal S33x256x128 .f32) :
    Cert.BandFoldRefIdeal.Read.val_main_v28 (F := Ideal) x = Cert.BandFoldRefIdeal.Read.val_main_v14 (F := Ideal) x := rfl

/-- The keys' gradient after the run is the reference's. -/
theorem final_k (x : Vec Ideal S33x256x128 .f32) (hx : m ((c : Thread nD τ).loc main_arg0) = x) :
    (dats m 0 c).arrAt 4 cfg0.N = Cert.BandFoldRefIdeal.Read.val_main_v14 (F := Ideal) x := by
  refine (dats m 0 c).arrAt_eq_of_covers 4 _ (by decide +kernel) fun t hf y => ?_
  blk_simp
  rw [after0_4]
  frame_out
  obtain ⟨r, l, rfl⟩ : ∃ (r l : Fin 128), y = ix2 r l := ⟨y 0, y 1, (ix2_eta y).symm⟩
  have e : ((cfg0.win 4).blk t).view.emb (ix2 r l) = ix2 (rowAt t.val (pt_lt t) r) l := by
    funext a; apply Fin.ext
    match a with
    | ⟨0, _⟩ => show win0_4.index t 0 * 128 + 1 * r.val = t.val * 128 + r.val; rw [idx4]; show t.val * 128 + 1 * r.val = _; omega
    | ⟨1, _⟩ => show win0_4.index t 1 * 128 + 1 * l.val = l.val; rw [idx4]; show 0 * 128 + 1 * l.val = l.val; omega
  rw [e]
  exact (point_k m c x hx t r l).trans (reference x ⟨t.val, pt_lt t⟩ r l).symm

/-- The values' gradient after the run is the reference's. -/
theorem final_v (x : Vec Ideal S33x256x128 .f32) (hx : m ((c : Thread nD τ).loc main_arg1) = x) :
    (dats m 0 c).arrAt 5 cfg0.N = Cert.BandFoldRefIdeal.Read.val_main_v14 (F := Ideal) x := by
  refine (dats m 0 c).arrAt_eq_of_covers 5 _ (by decide +kernel) fun t hf y => ?_
  blk_simp
  rw [after0_5]
  frame_out
  obtain ⟨r, l, rfl⟩ : ∃ (r l : Fin 128), y = ix2 r l := ⟨y 0, y 1, (ix2_eta y).symm⟩
  have e : ((cfg0.win 5).blk t).view.emb (ix2 r l) = ix2 (rowAt t.val (pt_lt t) r) l := by
    funext a; apply Fin.ext
    match a with
    | ⟨0, _⟩ => show win0_5.index t 0 * 128 + 1 * r.val = t.val * 128 + r.val; rw [idx5]; show t.val * 128 + 1 * r.val = _; omega
    | ⟨1, _⟩ => show win0_5.index t 1 * 128 + 1 * l.val = l.val; rw [idx5]; show 0 * 128 + 1 * l.val = l.val; omega
  rw [e]
  exact (point_v m c x hx t r l).trans (reference x ⟨t.val, pt_lt t⟩ r l).symm

/-- The kernel and the reference end with equal results. -/
theorem algebraic : Cert.algebraic_BandFoldIdeal_BandFoldRefIdeal := by
  intro m g m' g' _ hagree
  refine ⟨_, _, run_blocks m g, (θ_run Cert.BandFoldRefIdeal.defs _ _).mono (fun r h c => ?_) (Cert.BandFoldRefIdeal.Value.run m' g')⟩
  obtain ⟨e0, e1⟩ := hagree c
  obtain ⟨h2, h3, h⟩ := h c
  refine ⟨h2.trans ?_, h3.trans ?_, h⟩
  · rw [e0, final_k m c _ rfl]
    rfl
  · rw [e1, final_v m c _ rfl]
    exact ref_v _

/-- The reference terminates without fault, its arguments unchanged and its counters, of which it has none, at zero. -/
theorem frame_reference : Cert.quiescent_BandFoldRefIdeal := fun m g _ =>
  (θ_run Cert.BandFoldRefIdeal.defs _ _).mono (fun r h => ⟨fun c => (h c).2.2, sem_eq_zero_of_no_sems (by decide) r.2⟩)
    (Cert.BandFoldRefIdeal.Value.run (F := Ideal) m g)

end Cert.BandFoldIdeal.Product

end
-- ==== Proof.SwaFwd.lean ====
module

public import proofs.«01_k».proof.Defs
public import proofs.«01_k».proof.Proof.KernelRead
public import proofs.«01_k».proof.Proof.Equal
public import proofs.«01_k».proof.Proof.Finite
public import proofs.«01_k».proof.Proof.Gen.SwaFwdIdeal.Value
public import proofs.«01_k».proof.Proof.Gen.SwaFwdRefIdeal.Read
public import proofs.«01_k».proof.Proof.Gen.Pre_finite_scores

/-! # The attention, forward

The scores, the mask and the probabilities of a head are those of the gradient's kernel, and the reference's those of
the gradient's reference. What is new is the last product, of the probabilities with the values. A hidden key has
probability zero, so it does not matter what its value is. -/

@[expose] public section

set_option maxRecDepth 16384

noncomputable section

open Idealize.ShloMosaic Idealize.ShloMosaic.TcCoe Idealize.SL.Sem
open Idealize.ShloMosaic.Pointwise

namespace Cert.SwaFwdIdeal.Product

open Cert.SwaFwdIdeal Cert.SwaFwdIdeal.Gen Cert.SwaFwdIdeal.Value
open Cert.Pre_finite (both real_of_bound top32)
open Cert.KernelIdeal.Block (keepBand half sideOf crossOf turned band probH turnBand)

/-- Where `finite_scores` is true, the arrays it names hold real numbers. -/
theorem reals (x0 : FVec Ideal S4224x512 .f32) (x1 x2 : FVec Ideal S4224x128 .f32) (x3 : FVec Ideal S8x128x256 .f32) (x4 : FVec Ideal S8 .f32)
    (h : Cert.Pre_finite_scores.fn (F := Ideal) x0 x1 x2 x3 x4 = fun _ => 1#1) :
    (∀ j, ∃ y : ℝ, (x0 j : EReal) = y) ∧ (∀ j, ∃ y : ℝ, (x1 j : EReal) = y) ∧ (∀ j, ∃ y : ℝ, (x3 j : EReal) = y)
    ∧ (∀ j, ∃ y : ℝ, (x4 j : EReal) = y) := by
  have h0 := congrFun h ix0
  unfold Cert.Pre_finite_scores.fn at h0
  dsimp only at h0
  obtain ⟨h0, e4⟩ := both h0
  obtain ⟨h0, e3⟩ := both h0
  obtain ⟨e0, e1⟩ := both h0
  exact ⟨real_of_bound _ _ _ _ _ _ (top32 _) e0, real_of_bound _ _ _ _ _ _ (top32 _) e1, real_of_bound _ _ _ _ _ _ (top32 _) e3,
    real_of_bound _ _ _ _ _ _ (top32 _) e4⟩

section Block

variable {F : FTy → Type} [FloatOps F] [Named F]
variable (i : grid0.Coords) (x0 : Vec F S8 .f32) (x1 : Vec F S128x512 .f32) (x2 x3 x4 x5 : Vec F S128x128 .f32) (x6 : Vec F S8x128x256 .f32)

/-- Head `h`'s part of its pair's result: its probabilities against its kept values. -/
def outH (h : Fin 8) : FVec F S128x128 .f32 :=
  matmul dot_S128x256_S256x128_S128x128_1_0_0_1_n_n none (truncf .bf16 (probH i x0 x1 x2 x3 x6 h) bitsLt_bf16_f32)
    (truncf .bf16 (keepBand (half (sideOf h)) (turned (band x4 x5) h)) bitsLt_bf16_f32) (constant S128x128 .f32 0x00000000#32)

/-- A pair's result. -/
def outPair (h h' : Fin 8) : FVec F S128x128 .f32 :=
  addf (addf (broadcast S128x128 (Scalar.ofBits .f32 0x00000000#32 : F .f32)) (outH i x0 x1 x2 x3 x4 x5 x6 h))
    (outH i x0 x1 x2 x3 x4 x5 x6 h')

/-- The block of the result. -/
def outBlock : FVec F S128x512 .bf16 :=
  truncf .bf16 (concatenate S128x512 1 [⟨S128x128, outPair i x0 x1 x2 x3 x4 x5 x6 0 1⟩,
    ⟨S128x128, outPair i x0 x1 x2 x3 x4 x5 x6 2 3⟩, ⟨S128x128, outPair i x0 x1 x2 x3 x4 x5 x6 4 5⟩,
    ⟨S128x128, outPair i x0 x1 x2 x3 x4 x5 x6 6 7⟩] concatenates_S128x128_S128x128_S128x128_S128x128_S128x512_d1)
    bitsLt_bf16_f32

variable (c : Dev nD) (arg1 : Memref sig .tc .smem S8 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128x256 .f32) (harg7 : arg7.IsWhole) (arg8 : Memref sig .tc .vmem S128x512 .bf16) (harg8 : arg8.IsWhole) (arg9 : Memref sig .tc .vmem S512x128 .bf16) (harg9 : arg9.IsWhole)

/-- The block of the result that a point leaves. -/
theorem out_7 : out0_A_7 c i arg1 harg1 arg2 harg2 arg3 harg3 arg4 harg4 arg5 harg5 arg6 harg6 arg7 harg7 arg8 harg8 arg9 harg9 x0 x1 x2 x3 x4 x5 x6
    = outBlock i x0 x1 x2 x3 x4 x5 x6 := by
  frame_out
  rfl

/-- The transposed block of the result that a point leaves. -/
theorem out_8 : out0_A_8 c i arg1 harg1 arg2 harg2 arg3 harg3 arg4 harg4 arg5 harg5 arg6 harg6 arg7 harg7 arg8 harg8 arg9 harg9 x0 x1 x2 x3 x4 x5 x6
    = transpose S512x128 [1, 0] (outBlock i x0 x1 x2 x3 x4 x5 x6) transposes_S128x512_p1_0_S512x128 := by
  frame_out
  rfl

end Block

/-! ## A block at an element -/

open Cert.KernelIdeal.Block (Holds PH probs keepBand_apply turnBand_apply rot kcol col pairs_apply projOf projOf_q projOf_k projOf_v
  rowAt rowsOf bandOf bandK vis idx_rows)
open Cert.ReferenceIdeal.Read (hd hd_surj Args row PH_band)
open Cert.Swa (P_hidden)

section Element

variable {i : grid0.Coords} {x0 : Vec Ideal S8 .f32} {x1 : Vec Ideal S128x512 .f32} {x2 x3 : Vec Ideal S128x128 .f32} {x6 : Vec Ideal S8x128x256 .f32}
  {s : Fin 8 → ℝ} {q : Fin 128 → Fin 512 → ℝ} {k : Fin 256 → Fin 128 → ℝ} {b : Fin 8 → Fin 128 → Fin 256 → ℝ}
  (H : Holds x0 x1 x2 x3 x2 x3 x6 (fun _ => (0 : EReal)) s q (fun _ _ => 0) k k b) (x4 x5 : Vec Ideal S128x128 .f32)
include H

/-- A head's part of its pair's result: zero outside the head's half. -/
theorem outH_apply (h : Fin 8) (r l : Fin 128) :
    outH i x0 x1 x2 x3 x4 x5 x6 h (ix2 r l) = if decide (64 ≤ l.val) = sideOf h then
      ∑ j : Fin 256, ((PH s q k b (i 0).val h r j : ℝ) : EReal) * band x4 x5 (ix2 j (rot (crossOf h) l)) else 0 := by
  pointwise [outH]
  rw [Finset.sum_congr rfl fun j _ => by rw [(probs (i := i) H h r).1 j, keepBand_apply, turned, turnBand_apply]]
  split
  · rfl
  · simp

/-- The block of the result: a head's probabilities against its values. -/
theorem outBlock_apply (r : Fin 128) (h : Fin 8) (d : Fin 64) :
    outBlock i x0 x1 x2 x3 x4 x5 x6 (ix2 r (col h d))
      = ∑ j : Fin 256, ((PH s q k b (i 0).val h r j : ℝ) : EReal) * band x4 x5 (ix2 j (kcol h d)) := by
  refine pairs_apply (fun h h' => outPair i x0 x1 x2 x3 x4 x5 x6 h h')
    (fun h => ∑ j : Fin 256, ((PH s q k b (i 0).val h r j : ℝ) : EReal) * band x4 x5 (ix2 j (kcol h d))) r d (fun h h' e e' l k0 hk hd => ?_) h
  pointwise [outPair]
  rw [outH_apply H, outH_apply H, e, e', ← hd]
  by_cases hl : l.val < 64
  · simp [hk, hl, show ¬ 64 ≤ l.val by omega]
  · simp [hk, hl, show 64 ≤ l.val by omega]

end Element

/-! ## The blocks of a point -/

variable (m : (b : Loc nD τ sig) → Buf (Elt Ideal) b) (c : Dev nD)

/-- The host lines before the call leave the queries, keys and values side by side. -/
theorem V_proj : ∃ z0 z1, V m c main_v2 = projOf (m ((c : Thread nD τ).loc main_arg0)) z0 (m ((c : Thread nD τ).loc main_arg1)) (m ((c : Thread nD τ).loc main_arg2)) z1 := by
  have e : ∀ b : Ref sig .tc, b ≠ main_v2 →
      StableHlo.after (hostOps0 (F := Ideal)).dropLast (fun b => m (c, b)) (Proc.devRef .tc b) = V m c b := fun b hb =>
    ((StableHlo.nary_result_ne _ _ _ _ _ _ hb).symm : _)
  have h : V m c main_v2 = projOf (StableHlo.after (hostOps0 (F := Ideal)).dropLast (fun b => m (c, b)) (Proc.devRef .tc main_arg0))
      (StableHlo.after (hostOps0 (F := Ideal)).dropLast (fun b => m (c, b)) (Proc.devRef .tc main_v0))
      (StableHlo.after (hostOps0 (F := Ideal)).dropLast (fun b => m (c, b)) (Proc.devRef .tc main_arg1))
      (StableHlo.after (hostOps0 (F := Ideal)).dropLast (fun b => m (c, b)) (Proc.devRef .tc main_arg2))
      (StableHlo.after (hostOps0 (F := Ideal)).dropLast (fun b => m (c, b)) (Proc.devRef .tc main_v1)) := by
    unfold_abbrev_sides
    unfold hostOps0
    simp only [StableHlo.after_cons, StableHlo.after_nil]
    rw [StableHlo.nary_result]
    rfl
  rw [e main_arg0 (by decide), e main_arg1 (by decide), e main_arg2 (by decide), V_main_arg0, V_main_arg1, V_main_arg2] at h
  exact ⟨_, _, h⟩

/-- The point's number is its grid coordinate. -/
theorem coord_val : ∀ t : Fin cfg0.N, ((grid0.coords t) 0).val = t.val := by decide +kernel
/-- Which block window 0 reads. -/
theorem idx0 : ∀ t : Fin cfg0.N, win0_0.index t = ![0] := by decide +kernel
/-- Which block window 1 reads. -/
theorem idx1 : ∀ t : Fin cfg0.N, win0_1.index t = ![t.val, 0] := by decide +kernel
/-- Which block window 2 reads. -/
theorem idx2 : ∀ t : Fin cfg0.N, win0_2.index t = ![t.val - 1, 48] := by decide +kernel
/-- Which block window 3 reads. -/
theorem idx3 : ∀ t : Fin cfg0.N, win0_3.index t = ![t.val, 48] := by decide +kernel
/-- Which block window 4 reads. -/
theorem idx4 : ∀ t : Fin cfg0.N, win0_4.index t = ![t.val - 1, 49] := by decide +kernel
/-- Which block window 5 reads. -/
theorem idx5 : ∀ t : Fin cfg0.N, win0_5.index t = ![t.val, 49] := by decide +kernel
/-- Which block window 6 reads. -/
theorem idx6 : ∀ t : Fin cfg0.N, win0_6.index t = ![0, 0, 0] := by decide +kernel
/-- Which block window 7 writes. -/
theorem idx7 : ∀ t : Fin cfg0.N, win0_7.index t = ![t.val, 0] := by decide +kernel
/-- Which block window 8 writes. -/
theorem idx8 : ∀ t : Fin cfg0.N, win0_8.index t = ![0, t.val] := by decide +kernel

/-- Every element of a block is in a column of a head. -/
theorem col_block (y : S128x512.Idx) : ∃ (r : Fin 128) (h : Fin 8) (d : Fin 64), y = ix2 r (col h d) := by
  have h1 : (y 1).val < 512 := (y 1).isLt
  refine ⟨y 0, ⟨(y 1).val / 64, by omega⟩, ⟨(y 1).val % 64, by omega⟩, ?_⟩
  funext a
  match a with
  | ⟨0, _⟩ => rfl
  | ⟨1, _⟩ => exact Fin.ext (show (y 1).val = (y 1).val / 64 * 64 + (y 1).val % 64 by omega)

/-- There are 33 grid points. -/
theorem pt_lt (t : Fin cfg0.N) : t.val < 33 := by have := t.isLt; have : cfg0.N = 33 := N_0; omega

/-- Two blocks of 128 rows put one above the other: the block before `n` and block `n`. -/
def bandAt (x : Vec Ideal S4224x128 .f32) (n : Fin 33) (j : Fin 256) (l : Fin 128) : EReal :=
  if h : j.val < 128 then x (ix2 (rowAt (n.val - 1) (by have := n.isLt; omega) ⟨j.val, h⟩) l)
  else x (ix2 (rowAt n.val n.isLt ⟨j.val - 128, by have := j.isLt; omega⟩) l)

section Arrays

variable {q : Vec Ideal S4224x512 .f32} {k v : Vec Ideal S4224x128 .f32} {b : Vec Ideal S8x128x256 .f32} {s : Vec Ideal S8 .f32}

/-- The sinks a point reads. -/
theorem blk0 (hs : m ((c : Thread nD τ).loc main_arg4) = s) (t : Fin cfg0.N) (h : Fin 8) : (iblk m c 0 t : Vec Ideal S8 .f32) (ix1 h) = s (ix1 h) := by
  rw [← hs, ← V_main_arg4 m c]
  blk_ext [iblk, idx0 t]

/-- The queries a point reads. -/
theorem blk1 (hq : m ((c : Thread nD τ).loc main_arg0) = q) (t : Fin cfg0.N) (r : Fin 128) (l : Fin 512) :
    (iblk m c 1 t : Vec Ideal S128x512 .f32) (ix2 r l) = q (ix2 (rowAt t.val (pt_lt t) r) l) := by
  obtain ⟨z0, z1, hV⟩ := V_proj m c
  have hl := l.isLt
  rw [← hq, ← projOf_q (m ((c : Thread nD τ).loc main_arg0)) z0 (m ((c : Thread nD τ).loc main_arg1)) (m ((c : Thread nD τ).loc main_arg2)) z1 _ l
    ⟨l.val, by omega⟩ rfl, ← hV]
  blk_ext [iblk, idx1 t, rowAt]

/-- The keys a point reads. -/
theorem bandk (hk : m ((c : Thread nD τ).loc main_arg1) = k) (t : Fin cfg0.N) (j : Fin 256) (l : Fin 128) :
    band (iblk m c 2 t) (iblk m c 3 t) (ix2 j l) = bandAt k ⟨t.val, pt_lt t⟩ j l := by
  obtain ⟨z0, z1, hV⟩ := V_proj m c
  have hl := l.isLt
  have e := fun n => projOf_k (m ((c : Thread nD τ).loc main_arg0)) z0 (m ((c : Thread nD τ).loc main_arg1)) (m ((c : Thread nD τ).loc main_arg2)) z1 n l
    ⟨6144 + l.val, by omega⟩ rfl
  subst hk
  pointwise [band]
  unfold bandAt
  by_cases h : j.val < 128
  · rw [dif_pos h, dif_pos h, ← e, ← hV]
    blk_ext [iblk, idx2 t, rowAt]
  · rw [dif_neg h, dif_neg h, ← e, ← hV]
    blk_ext [iblk, idx3 t, rowAt]

/-- The values a point reads. -/
theorem bandv (hv : m ((c : Thread nD τ).loc main_arg2) = v) (t : Fin cfg0.N) (j : Fin 256) (l : Fin 128) :
    band (iblk m c 4 t) (iblk m c 5 t) (ix2 j l) = bandAt v ⟨t.val, pt_lt t⟩ j l := by
  obtain ⟨z0, z1, hV⟩ := V_proj m c
  have hl := l.isLt
  have e := fun n => projOf_v (m ((c : Thread nD τ).loc main_arg0)) z0 (m ((c : Thread nD τ).loc main_arg1)) (m ((c : Thread nD τ).loc main_arg2)) z1 n l
    ⟨6272 + l.val, by omega⟩ rfl
  subst hv
  pointwise [band]
  unfold bandAt
  by_cases h : j.val < 128
  · rw [dif_pos h, dif_pos h, ← e, ← hV]
    blk_ext [iblk, idx4 t, rowAt]
  · rw [dif_neg h, dif_neg h, ← e, ← hV]
    blk_ext [iblk, idx5 t, rowAt]

/-- The bias a point reads. -/
theorem blk6 (hb : m ((c : Thread nD τ).loc main_arg3) = b) (t : Fin cfg0.N) (h : Fin 8) (r : Fin 128) (j : Fin 256) :
    (iblk m c 6 t : Vec Ideal S8x128x256 .f32) (ix3 h r j) = b (ix3 h r j) := by
  rw [← hb, ← V_main_arg3 m c]
  blk_ext [iblk, idx6 t]

/-! ## The results -/

/-- The reference's band of the values where the key is visible. -/
theorem band_ref (x : Vec Ideal S4224x128 .f32) (n : Fin 33) (r : Fin 128) (j : Fin 256) (hv : vis n.val r j = true) (l : Fin 128) :
    Cert.SwaFwdRefIdeal.Read.val_main_v7 (F := Ideal) x (ix3 n j l) = bandAt x n j l := by
  have hn : j.val < 128 → 1 ≤ n.val := fun hj => by simp only [vis, decide_eq_true_eq] at hv; omega
  pointwise [Cert.SwaFwdRefIdeal.Read.val_main_v7, Cert.SwaFwdRefIdeal.Read.val_main_v6, Cert.SwaFwdRefIdeal.Read.val_main_v5,
    Cert.SwaFwdRefIdeal.Read.val_main_v4, Cert.SwaFwdRefIdeal.Read.val_main_call1_v0, Cert.SwaFwdRefIdeal.Read.val_main_c_0]
  unfold bandAt
  by_cases h : j.val < 128
  · rw [dif_pos h, dif_pos h, dif_pos ⟨⟨hn h, by have := n.isLt; omega⟩, h⟩]
    rfl
  · rw [dif_neg h, dif_neg h]
    rfl

/-- The probabilities the reference forms are those its gradient forms. -/
theorem prob_ref : Cert.SwaFwdRefIdeal.Read.val_main_v67 (F := Ideal) q k b s = Cert.ReferenceIdeal.Read.val_main_v91 (F := Ideal) q k b s := rfl

variable {s' : Fin 8 → ℝ} {q' : Fin 4224 → Fin 512 → ℝ} {k' : Fin 4224 → Fin 128 → ℝ} {b' : Fin 8 → Fin 128 → Fin 256 → ℝ}
  (R : Args q (fun _ => (0 : EReal)) k k b s s' q' (fun _ _ => 0) k' k' b')
include R

/-- A head's result: its probabilities against its values. -/
def attend (s' : Fin 8 → ℝ) (q' : Fin 4224 → Fin 512 → ℝ) (k' : Fin 4224 → Fin 128 → ℝ) (b' : Fin 8 → Fin 128 → Fin 256 → ℝ)
    (v : Vec Ideal S4224x128 .f32) (n : Fin 33) (r : Fin 128) (h : Fin 8) (d : Fin 64) : EReal :=
  ∑ j : Fin 256, ((PH s' (rowsOf q' n) (bandOf k' n) b' n.val h r j : ℝ) : EReal) * bandAt v n j (kcol h d)

/-- The reference's result at an element. -/
theorem reference (n : Fin 33) (r : Fin 128) (h : Fin 8) (d : Fin 64) :
    Cert.SwaFwdRefIdeal.Read.val_main_v71 (F := Ideal) q k v b s (ix2 (rowAt n.val n.isLt r) (col h d)) = attend s' q' k' b' v n r h d := by
  obtain ⟨a, u, rfl⟩ := hd_surj h
  have e : Cert.SwaFwdRefIdeal.Read.val_main_v71 (F := Ideal) q k v b s (ix2 (rowAt n.val n.isLt r) (col (hd a u) d))
      = ∑ j : Fin 256, (Cert.SwaFwdRefIdeal.Read.val_main_v10 (F := Ideal) v (ix4 n j a d) : EReal)
          * Cert.SwaFwdRefIdeal.Read.val_main_v67 (F := Ideal) q k b s (ix5 n a u r j) := by
    show Cert.SwaFwdRefIdeal.Read.val_main_v71 (F := Ideal) q k v b s
      (ix2 (⟨n.val * 128 + r.val, by omega⟩ : Fin 4224) (⟨(a.val * 4 + u.val) * 64 + d.val, by omega⟩ : Fin 512)) = _
    pointwise [Cert.SwaFwdRefIdeal.Read.val_main_v71, Cert.SwaFwdRefIdeal.Read.val_main_v70, Cert.SwaFwdRefIdeal.Read.val_main_v69,
      Cert.SwaFwdRefIdeal.Read.val_main_v68]
  rw [e, prob_ref]
  unfold attend
  refine Finset.sum_congr rfl fun j _ => ?_
  rw [(row R n a u r).1 j, PH_band, mul_comm]
  by_cases hv : vis n.val r j = true
  · congr 1
    have el : kcol (hd a u) d = ⟨a.val * 64 + d.val, by have := a.isLt; omega⟩ :=
      Fin.ext (show (a.val * 4 + u.val) / 4 * 64 + d.val = a.val * 64 + d.val by have := u.isLt; omega)
    rw [← band_ref v n r j hv, el]
    pointwise [Cert.SwaFwdRefIdeal.Read.val_main_v10]
  · have z : PH s' (rowsOf q' n) (bandOf k' n) b' n.val (hd a u) r j = 0 := by
      unfold PH; exact P_hidden _ _ _ _ _ (by simpa using hv)
    rw [z, EReal.coe_zero, zero_mul, zero_mul]

variable (hq : m ((c : Thread nD τ).loc main_arg0) = q) (hk : m ((c : Thread nD τ).loc main_arg1) = k) (hv : m ((c : Thread nD τ).loc main_arg2) = v)
  (hb : m ((c : Thread nD τ).loc main_arg3) = b) (hs : m ((c : Thread nD τ).loc main_arg4) = s)
include hq hk hv hb hs

/-- What a point computes at an element. -/
theorem point (t : Fin cfg0.N) (r : Fin 128) (h : Fin 8) (d : Fin 64) :
    outBlock (grid0.coords t) (iblk m c 0 t) (iblk m c 1 t) (iblk m c 2 t) (iblk m c 3 t) (iblk m c 4 t) (iblk m c 5 t) (iblk m c 6 t) (ix2 r (col h d))
      = Cert.SwaFwdRefIdeal.Read.val_main_v71 (F := Ideal) q k v b s (ix2 (rowAt t.val (pt_lt t) r) (col h d)) := by
  have key : ∀ j l, band (iblk m c 2 t) (iblk m c 3 t) (ix2 j l) = ((bandOf k' ⟨t.val, pt_lt t⟩ j l : ℝ) : EReal) := fun j l => by
    rw [bandk m c hk]
    unfold bandAt bandOf bandK
    split <;> exact R.key _ _
  have H : Holds (iblk m c 0 t) (iblk m c 1 t) (iblk m c 2 t) (iblk m c 3 t) (iblk m c 2 t) (iblk m c 3 t) (iblk m c 6 t) (fun _ => (0 : EReal))
      s' (rowsOf q' ⟨t.val, pt_lt t⟩) (fun _ _ => 0) (bandOf k' ⟨t.val, pt_lt t⟩) (bandOf k' ⟨t.val, pt_lt t⟩) b' :=
    ⟨fun h => (blk0 m c hs t h).trans (R.sink h), fun r l => (blk1 m c hq t r l).trans (R.qry _ _), key, key,
      fun h r j => (blk6 m c hb t h r j).trans (R.bias h r j), fun _ _ => rfl⟩
  refine (outBlock_apply H _ _ r h d).trans (Eq.trans ?_ (reference R ⟨t.val, pt_lt t⟩ r h d).symm)
  unfold attend
  refine Finset.sum_congr rfl fun j _ => ?_
  rw [bandv m c hv, coord_val]

/-- The result after the run is the reference's. -/
theorem final : (dats m 0 c).arrAt 7 cfg0.N = Cert.SwaFwdRefIdeal.Read.val_main_v71 (F := Ideal) q k v b s := by
  refine (dats m 0 c).arrAt_eq_of_covers 7 _ (by decide +kernel) fun t hf y => ?_
  blk_simp
  rw [after0_7]
  unfold outsAt0
  rw [out_7]
  obtain ⟨r, h, d, rfl⟩ : ∃ (r : Fin 128) (h : Fin 8) (d : Fin 64), y = ix2 r (col h d) := col_block y
  have e : ((cfg0.win 7).blk t).view.emb (ix2 r (col h d)) = ix2 (rowAt t.val (pt_lt t) r) (col h d) := by
    funext x; apply Fin.ext
    match x with
    | ⟨0, _⟩ => show win0_7.index t 0 * 128 + 1 * r.val = t.val * 128 + r.val; rw [idx7]; show t.val * 128 + 1 * r.val = _; omega
    | ⟨1, _⟩ => show win0_7.index t 1 * 512 + 1 * (col h d).val = (col h d).val; rw [idx7]; show 0 * 512 + 1 * (col h d).val = _; omega
  rw [e]
  exact point m c R hq hk hv hb hs t r h d

/-- Its transpose after the run is the reference's. -/
theorem final_t : (dats m 0 c).arrAt 8 cfg0.N = Cert.SwaFwdRefIdeal.Read.val_main_v72 (F := Ideal) q k v b s := by
  refine (dats m 0 c).arrAt_eq_of_covers 8 _ (by decide +kernel) fun t hf y => ?_
  blk_simp
  rw [after0_8]
  unfold outsAt0
  rw [out_8]
  obtain ⟨l, r, rfl⟩ : ∃ (l : Fin 512) (r : Fin 128), y = ix2 l r := ⟨y 0, y 1, (ix2_eta y).symm⟩
  obtain ⟨r', h, d, hl⟩ := col_block (ix2 r l)
  have e : ((cfg0.win 8).blk t).view.emb (ix2 l r) = ix2 l (rowAt t.val (pt_lt t) r) := by
    funext x; apply Fin.ext
    match x with
    | ⟨0, _⟩ => show win0_8.index t 0 * 512 + 1 * l.val = l.val; rw [idx8]; show 0 * 512 + 1 * l.val = l.val; omega
    | ⟨1, _⟩ => show win0_8.index t 1 * 128 + 1 * r.val = t.val * 128 + r.val; rw [idx8]; show t.val * 128 + 1 * r.val = _; omega
  have hl' : l = col h d := congrFun hl 1
  rw [e]
  refine Eq.trans ?_ (Eq.trans (point m c R hq hk hv hb hs t r h d) ?_)
  · generalize outBlock (grid0.coords t) (iblk m c 0 t) (iblk m c 1 t) (iblk m c 2 t) (iblk m c 3 t) (iblk m c 4 t) (iblk m c 5 t) (iblk m c 6 t) = z
    rw [← hl']
    show transpose S512x128 [1, 0] z transposes_S128x512_p1_0_S512x128 (ix2 l r) = _
    pointwise []
  · rw [← hl']
    refine Eq.trans (congrArg _ ?_) (Cert.SwaFwdRefIdeal.Read.val_main_v72_apply (F := Ideal) q k v b s _).symm
    funext x; match x with
    | ⟨0, _⟩ => rfl
    | ⟨1, _⟩ => rfl

end Arrays

/-- The mask's constant, named, stands for minus infinity. -/
theorem preserves : Cert.preserves_SwaFwd_SwaFwdIdeal :=
  IdealRules.named_const.statement Cert.SwaFwdIdeal.κ "mask" .f32 0xF149F2CA#32 ⊥ rfl

/-- The kernel and the reference end with equal results. -/
theorem algebraic : Cert.algebraic_SwaFwdIdeal_SwaFwdRefIdeal_pre_finite_scores := by
  intro m g m' g' hpre hagree
  refine ⟨_, _, run_blocks m g, (θ_run Cert.SwaFwdRefIdeal.defs _ _).mono (fun r h c => ?_) (Cert.SwaFwdRefIdeal.Value.run m' g')⟩
  obtain ⟨e0, e1, e2, e3, e4⟩ := hagree c
  obtain ⟨h2, h3, h⟩ := h c
  obtain ⟨r0, r1, r3, r4⟩ := reals _ _ _ _ _ (hpre c)
  choose q hq using r0
  choose k hk using r1
  choose b hb using r3
  choose s hs using r4
  have R : Args (m ((c : Thread nD τ).loc main_arg0)) (fun _ => (0 : EReal)) (m ((c : Thread nD τ).loc main_arg1)) (m ((c : Thread nD τ).loc main_arg1))
      (m ((c : Thread nD τ).loc main_arg3)) (m ((c : Thread nD τ).loc main_arg4)) (fun h => s (ix1 h)) (fun r l => q (ix2 r l)) (fun _ _ => 0)
      (fun r l => k (ix2 r l)) (fun r l => k (ix2 r l)) (fun h r j => b (ix3 h r j)) :=
    ⟨fun _ _ => hq _, fun _ _ => hk _, fun _ _ => hk _, fun _ _ _ => hb _, fun _ => hs _, fun _ _ => rfl⟩
  refine ⟨h2.trans ?_, h3.trans ?_, h⟩
  · refine (Cert.SwaFwdRefIdeal.Read.val_main_v71_eq (F := Ideal) m' c).trans ?_
    refine Eq.trans ?_ (final m c R rfl rfl rfl rfl rfl).symm
    show Cert.SwaFwdRefIdeal.Read.val_main_v71 (F := Ideal) (m' (c.tc.loc Cert.SwaFwdRefIdeal.main_arg0)) (m' (c.tc.loc Cert.SwaFwdRefIdeal.main_arg1))
      (m' (c.tc.loc Cert.SwaFwdRefIdeal.main_arg2)) (m' (c.tc.loc Cert.SwaFwdRefIdeal.main_arg3)) (m' (c.tc.loc Cert.SwaFwdRefIdeal.main_arg4)) = _
    rw [e0, e1, e2, e3, e4]
  · refine (Cert.SwaFwdRefIdeal.Read.val_main_v72_eq (F := Ideal) m' c).trans ?_
    refine Eq.trans ?_ (final_t m c R rfl rfl rfl rfl rfl).symm
    show Cert.SwaFwdRefIdeal.Read.val_main_v72 (F := Ideal) (m' (c.tc.loc Cert.SwaFwdRefIdeal.main_arg0)) (m' (c.tc.loc Cert.SwaFwdRefIdeal.main_arg1))
      (m' (c.tc.loc Cert.SwaFwdRefIdeal.main_arg2)) (m' (c.tc.loc Cert.SwaFwdRefIdeal.main_arg3)) (m' (c.tc.loc Cert.SwaFwdRefIdeal.main_arg4)) = _
    rw [e0, e1, e2, e3, e4]

/-- The reference terminates without fault, its arguments unchanged and its counters, of which it has none, at zero. -/
theorem frame_reference : Cert.quiescent_SwaFwdRefIdeal := fun m g _ =>
  (θ_run Cert.SwaFwdRefIdeal.defs _ _).mono (fun r h => ⟨fun c => (h c).2.2, sem_eq_zero_of_no_sems (by decide) r.2⟩)
    (Cert.SwaFwdRefIdeal.Value.run (F := Ideal) m g)

end Cert.SwaFwdIdeal.Product

end
-- ==== Proof.LossHead.lean ====
module

public import proofs.«01_k».proof.Defs
public import proofs.«01_k».proof.Proof.KernelRead
public import proofs.«01_k».proof.Proof.Norm
public import proofs.«01_k».proof.Proof.Gen.LossHeadIdeal.Value
public import proofs.«01_k».proof.Proof.Gen.LossHeadRefIdeal.Read

/-! # The loss and its gradient at the last norm

The rows after the first 128 are normed, scaled and set against the targets; half the sum of the rows' mean squared
errors is the loss. Its gradient at a row is the gradient of the norm at the error over the width; the scale's
gradient and the loss are sums over all rows, kept in one block from point to point. -/

@[expose] public section

set_option maxRecDepth 16384

noncomputable section

open Idealize.ShloMosaic Idealize.ShloMosaic.TcCoe Idealize.SL.Sem
open Idealize.ShloMosaic.Pointwise

namespace Cert.LossHeadIdeal.Product

open Cert.LossHeadIdeal Cert.LossHeadIdeal.Gen Cert.LossHeadIdeal.Value
open Cert.KernelIdeal.Block (select_ofBool)

/-- One over the width, as the kernel writes it. -/
def inv : EReal := Ideal.ofBits .f32 0x3A800000#32

/-- Half of one over the width, as the kernel writes it. -/
def halfInv : EReal := Ideal.ofBits .f32 0x3A000000#32

/-- Half of one over the width is a 2048th. -/
theorem halfInv_eq : halfInv = ((1 / 2048 : ℝ) : EReal) := by
  unfold halfInv
  simp [Ideal.ofBits, Ideal.ieee, -EReal.coe_mul]
  norm_num

/-- Whether a point's rows have targets. -/
theorem later_word : ∀ n : Fin 33, Scalar.cmpi .sge (BitVec.ofNat 32 n.val) 1#32 = BitVec.ofBool (decide (1 ≤ n.val)) := by decide

/-- A block's rows normed, at an element. -/
theorem part_xh (x : Vec Ideal S128x1024 .f32) (r : Fin 128) (j : Fin 1024) :
    k0_pay6 x (ix2 r j) = x (ix2 r j) * Cert.Norm.factor (∑ k : Fin 1024, x (ix2 r k) * x (ix2 r k)) := by
  pointwise [k0_pay6, k0_pay5]
  rfl

/-- A block's factors. -/
theorem part_factor (x : Vec Ideal S128x1024 .f32) (r : Fin 128) :
    k0_pay5 x (ix2 r 0) = Cert.Norm.factor (∑ k : Fin 1024, x (ix2 r k) * x (ix2 r k)) := by
  pointwise [k0_pay5]
  rfl

/-- A block's errors, at an element. -/
theorem part_err (i : grid0.Coords) (n : Fin 33) (hn : (i 0).val = n.val) (x : Vec Ideal S128x1024 .f32) (w : Vec Ideal S1x1024 .f32)
    (z : Vec Ideal S128x1024 .f32) (r : Fin 128) (j : Fin 1024) :
    k0_pay8 i x w z (ix2 r j) = if 1 ≤ n.val then k0_pay6 x (ix2 r j) * w (ix2 0 j) - z (ix2 r j) else (0 : EReal) := by
  unfold k0_pay8 k0_pay7
  generalize k0_pay6 x = y
  pointwise []
  rw [hn, later_word, select_ofBool]
  by_cases h : 1 ≤ n.val
  · rw [if_pos h, if_pos (decide_eq_true h)]
  · rw [if_neg h, if_neg (by simp [h])]

/-- A block of the gradient at the rows, at an element. -/
theorem part_dh (i : grid0.Coords) (x : Vec Ideal S128x1024 .f32) (w : Vec Ideal S1x1024 .f32) (z : Vec Ideal S128x1024 .f32) (r : Fin 128) (j : Fin 1024) :
    k0_pay10 i x w z (ix2 r j) = k0_pay5 x (ix2 r 0) * (k0_pay8 i x w z (ix2 r j) * inv * w (ix2 0 j)
      - k0_pay6 x (ix2 r j) * Ideal.div (∑ k : Fin 1024, k0_pay8 i x w z (ix2 r k) * inv * w (ix2 0 k) * k0_pay6 x (ix2 r k)) Cert.Norm.width) := by
  unfold k0_pay10 k0_pay9 k0_pay7
  generalize k0_pay8 i x w z = e
  generalize k0_pay6 x = y
  generalize k0_pay5 x = f
  pointwise []
  rfl

/-- A block's share of the gradient at the scale, at an element. -/
theorem part_dg (i : grid0.Coords) (x : Vec Ideal S128x1024 .f32) (w : Vec Ideal S1x1024 .f32) (z : Vec Ideal S128x1024 .f32) (j : Fin 1024) :
    k0_pay1 (k0_pay12 i x w z) (ix2 0 j) = ∑ r : Fin 128, k0_pay8 i x w z (ix2 r j) * inv * k0_pay6 x (ix2 r j) := by
  unfold k0_pay1 k0_pay12 k0_pay9
  generalize k0_pay8 i x w z = e
  generalize k0_pay6 x = y
  pointwise []
  rfl

/-- A block's share of the loss. -/
theorem part_loss (e : Vec Ideal S128x1024 .f32) (l : Fin 128) :
    k0_pay2 (F := Ideal) e (ix2 0 l) = (∑ r : Fin 128, ∑ k : Fin 1024, e (ix2 r k) * e (ix2 r k)) * halfInv := by
  pointwise [k0_pay2]
  rfl

/-- Adding a share of the scale's gradient to what is kept, at an element. -/
theorem part_add_g (p : Vec Ideal S128x1024 .f32) (o : Vec Ideal S1x1024 .f32) (j : Fin 1024) : k0_pay3 (F := Ideal) p o (ix2 0 j) = o (ix2 0 j) + k0_pay1 (F := Ideal) p (ix2 0 j) := by
  unfold k0_pay3
  generalize k0_pay1 (F := Ideal) p = q
  pointwise []

/-- Adding a share of the loss to what is kept, at an element. -/
theorem part_add_l (p : Vec Ideal S128x1024 .f32) (o : Vec Ideal S1x128 .f32) (l : Fin 128) : k0_pay4 (F := Ideal) p o (ix2 0 l) = o (ix2 0 l) + k0_pay2 (F := Ideal) p (ix2 0 l) := by
  unfold k0_pay4
  generalize k0_pay2 (F := Ideal) p = q
  pointwise []

/-- The factor of a row of an array. -/
def fac (h : Vec Ideal S4224x1024 .f32) (r : Fin 4224) : EReal := Cert.Norm.factor (∑ k : Fin 1024, h (ix2 r k) * h (ix2 r k))

/-- The error of a row that has a target. -/
def off (h : Vec Ideal S4224x1024 .f32) (y : Vec Ideal S4096x1024 .f32) (g : Vec Ideal S1024 .f32) (s : Fin 4096) (j : Fin 1024) : EReal :=
  h (ix2 ⟨128 + s.val, by omega⟩ j) * fac h ⟨128 + s.val, by omega⟩ * g (ix1 j) - y (ix2 s j)

/-- The error of any row: zero where there is no target. -/
def err (h : Vec Ideal S4224x1024 .f32) (y : Vec Ideal S4096x1024 .f32) (g : Vec Ideal S1024 .f32) (r : Fin 4224) (j : Fin 1024) : EReal :=
  if hr : 128 ≤ r.val then off h y g ⟨r.val - 128, by omega⟩ j else 0

/-- The gradient at the rows, as the kernel writes it. -/
def dh (h : Vec Ideal S4224x1024 .f32) (y : Vec Ideal S4096x1024 .f32) (g : Vec Ideal S1024 .f32) (r : Fin 4224) (j : Fin 1024) : EReal :=
  fac h r * (err h y g r j * inv * g (ix1 j)
    - h (ix2 r j) * fac h r * Ideal.div (∑ k : Fin 1024, err h y g r k * inv * g (ix1 k) * (h (ix2 r k) * fac h r)) Cert.Norm.width)

/-- A row's share of the gradient at the scale. -/
def share (h : Vec Ideal S4224x1024 .f32) (y : Vec Ideal S4096x1024 .f32) (g : Vec Ideal S1024 .f32) (j : Fin 1024) (r : Fin 4224) : EReal :=
  err h y g r j * inv * (h (ix2 r j) * fac h r)

/-- A row's squared error. -/
def sq (h : Vec Ideal S4224x1024 .f32) (y : Vec Ideal S4096x1024 .f32) (g : Vec Ideal S1024 .f32) (r : Fin 4224) : EReal :=
  ∑ k : Fin 1024, err h y g r k * err h y g r k

variable (m : (b : Loc nD τ sig) → Buf (Elt Ideal) b) (c : Dev nD)

/-- The point's number is its grid coordinate. -/
theorem coord_val : ∀ t : Fin cfg0.N, ((grid0.coords t) 0).val = t.val := by decide +kernel
/-- Which block the rows' window reads. -/
theorem idx0 : ∀ t : Fin cfg0.N, win0_0.index t = ![t.val, 0] := by decide +kernel
/-- Which block the targets' window reads. -/
theorem idx1 : ∀ t : Fin cfg0.N, win0_1.index t = ![t.val - 1, 0] := by decide +kernel
/-- Which block the scale's window reads. -/
theorem idx2 : ∀ t : Fin cfg0.N, win0_2.index t = ![0, 0] := by decide +kernel
/-- Which block the window of the rows' gradient writes. -/
theorem idx3 : ∀ t : Fin cfg0.N, win0_3.index t = ![t.val, 0] := by decide +kernel
/-- Which block the window of its narrow copy writes. -/
theorem idx4 : ∀ t : Fin cfg0.N, win0_4.index t = ![t.val, 0] := by decide +kernel
/-- Which block the window of the scale's gradient writes. -/
theorem idx5 : ∀ t : Fin cfg0.N, win0_5.index t = ![0, 0] := by decide +kernel
/-- Which block the window of the loss writes. -/
theorem idx6 : ∀ t : Fin cfg0.N, win0_6.index t = ![0, 0] := by decide +kernel

/-- There are 33 grid points. -/
theorem pt_lt (t : Fin cfg0.N) : t.val < 33 := lt_of_lt_of_eq t.isLt N_0

/-- The host line before the call makes the scale a row. -/
theorem V_scale (j : Fin 1024) : V m c main_v0 (ix2 0 j) = m ((c : Thread nD τ).loc main_arg2) (ix1 j) := by
  unfold_abbrev_sides
  unfold hostOps0
  simp only [StableHlo.after_cons, StableHlo.after_nil]
  rw [StableHlo.reshape_result]
  pointwise []

/-- A point's row of the whole array. -/
def row (t : Fin cfg0.N) (r : Fin 128) : Fin 4224 := ⟨128 * t.val + r.val, by have := pt_lt t; omega⟩

/-- What a point reads of the rows. -/
theorem point_h (h : Vec Ideal S4224x1024 .f32) (hh : m ((c : Thread nD τ).loc main_arg0) = h) (t : Fin cfg0.N) (r : Fin 128) (j : Fin 1024) :
    (iblk m c 0 t : Vec Ideal S128x1024 .f32) (ix2 r j) = h (ix2 (row t r) j) := by
  rw [← hh, ← V_main_arg0 m c]
  blk_ext [iblk, idx0 t, row]

/-- What a point reads of the targets. -/
theorem point_y (y : Vec Ideal S4096x1024 .f32) (hy : m ((c : Thread nD τ).loc main_arg1) = y) (t : Fin cfg0.N) (r : Fin 128) (j : Fin 1024) :
    (iblk m c 1 t : Vec Ideal S128x1024 .f32) (ix2 r j) = y (ix2 ⟨128 * (t.val - 1) + r.val, by have := pt_lt t; omega⟩ j) := by
  rw [← hy, ← V_main_arg1 m c]
  blk_ext [iblk, idx1 t]

/-- What a point reads of the scale. -/
theorem point_g (g : Vec Ideal S1024 .f32) (hg : m ((c : Thread nD τ).loc main_arg2) = g) (t : Fin cfg0.N) (j : Fin 1024) :
    (iblk m c 2 t : Vec Ideal S1x1024 .f32) (ix2 0 j) = g (ix1 j) := by
  rw [← hg, ← V_scale m c]
  blk_ext [iblk, idx2 t]

/-- What a point computes of the errors. -/
theorem point_err (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g)
    (t : Fin cfg0.N) (r : Fin 128) (j : Fin 1024) :
    k0_pay8 (grid0.coords t) (iblk m c 0 t) (iblk m c 2 t) (iblk m c 1 t) (ix2 r j) = err h y g (row t r) j := by
  rw [part_err (grid0.coords t) ⟨t.val, pt_lt t⟩ (coord_val t)]
  simp only [part_xh, point_h m c h hh, point_g m c g hg, point_y m c y hy]
  unfold err
  by_cases ht : 1 ≤ t.val
  · have hr : 128 ≤ (row t r).val := by show 128 ≤ 128 * t.val + r.val; omega
    rw [if_pos ht, dif_pos hr]
    unfold off
    have e1 : (⟨128 + ((row t r).val - 128), by have := (row t r).isLt; omega⟩ : Fin 4224) = row t r := Fin.ext (by show 128 + ((row t r).val - 128) = (row t r).val; omega)
    have e2 : (⟨128 * (t.val - 1) + r.val, by have := pt_lt t; omega⟩ : Fin 4096) = ⟨(row t r).val - 128, by have := (row t r).isLt; omega⟩ :=
      Fin.ext (by show 128 * (t.val - 1) + r.val = 128 * t.val + r.val - 128; omega)
    rw [e2]
    dsimp only
    rw [e1]
    rfl
  · have hr : ¬ 128 ≤ (row t r).val := by show ¬ 128 ≤ 128 * t.val + r.val; omega
    rw [if_neg ht, dif_neg hr]

/-- What a point computes of the gradient at the rows. -/
theorem point_dh (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g)
    (t : Fin cfg0.N) (r : Fin 128) (j : Fin 1024) :
    k0_pay10 (grid0.coords t) (iblk m c 0 t) (iblk m c 2 t) (iblk m c 1 t) (ix2 r j) = dh h y g (row t r) j := by
  rw [part_dh]
  simp only [point_err m c h hh y hy g hg, part_xh, part_factor, point_h m c h hh, point_g m c g hg]
  rfl

/-- What a point computes of the gradient at the scale. -/
theorem point_dg (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g)
    (t : Fin cfg0.N) (j : Fin 1024) :
    k0_pay1 (k0_pay12 (grid0.coords t) (iblk m c 0 t) (iblk m c 2 t) (iblk m c 1 t)) (ix2 0 j) = ∑ r : Fin 128, share h y g j (row t r) := by
  rw [part_dg]
  simp only [point_err m c h hh y hy g hg, part_xh, point_h m c h hh]
  rfl

/-- What a point computes of the loss. -/
theorem point_loss (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g)
    (t : Fin cfg0.N) (l : Fin 128) :
    k0_pay2 (k0_pay8 (grid0.coords t) (iblk m c 0 t) (iblk m c 2 t) (iblk m c 1 t)) (ix2 0 l) = (∑ r : Fin 128, sq h y g (row t r)) * halfInv := by
  rw [part_loss]
  simp only [point_err m c h hh y hy g hg]
  rfl

/-- What a point leaves for the rows' gradient, whichever point it is. -/
theorem left3 (t : Fin cfg0.N) : (outsAt0 m c t.val t.isLt).1 = k0_pay10 (grid0.coords t) (iblk m c 0 t) (iblk m c 2 t) (iblk m c 1 t) := by
  have ht := pt_lt t
  by_cases h : t.val = 0
  · rw [outsAt0_A m c t (by omega) (by omega)]
    frame_out
  · rw [outsAt0_B m c t (by omega) (by omega)]
    frame_out

/-- What a point leaves for the narrow copy, whichever point it is. -/
theorem left4 (t : Fin cfg0.N) : (outsAt0 m c t.val t.isLt).2.1 = k0_pay11 (grid0.coords t) (iblk m c 0 t) (iblk m c 2 t) (iblk m c 1 t) := by
  have ht := pt_lt t
  by_cases h : t.val = 0
  · rw [outsAt0_A m c t (by omega) (by omega)]
    frame_out
  · rw [outsAt0_B m c t (by omega) (by omega)]
    frame_out

/-- A function of the rows, continued by zero. -/
def ext (f : Fin 4224 → EReal) (n : ℕ) : EReal := if h : n < 4224 then f ⟨n, h⟩ else 0

/-- A point's rows are 128 consecutive ones. -/
theorem rows_eq (f : Fin 4224 → EReal) (t : Fin cfg0.N) : ∑ r : Fin 128, f (row t r) = ∑ k ∈ Finset.range 128, ext f (128 * t.val + k) := by
  rw [Finset.sum_range]
  refine Finset.sum_congr rfl fun r _ => ?_
  unfold ext
  have hb : 128 * t.val + r.val < 4224 := (row t r).isLt
  rw [dif_pos hb]
  rfl

/-- Such sums over all rows. -/
theorem all_rows (f : Fin 4224 → EReal) : ∑ k ∈ Finset.range 4224, ext f k = ∑ r : Fin 4224, f r := by
  rw [Finset.sum_range]
  refine Finset.sum_congr rfl fun r _ => ?_
  unfold ext
  exact dif_pos r.isLt

/-- What is kept of the scale's gradient after a point: the sum over the rows up to it. -/
theorem left5 (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g)
    (j : Fin 1024) : ∀ (n : ℕ) (hn : n < cfg0.N), (outsAt0 m c n hn).2.2.1 (ix2 0 j) = ∑ k ∈ Finset.range (128 * (n + 1)), ext (share h y g j) k
  | 0, hn => by
    rw [show outsAt0 m c 0 hn = _ from outsAt0_A m c ⟨0, hn⟩ (by dsimp only) (by dsimp only; omega)]
    frame_out
    refine (point_dg m c h hh y hy g hg ⟨0, hn⟩ j).trans ?_
    rw [rows_eq]
    simp only [Nat.mul_zero, Nat.zero_add, Nat.mul_one]
  | n + 1, hn => by
    have hN : n + 1 < 33 := lt_of_lt_of_eq hn N_0
    rw [show outsAt0 m c (n + 1) hn = _ from outsAt0_B m c ⟨n + 1, hn⟩ (by dsimp only; omega) (by dsimp only; omega)]
    frame_out
    refine (part_add_g _ _ j).trans ?_
    refine (congrArg₂ (· + ·) (left5 h hh y hy g hg j n (by omega)) (point_dg m c h hh y hy g hg ⟨n + 1, hn⟩ j)).trans ?_
    rw [rows_eq, show 128 * (n + 1 + 1) = 128 * (n + 1) + 128 from by ring, Finset.sum_range_add]

/-- The factor of a point's squared errors goes inside their sum. -/
theorem sum_factor (f : Fin 128 → EReal) : (∑ r, f r) * halfInv = ∑ r, f r * halfInv := by
  rw [halfInv_eq, mul_comm, Cert.Norm.mul_sum _ _ _ (by norm_num)]
  exact Finset.sum_congr rfl fun r _ => mul_comm _ _

/-- What is kept of the loss after a point: the sum over the rows up to it. -/
theorem left6 (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g)
    (l : Fin 128) : ∀ (n : ℕ) (hn : n < cfg0.N), (outsAt0 m c n hn).2.2.2 (ix2 0 l) = ∑ k ∈ Finset.range (128 * (n + 1)), ext (fun r => sq h y g r * halfInv) k
  | 0, hn => by
    rw [show outsAt0 m c 0 hn = _ from outsAt0_A m c ⟨0, hn⟩ (by dsimp only) (by dsimp only; omega)]
    frame_out
    refine (point_loss m c h hh y hy g hg ⟨0, hn⟩ l).trans ?_
    rw [sum_factor, rows_eq (fun r => sq h y g r * halfInv)]
    simp only [Nat.mul_zero, Nat.zero_add, Nat.mul_one]
  | n + 1, hn => by
    have hN : n + 1 < 33 := lt_of_lt_of_eq hn N_0
    rw [show outsAt0 m c (n + 1) hn = _ from outsAt0_B m c ⟨n + 1, hn⟩ (by dsimp only; omega) (by dsimp only; omega)]
    frame_out
    refine (part_add_l _ _ l).trans ?_
    refine (congrArg₂ (· + ·) (left6 h hh y hy g hg l n (by omega)) (point_loss m c h hh y hy g hg ⟨n + 1, hn⟩ l)).trans ?_
    rw [sum_factor, rows_eq (fun r => sq h y g r * halfInv), show 128 * (n + 1 + 1) = 128 * (n + 1) + 128 from by ring, Finset.sum_range_add]

/-- The rows' gradient after the run. -/
theorem final (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g) :
    (dats m 0 c).arrAt 3 cfg0.N = fun i : S4224x1024.Idx => dh h y g (i 0) (i 1) := by
  refine (dats m 0 c).arrAt_eq_of_covers 3 _ (by decide +kernel) fun t hf x => ?_
  blk_simp
  rw [after0_3, left3]
  obtain ⟨r, j, rfl⟩ : ∃ (r : Fin 128) (j : Fin 1024), x = ix2 r j := ⟨x 0, x 1, (ix2_eta x).symm⟩
  have e : ((cfg0.win 3).blk t).view.emb (ix2 r j) = ix2 (row t r) j := by
    funext x; apply Fin.ext
    match x with
    | ⟨0, _⟩ => show win0_3.index t 0 * 128 + 1 * r.val = 128 * t.val + r.val; rw [idx3]; show t.val * 128 + 1 * r.val = _; omega
    | ⟨1, _⟩ => show win0_3.index t 1 * 1024 + 1 * j.val = j.val; rw [idx3]; show 0 * 1024 + 1 * j.val = j.val; omega
  rw [e]
  exact point_dh m c h hh y hy g hg t r j

/-- Its narrow copy after the run. -/
theorem final_b (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g) :
    (dats m 0 c).arrAt 4 cfg0.N = fun i : S4224x1024.Idx => dh h y g (i 0) (i 1) := by
  refine (dats m 0 c).arrAt_eq_of_covers 4 _ (by decide +kernel) fun t hf x => ?_
  blk_simp
  rw [after0_4, left4]
  obtain ⟨r, j, rfl⟩ : ∃ (r : Fin 128) (j : Fin 1024), x = ix2 r j := ⟨x 0, x 1, (ix2_eta x).symm⟩
  have e : ((cfg0.win 4).blk t).view.emb (ix2 r j) = ix2 (row t r) j := by
    funext x; apply Fin.ext
    match x with
    | ⟨0, _⟩ => show win0_4.index t 0 * 128 + 1 * r.val = 128 * t.val + r.val; rw [idx4]; show t.val * 128 + 1 * r.val = _; omega
    | ⟨1, _⟩ => show win0_4.index t 1 * 1024 + 1 * j.val = j.val; rw [idx4]; show 0 * 1024 + 1 * j.val = j.val; omega
  rw [e]
  exact point_dh m c h hh y hy g hg t r j

/-- The scale's gradient after the run. -/
theorem final_g (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g) :
    (dats m 0 c).arrAt 5 cfg0.N = fun i : S1x1024.Idx => ∑ r : Fin 4224, share h y g (i 1) r := by
  refine (dats m 0 c).arrAt_eq_of_covers 5 _ (by decide +kernel) fun t hf x => ?_
  blk_simp
  rw [after0_5]
  have ht : t.val = 32 := by have := (flush0_5 t).mp hf; have := pt_lt t; omega
  obtain ⟨j, rfl⟩ : ∃ j : Fin 1024, x = ix2 0 j := ⟨x 1, by rw [← ix2_eta x]; congr 1; exact Subsingleton.elim _ _⟩
  have e : ((cfg0.win 5).blk t).view.emb (ix2 0 j) = ix2 0 j := by
    funext x; apply Fin.ext
    match x with
    | ⟨0, _⟩ => show win0_5.index t 0 * 1 + 1 * 0 = 0; rw [idx5]; rfl
    | ⟨1, _⟩ => show win0_5.index t 1 * 1024 + 1 * j.val = j.val; rw [idx5]; show 0 * 1024 + 1 * j.val = j.val; omega
  rw [e]
  refine (left5 m c h hh y hy g hg j t.val t.isLt).trans ?_
  rw [ht]
  exact all_rows _

/-- The loss after the run. -/
theorem final_l (h : Vec Ideal S4224x1024 .f32) (hh : m ((c : Thread nD τ).loc main_arg0) = h) (y : Vec Ideal S4096x1024 .f32)
    (hy : m ((c : Thread nD τ).loc main_arg1) = y) (g : Vec Ideal S1024 .f32) (hg : m ((c : Thread nD τ).loc main_arg2) = g) :
    (dats m 0 c).arrAt 6 cfg0.N = fun _ : S1x128.Idx => ∑ r : Fin 4224, sq h y g r * halfInv := by
  refine (dats m 0 c).arrAt_eq_of_covers 6 _ (by decide +kernel) fun t hf x => ?_
  blk_simp
  rw [after0_6]
  have ht : t.val = 32 := by have := (flush0_6 t).mp hf; have := pt_lt t; omega
  obtain ⟨l, rfl⟩ : ∃ l : Fin 128, x = ix2 0 l := ⟨x 1, by rw [← ix2_eta x]; congr 1; exact Subsingleton.elim _ _⟩
  refine (left6 m c h hh y hy g hg l t.val t.isLt).trans ?_
  rw [ht]
  exact all_rows _

/-- One over the width is a 1024th. -/
theorem inv_eq : inv = ((1 / 1024 : ℝ) : EReal) := by
  unfold inv
  simp [Ideal.ofBits, Ideal.ieee, -EReal.coe_mul]
  norm_num

/-- The word of one half. -/
theorem half_eq : Ideal.ofBits .f32 0x3F000000#32 = ((1 / 2 : ℝ) : EReal) := by
  simp [Ideal.ofBits, Ideal.ieee, -EReal.coe_mul]
  norm_num

/-- The word of one. -/
theorem one_eq : Ideal.ofBits .f32 0x3F800000#32 = ((1 : ℝ) : EReal) := by
  simp [Ideal.ofBits, Ideal.ieee, -EReal.coe_mul]
  norm_num

/-- The word of two. -/
theorem two_eq : Ideal.ofBits .f32 0x40000000#32 = ((2 : ℝ) : EReal) := by
  simp [Ideal.ofBits, Ideal.ieee, -EReal.coe_mul]
  norm_num

/-- The reference's factor of the errors is one over the width. -/
theorem errors_factor (x : EReal) : Ideal.div (Ideal.ofBits .f32 0x3F000000#32 * Ideal.ofBits .f32 0x3F800000#32) (Ideal.ofBits .f32 0x44800000#32)
    * (Ideal.ofBits .f32 0x40000000#32 * x) = x * inv := by
  rw [half_eq, one_eq, two_eq, inv_eq, show Ideal.ofBits .f32 0x44800000#32 = ((1024 : ℝ) : EReal) from Cert.Norm.width_eq, ← EReal.coe_mul,
    Ideal.div_coe (by norm_num : (1024 : ℝ) ≠ 0), ← EReal.coe_mul, ← mul_assoc, ← EReal.coe_mul, mul_comm]
  norm_num

open Cert.LossHeadRefIdeal.Read in
/-- The reference's error at an element. -/
theorem off_ref (h : Vec Ideal S4224x1024 .f32) (y : Vec Ideal S4096x1024 .f32) (g : Vec Ideal S1024 .f32) (s : Fin 4096) (j : Fin 1024) :
    val_main_v17 (F := Ideal) h y g (ix2 s j) = off h y g s j := by
  pointwise [val_main_v17, val_main_v16, val_main_v15, val_main_v14, val_main_v13, val_main_v12, val_main_v11, val_main_v7, val_main_v6, val_main_v5,
    val_main_cst_1, val_main_v4, val_main_v3, val_main_cst_0, val_main_v2, val_main_v1, val_main_cst, val_main_v0]
  rfl

open Cert.LossHeadRefIdeal.Read in
/-- The gradient the reference carries into the norm. -/
theorem cot_ref (h : Vec Ideal S4224x1024 .f32) (y : Vec Ideal S4096x1024 .f32) (g : Vec Ideal S1024 .f32) (r : Fin 4224) (j : Fin 1024) :
    val_main_v32 (F := Ideal) h y g (ix2 r j) = err h y g r j * inv := by
  have e : ∀ s : Fin 4096, val_main_v31 (F := Ideal) h y g (ix2 s j) = off h y g s j * inv := fun s => by
    rw [val_main_v31_apply, val_main_v20_apply, off_ref]
    exact errors_factor _
  unfold val_main_v32 err
  generalize val_main_v31 (F := Ideal) h y g = z at e
  pointwise [val_main_cst_11]
  by_cases hr : 128 ≤ r.val
  · rw [dif_pos (by omega), dif_pos hr]
    exact e _
  · rw [dif_neg (by omega), dif_neg hr, zero_mul]

open Cert.LossHeadRefIdeal.Read in
/-- The reference's gradient at the rows is the same. -/
theorem reference (h : Vec Ideal S4224x1024 .f32) (y : Vec Ideal S4096x1024 .f32) (g : Vec Ideal S1024 .f32) (r : Fin 4224) (j : Fin 1024) :
    val_main_v52 (F := Ideal) h y g (ix2 r j) = dh h y g r j := by
  have key := Cert.Norm.gradient (fun k => h (ix2 r k)) (fun k => err h y g r k * inv) (fun k => g (ix1 k)) j 0
  simp only [zero_add] at key
  refine Eq.trans ?_ key.symm
  simp only [val_main_v52_apply, val_main_v51_apply, val_main_v50_apply, val_main_v49_apply, val_main_v48_apply, val_main_v47_apply, val_main_cst_16_apply,
    val_main_v46_apply, val_main_v45_apply, val_main_cst_15_apply, val_main_v44_apply, val_main_v43_apply, val_main_v42_apply, val_main_v41_apply,
    val_main_v40_apply, val_main_cst_14_apply, val_main_v39_apply, val_main_v37_apply, val_main_v36_apply, val_main_v13_apply,
    val_main_v10_apply, val_main_v9_apply, val_main_cst_2_apply, val_main_v8_apply, val_main_v7_apply,
    val_main_v6_apply, val_main_v5_apply, val_main_cst_1_apply, val_main_v4_apply, val_main_v3_apply, val_main_cst_0_apply, val_main_v2_apply,
    val_main_v1_apply, val_main_cst_apply, val_main_v0_apply]
  have e1 : ∀ k, idx_main_v1 (idx_main_v2 (idx_main_v42 (ix2 r j))) k = ix2 r k := fun k => by
    funext x; match x with
    | ⟨0, _⟩ => rfl
    | ⟨1, _⟩ => rfl
  have e2 : ∀ i k, idx_main_v1 (idx_main_v2 (idx_main_v47 (idx_main_v48 (ix2 r j)) i)) k = ix2 r k := fun i k => by
    funext x; match x with
    | ⟨0, _⟩ => rfl
    | ⟨1, _⟩ => rfl
  have e3 : ∀ i k, idx_main_v40 (idx_main_v41 (idx_main_v47 (idx_main_v48 (ix2 r j)) i)) k = ix2 r k := fun i k => by
    funext x; match x with
    | ⟨0, _⟩ => apply Fin.ext; show r.val * 1 + i.val = r.val; omega
    | ⟨1, _⟩ => rfl
  have e4 : ∀ k : Fin 1024, idx_main_v13 (idx_main_v36 (ix2 r k)) = ix1 k := fun k => by
    funext x; match x with
    | ⟨0, _⟩ => rfl
  simp only [e1, e2, e3, e4, Fin.sum_univ_one, cot_ref]
  rw [← Cert.Norm.minus_half]
  pointwise []
  rfl

open Cert.LossHeadRefIdeal.Read in
/-- The reference's gradient at the scale. -/
theorem reference_g (h : Vec Ideal S4224x1024 .f32) (y : Vec Ideal S4096x1024 .f32) (g : Vec Ideal S1024 .f32) (j : Fin 1024) :
    val_main_v54 (F := Ideal) h y g (ix2 0 j) = ∑ r : Fin 4224, share h y g j r := by
  simp only [val_main_v54_apply, val_main_v38_apply, val_main_cst_13_apply, val_main_v35_apply, val_main_v34_apply, val_main_cst_12_apply,
    val_main_v33_apply, val_main_v12_apply, val_main_v11_apply, val_main_v7_apply,
    val_main_v6_apply, val_main_v5_apply, val_main_cst_1_apply, val_main_v4_apply, val_main_v3_apply, val_main_cst_0_apply, val_main_v2_apply,
    val_main_v1_apply, val_main_cst_apply, val_main_v0_apply]
  have e0 : ∀ i r, idx_main_v34 (idx_main_v35 (idx_main_v38 (idx_main_v54 (ix2 0 j)) i)) r = ix2 r j := fun i r => by
    funext x; match x with
    | ⟨0, _⟩ => rfl
    | ⟨1, _⟩ => apply Fin.ext; show i.val * 1024 + (0 * 1024 + j.val) = j.val; omega
  have e1 : ∀ r k, idx_main_v1 (idx_main_v2 (idx_main_v11 (ix2 r j))) k = ix2 r k := fun r k => by
    funext x; match x with
    | ⟨0, _⟩ => rfl
    | ⟨1, _⟩ => rfl
  simp only [e0, e1, Fin.sum_univ_one, cot_ref]
  pointwise []
  refine Finset.sum_congr rfl fun r _ => ?_
  exact mul_comm _ _

/-- The squared error of a row that has a target. -/
theorem sq_later (h : Vec Ideal S4224x1024 .f32) (y : Vec Ideal S4096x1024 .f32) (g : Vec Ideal S1024 .f32) (s : Fin 4096) :
    sq h y g (Fin.natAdd 128 s) = ∑ k : Fin 1024, off h y g s k * off h y g s k := by
  have e : ∀ k, err h y g (Fin.natAdd 128 s) k = off h y g s k := fun k => by
    unfold err
    refine (dif_pos (show 128 ≤ 128 + s.val by omega)).trans ?_
    have e : (⟨128 + s.val - 128, by omega⟩ : Fin 4096) = s := Fin.ext (show 128 + s.val - 128 = s.val by omega)
    exact congrArg (fun i => off h y g i k) e
  unfold sq
  simp only [e]

/-- The squared error of a row that has none. -/
theorem sq_first (h : Vec Ideal S4224x1024 .f32) (y : Vec Ideal S4096x1024 .f32) (g : Vec Ideal S1024 .f32) (r : Fin 128) :
    sq h y g (Fin.castAdd 4096 r) = 0 := by
  have e : ∀ k, err h y g (Fin.castAdd 4096 r) k = 0 := fun k => by
    unfold err
    exact dif_neg (show ¬ 128 ≤ r.val by omega)
  unfold sq
  simp only [e, mul_zero, Finset.sum_const_zero]

open Cert.LossHeadRefIdeal.Read in
/-- The reference's loss is the same. -/
theorem reference_l (h : Vec Ideal S4224x1024 .f32) (y : Vec Ideal S4096x1024 .f32) (g : Vec Ideal S1024 .f32) (i : S1x128.Idx) :
    val_main_v55 (F := Ideal) h y g i = ∑ r : Fin 4224, sq h y g r * halfInv := by
  have e : ∀ s : Fin 4096, val_main_v23 (F := Ideal) h y g (ix1 s) = Ideal.div (sq h y g (Fin.natAdd 128 s)) Cert.Norm.width := fun s => by
    have e1 : ∀ k, idx_main_v21 (ix1 s) k = ix2 s k := fun k => by
      funext x; match x with
      | ⟨0, _⟩ => rfl
      | ⟨1, _⟩ => rfl
    simp only [val_main_v23_apply, val_main_v22_apply, val_main_cst_5_apply, val_main_v21_apply, val_main_cst_4_apply, val_main_v18_apply, e1, off_ref]
    rw [sq_later]
    pointwise []
    rfl
  have e2 : val_main_v55 (F := Ideal) h y g i
      = Ideal.ofBits .f32 0x3F000000#32 * ∑ s : Fin 4096, Ideal.div (sq h y g (Fin.natAdd 128 s)) Cert.Norm.width := by
    simp only [← e]
    rw [val_main_v55_apply, val_main_v25_apply, val_main_cst_7_apply]
    unfold val_main_v24
    generalize val_main_v23 (F := Ideal) h y g = z
    pointwise [val_main_cst_6]
  rw [e2]
  refine Eq.trans ?_ (Fin.sum_univ_add (a := 128) (b := 4096) fun r : Fin (128 + 4096) => sq h y g r * halfInv).symm
  simp only [sq_first, zero_mul, Finset.sum_const_zero, zero_add]
  rw [half_eq, Cert.Norm.mul_sum _ _ _ (by norm_num)]
  refine Finset.sum_congr rfl fun s _ => ?_
  rw [Cert.Norm.width_eq, Ideal.div_coe (by norm_num : (1024 : ℝ) ≠ 0), mul_left_comm, ← EReal.coe_mul, halfInv_eq]
  norm_num

/-- The kernel and the reference end with equal results. -/
theorem algebraic : Cert.algebraic_LossHeadIdeal_LossHeadRefIdeal := by
  intro m g m' g' _ hagree
  refine ⟨_, _, _, _, run_blocks m g, (θ_run Cert.LossHeadRefIdeal.defs _ _).mono (fun r h c => ?_) (Cert.LossHeadRefIdeal.Value.run m' g')⟩
  obtain ⟨e0, e1, e2⟩ := hagree c
  obtain ⟨h3, h4, h5, h6, h⟩ := h c
  refine ⟨h3.trans ?_, h4.trans ?_, h5.trans ?_, h6.trans ?_, h⟩
  · refine (Cert.LossHeadRefIdeal.Read.val_main_v52_eq (F := Ideal) m' c).trans ?_
    rw [e0, e1, e2, final m c _ rfl _ rfl _ rfl]
    funext i
    obtain ⟨r, j, rfl⟩ : ∃ (r : Fin 4224) (j : Fin 1024), i = ix2 r j := ⟨i 0, i 1, (ix2_eta i).symm⟩
    exact reference _ _ _ r j
  · refine (Cert.LossHeadRefIdeal.Read.val_main_v53_eq (F := Ideal) m' c).trans ?_
    rw [e0, e1, e2, final_b m c _ rfl _ rfl _ rfl]
    funext i
    obtain ⟨r, j, rfl⟩ : ∃ (r : Fin 4224) (j : Fin 1024), i = ix2 r j := ⟨i 0, i 1, (ix2_eta i).symm⟩
    exact reference _ _ _ r j
  · refine (Cert.LossHeadRefIdeal.Read.val_main_v54_eq (F := Ideal) _ _ _).trans ?_
    rw [e0, e1, e2, final_g m c _ rfl _ rfl _ rfl]
    funext i
    obtain ⟨j, rfl⟩ : ∃ j : Fin 1024, i = ix2 0 j := ⟨i 1, by rw [← ix2_eta i]; congr 1; exact Subsingleton.elim _ _⟩
    exact reference_g _ _ _ j
  · refine (Cert.LossHeadRefIdeal.Read.val_main_v55_eq (F := Ideal) _ _ _).trans ?_
    rw [e0, e1, e2, final_l m c _ rfl _ rfl _ rfl]
    funext i
    exact reference_l _ _ _ i

/-- The reference terminates without fault, its arguments unchanged and its counters, of which it has none, at zero. -/
theorem frame_reference : Cert.quiescent_LossHeadRefIdeal := fun m g _ =>
  (θ_run Cert.LossHeadRefIdeal.defs _ _).mono (fun r h => ⟨fun c => (h c).2.2.2.2, sem_eq_zero_of_no_sems (by decide) r.2⟩)
    (Cert.LossHeadRefIdeal.Value.run (F := Ideal) m g)

end Cert.LossHeadIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_factors
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.FfnOutDw
public import proofs.«01_k».proof.Proof.Gen.FfnOutDw.Frame
public import proofs.«01_k».proof.Proof.Gen.FfnOutDwIdeal
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnOutDwRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.FfnInDwRefIdeal.Read
public import proofs.«01_k».proof.Proof.Gen.FfnInDxGate
public import proofs.«01_k».proof.Proof.Gen.FfnInDxGate.Frame
public import proofs.«01_k».proof.Proof.Gen.FfnInDxGateIdeal
public import proofs.«01_k».proof.Proof.Gen.FfnInDxGateIdeal.Frame
public import proofs.«01_k».proof.Proof.Gen.FfnInDxGateIdeal.Value
public import proofs.«01_k».proof.Proof.Gen.FfnInDxGateRefIdeal
public import proofs.«01_k».proof.Proof.Gen.FfnInDxGateRefIdeal.Run
public import proofs.«01_k».proof.Proof.Gen.FfnInDxGateRefIdeal.Read
public import proofs.«01_k».proof.Proof.Gen.FfnInDxUp
public import proofs.«01_k».proof.Proof.Gen.FfnInDxUp.Frame
public import proofs.«01_k».proof.Proof.Gen.FfnInDxUpIdeal
public import proofs.«01_k».proof.Proof.Gen.FfnInDxUpIdeal.Frame
public import proofs.«01_k».proof.Proof.Gen.FfnInDxUpIdeal.Value
public import proofs.«01_k».proof.Proof.Gen.FfnInDxUpRefIdeal
public import proofs.«01_k».proof.Proof.Gen.FfnInDxUpRefIdeal.Run
public import proofs.«01_k».proof.Proof.Gen.FfnInDxUpRefIdeal.Read
public import proofs.«01_k».proof.Proof.Gen.BranchDx
public import proofs.«01_k».proof.Proof.Gen.BranchDx.Frame
public import proofs.«01_k».proof.Proof.Gen.BranchDxIdeal
public import proofs.«01_k».proof.Proof.Gen.BranchDxIdeal.Frame
public import proofs.«01_k».proof.Proof.Gen.BranchDxIdeal.Value
public import proofs.«01_k».proof.Proof.Gen.BranchDxRefIdeal
public import proofs.«01_k».proof.Proof.Gen.BranchDxRefIdeal.Run
public import proofs.«01_k».proof.Proof.Gen.BranchDxRefIdeal.Read
public import proofs.«01_k».proof.Proof.Gen.SwigluBwd
public import proofs.«01_k».proof.Proof.Gen.SwigluBwd.Frame
public import proofs.«01_k».proof.Proof.Gen.SwigluBwdIdeal
public import proofs.«01_k».proof.Proof.Gen.SwigluBwdIdeal.Frame
public import proofs.«01_k».proof.Proof.Gen.SwigluBwdIdeal.Value
public import proofs.«01_k».proof.Proof.Gen.SwigluBwdRefIdeal
public import proofs.«01_k».proof.Proof.Gen.SwigluBwdRefIdeal.Run
public import proofs.«01_k».proof.Proof.Gen.SwigluBwdRefIdeal.Read
public import proofs.«01_k».proof.Proof.Gen.BranchDwFirst
public import proofs.«01_k».proof.Proof.Gen.BranchDwFirst.Frame
public import proofs.«01_k».proof.Proof.Gen.BranchDwFirstIdeal
public import proofs.«01_k».proof.Proof.Gen.BranchDwFirstIdeal.Frame
public import proofs.«01_k».proof.Proof.Gen.BranchDwFirstRefIdeal
public import proofs.«01_k».proof.Proof.Gen.BranchDwFirstRefIdeal.Run
public import proofs.«01_k».proof.Proof.Gen.BranchDwFirstRefIdeal.Read
public import proofs.«01_k».proof.Proof.Gen.BranchDwSecond
public import proofs.«01_k».proof.Proof.Gen.BranchDwSecond.Frame
public import proofs.«01_k».proof.Proof.Gen.BranchDwSecondIdeal
public import proofs.«01_k».proof.Proof.Gen.BranchDwSecondIdeal.Frame
public import proofs.«01_k».proof.Proof.Gen.BranchDwSecondIdeal.Value
public import proofs.«01_k».proof.Proof.Gen.BranchDwSecondRefIdeal
public import proofs.«01_k».proof.Proof.Gen.BranchDwSecondRefIdeal.Run
public import proofs.«01_k».proof.Proof.Gen.BranchDwSecondRefIdeal.Read
public import proofs.«01_k».proof.Proof.Gen.BranchDwThird
public import proofs.«01_k».proof.Proof.Gen.BranchDwThird.Frame
public import proofs.«01_k».proof.Proof.Gen.BranchDwThirdIdeal
public import proofs.«01_k».proof.Proof.Gen.BranchDwThirdIdeal.Frame
public import proofs.«01_k».proof.Proof.Gen.BranchDwThirdIdeal.Value
public import proofs.«01_k».proof.Proof.Gen.BranchDwThirdRefIdeal
public import proofs.«01_k».proof.Proof.Gen.BranchDwThirdRefIdeal.Run
public import proofs.«01_k».proof.Proof.Gen.BranchDwThirdRefIdeal.Read
public import proofs.«01_k».proof.Proof.Gen.FfnInDwGate
public import proofs.«01_k».proof.Proof.Gen.FfnInDwGate.Frame
public import proofs.«01_k».proof.Proof.Gen.FfnInDwGateIdeal
public import proofs.«01_k».proof.Proof.Gen.FfnInDwGateIdeal.Frame
public import proofs.«01_k».proof.Proof.Gen.FfnInDwGateRefIdeal
public import proofs.«01_k».proof.Proof.Gen.FfnInDwGateRefIdeal.Run
public import proofs.«01_k».proof.Proof.Gen.FfnInDwGateRefIdeal.Read
public import proofs.«01_k».proof.Proof.Gen.OutDxMerge
public import proofs.«01_k».proof.Proof.Gen.OutDxMerge.Frame
public import proofs.«01_k».proof.Proof.Gen.OutDxMergeIdeal
public import proofs.«01_k».proof.Proof.Gen.OutDxMergeIdeal.Frame
public import proofs.«01_k».proof.Proof.Gen.OutDxMergeIdeal.Value
public import proofs.«01_k».proof.Proof.Gen.OutDxMergeRefIdeal
public import proofs.«01_k».proof.Proof.Gen.OutDxMergeRefIdeal.Run
public import proofs.«01_k».proof.Proof.Gen.OutDxMergeRefIdeal.Read
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.FfnOutFwd
public import proofs.«01_k».proof.Proof.Gen.FfnOutFwd.Frame
public import proofs.«01_k».proof.Proof.Gen.FfnOutFwdIdeal
public import proofs.«01_k».proof.Proof.Gen.FfnOutFwdIdeal.Frame
public import proofs.«01_k».proof.Proof.Gen.FfnOutFwdIdeal.Value
public import proofs.«01_k».proof.Proof.Gen.FfnOutFwdRefIdeal
public import proofs.«01_k».proof.Proof.Gen.FfnOutFwdRefIdeal.Run
public import proofs.«01_k».proof.Proof.Gen.FfnOutFwdRefIdeal.Read
public import proofs.«01_k».proof.Proof.Gen.SwigluFwd
public import proofs.«01_k».proof.Proof.Gen.SwigluFwd.Frame
public import proofs.«01_k».proof.Proof.Gen.SwigluFwdIdeal
public import proofs.«01_k».proof.Proof.Gen.SwigluFwdIdeal.Frame
public import proofs.«01_k».proof.Proof.Gen.SwigluFwdIdeal.Value
public import proofs.«01_k».proof.Proof.Gen.SwigluFwdRefIdeal
public import proofs.«01_k».proof.Proof.Gen.SwigluFwdRefIdeal.Run
public import proofs.«01_k».proof.Proof.Gen.SwigluFwdRefIdeal.Read
public import proofs.«01_k».proof.Proof.Gen.BranchFwd
public import proofs.«01_k».proof.Proof.Gen.BranchFwd.Frame
public import proofs.«01_k».proof.Proof.Gen.BranchFwdIdeal
public import proofs.«01_k».proof.Proof.Gen.BranchFwdIdeal.Frame
public import proofs.«01_k».proof.Proof.Gen.BranchFwdIdeal.Value
public import proofs.«01_k».proof.Proof.Gen.BranchFwdRefIdeal
public import proofs.«01_k».proof.Proof.Gen.BranchFwdRefIdeal.Run
public import proofs.«01_k».proof.Proof.Gen.BranchFwdRefIdeal.Read
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.SwaFwd
public import proofs.«01_k».proof.Proof.Gen.SwaFwd.Frame
public import proofs.«01_k».proof.Proof.Gen.SwaFwdIdeal
public import proofs.«01_k».proof.Proof.Gen.SwaFwdIdeal.Frame
public import proofs.«01_k».proof.Proof.Gen.SwaFwdIdeal.Value
public import proofs.«01_k».proof.Proof.Gen.SwaFwdRefIdeal
public import proofs.«01_k».proof.Proof.Gen.SwaFwdRefIdeal.Run
public import proofs.«01_k».proof.Proof.Gen.SwaFwdRefIdeal.Read
public import proofs.«01_k».proof.Proof.Gen.BandFold
public import proofs.«01_k».proof.Proof.Gen.BandFold.Frame
public import proofs.«01_k».proof.Proof.Gen.BandFoldIdeal
public import proofs.«01_k».proof.Proof.Gen.BandFoldIdeal.Frame
public import proofs.«01_k».proof.Proof.Gen.BandFoldIdeal.Value
public import proofs.«01_k».proof.Proof.Gen.BandFoldRefIdeal
public import proofs.«01_k».proof.Proof.Gen.BandFoldRefIdeal.Run
public import proofs.«01_k».proof.Proof.Gen.BandFoldRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Pre_finite_scores
public import proofs.«01_k».proof.Proof.Equal
public import proofs.«01_k».proof.Proof.Finite
public import Idealize.ShloMosaic.Adequacy
public import Idealize.ShloMosaic.Init
public import proofs.«01_k».proof.Proof.InDx
public import proofs.«01_k».proof.Proof.InDw
public import proofs.«01_k».proof.Proof.FfnOutDw
public import proofs.«01_k».proof.Proof.OutDw
public import proofs.«01_k».proof.Proof.FfnInDw
public import proofs.«01_k».proof.Proof.FfnInDxGate
public import proofs.«01_k».proof.Proof.FfnInDxUp
public import proofs.«01_k».proof.Proof.BranchDx
public import proofs.«01_k».proof.Proof.FfnInDwGate
public import proofs.«01_k».proof.Proof.BranchDwFirst
public import proofs.«01_k».proof.Proof.BranchDwSecond
public import proofs.«01_k».proof.Proof.BranchDwThird
public import proofs.«01_k».proof.Proof.OutDxMerge
public import proofs.«01_k».proof.Proof.InFwd
public import proofs.«01_k».proof.Proof.OutFwd
public import proofs.«01_k».proof.Proof.FfnOutFwd
public import proofs.«01_k».proof.Proof.SwigluFwd
public import proofs.«01_k».proof.Proof.BranchFwd
public import proofs.«01_k».proof.Proof.SwigluBwd
public import proofs.«01_k».proof.Proof.RmsFwd
public import proofs.«01_k».proof.Proof.RmsBwd
public import proofs.«01_k».proof.Proof.BandFold
public import proofs.«01_k».proof.Proof.SwaFwd
public import proofs.«01_k».proof.Proof.LossHead

@[expose] public section

noncomputable section

namespace Cert.Proof

open Idealize.ShloMosaic Idealize.SL.Sem Cert.Kernel

/-- Where the precondition holds, the arrays hold real numbers. -/
theorem real_arrays (m : (ℓ : Loc Cert.KernelIdeal.nD Cert.KernelIdeal.τ Cert.KernelIdeal.sig) → Buf (Elt Ideal) ℓ) (h : Cert.Pre_KernelIdeal_finite m)
    (c : Dev Cert.KernelIdeal.nD) : ∃ s q g k v b, Cert.KernelIdeal.Block.Real m c s q g k v b := by
  obtain ⟨h0, h1, h2, h3, h4, h5⟩ := Cert.Pre_finite.reals _ _ _ _ _ _ _ (h c)
  choose q hq using h0
  choose k hk using h1
  choose v hv using h2
  choose b hb using h3
  choose s hs using h4
  choose g hg using h5
  exact ⟨fun h => s (ix1 h), fun r l => q (ix2 r l), fun r l => g (ix2 r l), fun r l => k (ix2 r l),
    fun r l => v (ix2 r l), fun h r j => b (ix3 h r j),
    ⟨fun r l => hq _, fun r l => hk _, fun r l => hv _, fun h r j => hb _, fun h => hs _, fun r l => hg _⟩⟩

/-- The mask's value is the named constant. -/
theorem preserves : Cert.preserves_Kernel_KernelIdeal :=
  IdealRules.named_const.statement Cert.KernelIdeal.κ "mask" .f32 0xF149F2CA#32 ⊥ rfl

/-- The kernel and the reference end with equal results. -/
theorem algebraic : Cert.algebraic_KernelIdeal_ReferenceIdeal_pre_finite := by
  intro m g m' g' hpre hagree
  refine ⟨_, _, _, _, _, Cert.KernelIdeal.Value.run m g, (θ_run Cert.ReferenceIdeal.defs _ _).mono (fun r h c => ?_) (Cert.ReferenceIdeal.Value.run m' g')⟩
  obtain ⟨s, q, e, k, v, b, R⟩ := real_arrays m hpre c
  obtain ⟨e0, e1, e2, e3, e4, e5, e6⟩ := hagree c
  obtain ⟨h1, h2, h3, h4, h5, h⟩ := h c
  refine ⟨?_, ?_, ?_, ?_, ?_, h⟩
  · refine (h1.trans (Cert.ReferenceIdeal.Read.val_main_v153_eq (F := Ideal) (StableHlo.launchContents m' c))).trans ?_
    refine Eq.trans ?_ (Cert.KernelIdeal.Block.dq_eq m c R).symm
    show Cert.ReferenceIdeal.Read.val_main_v153 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) = _
    rw [e0, e1, e2, e3, e4, e5]
  · refine (h2.trans (Cert.ReferenceIdeal.Read.val_main_v148_eq (F := Ideal) (StableHlo.launchContents m' c))).trans ?_
    refine Eq.trans ?_ (Cert.KernelIdeal.Block.dk_eq m c R).symm
    show Cert.ReferenceIdeal.Read.val_main_v148 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) = _
    rw [e0, e1, e2, e3, e4, e5]
  · refine (h3.trans (Cert.ReferenceIdeal.Read.val_main_v147_eq (F := Ideal) (StableHlo.launchContents m' c))).trans ?_
    refine Eq.trans ?_ (Cert.KernelIdeal.Block.dv_eq m c R).symm
    show Cert.ReferenceIdeal.Read.val_main_v147 (F := Ideal) (m' (c.tc.loc Cert.ReferenceIdeal.main_arg0)) (m' (c.tc.loc Cert.ReferenceIdeal.main_arg1)) (m' (c.tc.loc Cert.ReferenceIdeal.main_arg3)) (m' (c.tc.loc Cert.ReferenceIdeal.main_arg4)) (m' (c.tc.loc Cert.ReferenceIdeal.main_arg5)) = _
    rw [e0, e1, e3, e4, e5]
  · refine (h4.trans (Cert.ReferenceIdeal.Read.val_main_v154_eq (F := Ideal) (StableHlo.launchContents m' c))).trans ?_
    refine Eq.trans ?_ (Cert.KernelIdeal.Block.dbias_eq m c R).symm
    show Cert.ReferenceIdeal.Read.val_main_v154 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) = _
    rw [e0, e1, e2, e3, e4, e5, e6]
  · refine (h5.trans (Cert.ReferenceIdeal.Read.val_main_v152_eq (F := Ideal) (StableHlo.launchContents m' c))).trans ?_
    refine Eq.trans ?_ (Cert.KernelIdeal.Block.dsinks_eq m c R).symm
    show Cert.ReferenceIdeal.Read.val_main_v152 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) = _
    rw [e0, e1, e2, e3, e4, e5]

/-- The reference terminates without fault, its arguments unchanged and its counters, of which it has none, at zero. -/
theorem frame_reference : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

/-- All the claims. -/
theorem claim : Cert.Claim := ⟨
  Cert.Kernel.Gen.facts, Cert.KernelIdeal.Gen.facts, Cert.ReferenceIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.FfnOutDw.Gen.facts, Cert.FfnOutDwIdeal.Gen.facts, Cert.FfnOutDwRefIdeal.Gen.facts,
  Cert.OutDw.Gen.facts, Cert.OutDwIdeal.Gen.facts, Cert.OutDwRefIdeal.Gen.facts,
  Cert.FfnInDw.Gen.facts, Cert.FfnInDwIdeal.Gen.facts, Cert.FfnInDwRefIdeal.Gen.facts,
  Cert.FfnInDxGate.Gen.facts, Cert.FfnInDxGateIdeal.Gen.facts, Cert.FfnInDxGateRefIdeal.Gen.facts,
  Cert.FfnInDxUp.Gen.facts, Cert.FfnInDxUpIdeal.Gen.facts, Cert.FfnInDxUpRefIdeal.Gen.facts,
  Cert.BranchDx.Gen.facts, Cert.BranchDxIdeal.Gen.facts, Cert.BranchDxRefIdeal.Gen.facts,
  Cert.FfnInDwGate.Gen.facts, Cert.FfnInDwGateIdeal.Gen.facts, Cert.FfnInDwGateRefIdeal.Gen.facts,
  Cert.BranchDwFirst.Gen.facts, Cert.BranchDwFirstIdeal.Gen.facts, Cert.BranchDwFirstRefIdeal.Gen.facts,
  Cert.BranchDwSecond.Gen.facts, Cert.BranchDwSecondIdeal.Gen.facts, Cert.BranchDwSecondRefIdeal.Gen.facts,
  Cert.BranchDwThird.Gen.facts, Cert.BranchDwThirdIdeal.Gen.facts, Cert.BranchDwThirdRefIdeal.Gen.facts,
  Cert.OutDxMerge.Gen.facts, Cert.OutDxMergeIdeal.Gen.facts, Cert.OutDxMergeRefIdeal.Gen.facts,
  Cert.InFwd.Gen.facts, Cert.InFwdIdeal.Gen.facts, Cert.InFwdRefIdeal.Gen.facts,
  Cert.OutFwd.Gen.facts, Cert.OutFwdIdeal.Gen.facts, Cert.OutFwdRefIdeal.Gen.facts,
  Cert.FfnOutFwd.Gen.facts, Cert.FfnOutFwdIdeal.Gen.facts, Cert.FfnOutFwdRefIdeal.Gen.facts,
  Cert.SwigluFwd.Gen.facts, Cert.SwigluFwdIdeal.Gen.facts, Cert.SwigluFwdRefIdeal.Gen.facts,
  Cert.BranchFwd.Gen.facts, Cert.BranchFwdIdeal.Gen.facts, Cert.BranchFwdRefIdeal.Gen.facts,
  Cert.RmsFwd.Gen.facts, Cert.RmsFwdIdeal.Gen.facts, Cert.RmsFwdRefIdeal.Gen.facts,
  Cert.BandFold.Gen.facts, Cert.BandFoldIdeal.Gen.facts, Cert.BandFoldRefIdeal.Gen.facts,
  Cert.RmsBwd.Gen.facts, Cert.RmsBwdIdeal.Gen.facts, Cert.RmsBwdRefIdeal.Gen.facts,
  Cert.LossHead.Gen.facts, Cert.LossHeadIdeal.Gen.facts, Cert.LossHeadRefIdeal.Gen.facts,
  Cert.SwigluBwd.Gen.facts, Cert.SwigluBwdIdeal.Gen.facts, Cert.SwigluBwdRefIdeal.Gen.facts,
  Cert.SwaFwd.Gen.facts, Cert.SwaFwdIdeal.Gen.facts, Cert.SwaFwdRefIdeal.Gen.facts,
  Cert.Pre_finite.Gen.facts, Cert.Pre_finite_factors.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.InDx.Gen.frame m ρ, fun m ρ _ => Cert.InDxIdeal.Gen.frame m ρ, Cert.InDxIdeal.Product.frame_reference,
  fun m ρ _ => Cert.InDw.Gen.frame m ρ, fun m ρ _ => Cert.InDwIdeal.Gen.frame m ρ, Cert.InDwIdeal.Product.frame_reference,
  fun m ρ _ => Cert.FfnOutDw.Gen.frame m ρ, fun m ρ _ => Cert.FfnOutDwIdeal.Gen.frame m ρ, Cert.FfnOutDwIdeal.Product.frame_reference,
  fun m ρ _ => Cert.OutDw.Gen.frame m ρ, fun m ρ _ => Cert.OutDwIdeal.Gen.frame m ρ, Cert.OutDwIdeal.Product.frame_reference,
  fun m ρ _ => Cert.FfnInDw.Gen.frame m ρ, fun m ρ _ => Cert.FfnInDwIdeal.Gen.frame m ρ, Cert.FfnInDwIdeal.Product.frame_reference,
  fun m ρ _ => Cert.FfnInDxGate.Gen.frame m ρ, fun m ρ _ => Cert.FfnInDxGateIdeal.Gen.frame m ρ, Cert.FfnInDxGateIdeal.Product.frame_reference,
  fun m ρ _ => Cert.FfnInDxUp.Gen.frame m ρ, fun m ρ _ => Cert.FfnInDxUpIdeal.Gen.frame m ρ, Cert.FfnInDxUpIdeal.Product.frame_reference,
  fun m ρ _ => Cert.BranchDx.Gen.frame m ρ, fun m ρ _ => Cert.BranchDxIdeal.Gen.frame m ρ, Cert.BranchDxIdeal.Product.frame_reference,
  fun m ρ _ => Cert.FfnInDwGate.Gen.frame m ρ, fun m ρ _ => Cert.FfnInDwGateIdeal.Gen.frame m ρ, Cert.FfnInDwGateIdeal.Product.frame_reference,
  fun m ρ _ => Cert.BranchDwFirst.Gen.frame m ρ, fun m ρ _ => Cert.BranchDwFirstIdeal.Gen.frame m ρ, Cert.BranchDwFirstIdeal.Product.frame_reference,
  fun m ρ _ => Cert.BranchDwSecond.Gen.frame m ρ, fun m ρ _ => Cert.BranchDwSecondIdeal.Gen.frame m ρ, Cert.BranchDwSecondIdeal.Product.frame_reference,
  fun m ρ _ => Cert.BranchDwThird.Gen.frame m ρ, fun m ρ _ => Cert.BranchDwThirdIdeal.Gen.frame m ρ, Cert.BranchDwThirdIdeal.Product.frame_reference,
  fun m ρ _ => Cert.OutDxMerge.Gen.frame m ρ, fun m ρ _ => Cert.OutDxMergeIdeal.Gen.frame m ρ, Cert.OutDxMergeIdeal.Product.frame_reference,
  fun m ρ _ => Cert.InFwd.Gen.frame m ρ, fun m ρ _ => Cert.InFwdIdeal.Gen.frame m ρ, Cert.InFwdIdeal.Product.frame_reference,
  fun m ρ _ => Cert.OutFwd.Gen.frame m ρ, fun m ρ _ => Cert.OutFwdIdeal.Gen.frame m ρ, Cert.OutFwdIdeal.Product.frame_reference,
  fun m ρ _ => Cert.FfnOutFwd.Gen.frame m ρ, fun m ρ _ => Cert.FfnOutFwdIdeal.Gen.frame m ρ, Cert.FfnOutFwdIdeal.Product.frame_reference,
  fun m ρ _ => Cert.SwigluFwd.Gen.frame m ρ, fun m ρ _ => Cert.SwigluFwdIdeal.Gen.frame m ρ, Cert.SwigluFwdIdeal.Product.frame_reference,
  fun m ρ _ => Cert.BranchFwd.Gen.frame m ρ, fun m ρ _ => Cert.BranchFwdIdeal.Gen.frame m ρ, Cert.BranchFwdIdeal.Product.frame_reference,
  fun m ρ _ => Cert.RmsFwd.Gen.frame m ρ, fun m ρ _ => Cert.RmsFwdIdeal.Gen.frame m ρ, Cert.RmsFwdIdeal.Product.frame_reference,
  fun m ρ _ => Cert.BandFold.Gen.frame m ρ, fun m ρ _ => Cert.BandFoldIdeal.Gen.frame m ρ, Cert.BandFoldIdeal.Product.frame_reference,
  fun m ρ _ => Cert.RmsBwd.Gen.frame m ρ, fun m ρ _ => Cert.RmsBwdIdeal.Gen.frame m ρ, Cert.RmsBwdIdeal.Product.frame_reference,
  fun m ρ _ => Cert.LossHead.Gen.frame m ρ, fun m ρ _ => Cert.LossHeadIdeal.Gen.frame m ρ, Cert.LossHeadIdeal.Product.frame_reference,
  fun m ρ _ => Cert.SwigluBwd.Gen.frame m ρ, fun m ρ _ => Cert.SwigluBwdIdeal.Gen.frame m ρ, fun m ρ _ => Cert.SwigluBwdIdeal.Gen.frame m ρ,
  Cert.SwigluBwdIdeal.Product.frame_reference, fun m ρ _ => Cert.SwigluBwdIdeal.Product.frame_reference m ρ trivial,
  fun m ρ _ => Cert.SwaFwd.Gen.frame m ρ, fun m ρ _ => Cert.SwaFwdIdeal.Gen.frame m ρ, fun m ρ _ => Cert.SwaFwdIdeal.Gen.frame m ρ,
  Cert.SwaFwdIdeal.Product.frame_reference, fun m ρ _ => Cert.SwaFwdIdeal.Product.frame_reference m ρ trivial,
  preserves, algebraic,
  trivial, Cert.InDxIdeal.Product.algebraic,
  trivial, Cert.InDwIdeal.Product.algebraic,
  trivial, Cert.FfnOutDwIdeal.Product.algebraic,
  trivial, Cert.OutDwIdeal.Product.algebraic,
  trivial, Cert.FfnInDwIdeal.Product.algebraic,
  trivial, Cert.FfnInDxGateIdeal.Product.algebraic,
  trivial, Cert.FfnInDxUpIdeal.Product.algebraic,
  trivial, Cert.BranchDxIdeal.Product.algebraic,
  trivial, Cert.FfnInDwGateIdeal.Product.algebraic,
  trivial, Cert.BranchDwFirstIdeal.Product.algebraic,
  trivial, Cert.BranchDwSecondIdeal.Product.algebraic,
  trivial, Cert.BranchDwThirdIdeal.Product.algebraic,
  trivial, Cert.OutDxMergeIdeal.Product.algebraic,
  trivial, Cert.InFwdIdeal.Product.algebraic,
  trivial, Cert.OutFwdIdeal.Product.algebraic,
  trivial, Cert.FfnOutFwdIdeal.Product.algebraic,
  trivial, Cert.SwigluFwdIdeal.Product.algebraic,
  trivial, Cert.BranchFwdIdeal.Product.algebraic,
  trivial, Cert.RmsFwdIdeal.Product.algebraic,
  trivial, Cert.BandFoldIdeal.Product.algebraic,
  trivial, Cert.RmsBwdIdeal.Product.algebraic,
  trivial, Cert.LossHeadIdeal.Product.algebraic,
  trivial, Cert.SwigluBwdIdeal.Product.algebraic,
  Cert.SwaFwdIdeal.Product.preserves, Cert.SwaFwdIdeal.Product.algebraic⟩

end Cert.Proof

end
